-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm [hPre_finite_norm : Cert.Pre_finite_norm.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm [hPre_finite_norm : Cert.Pre_finite_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_norm [hKernelIdeal : Cert.KernelIdeal.Facts] [hPre_finite_norm : Cert.Pre_finite_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_norm [hReferenceIdeal : Cert.ReferenceIdeal.Facts] [hPre_finite_norm : Cert.Pre_finite_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_norm [hKernelIdeal : Cert.KernelIdeal.Facts] [hReferenceIdeal : Cert.ReferenceIdeal.Facts] [hPre_finite_norm : Cert.Pre_finite_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v52) = v2 c
          ∧ r.2.mem ((c.tc : Thread Cert.Reference5Ideal.nD Cert.Reference5Ideal.τ).loc Cert.Reference5Ideal.main_v54) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_norm : Cert.Pre_finite_norm.Facts),
    quiescent_Kernel (hKernel := hKernel)
    ∧ quiescent_KernelIdeal (hKernelIdeal := hKernelIdeal)
    ∧ quiescent_KernelIdeal_pre_finite_norm (hKernelIdeal := hKernelIdeal) (hPre_finite_norm := hPre_finite_norm)
    ∧ quiescent_ReferenceIdeal (hReferenceIdeal := hReferenceIdeal)
    ∧ quiescent_ReferenceIdeal_pre_finite_norm (hReferenceIdeal := hReferenceIdeal) (hPre_finite_norm := hPre_finite_norm)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_norm (hKernelIdeal := hKernelIdeal) (hReferenceIdeal := hReferenceIdeal) (hPre_finite_norm := hPre_finite_norm)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_norm.lean ====
abbrev S8x2048x1024 : Shape := ⟨3, ![8, 2048, 1024]⟩
abbrev S4x1024 : Shape := ⟨2, ![4, 1024]⟩
abbrev S2x4x256x256 : Shape := ⟨4, ![2, 4, 256, 256]⟩
abbrev S2x1024 : Shape := ⟨2, ![2, 1024]⟩
abbrev S4x1024x5632 : Shape := ⟨3, ![4, 1024, 5632]⟩
abbrev S4x2816x1024 : Shape := ⟨3, ![4, 2816, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩

class Facts : Prop where
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)

variable [Facts]

def fn {F : FTy → Type} [FloatOps F] (main_arg0 : FVec F S8x2048x1024 .f32) (main_arg1 : FVec F S4x1024 .f32) (main_arg2 : FVec F S4x1024 .f32) (main_arg3 : FVec F S2x4x256x256 .f32) (main_arg4 : FVec F S2x1024 .f32) (main_arg5 : FVec F S4x1024x5632 .f32) (main_arg6 : FVec F S4x2816x1024 .f32) (main_arg7 : FVec F S2x1024x1024 .f32) : IVec S1024 1 :=
  let main_v0 : FVec F S1x1024 .f32 := (extractStridedSlice S1x1024 ![0, 0] · slices_S4x1024_S1x1024_0_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  main_v4
-- ==== Kernel.lean ====
abbrev S8x2048x1024 : Shape := ⟨3, ![8, 2048, 1024]⟩
abbrev S4x1024 : Shape := ⟨2, ![4, 1024]⟩
abbrev S2x4x256x256 : Shape := ⟨4, ![2, 4, 256, 256]⟩
abbrev S2x1024 : Shape := ⟨2, ![2, 1024]⟩
abbrev S4x1024x5632 : Shape := ⟨3, ![4, 1024, 5632]⟩
abbrev S4x2816x1024 : Shape := ⟨3, ![4, 2816, 1024]⟩
abbrev S2x1024x1024 : Shape := ⟨3, ![2, 1024, 1024]⟩
abbrev S1x2048x1024 : Shape := ⟨3, ![1, 2048, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x1024 : Shape := ⟨2, ![16384, 1024]⟩
abbrev S2048x1024 : Shape := ⟨2, ![2048, 1024]⟩
abbrev S512x1024 : Shape := ⟨2, ![512, 1024]⟩
abbrev S256x1024 : Shape := ⟨2, ![256, 1024]⟩
abbrev S1x4x256x256 : Shape := ⟨4, ![1, 4, 256, 256]⟩
abbrev S1x32x5632 : Shape := ⟨3, ![1, 32, 5632]⟩
abbrev S1x176x1024 : Shape := ⟨3, ![1, 176, 1024]⟩
abbrev S1x64x1024 : Shape := ⟨3, ![1, 64, 1024]⟩
abbrev S32x5632 : Shape := ⟨2, ![32, 5632]⟩
abbrev S176x1024 : Shape := ⟨2, ![176, 1024]⟩
abbrev S64x1024 : Shape := ⟨2, ![64, 1024]⟩
abbrev S512x2816 : Shape := ⟨2, ![512, 2816]⟩
abbrev S16x1024 : Shape := ⟨2, ![16, 1024]⟩
abbrev S256 : Shape := ⟨1, ![256]⟩
abbrev S256x1 : Shape := ⟨2, ![256, 1]⟩
abbrev S272x1024 : Shape := ⟨2, ![272, 1024]⟩
abbrev S272x256 : Shape := ⟨2, ![272, 256]⟩
abbrev S256x256 : Shape := ⟨2, ![256, 256]⟩
abbrev S1x1x256x256 : Shape := ⟨4, ![1, 1, 256, 256]⟩
abbrev S1x256 : Shape := ⟨2, ![1, 256]⟩
abbrev S1024x256 : Shape := ⟨2, ![1024, 256]⟩
abbrev S256x2816 : Shape := ⟨2, ![256, 2816]⟩

abbrev nBuf : Space → Nat
  | .hbm => 30
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024, .f32⟩
  | .hbm, ⟨3, _⟩ => ⟨S2x4x256x256, .f32⟩
  | .hbm, ⟨4, _⟩ => ⟨S2x1024, .f32⟩
  | .hbm, ⟨5, _⟩ => ⟨S4x1024x5632, .f32⟩
  | .hbm, ⟨6, _⟩ => ⟨S4x2816x1024, .f32⟩
  | .hbm, ⟨7, _⟩ => ⟨S2x1024x1024, .f32⟩
  | .hbm, ⟨8, _⟩ => ⟨S1x2048x1024, .f32⟩
  | .hbm, ⟨9, _⟩ => ⟨S1x1024, .f32⟩
  | .hbm, ⟨10, _⟩ => ⟨S1024, .f32⟩
  | .hbm, ⟨11, _⟩ => ⟨S2x4x256x256, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024x5632, .f32⟩
  | .hbm, ⟨17, _⟩ => ⟨S1024x5632, .f32⟩
  | .hbm, ⟨18, _⟩ => ⟨S1024x5632, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S16384x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S1024x5632, .bf16⟩
  | .hbm, ⟨28, _⟩ => ⟨S2816x1024, .bf16⟩
  | .hbm, ⟨29, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x4x256x256, .bf16⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x32x5632, .f32⟩
  | .local _ .vmem, ⟨11, _⟩ => ⟨S1x32x5632, .f32⟩
  | .local _ .vmem, ⟨12, _⟩ => ⟨S1x176x1024, .f32⟩
  | .local _ .vmem, ⟨13, _⟩ => ⟨S1x176x1024, .f32⟩
  | .local _ .vmem, ⟨14, _⟩ => ⟨S1x64x1024, .f32⟩
  | .local _ .vmem, ⟨15, _⟩ => ⟨S1x64x1024, .f32⟩
  | .local _ .vmem, ⟨16, _⟩ => ⟨S512x1024, .f32⟩
  | .local _ .vmem, ⟨17, _⟩ => ⟨S512x1024, .f32⟩
  | .local _ .vmem, ⟨18, _⟩ => ⟨S32x5632, .bf16⟩
  | .local _ .vmem, ⟨19, _⟩ => ⟨S32x5632, .bf16⟩
  | .local _ .vmem, ⟨20, _⟩ => ⟨S176x1024, .bf16⟩
  | .local _ .vmem, ⟨21, _⟩ => ⟨S176x1024, .bf16⟩
  | .local _ .vmem, ⟨22, _⟩ => ⟨S64x1024, .bf16⟩
  | .local _ .vmem, ⟨23, _⟩ => ⟨S64x1024, .bf16⟩
  | .local _ .vmem, ⟨24, _⟩ => ⟨S512x2816, .bf16⟩
  | .local _ .vmem, ⟨25, _⟩ => ⟨S512x1024, .f32⟩
  | .local _ .vmem, ⟨26, _⟩ => ⟨S512x1024, .bf16⟩
  | .local _ .vmem, ⟨27, _⟩ => ⟨S16x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let c0_i32_6 : BitVec 32 := 0#32
  let c0_i32_7 : BitVec 32 := 0#32
  ![c1_i32_5.toNat, v17.toNat, c0_i32_6.toNat]

def cc0_transform_9 (i : grid0.Coords) : Fin 3 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, v17.toNat, c0_i32_5.toNat]

def cc0_transform_10 (i : grid0.Coords) : Fin 3 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![c0_i32_5.toNat, v17.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

def cc0_transform_13 (i : grid0.Coords) : Fin 2 → Nat :=
  let arg0 : BitVec 32 := BitVec.ofNat 32 (i 0).val
  let c16_i32 : BitVec 32 := 16#32
  let v0 : BitVec 32 := Scalar.muli arg0 c16_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_14 (i : grid0.Coords) : Fin 2 → Nat :=
  let arg0 : BitVec 32 := BitVec.ofNat 32 (i 0).val
  let c32_i32 : BitVec 32 := 32#32
  let v0 : BitVec 32 := Scalar.muli arg0 c32_i32
  let c32_i32_0 : BitVec 32 := 32#32
  let v1 : BitVec 32 := Scalar.divsi v0 c32_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c32_i32_0 c0_i32_2
  let v8 : BitVec 32 := Scalar.extui v7
  let c0_i32_3 : BitVec 32 := 0#32
  let v9 : BitVec 1 := Scalar.cmpi .slt c32_i32_0 c0_i32_3
  let v10 : BitVec 32 := Scalar.extui v9
  let v11 : BitVec 32 := Scalar.subi v8 v10
  let v12 : BitVec 1 := Scalar.cmpi .ne v6 v11
  let v13 : BitVec 32 := Scalar.remsi v0 c32_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x2048x1024 : Shape := ⟨3, ![8, 2048, 1024]⟩
abbrev S4x1024 : Shape := ⟨2, ![4, 1024]⟩
abbrev S2x4x256x256 : Shape := ⟨4, ![2, 4, 256, 256]⟩
abbrev S2x1024 : Shape := ⟨2, ![2, 1024]⟩
abbrev S4x1024x5632 : Shape := ⟨3, ![4, 1024, 5632]⟩
abbrev S4x2816x1024 : Shape := ⟨3, ![4, 2816, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x4x256x256 : Shape := ⟨4, ![1, 4, 256, 256]⟩
abbrev S4x256x256 : Shape := ⟨3, ![4, 256, 256]⟩
abbrev S8x1x1024 : Shape := ⟨3, ![8, 1, 1024]⟩
abbrev S8x2049x1024 : Shape := ⟨3, ![8, 2049, 1024]⟩
abbrev S2048 : Shape := ⟨1, ![2048]⟩
abbrev S8x2048x256 : Shape := ⟨3, ![8, 2048, 256]⟩
abbrev S8x2049x256 : Shape := ⟨3, ![8, 2049, 256]⟩
abbrev S2048x1 : Shape := ⟨2, ![2048, 1]⟩
abbrev S1 : Shape := ⟨1, ![1]⟩
abbrev S1x1 : Shape := ⟨2, ![1, 1]⟩
abbrev S1x2048x1 : Shape := ⟨3, ![1, 2048, 1]⟩
abbrev S8x2048x1x256 : Shape := ⟨4, ![8, 2048, 1, 256]⟩
abbrev S8x2048x4x256 : Shape := ⟨4, ![8, 2048, 4, 256]⟩
abbrev S4x256x8x2048 : Shape := ⟨4, ![4, 256, 8, 2048]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩
abbrev S2048x1024 : Shape := ⟨2, ![2048, 1024]⟩

abbrev nBuf : Space → Nat
  | .hbm => 275
  | .vmem => 0
  | .smem => 0
  | _ => 0

abbrev hbmTy0_0 (i : Nat) : BufTy := match i % 128 with
  | 0 => ⟨S8x2048x1024, .f32⟩
  | 1 => ⟨S4x1024, .f32⟩
  | 2 => ⟨S4x1024, .f32⟩
  | 3 => ⟨S2x4x256x256, .f32⟩
  | 4 => ⟨S2x1024, .f32⟩
  | 5 => ⟨S4x1024x5632, .f32⟩
  | 6 => ⟨S4x2816x1024, .f32⟩
  | 7 => ⟨S2x1024x1024, .f32⟩
  | 8 => ⟨S1x1024, .f32⟩
  | 9 => ⟨S1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S1x4x256x256, .f32⟩
  | 27 => ⟨S4x256x256, .f32⟩
  | 28 => ⟨S1x1024, .f32⟩
  | 29 => ⟨S1024, .f32⟩
  | 30 => ⟨S_, .f32⟩
  | 31 => ⟨S8x1x1024, .f32⟩
  | 32 => ⟨S_, .f32⟩
  | 33 => ⟨S_, .f32⟩
  | 34 => ⟨S8x2048x1024, .f32⟩
  | 35 => ⟨S8x2049x1024, .f32⟩
  | 36 => ⟨S2048, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S2048, .i32⟩
  | 50 => ⟨S2048, .f32⟩
  | 51 => ⟨S8x2048x256, .f32⟩
  | 52 => ⟨S8x2049x256, .f32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S1, .i32⟩
  | 62 => ⟨S_, .i32⟩
  | 63 => ⟨S2048x1, .i32⟩
  | 64 => ⟨S2048x1, .i1⟩
  | 65 => ⟨S1x1, .i32⟩
  | 66 => ⟨S2048x1, .i32⟩
  | 67 => ⟨S2048x1, .i1⟩
  | 68 => ⟨S2048x1, .i1⟩
  | 69 => ⟨S_, .i1⟩
  | 70 => ⟨S2048, .i1⟩
  | 71 => ⟨S8x2048x256, .f32⟩
  | 72 => ⟨S8x2048x256, .i1⟩
  | 73 => ⟨S_, .f32⟩
  | 74 => ⟨S8x2048x256, .f32⟩
  | 75 => ⟨S8x2048x256, .f32⟩
  | 76 => ⟨S8x2048x256, .f32⟩
  | 77 => ⟨S1x2048x1, .f32⟩
  | 78 => ⟨S8x2048x256, .f32⟩
  | 79 => ⟨S8x2048x256, .f32⟩
  | 80 => ⟨S8x2048x256, .f32⟩
  | 81 => ⟨S8x2048x256, .f32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S_, .i32⟩
  | 92 => ⟨S2048, .i32⟩
  | 93 => ⟨S2048, .i32⟩
  | 94 => ⟨S2048, .i32⟩
  | 95 => ⟨S2048, .f32⟩
  | 96 => ⟨S8x2048x256, .f32⟩
  | 97 => ⟨S8x2049x256, .f32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S2048x1, .i32⟩
  | 106 => ⟨S1, .i32⟩
  | 107 => ⟨S_, .i32⟩
  | 108 => ⟨S2048x1, .i32⟩
  | 109 => ⟨S2048x1, .i1⟩
  | 110 => ⟨S1x1, .i32⟩
  | 111 => ⟨S2048x1, .i32⟩
  | 112 => ⟨S2048x1, .i1⟩
  | 113 => ⟨S2048x1, .i1⟩
  | 114 => ⟨S_, .i1⟩
  | 115 => ⟨S2048, .i1⟩
  | 116 => ⟨S8x2048x256, .f32⟩
  | 117 => ⟨S8x2048x256, .i1⟩
  | 118 => ⟨S_, .f32⟩
  | 119 => ⟨S8x2048x256, .f32⟩
  | 120 => ⟨S8x2048x256, .f32⟩
  | 121 => ⟨S8x2048x256, .f32⟩
  | 122 => ⟨S1x2048x1, .f32⟩
  | 123 => ⟨S8x2048x256, .f32⟩
  | 124 => ⟨S8x2048x256, .f32⟩
  | 125 => ⟨S8x2048x256, .f32⟩
  | 126 => ⟨S8x2048x256, .f32⟩
  | 127 => ⟨S_, .i32⟩
  | _ => ⟨S8x2048x1024, .f32⟩

abbrev hbmTy0_1 (i : Nat) : BufTy := match i % 128 with
  | 0 => ⟨S2048, .i32⟩
  | 1 => ⟨S2048, .i32⟩
  | 2 => ⟨S_, .i32⟩
  | 3 => ⟨S2048, .i32⟩
  | 4 => ⟨S2048, .i32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048, .i32⟩
  | 12 => ⟨S2048, .f32⟩
  | 13 => ⟨S8x2048x256, .f32⟩
  | 14 => ⟨S8x2049x256, .f32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S1, .i32⟩
  | 24 => ⟨S_, .i32⟩
  | 25 => ⟨S2048x1, .i32⟩
  | 26 => ⟨S2048x1, .i1⟩
  | 27 => ⟨S1x1, .i32⟩
  | 28 => ⟨S2048x1, .i32⟩
  | 29 => ⟨S2048x1, .i1⟩
  | 30 => ⟨S2048x1, .i1⟩
  | 31 => ⟨S_, .i1⟩
  | 32 => ⟨S2048, .i1⟩
  | 33 => ⟨S8x2048x256, .f32⟩
  | 34 => ⟨S8x2048x256, .i1⟩
  | 35 => ⟨S_, .f32⟩
  | 36 => ⟨S8x2048x256, .f32⟩
  | 37 => ⟨S8x2048x256, .f32⟩
  | 38 => ⟨S8x2048x256, .f32⟩
  | 39 => ⟨S1x2048x1, .f32⟩
  | 40 => ⟨S8x2048x256, .f32⟩
  | 41 => ⟨S8x2048x256, .f32⟩
  | 42 => ⟨S8x2048x256, .f32⟩
  | 43 => ⟨S8x2048x256, .f32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .i32⟩
  | 57 => ⟨S2048, .f32⟩
  | 58 => ⟨S8x2048x256, .f32⟩
  | 59 => ⟨S8x2049x256, .f32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S2048x1, .i32⟩
  | 68 => ⟨S1, .i32⟩
  | 69 => ⟨S_, .i32⟩
  | 70 => ⟨S2048x1, .i32⟩
  | 71 => ⟨S2048x1, .i1⟩
  | 72 => ⟨S1x1, .i32⟩
  | 73 => ⟨S2048x1, .i32⟩
  | 74 => ⟨S2048x1, .i1⟩
  | 75 => ⟨S2048x1, .i1⟩
  | 76 => ⟨S_, .i1⟩
  | 77 => ⟨S2048, .i1⟩
  | 78 => ⟨S8x2048x256, .f32⟩
  | 79 => ⟨S8x2048x256, .i1⟩
  | 80 => ⟨S_, .f32⟩
  | 81 => ⟨S8x2048x256, .f32⟩
  | 82 => ⟨S8x2048x256, .f32⟩
  | 83 => ⟨S8x2048x256, .f32⟩
  | 84 => ⟨S1x2048x1, .f32⟩
  | 85 => ⟨S8x2048x256, .f32⟩
  | 86 => ⟨S8x2048x256, .f32⟩
  | 87 => ⟨S8x2048x256, .f32⟩
  | 88 => ⟨S8x2048x256, .f32⟩
  | 89 => ⟨S8x2048x1x256, .f32⟩
  | 90 => ⟨S8x2048x1x256, .f32⟩
  | 91 => ⟨S8x2048x1x256, .f32⟩
  | 92 => ⟨S8x2048x1x256, .f32⟩
  | 93 => ⟨S8x2048x4x256, .f32⟩
  | 94 => ⟨S4x256x8x2048, .f32⟩
  | 95 => ⟨S8x2048x4x256, .f32⟩
  | 96 => ⟨S8x2048x1024, .f32⟩
  | 97 => ⟨S1x1x1024, .f32⟩
  | 98 => ⟨S8x2048x1024, .f32⟩
  | 99 => ⟨S8x2048x1024, .f32⟩
  | 100 => ⟨S8x2048x1024, .f32⟩
  | 101 => ⟨S1x1024, .f32⟩
  | 102 => ⟨S1024, .f32⟩
  | 103 => ⟨S8x2048x1024, .f32⟩
  | 104 => ⟨S_, .f32⟩
  | 105 => ⟨S8x2048, .f32⟩
  | 106 => ⟨S8x2048x1, .f32⟩
  | 107 => ⟨S_, .f32⟩
  | 108 => ⟨S8x2048x1, .f32⟩
  | 109 => ⟨S8x2048x1, .f32⟩
  | 110 => ⟨S_, .f32⟩
  | 111 => ⟨S8x2048x1, .f32⟩
  | 112 => ⟨S8x2048x1, .f32⟩
  | 113 => ⟨S8x2048x1, .f32⟩
  | 114 => ⟨S8x2048x1024, .f32⟩
  | 115 => ⟨S8x2048x1024, .f32⟩
  | 116 => ⟨S1x1x1024, .f32⟩
  | 117 => ⟨S8x2048x1024, .f32⟩
  | 118 => ⟨S8x2048x1024, .f32⟩
  | 119 => ⟨S1x1024x5632, .f32⟩
  | 120 => ⟨S1024x5632, .f32⟩
  | 121 => ⟨S1x2816x1024, .f32⟩
  | 122 => ⟨S2816x1024, .f32⟩
  | 123 => ⟨S8x2048x5632, .f32⟩
  | 124 => ⟨S8x2048x2816, .f32⟩
  | 125 => ⟨S8x2048x2816, .f32⟩
  | 126 => ⟨S8x2048x2816, .f32⟩
  | 127 => ⟨S8x2048x2816, .f32⟩
  | _ => ⟨S8x2048x1024, .f32⟩

abbrev hbmTy0_2 (i : Nat) : BufTy := match i % 128 with
  | 0 => ⟨S_, .f32⟩
  | 1 => ⟨S8x2048x2816, .f32⟩
  | 2 => ⟨S8x2048x2816, .f32⟩
  | 3 => ⟨S_, .f32⟩
  | 4 => ⟨S8x2048x2816, .f32⟩
  | 5 => ⟨S8x2048x2816, .f32⟩
  | 6 => ⟨S8x2048x2816, .f32⟩
  | 7 => ⟨S8x2048x2816, .f32⟩
  | 8 => ⟨S8x2048x1024, .f32⟩
  | 9 => ⟨S8x2048x1024, .f32⟩
  | 10 => ⟨S16384x1024, .f32⟩
  | 11 => ⟨S1x1024x5632, .f32⟩
  | 12 => ⟨S1024x5632, .f32⟩
  | 13 => ⟨S1024x5632, .bf16⟩
  | 14 => ⟨S1x2816x1024, .f32⟩
  | 15 => ⟨S2816x1024, .f32⟩
  | 16 => ⟨S2816x1024, .bf16⟩
  | 17 => ⟨S2048x1024, .f32⟩
  | 18 => ⟨S2048x1024, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_call0_call0_cst : Ref sig .tc := ⟨.hbm, 32, rfl⟩
abbrev main_call0_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_6 : Ref sig .tc := ⟨.hbm, 82, rfl⟩
abbrev main_v42 : Ref sig .tc := ⟨.hbm, 83, rfl⟩
abbrev main_v43 : Ref sig .tc := ⟨.hbm, 84, rfl⟩
abbrev main_c_7 : Ref sig .tc := ⟨.hbm, 85, rfl⟩
abbrev main_v44 : Ref sig .tc := ⟨.hbm, 86, rfl⟩
abbrev main_v45 : Ref sig .tc := ⟨.hbm, 87, rfl⟩
abbrev main_c_8 : Ref sig .tc := ⟨.hbm, 88, rfl⟩
abbrev main_v46 : Ref sig .tc := ⟨.hbm, 89, rfl⟩
abbrev main_v47 : Ref sig .tc := ⟨.hbm, 90, rfl⟩
abbrev main_c_9 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_c_10 : Ref sig .tc := ⟨.hbm, 127, rfl⟩
abbrev main_v61 : Ref sig .tc := ⟨.hbm, 128, rfl⟩
abbrev main_v62 : Ref sig .tc := ⟨.hbm, 129, rfl⟩
abbrev main_c_11 : Ref sig .tc := ⟨.hbm, 130, rfl⟩
abbrev main_v63 : Ref sig .tc := ⟨.hbm, 131, rfl⟩
abbrev main_v64 : Ref sig .tc := ⟨.hbm, 132, rfl⟩
abbrev main_c_12 : Ref sig .tc := ⟨.hbm, 133, rfl⟩
abbrev main_v65 : Ref sig .tc := ⟨.hbm, 134, rfl⟩
abbrev main_v66 : Ref sig .tc := ⟨.hbm, 135, rfl⟩
abbrev main_c_13 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_call3_c : Ref sig .tc := ⟨.hbm, 143, rfl⟩
abbrev main_call3_v0 : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_c_1 : Ref sig .tc := ⟨.hbm, 151, rfl⟩
abbrev main_call3_c_2 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_c_3 : Ref sig .tc := ⟨.hbm, 159, rfl⟩
abbrev main_call3_v12 : Ref sig .tc := ⟨.hbm, 160, rfl⟩
abbrev main_call3_v13 : Ref sig .tc := ⟨.hbm, 161, rfl⟩
abbrev main_call3_v14 : Ref sig .tc := ⟨.hbm, 162, rfl⟩
abbrev main_call3_cst : Ref sig .tc := ⟨.hbm, 163, rfl⟩
abbrev main_call3_v15 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_c_14 : Ref sig .tc := ⟨.hbm, 172, rfl⟩
abbrev main_v80 : Ref sig .tc := ⟨.hbm, 173, rfl⟩
abbrev main_v81 : Ref sig .tc := ⟨.hbm, 174, rfl⟩
abbrev main_c_15 : Ref sig .tc := ⟨.hbm, 175, rfl⟩
abbrev main_v82 : Ref sig .tc := ⟨.hbm, 176, rfl⟩
abbrev main_v83 : Ref sig .tc := ⟨.hbm, 177, rfl⟩
abbrev main_c_16 : Ref sig .tc := ⟨.hbm, 178, rfl⟩
abbrev main_v84 : Ref sig .tc := ⟨.hbm, 179, rfl⟩
abbrev main_v85 : Ref sig .tc := ⟨.hbm, 180, rfl⟩
abbrev main_c_17 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_cst_18 : Ref sig .tc := ⟨.hbm, 232, rfl⟩
abbrev main_v114 : Ref sig .tc := ⟨.hbm, 233, rfl⟩
abbrev main_v115 : Ref sig .tc := ⟨.hbm, 234, rfl⟩
abbrev main_cst_19 : Ref sig .tc := ⟨.hbm, 235, rfl⟩
abbrev main_v116 : Ref sig .tc := ⟨.hbm, 236, rfl⟩
abbrev main_v117 : Ref sig .tc := ⟨.hbm, 237, rfl⟩
abbrev main_cst_20 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev main_v124 : Ref sig .tc := ⟨.hbm, 245, rfl⟩
abbrev main_v125 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_call5_v0 : Ref sig .tc := ⟨.hbm, 254, rfl⟩
abbrev main_call5_v1 : Ref sig .tc := ⟨.hbm, 255, rfl⟩
abbrev main_call5_cst : Ref sig .tc := ⟨.hbm, 256, rfl⟩
abbrev main_call5_v2 : Ref sig .tc := ⟨.hbm, 257, rfl⟩
abbrev main_call5_v3 : Ref sig .tc := ⟨.hbm, 258, rfl⟩
abbrev main_call5_cst_0 : Ref sig .tc := ⟨.hbm, 259, rfl⟩
abbrev main_call5_v4 : Ref sig .tc := ⟨.hbm, 260, rfl⟩
abbrev main_call5_v5 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_v141 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩

abbrev nD : Nat := 1
abbrev τ : Topo := Topo.v7x

variable {F : FTy → Type} [FloatOps F]
-- ==== Kernel2.lean ====
abbrev S8x2048x1024 : Shape := ⟨3, ![8, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x1024 : Shape := ⟨2, ![16384, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S1024x5632, .bf16⟩
  | .hbm, ⟨10, _⟩ => ⟨S1x2816x1024, .f32⟩
  | .hbm, ⟨11, _⟩ => ⟨S2816x1024, .f32⟩
  | .hbm, ⟨12, _⟩ => ⟨S2816x1024, .bf16⟩
  | .hbm, ⟨13, _⟩ => ⟨S16384x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S8x2048x5632, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S_, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x1024 : Shape := ⟨2, ![16384, 1024]⟩
abbrev S1024x1024 : Shape := ⟨2, ![1024, 1024]⟩
abbrev S1x64x5632 : Shape := ⟨3, ![1, 64, 5632]⟩
abbrev S1x176x1024 : Shape := ⟨3, ![1, 176, 1024]⟩
abbrev S64x5632 : Shape := ⟨2, ![64, 5632]⟩
abbrev S176x1024 : Shape := ⟨2, ![176, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 19
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024x5632, .f32⟩
  | .hbm, ⟨8, _⟩ => ⟨S1024x5632, .f32⟩
  | .hbm, ⟨9, _⟩ => ⟨S1024x5632, .bf16⟩
  | .hbm, ⟨10, _⟩ => ⟨S1x2816x1024, .f32⟩
  | .hbm, ⟨11, _⟩ => ⟨S2816x1024, .f32⟩
  | .hbm, ⟨12, _⟩ => ⟨S2816x1024, .bf16⟩
  | .hbm, ⟨13, _⟩ => ⟨S16384x1024, .f32⟩
  | .hbm, ⟨14, _⟩ => ⟨S1x1024, .f32⟩
  | .hbm, ⟨15, _⟩ => ⟨S1x1024, .f32⟩
  | .hbm, ⟨16, _⟩ => ⟨S16384x1024, .f32⟩
  | .hbm, ⟨17, _⟩ => ⟨S1024x5632, .bf16⟩
  | .hbm, ⟨18, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x64x5632, .f32⟩
  | .local _ .vmem, ⟨7, _⟩ => ⟨S1x64x5632, .f32⟩
  | .local _ .vmem, ⟨8, _⟩ => ⟨S1x176x1024, .f32⟩
  | .local _ .vmem, ⟨9, _⟩ => ⟨S1x176x1024, .f32⟩
  | .local _ .vmem, ⟨10, _⟩ => ⟨S1024x1024, .f32⟩
  | .local _ .vmem, ⟨11, _⟩ => ⟨S1024x1024, .f32⟩
  | .local _ .vmem, ⟨12, _⟩ => ⟨S64x5632, .bf16⟩
  | .local _ .vmem, ⟨13, _⟩ => ⟨S64x5632, .bf16⟩
  | .local _ .vmem, ⟨14, _⟩ => ⟨S176x1024, .bf16⟩
  | .local _ .vmem, ⟨15, _⟩ => ⟨S176x1024, .bf16⟩
  | .local _ .vmem, ⟨16, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_5 : BitVec 32 := 0#32
  let c0_i32_6 : BitVec 32 := 0#32
  ![c3_i32.toNat, v17.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_5 : BitVec 32 := 0#32
  let c0_i32_6 : BitVec 32 := 0#32
  ![c3_i32.toNat, v17.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x2048x1024 : Shape := ⟨3, ![8, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S8x2048x5632, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S_, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x1024, .f32⟩
  | .hbm, ⟨41, _⟩ => ⟨S8x2048x1024, .f32⟩
  | .hbm, ⟨42, _⟩ => ⟨S16384x1024, .f32⟩
  | .hbm, ⟨43, _⟩ => ⟨S1x1024x5632, .f32⟩
  | .hbm, ⟨44, _⟩ => ⟨S1024x5632, .f32⟩
  | .hbm, ⟨45, _⟩ => ⟨S1024x5632, .bf16⟩
  | .hbm, ⟨46, _⟩ => ⟨S1x2816x1024, .f32⟩
  | .hbm, ⟨47, _⟩ => ⟨S2816x1024, .f32⟩
  | .hbm, ⟨48, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S8x1024x2048 : Shape := ⟨3, ![8, 1024, 2048]⟩
abbrev S8x8x1024 : Shape := ⟨3, ![8, 8, 1024]⟩
abbrev S1x1024x1024 : Shape := ⟨3, ![1, 1024, 1024]⟩
abbrev S1x8x1024 : Shape := ⟨3, ![1, 8, 1024]⟩
abbrev S1024x1 : Shape := ⟨2, ![1024, 1]⟩
abbrev S256x1024 : Shape := ⟨2, ![256, 1024]⟩
abbrev S1x1x1024 : Shape := ⟨3, ![1, 1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S8x2048x1024, .bf16⟩
  | .hbm, ⟨10, _⟩ => ⟨S8x1024x2048, .bf16⟩
  | .hbm, ⟨11, _⟩ => ⟨S8x8x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x8x1024, .f32⟩
  | .local _ .vmem, ⟨10, _⟩ => ⟨S1x8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def k0_off1 (i : grid0.Coords) (c0_i32 : BitVec 32) : Fin 3 → Nat :=
  let c0_20 : Index := 0#32
  let arg1 : BitVec 32 := BitVec.ofNat 32 (i 1).val
  let c4_i32 : BitVec 32 := 4#32
  let v36 : BitVec 32 := Scalar.muli arg1 c4_i32
  let v37 : BitVec 32 := Scalar.addi v36 c0_i32
  let v38 : Index := Scalar.indexCast v37
  let c0_21 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8x2048x1024 : Shape := ⟨3, ![8, 2048, 1024]⟩
abbrev S1024 : Shape := ⟨1, ![1024]⟩
abbrev S1024x2048 : Shape := ⟨2, ![1024, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x8x256x1024 : Shape := ⟨4, ![8, 8, 256, 1024]⟩
abbrev S8x8x1024 : Shape := ⟨3, ![8, 8, 1024]⟩
abbrev S8x1024x2048 : Shape := ⟨3, ![8, 1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S8x2048x1024, .f32⟩
  | .hbm, ⟨21, _⟩ => ⟨S8x2048x1024, .f32⟩
  | .hbm, ⟨22, _⟩ => ⟨S8x8x256x1024, .f32⟩
  | .hbm, ⟨23, _⟩ => ⟨S_, .f32⟩
  | .hbm, ⟨24, _⟩ => ⟨S8x8x1024, .f32⟩
  | .hbm, ⟨25, _⟩ => ⟨S_, .f32⟩
  | .hbm, ⟨26, _⟩ => ⟨S8x8x1024, .f32⟩
  | .hbm, ⟨27, _⟩ => ⟨S8x8x1024, .f32⟩
  | .hbm, ⟨28, _⟩ => ⟨S8x2048x1024, .bf16⟩
  | .hbm, ⟨29, _⟩ => ⟨S8x1024x2048, .f32⟩
  | .hbm, ⟨30, _⟩ => ⟨S8x1024x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel5.lean ====
abbrev S32x16 : Shape := ⟨2, ![32, 16]⟩
abbrev S4x1024x5632 : Shape := ⟨3, ![4, 1024, 5632]⟩
abbrev S4x2816x1024 : Shape := ⟨3, ![4, 2816, 1024]⟩
abbrev S2x4x256x256 : Shape := ⟨4, ![2, 4, 256, 256]⟩
abbrev S1x2048x256 : Shape := ⟨3, ![1, 2048, 256]⟩
abbrev S16x2x256x256 : Shape := ⟨4, ![16, 2, 256, 256]⟩
abbrev S1024x5632 : Shape := ⟨2, ![1024, 5632]⟩
abbrev S2816x1024 : Shape := ⟨2, ![2816, 1024]⟩
abbrev S2048x256 : Shape := ⟨2, ![2048, 256]⟩
abbrev S1x64x5632 : Shape := ⟨3, ![1, 64, 5632]⟩
abbrev S1x176x1024 : Shape := ⟨3, ![1, 176, 1024]⟩
abbrev S1x128x256 : Shape := ⟨3, ![1, 128, 256]⟩
abbrev S1x2x256x256 : Shape := ⟨4, ![1, 2, 256, 256]⟩
abbrev S64x5632 : Shape := ⟨2, ![64, 5632]⟩
abbrev S176x1024 : Shape := ⟨2, ![176, 1024]⟩
abbrev S128x256 : Shape := ⟨2, ![128, 256]⟩
abbrev S128x128 : Shape := ⟨2, ![128, 128]⟩
abbrev S1x1 : Shape := ⟨2, ![1, 1]⟩
abbrev S1x1x128x128 : Shape := ⟨4, ![1, 1, 128, 128]⟩

abbrev nBuf : Space → Nat
  | .hbm => 9
  | .vmem => 14
  | .smem => 1
  | _ => 0

abbrev bufTy : (tb : Table) → Fin (tcTables nBuf tb) → BufTy
  | .hbm, ⟨0, _⟩ => ⟨S32x16, .f32⟩
  | .hbm, ⟨1, _⟩ => ⟨S4x1024x5632, .f32⟩
  | .hbm, ⟨2, _⟩ => ⟨S4x2816x1024, .f32⟩
  | .hbm, ⟨3, _⟩ => ⟨S2x4x256x256, .f32⟩
  | .hbm, ⟨4, _⟩ => ⟨S1x2048x256, .f32⟩
  | .hbm, ⟨5, _⟩ => ⟨S16x2x256x256, .f32⟩
  | .hbm, ⟨6, _⟩ => ⟨S1024x5632, .bf16⟩
  | .hbm, ⟨7, _⟩ => ⟨S2816x1024, .bf16⟩
  | .hbm, ⟨8, _⟩ => ⟨S2048x256, .bf16⟩
  | .local _ .vmem, ⟨0, _⟩ => ⟨S1x64x5632, .f32⟩
  | .local _ .vmem, ⟨1, _⟩ => ⟨S1x64x5632, .f32⟩
  | .local _ .vmem, ⟨2, _⟩ => ⟨S1x176x1024, .f32⟩
  | .local _ .vmem, ⟨3, _⟩ => ⟨S1x176x1024, .f32⟩
  | .local _ .vmem, ⟨4, _⟩ => ⟨S1x128x256, .f32⟩
  | .local _ .vmem, ⟨5, _⟩ => ⟨S1x128x256, .f32⟩
  | .local _ .vmem, ⟨6, _⟩ => ⟨S1x2x256x256, .f32⟩
  | .local _ .vmem, ⟨7, _⟩ => ⟨S1x2x256x256, .f32⟩
  | .local _ .vmem, ⟨8, _⟩ => ⟨S64x5632, .bf16⟩
  | .local _ .vmem, ⟨9, _⟩ => ⟨S64x5632, .bf16⟩
  | .local _ .vmem, ⟨10, _⟩ => ⟨S176x1024, .bf16⟩
  | .local _ .vmem, ⟨11, _⟩ => ⟨S176x1024, .bf16⟩
  | .local _ .vmem, ⟨12, _⟩ => ⟨S128x256, .bf16⟩
  | .local _ .vmem, ⟨13, _⟩ => ⟨S128x256, .bf16⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_21 : Index := 0#32
  let arg0 : BitVec 32 := BitVec.ofNat 32 (i 0).val
  let v40 : Index := Scalar.indexCast arg0
  ![0, v40.toNat]
def k0_off2 (i : grid0.Coords) : Fin 2 → Nat :=
  let c1 : Index := 1#32
  let arg0 : BitVec 32 := BitVec.ofNat 32 (i 0).val
  let v46 : Index := Scalar.indexCast arg0
  ![1, v46.toNat]
def k0_off3 (i : grid0.Coords) : Fin 2 → Nat :=
  let c2 : Index := 2#32
  let arg0 : BitVec 32 := BitVec.ofNat 32 (i 0).val
  let v52 : Index := Scalar.indexCast arg0
  ![2, v52.toNat]
def k0_off4 (i : grid0.Coords) : Fin 2 → Nat :=
  let c3 : Index := 3#32
  let arg0 : BitVec 32 := BitVec.ofNat 32 (i 0).val
  let v58 : Index := Scalar.indexCast arg0
  ![3, v58.toNat]
def k0_off5 (i : grid0.Coords) : Fin 2 → Nat :=
  let c4 : Index := 4#32
  let arg0 : BitVec 32 := BitVec.ofNat 32 (i 0).val
  let v64 : Index := Scalar.indexCast arg0
  ![4, v64.toNat]
def k0_off6 (i : grid0.Coords) : Fin 2 → Nat :=
  let c5 : Index := 5#32
  let arg0 : BitVec 32 := BitVec.ofNat 32 (i 0).val
  let v70 : Index := Scalar.indexCast arg0
  ![5, v70.toNat]
def k0_off7 (i : grid0.Coords) : Fin 2 → Nat :=
  let c6 : Index := 6#32
  let arg0 : BitVec 32 := BitVec.ofNat 32 (i 0).val
  let v76 : Index := Scalar.indexCast arg0
  ![6, v76.toNat]
def k0_off8 (i : grid0.Coords) : Fin 2 → Nat :=
  let c7 : Index := 7#32
  let arg0 : BitVec 32 := BitVec.ofNat 32 (i 0).val
  let v82 : Index := Scalar.indexCast arg0
  ![7, v82.toNat]
def k0_off9 (i : grid0.Coords) : Fin 2 → Nat :=
  let c8 : Index := 8#32
  let arg0 : BitVec 32 := BitVec.ofNat 32 (i 0).val
  let v88 : Index := Scalar.indexCast arg0
  ![8, v88.toNat]
def k0_off10 (i : grid0.Coords) : Fin 2 → Nat :=
  let c9 : Index := 9#32
  let arg0 : BitVec 32 := BitVec.ofNat 32 (i 0).val
  let v94 : Index := Scalar.indexCast arg0
  ![9, v94.toNat]
def k0_off11 (i : grid0.Coords) : Fin 2 → Nat :=
  let c10 : Index := 10#32
  let arg0 : BitVec 32 := BitVec.ofNat 32 (i 0).val
  let v100 : Index := Scalar.indexCast arg0
  ![10, v100.toNat]
def k0_off12 (i : grid0.Coords) : Fin 2 → Nat :=
  let c11 : Index := 11#32
  let arg0 : BitVec 32 := BitVec.ofNat 32 (i 0).val
  let v106 : Index := Scalar.indexCast arg0
  ![11, v106.toNat]
def k0_off13 (i : grid0.Coords) : Fin 2 → Nat :=
  let c12 : Index := 12#32
  let arg0 : BitVec 32 := BitVec.ofNat 32 (i 0).val
  let v112 : Index := Scalar.indexCast arg0
  ![12, v112.toNat]
def k0_off14 (i : grid0.Coords) : Fin 2 → Nat :=
  let c13 : Index := 13#32
  let arg0 : BitVec 32 := BitVec.ofNat 32 (i 0).val
  let v118 : Index := Scalar.indexCast arg0
  ![13, v118.toNat]
def k0_off15 (i : grid0.Coords) : Fin 2 → Nat :=
  let c14 : Index := 14#32
  let arg0 : BitVec 32 := BitVec.ofNat 32 (i 0).val
  let v124 : Index := Scalar.indexCast arg0
  ![14, v124.toNat]
def k0_off16 (i : grid0.Coords) : Fin 2 → Nat :=
  let c15 : Index := 15#32
  let arg0 : BitVec 32 := BitVec.ofNat 32 (i 0).val
  let v130 : Index := Scalar.indexCast arg0
  ![15, v130.toNat]
def k0_off17 (i : grid0.Coords) : Fin 2 → Nat :=
  let c16 : Index := 16#32
  let arg0 : BitVec 32 := BitVec.ofNat 32 (i 0).val
  let v136 : Index := Scalar.indexCast arg0
  ![16, v136.toNat]
def k0_off18 (i : grid0.Coords) : Fin 2 → Nat :=
  let c17 : Index := 17#32
  let arg0 : BitVec 32 := BitVec.ofNat 32 (i 0).val
  let v142 : Index := Scalar.indexCast arg0
  ![17, v142.toNat]
def k0_off19 (i : grid0.Coords) : Fin 2 → Nat :=
  let c18 : Index := 18#32
  let arg0 : BitVec 32 := BitVec.ofNat 32 (i 0).val
  let v148 : Index := Scalar.indexCast arg0
  ![18, v148.toNat]
def k0_off20 (i : grid0.Coords) : Fin 2 → Nat :=
  let c19 : Index := 19#32
  let arg0 : BitVec 32 := BitVec.ofNat 32 (i 0).val
  let v154 : Index := Scalar.indexCast arg0
  ![19, v154.toNat]
def k0_off21 (i : grid0.Coords) : Fin 2 → Nat :=
  let c20 : Index := 20#32
  let arg0 : BitVec 32 := BitVec.ofNat 32 (i 0).val
  let v160 : Index := Scalar.indexCast arg0
  ![20, v160.toNat]
def k0_off22 (i : grid0.Coords) : Fin 2 → Nat :=
  let c21 : Index := 21#32
  let arg0 : BitVec 32 := BitVec.ofNat 32 (i 0).val
  let v166 : Index := Scalar.indexCast arg0
  ![21, v166.toNat]
def k0_off23 (i : grid0.Coords) : Fin 2 → Nat :=
  let c22 : Index := 22#32
  let arg0 : BitVec 32 := BitVec.ofNat 32 (i 0).val
  let v172 : Index := Scalar.indexCast arg0
  ![22, v172.toNat]
def k0_off24 (i : grid0.Coords) : Fin 2 → Nat :=
  let c23 : Index := 23#32
  let arg0 : BitVec 32 := BitVec.ofNat 32 (i 0).val
  let v178 : Index := Scalar.indexCast arg0
  ![23, v178.toNat]
def k0_off25 (i : grid0.Coords) : Fin 2 → Nat :=
  let c24 : Index := 24#32
  let arg0 : BitVec 32 := BitVec.ofNat 32 (i 0).val
  let v184 : Index := Scalar.indexCast arg0
  ![24, v184.toNat]
def k0_off26 (i : grid0.Coords) : Fin 2 → Nat :=
  let c25 : Index := 25#32
  let arg0 : BitVec 32 := BitVec.ofNat 32 (i 0).val
  let v190 : Index := Scalar.indexCast arg0
  ![25, v190.toNat]
def k0_off27 (i : grid0.Coords) : Fin 2 → Nat :=
  let c26 : Index := 26#32
  let arg0 : BitVec 32 := BitVec.ofNat 32 (i 0).val
  let v196 : Index := Scalar.indexCast arg0
  ![26, v196.toNat]
def k0_off28 (i : grid0.Coords) : Fin 2 → Nat :=
  let c27 : Index := 27#32
  let arg0 : BitVec 32 := BitVec.ofNat 32 (i 0).val
  let v202 : Index := Scalar.indexCast arg0
  ![27, v202.toNat]
def k0_off29 (i : grid0.Coords) : Fin 2 → Nat :=
  let c28 : Index := 28#32
  let arg0 : BitVec 32 := BitVec.ofNat 32 (i 0).val
  let v208 : Index := Scalar.indexCast arg0
  ![28, v208.toNat]
def k0_off30 (i : grid0.Coords) : Fin 2 → Nat :=
  let c29 : Index := 29#32
  let arg0 : BitVec 32 := BitVec.ofNat 32 (i 0).val
  let v214 : Index := Scalar.indexCast arg0
  ![29, v214.toNat]
def k0_off31 (i : grid0.Coords) : Fin 2 → Nat :=
  let c30 : Index := 30#32
  let arg0 : BitVec 32 := BitVec.ofNat 32 (i 0).val
  let v220 : Index := Scalar.indexCast arg0
  ![30, v220.toNat]
def k0_off32 (i : grid0.Coords) : Fin 2 → Nat :=
  let c31 : Index := 31#32
  let arg0 : BitVec 32 := BitVec.ofNat 32 (i 0).val
  let v226 : Index := Scalar.indexCast arg0
  ![31, v226.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![c0_i32_5.toNat, v17.toNat, c0_i32_6.toNat]

def cc0_transform_2 (i : grid0.Coords) : Fin 3 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![c0_i32_5.toNat, v17.toNat, c0_i32_6.toNat]

def cc0_transform_3 (i : grid0.Coords) : Fin 3 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![c0_i32_5.toNat, v17.toNat, c0_i32_6.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32x16 : Shape := ⟨2, ![32, 16]⟩
abbrev S4x1024x5632 : Shape := ⟨3, ![4, 1024, 5632]⟩
abbrev S4x2816x1024 : Shape := ⟨3, ![4, 2816, 1024]⟩
abbrev S2x4x256x256 : Shape := ⟨4, ![2, 4, 256, 256]⟩
abbrev S16x32 : Shape := ⟨2, ![16, 32]⟩
abbrev S256 : Shape := ⟨1, ![256]⟩
abbrev S2 : Shape := ⟨1, ![2]⟩
abbrev S2x1 : Shape := ⟨2, ![2, 1]⟩
abbrev S_ : Shape := ⟨0, ![]⟩
abbrev S1x256 : Shape := ⟨2, ![1, 256]⟩
abbrev S2x256 : Shape := ⟨2, ![2, 256]⟩
abbrev S2x1x256 : Shape := ⟨3, ![2, 1, 256]⟩
abbrev S1x256x1 : Shape := ⟨3, ![1, 256, 1]⟩
abbrev S2x256x256 : Shape := ⟨3, ![2, 256, 256]⟩
abbrev S2x256x256x1 : Shape := ⟨4, ![2, 256, 256, 1]⟩
abbrev S16x2x256x256 : Shape := ⟨4, ![16, 2, 256, 256]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2048x256 : Shape := ⟨2, ![2048, 256]⟩

abbrev nBuf : Space → Nat
  | .hbm => 76
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S4x1024x5632, .f32⟩
  | .hbm, ⟨2, _⟩ => ⟨S4x2816x1024, .f32⟩
  | .hbm, ⟨3, _⟩ => ⟨S2x4x256x256, .f32⟩
  | .hbm, ⟨4, _⟩ => ⟨S16x32, .f32⟩
  | .hbm, ⟨5, _⟩ => ⟨S256, .i32⟩
  | .hbm, ⟨6, _⟩ => ⟨S2, .i32⟩
  | .hbm, ⟨7, _⟩ => ⟨S2x1, .i32⟩
  | .hbm, ⟨8, _⟩ => ⟨S_, .i32⟩
  | .hbm, ⟨9, _⟩ => ⟨S2x1, .i32⟩
  | .hbm, ⟨10, _⟩ => ⟨S2x1, .i32⟩
  | .hbm, ⟨11, _⟩ => ⟨S1x256, .i32⟩
  | .hbm, ⟨12, _⟩ => ⟨S2x256, .i32⟩
  | .hbm, ⟨13, _⟩ => ⟨S2x256, .i32⟩
  | .hbm, ⟨14, _⟩ => ⟨S2x256, .i32⟩
  | .hbm, ⟨15, _⟩ => ⟨S2x1x256, .i32⟩
  | .hbm, ⟨16, _⟩ => ⟨S1x256x1, .i32⟩
  | .hbm, ⟨17, _⟩ => ⟨S2x256x256, .i32⟩
  | .hbm, ⟨18, _⟩ => ⟨S2x256x256, .i32⟩
  | .hbm, ⟨19, _⟩ => ⟨S2x256x256, .i32⟩
  | .hbm, ⟨20, _⟩ => ⟨S_, .i32⟩
  | .hbm, ⟨21, _⟩ => ⟨S2x256x256, .i32⟩
  | .hbm, ⟨22, _⟩ => ⟨S2x256x256, .i32⟩
  | .hbm, ⟨23, _⟩ => ⟨S_, .i32⟩
  | .hbm, ⟨24, _⟩ => ⟨S2x256x256, .i32⟩
  | .hbm, ⟨25, _⟩ => ⟨S2x256x256, .i32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S2x256x256, .f32⟩
  | .hbm, ⟨31, _⟩ => ⟨S_, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .i32⟩
  | .hbm, ⟨38, _⟩ => ⟨S_, .i32⟩
  | .hbm, ⟨39, _⟩ => ⟨S2x256x256, .i32⟩
  | .hbm, ⟨40, _⟩ => ⟨S2x256x256, .i32⟩
  | .hbm, ⟨41, _⟩ => ⟨S_, .i32⟩
  | .hbm, ⟨42, _⟩ => ⟨S2x256x256, .i32⟩
  | .hbm, ⟨43, _⟩ => ⟨S2x256x256, .i32⟩
  | .hbm, ⟨44, _⟩ => ⟨S_, .i32⟩
  | .hbm, ⟨45, _⟩ => ⟨S2x256x256, .i32⟩
  | .hbm, ⟨46, _⟩ => ⟨S2x256x256, .i1⟩
  | .hbm, ⟨47, _⟩ => ⟨S2x256x256, .i32⟩
  | .hbm, ⟨48, _⟩ => ⟨S_, .i32⟩
  | .hbm, ⟨49, _⟩ => ⟨S2x256x256, .i32⟩
  | .hbm, ⟨50, _⟩ => ⟨S2x256x256, .i1⟩
  | .hbm, ⟨51, _⟩ => ⟨S_, .i32⟩
  | .hbm, ⟨52, _⟩ => ⟨S2x256x256, .i32⟩
  | .hbm, ⟨53, _⟩ => ⟨S2x256x256, .i32⟩
  | .hbm, ⟨54, _⟩ => ⟨S2x256x256, .i32⟩
  | .hbm, ⟨55, _⟩ => ⟨S2x256x256x1, .i32⟩
  | .hbm, ⟨56, _⟩ => ⟨S16x2x256x256, .f32⟩
  | .hbm, ⟨57, _⟩ => ⟨S_, .i32⟩
  | .hbm, ⟨58, _⟩ => ⟨S2x256x256, .i32⟩
  | .hbm, ⟨59, _⟩ => ⟨S2x256x256, .i1⟩
  | .hbm, ⟨60, _⟩ => ⟨S_, .f32⟩
  | .hbm, ⟨61, _⟩ => ⟨S_, .f32⟩
  | .hbm, ⟨62, _⟩ => ⟨S16x2x256x256, .i1⟩
  | .hbm, ⟨63, _⟩ => ⟨S16x2x256x256, .f32⟩
  | .hbm, ⟨64, _⟩ => ⟨S16x2x256x256, .f32⟩
  | .hbm, ⟨65, _⟩ => ⟨S_, .f32⟩
  | .hbm, ⟨66, _⟩ => ⟨S16x2x256x256, .f32⟩
  | .hbm, ⟨67, _⟩ => ⟨S16x2x256x256, .f32⟩
  | .hbm, ⟨68, _⟩ => ⟨S1x1024x5632, .f32⟩
  | .hbm, ⟨69, _⟩ => ⟨S1024x5632, .f32⟩
  | .hbm, ⟨70, _⟩ => ⟨S1024x5632, .bf16⟩
  | .hbm, ⟨71, _⟩ => ⟨S1x2816x1024, .f32⟩
  | .hbm, ⟨72, _⟩ => ⟨S2816x1024, .f32⟩
  | .hbm, ⟨73, _⟩ => ⟨S2816x1024, .bf16⟩
  | .hbm, ⟨74, _⟩ => ⟨S2048x256, .f32⟩
  | .hbm, ⟨75, _⟩ => ⟨S2048x256, .bf16⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Blocks.lean ====
/- What the idealized call leaves in its result arrays, block by block and as one fold over the grid's points: the generated
   value module of this kernel, taken over because one of its proofs by unfolding (`outsAt0_succ`) runs out of its budget;
   that theorem is proved here case by case. -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`: its component 0), read through the window's block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 32 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 32 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed11, outsAt0_B m c t h0]

/-- The index map sends distinct grid points to distinct block indices (decided over the 32 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S16384x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 1), read through the window's block. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 32 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 32 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed12, outsAt0_B m c t h0]

/-- The index map sends distinct grid points to distinct block indices (decided over the 32 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S1024x5632.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 2), read through the window's block. -/
theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 32 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed13, outsAt0_A m c t h0]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 32 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed13, outsAt0_B m c t h0]

-- no `blocks13`: window 13's index map revisits a block index, or its points could not be enumerated here;
-- the final array is still the frame's `arrAt`, to read with Lib/Pipeline/Value.lean's lemmas by hand

/-- An index that no flushing point's block covers keeps output window 13's array contents at region entry. -/
theorem entry13 (c : Dev nD) (i : S2816x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 3), read through the window's block. -/
theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 32 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed14, outsAt0_A m c t h0]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 32 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  simp only [flushed14, outsAt0_B m c t h0]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S2048x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v18_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v18_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v18_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v18_3) = (dats m 0 c).arrAt 14 cfg0.N :=
  (h c).1 14

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 8 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

/-- After the frame run, argument `main_arg6` is as launched: input window 9 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v18_0) = (dats m 0 c).arrAt 11 cfg0.N
      ∧ r.2.mem ((c : Thread nD τ).loc main_v18_1) = (dats m 0 c).arrAt 12 cfg0.N
      ∧ r.2.mem ((c : Thread nD τ).loc main_v18_2) = (dats m 0 c).arrAt 13 cfg0.N
      ∧ r.2.mem ((c : Thread nD τ).loc main_v18_3) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S512x1024 .f32) : Vec F S512x1024 .f32 :=
  if h0 : n % 32 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2.1 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2.2.2.1) 32 (fun n h => scAt0_1 m c n h (VS0_1.read (Elt F) VS0_1.junk)) (scAt0_1 m c)
    (fun n h hn => by
      have hN := lt_of_lt_of_eq h (show cfg0.N = 32 from N_0)
      by_cases h0 : n % 32 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 32 from N_0)
      by_cases h0 : (n + 1) % 32 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S512x1024 .bf16) : Vec F S512x1024 .bf16 :=
  if h0 : n % 32 = 0 then
    sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))
  else
    sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2

/-- WHAT CARRIED SCRATCH 2 HOLDS after point `t`: the fold of its run up to `t`, from the reset at the run's first point
    `32·(t / 32)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2.2.1 = Pipeline.accAt (fun n h => scAt0_2 m c n h (VS0_2.read (Elt F) VS0_2.junk)) (scAt0_2 m c) (32 * (t.val / 32)) (t.val % 32)
      (by have h1 := t.isLt; have h2 := Nat.div_add_mod t.val 32; omega) :=
  Pipeline.eq_accAt_of_mod (fun n h => (outsAt0 m c n h).2.2.2.2.2.1) 32 (fun n h => scAt0_2 m c n h (VS0_2.read (Elt F) VS0_2.junk)) (scAt0_2 m c)
    (fun n h hn => by
      have hN := lt_of_lt_of_eq h (show cfg0.N = 32 from N_0)
      by_cases h0 : n % 32 = 0
      all_goals first | (exfalso; omega) | (rw [outsAt0_A m c ⟨n, h⟩ h0]; dsimp only; unfold scAt0_2; rw [dif_pos h0] <;> try rfl) | (rw [outsAt0_B m c ⟨n, h⟩ h0]; dsimp only; unfold scAt0_2; rw [dif_neg h0] <;> try rfl))
    (fun n h hn => by
      have hN := lt_of_lt_of_eq h (show cfg0.N = 32 from N_0)
      by_cases h0 : (n + 1) % 32 = 0
      all_goals first | (exfalso; omega) | (rw [outsAt0_A m c ⟨n + 1, h⟩ h0]; dsimp only; unfold scAt0_2; rw [dif_pos h0] <;> try rfl) | (rw [outsAt0_B m c ⟨n + 1, h⟩ h0]; dsimp only; unfold scAt0_2; rw [dif_neg h0] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2.2.1 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S16x1024 .f32) : Vec F S16x1024 .f32 :=
  if h0 : n % 32 = 0 then
    sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))
  else
    sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc

/-- WHAT CARRIED SCRATCH 3 HOLDS after point `t`: the fold of its run up to `t`, from the reset at the run's first point
    `32·(t / 32)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.2.2.2 = Pipeline.accAt (fun n h => scAt0_3 m c n h (VS0_3.read (Elt F) VS0_3.junk)) (scAt0_3 m c) (32 * (t.val / 32)) (t.val % 32)
      (by have h1 := t.isLt; have h2 := Nat.div_add_mod t.val 32; omega) :=
  Pipeline.eq_accAt_of_mod (fun n h => (outsAt0 m c n h).2.2.2.2.2.2) 32 (fun n h => scAt0_3 m c n h (VS0_3.read (Elt F) VS0_3.junk)) (scAt0_3 m c)
    (fun n h hn => by
      have hN := lt_of_lt_of_eq h (show cfg0.N = 32 from N_0)
      by_cases h0 : n % 32 = 0
      all_goals first | (exfalso; omega) | (rw [outsAt0_A m c ⟨n, h⟩ h0]; dsimp only; unfold scAt0_3; rw [dif_pos h0] <;> try rfl) | (rw [outsAt0_B m c ⟨n, h⟩ h0]; dsimp only; unfold scAt0_3; rw [dif_neg h0] <;> try rfl))
    (fun n h hn => by
      have hN := lt_of_lt_of_eq h (show cfg0.N = 32 from N_0)
      by_cases h0 : (n + 1) % 32 = 0
      all_goals first | (exfalso; omega) | (rw [outsAt0_A m c ⟨n + 1, h⟩ h0]; dsimp only; unfold scAt0_3; rw [dif_pos h0] <;> try rfl) | (rw [outsAt0_B m c ⟨n + 1, h⟩ h0]; dsimp only; unfold scAt0_3; rw [dif_neg h0] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.2.2.2 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x1024 .f32 × Vec F S32x5632 .bf16 × Vec F S176x1024 .bf16 × Vec F S64x1024 .bf16 × Vec F S512x1024 .f32 × Vec F S512x1024 .bf16 × Vec F S16x1024 .f32 :=
  ((VO0_11.read (Elt F) VO0_11.junk, VO0_12.read (Elt F) VO0_12.junk, VO0_13.read (Elt F) VO0_13.junk, VO0_14.read (Elt F) VO0_14.junk, VS0_1.read (Elt F) VS0_1.junk, VS0_2.read (Elt F) VS0_2.junk, VS0_3.read (Elt F) VS0_3.junk) : Vec F S512x1024 .f32 × Vec F S32x5632 .bf16 × Vec F S176x1024 .bf16 × Vec F S64x1024 .bf16 × Vec F S512x1024 .f32 × Vec F S512x1024 .bf16 × Vec F S16x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x1024 .f32 × Vec F S32x5632 .bf16 × Vec F S176x1024 .bf16 × Vec F S64x1024 .bf16 × Vec F S512x1024 .f32 × Vec F S512x1024 .bf16 × Vec F S16x1024 .f32) : Vec F S512x1024 .f32 × Vec F S32x5632 .bf16 × Vec F S176x1024 .bf16 × Vec F S64x1024 .bf16 × Vec F S512x1024 .f32 × Vec F S512x1024 .bf16 × Vec F S16x1024 .f32 :=
  if h0 : n % 32 = 0 then
    (out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), out0_A_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), out0_A_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), out0_A_14 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)))
  else
    (out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2, out0_B_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2, out0_B_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2, out0_B_14 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2.2.2.1 acc.2.2.2.2.2.1 acc.2.2.2.2.2.2)

/-- `stAt0` at a point of case A: that case's contents. -/
theorem stAt0_A (c : Dev nD) (t : Fin cfg0.N) (acc : Vec F S512x1024 .f32 × Vec F S32x5632 .bf16 × Vec F S176x1024 .bf16 × Vec F S64x1024 .bf16 × Vec F S512x1024 .f32 × Vec F S512x1024 .bf16 × Vec F S16x1024 .f32) (h0 : t.val % 32 = 0) :
    stAt0 m c t.val t.isLt acc = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) :=
  (dif_pos h0).trans rfl

/-- `stAt0` at a point of case B: that case's contents, over `acc`. -/
theorem stAt0_B (c : Dev nD) (t : Fin cfg0.N) (acc : Vec F S512x1024 .f32 × Vec F S32x5632 .bf16 × Vec F S176x1024 .bf16 × Vec F S64x1024 .bf16 × Vec F S512x1024 .f32 × Vec F S512x1024 .bf16 × Vec F S16x1024 .f32) (h0 : ¬t.val % 32 = 0) :
    stAt0 m c t.val t.isLt acc = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.2.2.2.1 acc.2.2.2.2.2.1 acc.2.2.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := by
  by_cases h0 : (n + 1) % 32 = 0
  · exact (outsAt0_A m c ⟨n + 1, hn⟩ h0).trans (stAt0_A m c ⟨n + 1, hn⟩ _ h0).symm
  · exact (outsAt0_B m c ⟨n + 1, hn⟩ h0).trans (stAt0_B m c ⟨n + 1, hn⟩ _ h0).symm

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 11 -/

/-- The block of the array that holds index `i`, numbered in the order the points write the blocks back (one per point),
    `i`'s place in it, and the point that writes it back. -/
abbrev run11Of (i : S16384x1024.Idx) : ℕ := 1 * ((i 0).val / 512 - 0) + 1 * ((i 1).val / 1024 - 0)
set_option backward.proofsInPublic true in
abbrev loc11Of (i : S16384x1024.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt11Of (i : S16384x1024.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v18_0) := fun i =>
  if h : pt11Of i < cfg0.N then
    (Pipeline.accAt (fun n h => stAt0 m c n h junk0) (stAt0 m c) 0 (pt11Of i) (by omega)).1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 2) ∧ win0_11.index t (0 : Fin 2) ≤ 31
    ∧ 0 ≤ win0_11.index t (1 : Fin 2) ∧ win0_11.index t (1 : Fin 2) ≤ 0
    ∧ 1 * (win0_11.index t (0 : Fin 2) - 0) + 1 * (win0_11.index t (1 : Fin 2) - 0) = t.val :=
  (by decide +kernel : ∀ t : Fin grid0.N, _)

/-- Every block of the box is SOME flushing point's: `onto11Pt`, the point that writes back the block at place `q` of the box. -/
abbrev onto11Pt (q0 : Fin 32) (q1 : Fin 1) : Fin grid0.N :=
  ⟨1 * q0.val + 1 * q1.val, lt_of_lt_of_eq (by omega) N_0.symm⟩
theorem idx_onto11 : ∀ (q0 : Fin 32) (q1 : Fin 1), ∃ t : Fin cfg0.N, (cfg0.win 11).flush t = true ∧ win0_11.index t = ![q0.val + 0, q1.val + 0] :=
  fun q0 q1 => ⟨onto11Pt q0 q1, (by decide +kernel : ∀ (q0 : Fin 32) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2⟩ := idx_facts11 t
  funext y
  have hy0 : (y 0).val < 512 := (y 0).isLt
  have hy1 : (y 1).val < 1024 := (y 1).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 1024 + 1 * (y 1).val := rfl
  have hr : run11Of (((cfg0.win 11).blk t).view.emb y) = t.val := by
    show 1 * ((((cfg0.win 11).blk t).view.emb y 0).val / 512 - 0) + 1 * ((((cfg0.win 11).blk t).view.emb y 1).val / 1024 - 0) = _
    rw [hb0, hb1]
    rw [show (win0_11.index t (0 : Fin 2) * 512 + 1 * (y 0).val) / 512 = win0_11.index t (0 : Fin 2) from by omega]; rw [show (win0_11.index t (1 : Fin 2) * 1024 + 1 * (y 1).val) / 1024 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 512 = (y 0).val; rw [hb0]; omega
    | ⟨1, _⟩ => show (((cfg0.win 11).blk t).view.emb y 1).val % 1024 = (y 1).val; rw [hb1]; omega
  have hp : pt11Of (((cfg0.win 11).blk t).view.emb y) = t.val := by
    exact hr
  show (Pipeline.accAt (fun n h => stAt0 m c n h junk0) (stAt0 m c) 0 t.val _).1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S16384x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v18_0).slice (win0_11.rect t)).set ↔ _
  rw [View.set_slice_whole, Rect.mem_set_unit]
  exact Iff.rfl

/-- THE COVERED INDICES: in some flushing point's block iff inside the box those blocks fill. -/
theorem covered_iff11 (i : S16384x1024.Idx) :
    (∃ t : Fin cfg0.N, (cfg0.win 11).flush t = true ∧ i ∈ ((cfg0.win 11).blk t).view.set) ↔ 0 ≤ (i 0).val ∧ (i 0).val < 16384 ∧ 0 ≤ (i 1).val ∧ (i 1).val < 1024 := by
  constructor
  · rintro ⟨t, -, hi⟩
    rw [mem_blk11] at hi
    have b0 : win0_11.index t (0 : Fin 2) * 512 ≤ (i 0).val ∧ (i 0).val < win0_11.index t (0 : Fin 2) * 512 + 512 := hi 0
    have b1 : win0_11.index t (1 : Fin 2) * 1024 ≤ (i 1).val ∧ (i 1).val < win0_11.index t (1 : Fin 2) * 1024 + 1024 := hi 1
    obtain ⟨e0, e1, e2⟩ := idx_facts11 t
    omega
  · intro h
    have hi0 : (i 0).val < 16384 := (i 0).isLt
    have hi1 : (i 1).val < 1024 := (i 1).isLt
    obtain ⟨t, hft, ht⟩ := idx_onto11 ⟨(i 0).val / 512 - 0, by omega⟩ ⟨(i 1).val / 1024 - 0, by omega⟩
    have q0 : win0_11.index t (0 : Fin 2) = (i 0).val / 512 - 0 + 0 := congrFun ht 0
    have q1 : win0_11.index t (1 : Fin 2) = (i 1).val / 1024 - 0 + 0 := congrFun ht 1
    refine ⟨t, hft, ?_⟩
    rw [mem_blk11]
    intro a
    match a with
    | ⟨0, _⟩ => show win0_11.index t (0 : Fin 2) * 512 ≤ (i 0).val ∧ (i 0).val < win0_11.index t (0 : Fin 2) * 512 + 512; omega
    | ⟨1, _⟩ => show win0_11.index t (1 : Fin 2) * 1024 ≤ (i 1).val ∧ (i 1).val < win0_11.index t (1 : Fin 2) * 1024 + 1024; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 16384 := (i 0).isLt; have h1 : (i 1).val < 1024 := (i 1).isLt; omega))

/-! ## Output window 12 -/

/-- The block of the array that holds index `i`, numbered in the order the points write the blocks back (one per point),
    `i`'s place in it, and the point that writes it back. -/
abbrev run12Of (i : S1024x5632.Idx) : ℕ := 1 * ((i 0).val / 32 - 0) + 1 * ((i 1).val / 5632 - 0)
set_option backward.proofsInPublic true in
abbrev loc12Of (i : S1024x5632.Idx) : S32x5632.Idx := fun a => match a with
  | ⟨0, _⟩ => ⟨(i 0).val % 32, Nat.mod_lt _ (by decide)⟩
  | ⟨1, _⟩ => ⟨(i 1).val % 5632, Nat.mod_lt _ (by decide)⟩
abbrev pt12Of (i : S1024x5632.Idx) : ℕ := run12Of i

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v18_1) := fun i =>
  if h : pt12Of i < cfg0.N then
    (Pipeline.accAt (fun n h => stAt0 m c n h junk0) (stAt0 m c) 0 (pt12Of i) (by omega)).2.1 (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 2) ∧ win0_12.index t (0 : Fin 2) ≤ 31
    ∧ 0 ≤ win0_12.index t (1 : Fin 2) ∧ win0_12.index t (1 : Fin 2) ≤ 0
    ∧ 1 * (win0_12.index t (0 : Fin 2) - 0) + 1 * (win0_12.index t (1 : Fin 2) - 0) = t.val :=
  (by decide +kernel : ∀ t : Fin grid0.N, _)

/-- Every block of the box is SOME flushing point's: `onto12Pt`, the point that writes back the block at place `q` of the box. -/
abbrev onto12Pt (q0 : Fin 32) (q1 : Fin 1) : Fin grid0.N :=
  ⟨1 * q0.val + 1 * q1.val, lt_of_lt_of_eq (by omega) N_0.symm⟩
theorem idx_onto12 : ∀ (q0 : Fin 32) (q1 : Fin 1), ∃ t : Fin cfg0.N, (cfg0.win 12).flush t = true ∧ win0_12.index t = ![q0.val + 0, q1.val + 0] :=
  fun q0 q1 => ⟨onto12Pt q0 q1, (by decide +kernel : ∀ (q0 : Fin 32) (q1 : Fin 1), win0_12.flush (onto12Pt q0 q1) = true ∧ win0_12.index (onto12Pt q0 q1) = ![q0.val + 0, q1.val + 0]) q0 q1⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  obtain ⟨e0, e1, e2⟩ := idx_facts12 t
  funext y
  have hy0 : (y 0).val < 32 := (y 0).isLt
  have hy1 : (y 1).val < 5632 := (y 1).isLt
  have hb0 : (((cfg0.win 12).blk t).view.emb y 0).val = win0_12.index t (0 : Fin 2) * 32 + 1 * (y 0).val := rfl
  have hb1 : (((cfg0.win 12).blk t).view.emb y 1).val = win0_12.index t (1 : Fin 2) * 5632 + 1 * (y 1).val := rfl
  have hr : run12Of (((cfg0.win 12).blk t).view.emb y) = t.val := by
    show 1 * ((((cfg0.win 12).blk t).view.emb y 0).val / 32 - 0) + 1 * ((((cfg0.win 12).blk t).view.emb y 1).val / 5632 - 0) = _
    rw [hb0, hb1]
    rw [show (win0_12.index t (0 : Fin 2) * 32 + 1 * (y 0).val) / 32 = win0_12.index t (0 : Fin 2) from by omega]; rw [show (win0_12.index t (1 : Fin 2) * 5632 + 1 * (y 1).val) / 5632 = win0_12.index t (1 : Fin 2) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 32 = (y 0).val; rw [hb0]; omega
    | ⟨1, _⟩ => show (((cfg0.win 12).blk t).view.emb y 1).val % 5632 = (y 1).val; rw [hb1]; omega
  have hp : pt12Of (((cfg0.win 12).blk t).view.emb y) = t.val := by
    exact hr
  show (Pipeline.accAt (fun n h => stAt0 m c n h junk0) (stAt0 m c) 0 t.val _).2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S1024x5632.Idx) :
    i ∈ ((cfg0.win 12).blk t).view.set ↔ ∀ a : Fin 2, win0_12.index t a * S32x5632.size a ≤ (i a).val ∧ (i a).val < win0_12.index t a * S32x5632.size a + S32x5632.size a := by
  show i ∈ ((View.whole main_v18_1).slice (win0_12.rect t)).set ↔ _
  rw [View.set_slice_whole, Rect.mem_set_unit]
  exact Iff.rfl

/-- THE COVERED INDICES: in some flushing point's block iff inside the box those blocks fill. -/
theorem covered_iff12 (i : S1024x5632.Idx) :
    (∃ t : Fin cfg0.N, (cfg0.win 12).flush t = true ∧ i ∈ ((cfg0.win 12).blk t).view.set) ↔ 0 ≤ (i 0).val ∧ (i 0).val < 1024 ∧ 0 ≤ (i 1).val ∧ (i 1).val < 5632 := by
  constructor
  · rintro ⟨t, -, hi⟩
    rw [mem_blk12] at hi
    have b0 : win0_12.index t (0 : Fin 2) * 32 ≤ (i 0).val ∧ (i 0).val < win0_12.index t (0 : Fin 2) * 32 + 32 := hi 0
    have b1 : win0_12.index t (1 : Fin 2) * 5632 ≤ (i 1).val ∧ (i 1).val < win0_12.index t (1 : Fin 2) * 5632 + 5632 := hi 1
    obtain ⟨e0, e1, e2⟩ := idx_facts12 t
    omega
  · intro h
    have hi0 : (i 0).val < 1024 := (i 0).isLt
    have hi1 : (i 1).val < 5632 := (i 1).isLt
    obtain ⟨t, hft, ht⟩ := idx_onto12 ⟨(i 0).val / 32 - 0, by omega⟩ ⟨(i 1).val / 5632 - 0, by omega⟩
    have q0 : win0_12.index t (0 : Fin 2) = (i 0).val / 32 - 0 + 0 := congrFun ht 0
    have q1 : win0_12.index t (1 : Fin 2) = (i 1).val / 5632 - 0 + 0 := congrFun ht 1
    refine ⟨t, hft, ?_⟩
    rw [mem_blk12]
    intro a
    match a with
    | ⟨0, _⟩ => show win0_12.index t (0 : Fin 2) * 32 ≤ (i 0).val ∧ (i 0).val < win0_12.index t (0 : Fin 2) * 32 + 32; omega
    | ⟨1, _⟩ => show win0_12.index t (1 : Fin 2) * 5632 ≤ (i 1).val ∧ (i 1).val < win0_12.index t (1 : Fin 2) * 5632 + 5632; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 1024 := (i 0).isLt; have h1 : (i 1).val < 5632 := (i 1).isLt; omega))

/-! ## Output window 13 -/

/-- The block of the array that holds index `i`, numbered in the order the points write the blocks back (one every 2 points),
    `i`'s place in it, and the point that writes it back (the last of its 2). -/
abbrev run13Of (i : S2816x1024.Idx) : ℕ := 1 * ((i 0).val / 176 - 0) + 1 * ((i 1).val / 1024 - 0)
set_option backward.proofsInPublic true in
abbrev loc13Of (i : S2816x1024.Idx) : S176x1024.Idx := fun a => match a with
  | ⟨0, _⟩ => ⟨(i 0).val % 176, Nat.mod_lt _ (by decide)⟩
  | ⟨1, _⟩ => ⟨(i 1).val % 1024, Nat.mod_lt _ (by decide)⟩
abbrev pt13Of (i : S2816x1024.Idx) : ℕ := 2 * run13Of i + 1

/-- WHAT THE ARRAY ENDS HOLDING at index `i` inside the box the flushing blocks fill: output 13's component of the carried
    state's fold at the point that writes `i`'s block back, at `i`'s place in the block. `G13` states the array's contents
    only inside the box. -/
def G13 (c : Dev nD) : Buf (Elt F) ((c : Thread nD τ).loc main_v18_2) := fun i =>
  if h : pt13Of i < cfg0.N then
    (Pipeline.accAt (fun n h => stAt0 m c n h junk0) (stAt0 m c) 0 (pt13Of i) (by omega)).2.2.1 (loc13Of i)
  else V m c (Pipeline.arrRef spec0 13) i

/-- The printed index map, decided over the grid: output window 13's block indices stay in the box, and the block number
    read off them is the point's (`t / 2`). -/
theorem idx_facts13 : ∀ t : Fin cfg0.N, 0 ≤ win0_13.index t (0 : Fin 2) ∧ win0_13.index t (0 : Fin 2) ≤ 15
    ∧ 0 ≤ win0_13.index t (1 : Fin 2) ∧ win0_13.index t (1 : Fin 2) ≤ 0
    ∧ 1 * (win0_13.index t (0 : Fin 2) - 0) + 1 * (win0_13.index t (1 : Fin 2) - 0) = t.val / 2 :=
  (by decide +kernel : ∀ t : Fin grid0.N, _)

/-- Every block of the box is SOME flushing point's: `onto13Pt`, the point that writes back the block at place `q` of the box (the last point of its run). -/
abbrev onto13Pt (q0 : Fin 16) (q1 : Fin 1) : Fin grid0.N :=
  ⟨2 * (1 * q0.val + 1 * q1.val) + 1, lt_of_lt_of_eq (by omega) N_0.symm⟩
theorem idx_onto13 : ∀ (q0 : Fin 16) (q1 : Fin 1), ∃ t : Fin cfg0.N, (cfg0.win 13).flush t = true ∧ win0_13.index t = ![q0.val + 0, q1.val + 0] :=
  fun q0 q1 => ⟨onto13Pt q0 q1, (by decide +kernel : ∀ (q0 : Fin 16) (q1 : Fin 1), win0_13.flush (onto13Pt q0 q1) = true ∧ win0_13.index (onto13Pt q0 q1) = ![q0.val + 0, q1.val + 0]) q0 q1⟩

/-- WHAT A FLUSHING POINT `t` WRITES BACK is block `t` of `G13`: output 13's component of the fold up to `t`. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13, outsAt0_sweep]
  have hm : t.val % 2 = 1 := (flush0_13 t).mp hf
  obtain ⟨e0, e1, e2⟩ := idx_facts13 t
  funext y
  have hy0 : (y 0).val < 176 := (y 0).isLt
  have hy1 : (y 1).val < 1024 := (y 1).isLt
  have hb0 : (((cfg0.win 13).blk t).view.emb y 0).val = win0_13.index t (0 : Fin 2) * 176 + 1 * (y 0).val := rfl
  have hb1 : (((cfg0.win 13).blk t).view.emb y 1).val = win0_13.index t (1 : Fin 2) * 1024 + 1 * (y 1).val := rfl
  have hr : run13Of (((cfg0.win 13).blk t).view.emb y) = t.val / 2 := by
    show 1 * ((((cfg0.win 13).blk t).view.emb y 0).val / 176 - 0) + 1 * ((((cfg0.win 13).blk t).view.emb y 1).val / 1024 - 0) = _
    rw [hb0, hb1]
    rw [show (win0_13.index t (0 : Fin 2) * 176 + 1 * (y 0).val) / 176 = win0_13.index t (0 : Fin 2) from by omega]; rw [show (win0_13.index t (1 : Fin 2) * 1024 + 1 * (y 1).val) / 1024 = win0_13.index t (1 : Fin 2) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 176 = (y 0).val; rw [hb0]; omega
    | ⟨1, _⟩ => show (((cfg0.win 13).blk t).view.emb y 1).val % 1024 = (y 1).val; rw [hb1]; omega
  have hp : pt13Of (((cfg0.win 13).blk t).view.emb y) = t.val := by
    show 2 * run13Of (((cfg0.win 13).blk t).view.emb y) + 1 = _
    rw [hr]; have := Nat.div_add_mod t.val 2; omega
  show (Pipeline.accAt (fun n h => stAt0 m c n h junk0) (stAt0 m c) 0 t.val _).2.2.1 ((cfg0.win 13).xinj (grid0.coords t) y) = G13 m c (((cfg0.win 13).blk t).view.emb y)
  unfold G13
  rw [dif_pos (by rw [hp]; exact t.isLt), hl, fold0_congr m c _ _ _ _ hp.symm]

/-- An index of the array is in point `t`'s block iff each coordinate is in the block's range on its axis. -/
theorem mem_blk13 (t : Fin cfg0.N) (i : S2816x1024.Idx) :
    i ∈ ((cfg0.win 13).blk t).view.set ↔ ∀ a : Fin 2, win0_13.index t a * S176x1024.size a ≤ (i a).val ∧ (i a).val < win0_13.index t a * S176x1024.size a + S176x1024.size a := by
  show i ∈ ((View.whole main_v18_2).slice (win0_13.rect t)).set ↔ _
  rw [View.set_slice_whole, Rect.mem_set_unit]
  exact Iff.rfl

/-- THE COVERED INDICES: in some flushing point's block iff inside the box those blocks fill. -/
theorem covered_iff13 (i : S2816x1024.Idx) :
    (∃ t : Fin cfg0.N, (cfg0.win 13).flush t = true ∧ i ∈ ((cfg0.win 13).blk t).view.set) ↔ 0 ≤ (i 0).val ∧ (i 0).val < 2816 ∧ 0 ≤ (i 1).val ∧ (i 1).val < 1024 := by
  constructor
  · rintro ⟨t, -, hi⟩
    rw [mem_blk13] at hi
    have b0 : win0_13.index t (0 : Fin 2) * 176 ≤ (i 0).val ∧ (i 0).val < win0_13.index t (0 : Fin 2) * 176 + 176 := hi 0
    have b1 : win0_13.index t (1 : Fin 2) * 1024 ≤ (i 1).val ∧ (i 1).val < win0_13.index t (1 : Fin 2) * 1024 + 1024 := hi 1
    obtain ⟨e0, e1, e2⟩ := idx_facts13 t
    omega
  · intro h
    have hi0 : (i 0).val < 2816 := (i 0).isLt
    have hi1 : (i 1).val < 1024 := (i 1).isLt
    obtain ⟨t, hft, ht⟩ := idx_onto13 ⟨(i 0).val / 176 - 0, by omega⟩ ⟨(i 1).val / 1024 - 0, by omega⟩
    have q0 : win0_13.index t (0 : Fin 2) = (i 0).val / 176 - 0 + 0 := congrFun ht 0
    have q1 : win0_13.index t (1 : Fin 2) = (i 1).val / 1024 - 0 + 0 := congrFun ht 1
    refine ⟨t, hft, ?_⟩
    rw [mem_blk13]
    intro a
    match a with
    | ⟨0, _⟩ => show win0_13.index t (0 : Fin 2) * 176 ≤ (i 0).val ∧ (i 0).val < win0_13.index t (0 : Fin 2) * 176 + 176; omega
    | ⟨1, _⟩ => show win0_13.index t (1 : Fin 2) * 1024 ≤ (i 1).val ∧ (i 1).val < win0_13.index t (1 : Fin 2) * 1024 + 1024; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 2816 := (i 0).isLt; have h1 : (i 1).val < 1024 := (i 1).isLt; omega))

/-! ## Output window 14 -/

/-- The block of the array that holds index `i`, numbered in the order the points write the blocks back (one per point),
    `i`'s place in it, and the point that writes it back. -/
abbrev run14Of (i : S2048x1024.Idx) : ℕ := 1 * ((i 0).val / 64 - 0) + 1 * ((i 1).val / 1024 - 0)
set_option backward.proofsInPublic true in
abbrev loc14Of (i : S2048x1024.Idx) : S64x1024.Idx := fun a => match a with
  | ⟨0, _⟩ => ⟨(i 0).val % 64, Nat.mod_lt _ (by decide)⟩
  | ⟨1, _⟩ => ⟨(i 1).val % 1024, Nat.mod_lt _ (by decide)⟩
abbrev pt14Of (i : S2048x1024.Idx) : ℕ := run14Of i

/-- WHAT THE ARRAY ENDS HOLDING at index `i` inside the box the flushing blocks fill: output 14's component of the carried
    state's fold at the point that writes `i`'s block back, at `i`'s place in the block. `G14` states the array's contents
    only inside the box. -/
def G14 (c : Dev nD) : Buf (Elt F) ((c : Thread nD τ).loc main_v18_3) := fun i =>
  if h : pt14Of i < cfg0.N then
    (Pipeline.accAt (fun n h => stAt0 m c n h junk0) (stAt0 m c) 0 (pt14Of i) (by omega)).2.2.2.1 (loc14Of i)
  else V m c (Pipeline.arrRef spec0 14) i

/-- The printed index map, decided over the grid: output window 14's block indices stay in the box, and the block number
    read off them is the point's (`t`). -/
theorem idx_facts14 : ∀ t : Fin cfg0.N, 0 ≤ win0_14.index t (0 : Fin 2) ∧ win0_14.index t (0 : Fin 2) ≤ 31
    ∧ 0 ≤ win0_14.index t (1 : Fin 2) ∧ win0_14.index t (1 : Fin 2) ≤ 0
    ∧ 1 * (win0_14.index t (0 : Fin 2) - 0) + 1 * (win0_14.index t (1 : Fin 2) - 0) = t.val :=
  (by decide +kernel : ∀ t : Fin grid0.N, _)

/-- Every block of the box is SOME flushing point's: `onto14Pt`, the point that writes back the block at place `q` of the box. -/
abbrev onto14Pt (q0 : Fin 32) (q1 : Fin 1) : Fin grid0.N :=
  ⟨1 * q0.val + 1 * q1.val, lt_of_lt_of_eq (by omega) N_0.symm⟩
theorem idx_onto14 : ∀ (q0 : Fin 32) (q1 : Fin 1), ∃ t : Fin cfg0.N, (cfg0.win 14).flush t = true ∧ win0_14.index t = ![q0.val + 0, q1.val + 0] :=
  fun q0 q1 => ⟨onto14Pt q0 q1, (by decide +kernel : ∀ (q0 : Fin 32) (q1 : Fin 1), win0_14.flush (onto14Pt q0 q1) = true ∧ win0_14.index (onto14Pt q0 q1) = ![q0.val + 0, q1.val + 0]) q0 q1⟩

/-- WHAT A FLUSHING POINT `t` WRITES BACK is block `t` of `G14`: output 14's component of the fold up to `t`. -/
theorem flushed14_eq (c : Dev nD) (t : Fin cfg0.N) (hf : (cfg0.win 14).flush t = true) :
    (dats m 0 c).flushed 14 t = ((cfg0.win 14).blk t).view.read (Elt F) (G14 m c) := by
  show (cfg0.win 14).cut (grid0.coords t) ((dats m 0 c).after 14 t) = _
  rw [after0_14, outsAt0_sweep]
  obtain ⟨e0, e1, e2⟩ := idx_facts14 t
  funext y
  have hy0 : (y 0).val < 64 := (y 0).isLt
  have hy1 : (y 1).val < 1024 := (y 1).isLt
  have hb0 : (((cfg0.win 14).blk t).view.emb y 0).val = win0_14.index t (0 : Fin 2) * 64 + 1 * (y 0).val := rfl
  have hb1 : (((cfg0.win 14).blk t).view.emb y 1).val = win0_14.index t (1 : Fin 2) * 1024 + 1 * (y 1).val := rfl
  have hr : run14Of (((cfg0.win 14).blk t).view.emb y) = t.val := by
    show 1 * ((((cfg0.win 14).blk t).view.emb y 0).val / 64 - 0) + 1 * ((((cfg0.win 14).blk t).view.emb y 1).val / 1024 - 0) = _
    rw [hb0, hb1]
    rw [show (win0_14.index t (0 : Fin 2) * 64 + 1 * (y 0).val) / 64 = win0_14.index t (0 : Fin 2) from by omega]; rw [show (win0_14.index t (1 : Fin 2) * 1024 + 1 * (y 1).val) / 1024 = win0_14.index t (1 : Fin 2) from by omega]
    omega
  have hl : loc14Of (((cfg0.win 14).blk t).view.emb y) = (cfg0.win 14).xinj (grid0.coords t) y := by
    funext a; apply Fin.ext
    match a with
    | ⟨0, _⟩ => show (((cfg0.win 14).blk t).view.emb y 0).val % 64 = (y 0).val; rw [hb0]; omega
    | ⟨1, _⟩ => show (((cfg0.win 14).blk t).view.emb y 1).val % 1024 = (y 1).val; rw [hb1]; omega
  have hp : pt14Of (((cfg0.win 14).blk t).view.emb y) = t.val := by
    exact hr
  show (Pipeline.accAt (fun n h => stAt0 m c n h junk0) (stAt0 m c) 0 t.val _).2.2.2.1 ((cfg0.win 14).xinj (grid0.coords t) y) = G14 m c (((cfg0.win 14).blk t).view.emb y)
  unfold G14
  rw [dif_pos (by rw [hp]; exact t.isLt), hl, fold0_congr m c _ _ _ _ hp.symm]

/-- An index of the array is in point `t`'s block iff each coordinate is in the block's range on its axis. -/
theorem mem_blk14 (t : Fin cfg0.N) (i : S2048x1024.Idx) :
    i ∈ ((cfg0.win 14).blk t).view.set ↔ ∀ a : Fin 2, win0_14.index t a * S64x1024.size a ≤ (i a).val ∧ (i a).val < win0_14.index t a * S64x1024.size a + S64x1024.size a := by
  show i ∈ ((View.whole main_v18_3).slice (win0_14.rect t)).set ↔ _
  rw [View.set_slice_whole, Rect.mem_set_unit]
  exact Iff.rfl

/-- THE COVERED INDICES: in some flushing point's block iff inside the box those blocks fill. -/
theorem covered_iff14 (i : S2048x1024.Idx) :
    (∃ t : Fin cfg0.N, (cfg0.win 14).flush t = true ∧ i ∈ ((cfg0.win 14).blk t).view.set) ↔ 0 ≤ (i 0).val ∧ (i 0).val < 2048 ∧ 0 ≤ (i 1).val ∧ (i 1).val < 1024 := by
  constructor
  · rintro ⟨t, -, hi⟩
    rw [mem_blk14] at hi
    have b0 : win0_14.index t (0 : Fin 2) * 64 ≤ (i 0).val ∧ (i 0).val < win0_14.index t (0 : Fin 2) * 64 + 64 := hi 0
    have b1 : win0_14.index t (1 : Fin 2) * 1024 ≤ (i 1).val ∧ (i 1).val < win0_14.index t (1 : Fin 2) * 1024 + 1024 := hi 1
    obtain ⟨e0, e1, e2⟩ := idx_facts14 t
    omega
  · intro h
    have hi0 : (i 0).val < 2048 := (i 0).isLt
    have hi1 : (i 1).val < 1024 := (i 1).isLt
    obtain ⟨t, hft, ht⟩ := idx_onto14 ⟨(i 0).val / 64 - 0, by omega⟩ ⟨(i 1).val / 1024 - 0, by omega⟩
    have q0 : win0_14.index t (0 : Fin 2) = (i 0).val / 64 - 0 + 0 := congrFun ht 0
    have q1 : win0_14.index t (1 : Fin 2) = (i 1).val / 1024 - 0 + 0 := congrFun ht 1
    refine ⟨t, hft, ?_⟩
    rw [mem_blk14]
    intro a
    match a with
    | ⟨0, _⟩ => show win0_14.index t (0 : Fin 2) * 64 ≤ (i 0).val ∧ (i 0).val < win0_14.index t (0 : Fin 2) * 64 + 64; omega
    | ⟨1, _⟩ => show win0_14.index t (1 : Fin 2) * 1024 ≤ (i 1).val ∧ (i 1).val < win0_14.index t (1 : Fin 2) * 1024 + 1024; omega

/-- THE ARRAY after the run: `G14` (the flushing blocks tile it). -/
theorem final14 (c : Dev nD) : (dats m 0 c).arrAt 14 cfg0.N = G14 m c :=
  (dats m 0 c).arrAt_eq_of_cover 14 _ (fun t hf => flushed14_eq m c t hf) (fun i => (covered_iff14 i).2 (by
    have h0 : (i 0).val < 2048 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v18_0) = G11 m c
      ∧ r.2.mem ((c : Thread nD τ).loc main_v18_1) = G12 m c
      ∧ r.2.mem ((c : Thread nD τ).loc main_v18_2) = G13 m c
      ∧ r.2.mem ((c : Thread nD τ).loc main_v18_3) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post11 m r h c).trans (final11 m c),
      (post12 m r h c).trans (final12 m c),
      (post13 m r h c).trans (final13 m c),
      (post14 m r h c).trans (final14 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.PoolVec.lean ====
/- The pieces of the idealized call's body as a few vector functions, each read at an index: the norm of a row, the window
   sum by rolled additions, the mixing of one channel group, a chunk of the gated activation and the down projection. -/
module

public import proofs.«01_k».proof.Proof.Gen.KernelIdeal.Skeleton
public import Idealize.ShloMosaic.Lib.Pointwise
public import Idealize.ShloMosaic.Lib.KernelVsHost

@[expose] public section

noncomputable section

namespace Cert.KernelIdeal.Pool

open Cert.KernelIdeal Cert.KernelIdeal.Gen Idealize.ShloMosaic Idealize.ShloMosaic.Pointwise

/-- One row's norm at column `d`: the row times the inverse root of its mean square, times the weight. -/
def rmsRow (x g : Fin 1024 → EReal) (d : Fin 1024) : EReal :=
  x d * Ideal.rsqrt (Ideal.div (∑ k, x k * x k) (Ideal.ofBits .f32 0x44800000#32) + Ideal.ofBits .f32 0x358637BD#32) * g d

/-- The rows' norm as the body writes it. -/
def rmsVec (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 g broadcasts_S1x1024_S256x1024)

/-- The rows' norm at an index is its row's norm. -/
theorem rmsVec_apply (x : FVec Ideal S256x1024 .f32) (g : FVec Ideal S1x1024 .f32) (r : Fin 256) (d : Fin 1024) :
    rmsVec x g (ix2 r d) = rmsRow (fun k => x (ix2 r k)) (fun k => g (ix2 0 k)) d := by
  unfold rmsRow
  pointwise [rmsVec]

/-- The row `n` rows earlier, by a roll, where there is one. -/
theorem roll_apply (n : ℕ) (hn : n < 272) (x : FVec Ideal S272x256 .f32) (r : Fin 272) (hr : n ≤ r.val) (l : Fin 256) :
    dynamicRotate 0 (BitVec.ofNat 32 n) none x rotates_S272x256_d0 (ix2 r l) = x (ix2 ⟨r.val - n, by omega⟩ l) := by
  have h : (BitVec.ofNat 32 n).toNat = n := by
    rw [BitVec.toNat_ofNat]; omega
  refine Idealize.ShloMosaic.dynamicRotate_apply (0 : Fin 2) _ x _ _ _ fun b => ?_
  match b with
  | ⟨0, _⟩ =>
    rw [if_pos (by rfl), h]
    show r.val - n = (r.val + 272 - n % 272) % 272
    omega
  | ⟨1, _⟩ => rfl

/-- Two sums of `n` rows, `n` rows apart, are one of `2 n` rows. -/
theorem sum_twice (f : ℕ → EReal) (n r : ℕ) :
    ∑ j ∈ Finset.range n, f (r - j) + ∑ j ∈ Finset.range n, f (r - n - j) = ∑ j ∈ Finset.range (2 * n), f (r - j) := by
  rw [two_mul, Finset.sum_range_add]
  simp only [Nat.sub_sub]

/-- A block of rows that adds to each row the one `n` above it. -/
def rollAdd (n : BitVec 32) (x : FVec Ideal S272x256 .f32) : FVec Ideal S272x256 .f32 :=
  addf x (dynamicRotate 0 n none x rotates_S272x256_d0)

/-- One step of the window's doubling: sums of `n` rows become sums of `2 n` rows. -/
theorem rollAdd_apply (n : ℕ) (hn : n < 272) (f : ℕ → Fin 256 → EReal) (x : FVec Ideal S272x256 .f32)
    (hx : ∀ (r : Fin 272) (l : Fin 256), n - 1 ≤ r.val → x (ix2 r l) = ∑ j ∈ Finset.range n, f (r.val - j) l)
    (r : Fin 272) (l : Fin 256) (hr : 2 * n - 1 ≤ r.val) :
    rollAdd (BitVec.ofNat 32 n) x (ix2 r l) = ∑ j ∈ Finset.range (2 * n), f (r.val - j) l := by
  show x (ix2 r l) + dynamicRotate 0 (BitVec.ofNat 32 n) none x rotates_S272x256_d0 (ix2 r l) = _
  rw [roll_apply n hn x r (by omega) l, hx r l (by omega), hx _ l (by show n - 1 ≤ r.val - n; omega)]
  exact sum_twice (fun k => f k l) n r.val

/-- Column `l` of channel group `g`. -/
abbrev col (g : Fin 4) (l : Fin 256) : Fin 1024 := ⟨256 * g.val + l.val, by omega⟩

/-- The group's columns of the 272 rows. -/
theorem slice272_apply (g : Fin 4) (off : Fin 2 → ℕ) (ho : off = ![0, 256 * g.val]) (x : FVec Ideal S272x1024 .f32)
    (hs : S272x1024.Slices off S272x256) (r : Fin 272) (l : Fin 256) :
    extractStridedSlice S272x256 off x hs (ix2 r l) = x (ix2 r (col g l)) := by
  subst ho
  refine extractStridedSlice_apply _ x hs _ _ fun b => ?_
  match b with
  | ⟨0, _⟩ => show r.val = 0 + r.val; omega
  | ⟨1, _⟩ => rfl

/-- The group's columns of the 256 rows. -/
theorem slice256_apply (g : Fin 4) (off : Fin 2 → ℕ) (ho : off = ![0, 256 * g.val]) (x : FVec Ideal S256x1024 .f32)
    (hs : S256x1024.Slices off S256x256) (r : Fin 256) (l : Fin 256) :
    extractStridedSlice S256x256 off x hs (ix2 r l) = x (ix2 r (col g l)) := by
  subst ho
  refine extractStridedSlice_apply _ x hs _ _ fun b => ?_
  match b with
  | ⟨0, _⟩ => show r.val = 0 + r.val; omega
  | ⟨1, _⟩ => rfl

/-- The rows below the halo. -/
theorem below_apply (x : FVec Ideal S272x256 .f32) (r : Fin 256) (l : Fin 256) :
    extractStridedSlice S256x256 ![16, 0] x slices_S272x256_o16_0_S256x256 (ix2 r l) = x (ix2 ⟨16 + r.val, by omega⟩ l) := by
  refine extractStridedSlice_apply _ x _ _ _ fun b => ?_
  match b with
  | ⟨0, _⟩ => rfl
  | ⟨1, _⟩ => show l.val = 0 + l.val; omega

/-- A row of the 272, counted by a natural number. -/
def rowOf (hh : FVec Ideal S272x1024 .f32) (n : ℕ) (d : Fin 1024) : EReal :=
  hh (ix2 ⟨n % 272, Nat.mod_lt _ (by decide)⟩ d)

/-- The four groups' window sums as the body writes them. -/
def sumVec0 (hh : FVec Ideal S272x1024 .f32) : FVec Ideal S256x256 .f32 :=
  extractStridedSlice S256x256 ![16, 0] (rollAdd 1#32 (extractStridedSlice S272x256 ![0, 0] hh slices_S272x1024_o0_0_S272x256)) slices_S272x256_o16_0_S256x256
def sumVec1 (hh : FVec Ideal S272x1024 .f32) : FVec Ideal S256x256 .f32 :=
  extractStridedSlice S256x256 ![16, 0] (rollAdd 2#32 (rollAdd 1#32 (extractStridedSlice S272x256 ![0, 256] hh slices_S272x1024_o0_256_S272x256))) slices_S272x256_o16_0_S256x256
def sumVec2 (hh : FVec Ideal S272x1024 .f32) : FVec Ideal S256x256 .f32 :=
  extractStridedSlice S256x256 ![16, 0] (rollAdd 4#32 (rollAdd 2#32 (rollAdd 1#32 (extractStridedSlice S272x256 ![0, 512] hh slices_S272x1024_o0_512_S272x256)))) slices_S272x256_o16_0_S256x256
def sumVec3 (hh : FVec Ideal S272x1024 .f32) : FVec Ideal S256x256 .f32 :=
  extractStridedSlice S256x256 ![16, 0] (rollAdd 8#32 (rollAdd 4#32 (rollAdd 2#32 (rollAdd 1#32 (extractStridedSlice S272x256 ![0, 768] hh slices_S272x1024_o0_768_S272x256))))) slices_S272x256_o16_0_S256x256

section Sums
variable (hh : FVec Ideal S272x1024 .f32)

theorem base_apply (g : Fin 4) (off : Fin 2 → ℕ) (ho : off = ![0, 256 * g.val]) (hs : S272x1024.Slices off S272x256) (r : Fin 272) (l : Fin 256)
    (_ : 1 - 1 ≤ r.val) : extractStridedSlice S272x256 off hh hs (ix2 r l) = ∑ j ∈ Finset.range 1, rowOf hh (r.val - j) (col g l) := by
  rw [slice272_apply g off ho hh hs r l, Finset.sum_range_one, rowOf]
  congr 2
  exact Fin.ext (by show r.val = (r.val - 0) % 272; omega)

theorem sumVec0_apply (r l : Fin 256) : sumVec0 hh (ix2 r l) = ∑ j ∈ Finset.range (2 ^ (0 + 1)), rowOf hh (16 + r.val - j) (col 0 l) := by
  rw [sumVec0, below_apply]
  exact rollAdd_apply 1 (by decide) (fun n l => rowOf hh n (col 0 l)) _ (base_apply hh 0 _ rfl _) _ l (by show 1 ≤ 16 + r.val; omega)

theorem sumVec1_apply (r l : Fin 256) : sumVec1 hh (ix2 r l) = ∑ j ∈ Finset.range (2 ^ (1 + 1)), rowOf hh (16 + r.val - j) (col 1 l) := by
  rw [sumVec1, below_apply]
  refine rollAdd_apply 2 (by decide) (fun n l => rowOf hh n (col 1 l)) _ (fun r l hr => ?_) _ l (by show 3 ≤ 16 + r.val; omega)
  exact rollAdd_apply 1 (by decide) (fun n l => rowOf hh n (col 1 l)) _ (base_apply hh 1 _ rfl _) _ l hr

theorem sumVec2_apply (r l : Fin 256) : sumVec2 hh (ix2 r l) = ∑ j ∈ Finset.range (2 ^ (2 + 1)), rowOf hh (16 + r.val - j) (col 2 l) := by
  rw [sumVec2, below_apply]
  refine rollAdd_apply 4 (by decide) (fun n l => rowOf hh n (col 2 l)) _ (fun r l hr => ?_) _ l (by show 7 ≤ 16 + r.val; omega)
  refine rollAdd_apply 2 (by decide) (fun n l => rowOf hh n (col 2 l)) _ (fun r l hr => ?_) _ l hr
  exact rollAdd_apply 1 (by decide) (fun n l => rowOf hh n (col 2 l)) _ (base_apply hh 2 _ rfl _) _ l hr

theorem sumVec3_apply (r l : Fin 256) : sumVec3 hh (ix2 r l) = ∑ j ∈ Finset.range (2 ^ (3 + 1)), rowOf hh (16 + r.val - j) (col 3 l) := by
  rw [sumVec3, below_apply]
  refine rollAdd_apply 8 (by decide) (fun n l => rowOf hh n (col 3 l)) _ (fun r l hr => ?_) _ l (by show 15 ≤ 16 + r.val; omega)
  refine rollAdd_apply 4 (by decide) (fun n l => rowOf hh n (col 3 l)) _ (fun r l hr => ?_) _ l hr
  refine rollAdd_apply 2 (by decide) (fun n l => rowOf hh n (col 3 l)) _ (fun r l hr => ?_) _ l hr
  exact rollAdd_apply 1 (by decide) (fun n l => rowOf hh n (col 3 l)) _ (base_apply hh 3 _ rfl _) _ l hr

end Sums

/-- The mixing of one channel group as the body writes it. -/
def mixVec (base w : BitVec 32) (s h x : FVec Ideal S256x256 .f32) (pw : FVec Ideal S1x1x256x256 .bf16) (ps : FVec Ideal S1x256 .f32) :
    FVec Ideal S256x256 .f32 :=
  shapeCast S256x256 (addf x (mulf (matmul dot_S256x256_S256x256_S256x256_1_0_0_1_n_n none (truncf .bf16 (subf (divf s
    (broadcastTo S256x256 (sitofp .f32 (minsi (addi (addi (broadcast S256x1 base) (iota .tc S256x1 32 [0] iota_S256x1_d0_w32))
      (broadcast S256x1 1#32)) (broadcast S256x1 w))) broadcasts_S256x1_S256x256)) h) bitsLt_bf16_f32)
    (shapeCast S256x256 pw shapeCasts_S1x1x256x256_S256x256) (constant S256x256 .f32 0x00000000#32))
    (broadcastTo S256x256 (shapeCast S1x256 ps shapeCasts_S1x256_S1x256) broadcasts_S1x256_S256x256))) shapeCasts_S256x256_S256x256

/-- A count as a float. -/
def cnt (n : ℕ) : EReal := FloatOps.sitofp (F := Ideal) .f32 (BitVec.ofNat 32 n)

/-- The count of the window at position `p + r`: the rows so far, at most the window. -/
theorem count_word (p r k : ℕ) (hp : p + r < 4096) (hk : k < 4096) :
    IntOp.minsi (IntOp.addi (IntOp.addi (BitVec.ofNat 32 p) (BitVec.ofNat 32 r)) 1#32) (BitVec.ofNat 32 k) = BitVec.ofNat 32 (min (p + r + 1) k) := by
  have ha : IntOp.addi (IntOp.addi (BitVec.ofNat 32 p) (BitVec.ofNat 32 r)) 1#32 = BitVec.ofNat 32 (p + r + 1) := by
    show BitVec.ofNat 32 p + BitVec.ofNat 32 r + BitVec.ofNat 32 1 = _
    rw [← BitVec.ofNat_add, ← BitVec.ofNat_add]
  rw [ha]
  show (if (BitVec.ofNat 32 (p + r + 1)).slt (BitVec.ofNat 32 k) then _ else _) = _
  have hs : (BitVec.ofNat 32 (p + r + 1)).slt (BitVec.ofNat 32 k) = decide (p + r + 1 < k) := by
    rw [BitVec.slt_eq_decide]
    have e1 : (BitVec.ofNat 32 (p + r + 1)).toInt = ((p + r + 1 : ℕ) : ℤ) := by
      rw [BitVec.toInt_eq_toNat_of_lt (by rw [BitVec.toNat_ofNat]; omega), BitVec.toNat_ofNat]; omega
    have e2 : (BitVec.ofNat 32 k).toInt = (k : ℤ) := by
      rw [BitVec.toInt_eq_toNat_of_lt (by rw [BitVec.toNat_ofNat]; omega), BitVec.toNat_ofNat]; omega
    rw [e1, e2]
    congr 1
    exact propext Int.ofNat_lt
  rw [hs]
  by_cases h : p + r + 1 < k
  · rw [if_pos (by simpa using h), min_eq_left (by omega)]
  · rw [if_neg (by simpa using h), min_eq_right (by omega)]

/-- The mixing of channel group `g` at one row and column: `p` the row's position in its sequence, `H j` the normed row `j`
    rows before it, `x` the residual, `pw` the group's weight column and `ps` the scale. -/
def mixS (g : Fin 4) (p : ℕ) (H : ℕ → Fin 1024 → EReal) (x : EReal) (pw : Fin 256 → EReal) (ps : EReal) : EReal :=
  x + (∑ c : Fin 256, (Ideal.div (∑ j ∈ Finset.range (2 ^ (g.val + 1)), H j (col g c)) (cnt (min (p + 1) (2 ^ (g.val + 1)))) - H 0 (col g c)) * pw c) * ps

theorem mixVec_apply (g : Fin 4) (base w : BitVec 32) (p : ℕ) (hp : p + 256 ≤ 2048) (hb : base = BitVec.ofNat 32 p) (hw : w = BitVec.ofNat 32 (2 ^ (g.val + 1)))
    (s h x : FVec Ideal S256x256 .f32) (pw : FVec Ideal S1x1x256x256 .bf16) (ps : FVec Ideal S1x256 .f32)
    (H : ℕ → Fin 1024 → EReal) (r l : Fin 256) (hs : ∀ c, s (ix2 r c) = ∑ j ∈ Finset.range (2 ^ (g.val + 1)), H j (col g c))
    (hh : ∀ c, h (ix2 r c) = H 0 (col g c)) :
    mixVec base w s h x pw ps (ix2 r l) = mixS g (p + r.val) H (x (ix2 r l)) (fun c => pw (ix4 0 0 c l)) (ps (ix2 0 l)) := by
  have e : mixVec base w s h x pw ps (ix2 r l) = x (ix2 r l) + (∑ c, (Ideal.div (s (ix2 r c))
      (FloatOps.sitofp (F := Ideal) FTy.f32 (IntOp.minsi (IntOp.addi (IntOp.addi base (BitVec.ofNat 32 r.val)) 1#32) w)) -
        h (ix2 r c)) * pw (ix4 0 0 c l)) * ps (ix2 0 l) := by
    pointwise [mixVec]
  have hk : 2 ^ (g.val + 1) < 4096 := by
    have : g.val + 1 ≤ 4 := by omega
    exact lt_of_le_of_lt (Nat.pow_le_pow_right (by decide) this) (by decide)
  rw [e, hb, hw, count_word p r.val _ (by omega) hk]
  simp only [hs, hh, mixS, cnt]

/-- A chunk of the gated activation as the body writes it. -/
def actVec (hf : FVec Ideal S256x1024 .bf16) (wg wu : FVec Ideal S1024x256 .bf16) : FVec Ideal S256x256 .bf16 :=
  shapeCast S256x256 (truncf .bf16 (mulf (mulf (matmul dot_S256x1024_S1024x256_S256x256_1_0_0_1_n_n none hf (shapeCast S1024x256 wg shapeCasts_S1024x256_S1024x256) (constant S256x256 .f32 0x00000000#32))
     (divf (broadcast S256x256 (Scalar.ofBits .f32 0x3F800000#32)) (addf (broadcast S256x256 (Scalar.ofBits .f32 0x3F800000#32))
      (exp (subf (broadcast S256x256 (Scalar.ofBits .f32 0x00000000#32)) (matmul dot_S256x1024_S1024x256_S256x256_1_0_0_1_n_n none hf (shapeCast S1024x256 wg shapeCasts_S1024x256_S1024x256) (constant S256x256 .f32 0x00000000#32)))))))
     (matmul dot_S256x1024_S1024x256_S256x256_1_0_0_1_n_n none hf (shapeCast S1024x256 wu shapeCasts_S1024x256_S1024x256) (constant S256x256 .f32 0x00000000#32))) bitsLt_bf16_f32) shapeCasts_S256x256_S256x256

/-- The gated activation of a gate and an up value. -/
def gated (g u : EReal) : EReal := g * Ideal.div 1 (1 + Ideal.exp (0 - g)) * u

theorem actVec_apply (hf : FVec Ideal S256x1024 .bf16) (wg wu : FVec Ideal S1024x256 .bf16) (r l : Fin 256) :
    actVec hf wg wu (ix2 r l) = gated (∑ k, hf (ix2 r k) * wg (ix2 k l)) (∑ k, hf (ix2 r k) * wu (ix2 k l)) := by
  unfold gated
  pointwise [actVec]

/-- The down projection and its residual as the body writes them. -/
theorem down_apply (x : FVec Ideal S256x1024 .f32) (a : FVec Ideal S256x2816 .bf16) (w : FVec Ideal S2816x1024 .bf16) (r : Fin 256) (d : Fin 1024) :
    k0_pay53 (F := Ideal) x a w (ix2 r d) = x (ix2 r d) + ∑ f, a (ix2 r f) * w (ix2 f d) := by
  pointwise [k0_pay53]

/-- The halo and the rows below it. -/
def haloVec (t : FVec Ideal S16x1024 .f32) (h : FVec Ideal S256x1024 .f32) : FVec Ideal S272x1024 .f32 :=
  concatenate S272x1024 0 [⟨S16x1024, t⟩, ⟨S256x1024, h⟩] concatenates_S16x1024_S256x1024_S272x1024_d0

theorem rowOf_halo_lt (t : FVec Ideal S16x1024 .f32) (h : FVec Ideal S256x1024 .f32) (n : ℕ) (hn : n < 16) (d : Fin 1024) :
    rowOf (haloVec t h) n d = t (ix2 ⟨n, hn⟩ d) := by
  unfold rowOf haloVec
  have e : (⟨n % 272, Nat.mod_lt _ (by decide)⟩ : Fin 272) = ⟨n, by omega⟩ := Fin.ext (by show n % 272 = n; omega)
  rw [e]
  pointwise
  exact dif_pos hn

theorem rowOf_halo_ge (t : FVec Ideal S16x1024 .f32) (h : FVec Ideal S256x1024 .f32) (n : ℕ) (hn : n < 256) (d : Fin 1024) :
    rowOf (haloVec t h) (16 + n) d = h (ix2 ⟨n, hn⟩ d) := by
  unfold rowOf haloVec
  have e : (⟨(16 + n) % 272, Nat.mod_lt _ (by decide)⟩ : Fin 272) = ⟨16 + n, by omega⟩ := Fin.ext (by show (16 + n) % 272 = 16 + n; omega)
  rw [e]
  pointwise

/-! ### The four groups, and the body's terms as them -/

section Groups
variable (base : BitVec 32) (hh : FVec Ideal S272x1024 .f32) (h x : FVec Ideal S256x1024 .f32) (pw : FVec Ideal S1x1x256x256 .bf16) (ps : FVec Ideal S1x256 .f32)

def grp0 : FVec Ideal S256x256 .f32 :=
  mixVec base 2#32 (sumVec0 hh) (extractStridedSlice S256x256 ![0, 0] h slices_S256x1024_o0_0_S256x256) (extractStridedSlice S256x256 ![0, 0] x slices_S256x1024_o0_0_S256x256) pw ps
def grp1 : FVec Ideal S256x256 .f32 :=
  mixVec base 4#32 (sumVec1 hh) (extractStridedSlice S256x256 ![0, 256] h slices_S256x1024_o0_256_S256x256) (extractStridedSlice S256x256 ![0, 256] x slices_S256x1024_o0_256_S256x256) pw ps
def grp2 : FVec Ideal S256x256 .f32 :=
  mixVec base 8#32 (sumVec2 hh) (extractStridedSlice S256x256 ![0, 512] h slices_S256x1024_o0_512_S256x256) (extractStridedSlice S256x256 ![0, 512] x slices_S256x1024_o0_512_S256x256) pw ps
def grp3 : FVec Ideal S256x256 .f32 :=
  mixVec base 16#32 (sumVec3 hh) (extractStridedSlice S256x256 ![0, 768] h slices_S256x1024_o0_768_S256x256) (extractStridedSlice S256x256 ![0, 768] x slices_S256x1024_o0_768_S256x256) pw ps

variable (p : ℕ) (hp : p + 256 ≤ 2048) (hb : base = BitVec.ofNat 32 p) (t : FVec Ideal S16x1024 .f32) (r l : Fin 256)
include hp hb

theorem grp0_apply : grp0 base (haloVec t h) h x pw ps (ix2 r l) = mixS 0 (p + r.val) (fun j d => rowOf (haloVec t h) (16 + r.val - j) d)
    (x (ix2 r (col 0 l))) (fun c => pw (ix4 0 0 c l)) (ps (ix2 0 l)) := by
  unfold grp0
  exact (mixVec_apply 0 base _ p hp hb rfl _ _ _ _ _ (fun j d => rowOf (haloVec t h) (16 + r.val - j) d) r l (fun c => sumVec0_apply _ r c)
    (fun c => (slice256_apply 0 _ rfl h _ r c).trans (rowOf_halo_ge t h r.val r.isLt _).symm)).trans (congrArg (fun y => mixS 0 _ _ y _ _) (slice256_apply 0 _ rfl _ _ r l))

theorem grp1_apply : grp1 base (haloVec t h) h x pw ps (ix2 r l) = mixS 1 (p + r.val) (fun j d => rowOf (haloVec t h) (16 + r.val - j) d)
    (x (ix2 r (col 1 l))) (fun c => pw (ix4 0 0 c l)) (ps (ix2 0 l)) := by
  unfold grp1
  exact (mixVec_apply 1 base _ p hp hb rfl _ _ _ _ _ (fun j d => rowOf (haloVec t h) (16 + r.val - j) d) r l (fun c => sumVec1_apply _ r c)
    (fun c => (slice256_apply 1 _ rfl h _ r c).trans (rowOf_halo_ge t h r.val r.isLt _).symm)).trans (congrArg (fun y => mixS 1 _ _ y _ _) (slice256_apply 1 _ rfl _ _ r l))

theorem grp2_apply : grp2 base (haloVec t h) h x pw ps (ix2 r l) = mixS 2 (p + r.val) (fun j d => rowOf (haloVec t h) (16 + r.val - j) d)
    (x (ix2 r (col 2 l))) (fun c => pw (ix4 0 0 c l)) (ps (ix2 0 l)) := by
  unfold grp2
  exact (mixVec_apply 2 base _ p hp hb rfl _ _ _ _ _ (fun j d => rowOf (haloVec t h) (16 + r.val - j) d) r l (fun c => sumVec2_apply _ r c)
    (fun c => (slice256_apply 2 _ rfl h _ r c).trans (rowOf_halo_ge t h r.val r.isLt _).symm)).trans (congrArg (fun y => mixS 2 _ _ y _ _) (slice256_apply 2 _ rfl _ _ r l))

theorem grp3_apply : grp3 base (haloVec t h) h x pw ps (ix2 r l) = mixS 3 (p + r.val) (fun j d => rowOf (haloVec t h) (16 + r.val - j) d)
    (x (ix2 r (col 3 l))) (fun c => pw (ix4 0 0 c l)) (ps (ix2 0 l)) := by
  unfold grp3
  exact (mixVec_apply 3 base _ p hp hb rfl _ _ _ _ _ (fun j d => rowOf (haloVec t h) (16 + r.val - j) d) r l (fun c => sumVec3_apply _ r c)
    (fun c => (slice256_apply 3 _ rfl h _ r c).trans (rowOf_halo_ge t h r.val r.isLt _).symm)).trans (congrArg (fun y => mixS 3 _ _ y _ _) (slice256_apply 3 _ rfl _ _ r l))

end Groups

section Terms
variable (v : BitVec 32) (g : FVec Ideal S1x1024 .f32) (xa : FVec Ideal S256x1024 .f32) (hh : FVec Ideal S272x1024 .f32) (h x : FVec Ideal S256x1024 .f32)
  (t : FVec Ideal S16x1024 .f32) (pw : FVec Ideal S1x1x256x256 .bf16) (ps : FVec Ideal S1x256 .f32)

theorem a_g0 : k0_pay7 (k0_pay6 g xa pw ps) = grp0 0#32 (k0_pay5 g xa) (k0_pay4 g xa) (k0_pay3 xa) pw ps := rfl
theorem a_g1 : k0_pay8 x h hh pw ps = grp1 0#32 hh h x pw ps := rfl
theorem a_g2 : k0_pay11 x h (k0_pay9 hh) (k0_pay10 hh) pw ps = grp2 0#32 hh h x pw ps := rfl
theorem a_g3 : k0_pay15 x h (k0_pay12 hh) k0_pay13 k0_pay14 pw ps = grp3 0#32 hh h x pw ps := rfl
theorem b_g0 : k0_pay30 v x h (k0_pay29 g xa t) (iota Kind.tc S256x1 32 [0] iota_S256x1_d0_w32) pw ps = grp0 v (k0_pay27 g xa t) h x pw ps := rfl
theorem b_g1 : k0_pay33 v x h hh pw ps = grp1 v hh h x pw ps := rfl
theorem b_g2 : k0_pay38 (k0_pay36 v h hh pw) (k0_pay37 x) ps = grp2 v hh h x pw ps := rfl
theorem b_g3 : k0_pay42 x h (k0_pay40 hh) (k0_pay41 v) 1#32 pw ps = grp3 v hh h x pw ps := rfl
theorem c_g0 (v36 : BitVec 32) (h2 : FVec Ideal S256x1024 .f32) : k0_pay60 v x h (k0_pay59 g v36 h2 xa) (iota Kind.tc S256x1 32 [0] iota_S256x1_d0_w32) pw ps = grp0 v (k0_pay57 g v36 h2 xa) h x pw ps := rfl
theorem c_g1 : k0_pay63 v x h hh pw ps = grp1 v hh h x pw ps := rfl
theorem c_g2 : k0_pay68 (k0_pay66 v h hh pw) (k0_pay67 x) ps = grp2 v hh h x pw ps := rfl
theorem c_g3 : k0_pay72 x h (k0_pay70 hh) (k0_pay71 v) 1#32 pw ps = grp3 v hh h x pw ps := rfl

theorem a_halo : k0_pay5 g xa = haloVec (broadcast S16x1024 (Scalar.ofBits .f32 0x00000000#32)) (k0_pay4 g xa) := rfl
theorem b_halo : k0_pay27 g xa t = haloVec t (k0_pay26 g xa) := rfl
theorem c_halo (v36 : BitVec 32) : k0_pay57 g v36 h xa = haloVec (Scalar.select (Scalar.cmpi .sgt v36 0#32)
  (extractStridedSlice S16x1024 ![240, 0] h slices_S256x1024_o240_0_S16x1024) (broadcast S16x1024 (Scalar.ofBits .f32 0x00000000#32))) (k0_pay56 g xa) := rfl

theorem a_rms : k0_pay4 g xa = rmsVec (k0_pay3 xa) g := rfl
theorem b_rms : k0_pay26 g xa = rmsVec (k0_pay25 xa) g := rfl
theorem c_rms : k0_pay56 g xa = rmsVec (k0_pay55 xa) g := rfl
theorem a_hf : k0_pay16 g xa = truncf .bf16 (rmsVec xa g) bitsLt_bf16_f32 := shapeCast_self _ _
theorem b_hf : k0_pay45 g xa = truncf .bf16 (rmsVec xa g) bitsLt_bf16_f32 := shapeCast_self _ _
theorem c_hf : k0_pay75 g xa = truncf .bf16 (rmsVec xa g) bitsLt_bf16_f32 := shapeCast_self _ _
theorem x_a : k0_pay3 xa = xa := shapeCast_self _ _
theorem x_b : k0_pay25 xa = xa := shapeCast_self _ _
theorem x_c : k0_pay55 xa = xa := shapeCast_self _ _

end Terms

section Chunks
variable (hf : FVec Ideal S256x1024 .bf16) (wg wu : FVec Ideal S1024x256 .bf16)
theorem lo_0 : k0_pay24 hf wg wu = actVec hf wg wu := rfl
theorem lo_1 : k0_pay28 hf wg wu = actVec hf wg wu := rfl
theorem lo_2 : k0_pay32 (k0_pay31 hf wg wu) = actVec hf wg wu := rfl
theorem lo_3 : k0_pay35 hf (k0_pay34 hf wg) wu = actVec hf wg wu := rfl
theorem lo_4 : k0_pay39 hf wg wu = actVec hf wg wu := rfl
theorem lo_5 : k0_pay44 (k0_pay43 hf wg wu) = actVec hf wg wu := rfl
theorem lo_6 : k0_pay46 hf wg wu = actVec hf wg wu := rfl
theorem lo_7 : k0_pay47 hf wg wu = actVec hf wg wu := rfl
theorem lo_8 : k0_pay49 (k0_pay48 hf wg wu) = actVec hf wg wu := rfl
theorem lo_9 : k0_pay50 hf wg wu = actVec hf wg wu := rfl
theorem lo_10 : k0_pay52 (k0_pay51 hf wg wu) = actVec hf wg wu := rfl
theorem hi_0 : k0_pay54 hf wg wu = actVec hf wg wu := rfl
theorem hi_1 : k0_pay58 hf wg wu = actVec hf wg wu := rfl
theorem hi_2 : k0_pay62 (k0_pay61 hf wg wu) = actVec hf wg wu := rfl
theorem hi_3 : k0_pay65 hf (k0_pay64 hf wg) wu = actVec hf wg wu := rfl
theorem hi_4 : k0_pay69 hf wg wu = actVec hf wg wu := rfl
theorem hi_5 : k0_pay74 (k0_pay73 hf wg wu) = actVec hf wg wu := rfl
theorem hi_6 : k0_pay76 hf wg wu = actVec hf wg wu := rfl
theorem hi_7 : k0_pay78 hf wg wu = actVec hf wg wu := rfl
theorem hi_8 : k0_pay82 (k0_pay79 hf wg) (k0_pay80 hf wu) (k0_pay81 hf wg) = actVec hf wg wu := rfl
theorem hi_9 : k0_pay83 hf wg wu = actVec hf wg wu := rfl
theorem hi_10 : k0_pay1 (k0_pay84 hf wg) (k0_pay85 hf wu) (k0_pay86 hf wg) (FloatOps.ofBits FTy.f32 1065353216#32) = actVec hf wg wu := rfl
end Chunks

end Cert.KernelIdeal.Pool

end
-- ==== Proof.PoolRead.lean ====
/- What the idealized call's body leaves in its output and scratch buffers at a grid point, piece by piece read back: the
   mixed rows, their norm, the gated activation and the output block as functions of the input blocks and of the scratch
   contents the previous point left. -/
module

public import proofs.«01_k».proof.Proof.Blocks
public import proofs.«01_k».proof.Proof.PoolVec

@[expose] public section

noncomputable section

namespace Cert.KernelIdeal.Pool

open Cert.KernelIdeal Cert.KernelIdeal.Gen Idealize.ShloMosaic Idealize.ShloMosaic.TcCoe Idealize.ShloMosaic.Pointwise Idealize.SL.Sem

/-! ### Pieces read at an index -/

/-- An index inside the last piece reads its payload. -/
theorem canon_hit {S : Shape} {e : EltTy} (off size : Fin S.rank → ℕ) (inb : ∀ a, off a + size a ≤ S.size a)
    (w : (Rect.unit off size inb).shape.Idx → Elt Ideal e) (L : List (View.Piece (Elt Ideal) S e)) (y : S.Idx) (j : (Rect.unit off size inb).shape.Idx)
    (h : ∀ a, (y a).val = off a + (j a).val) : View.canon ((⟨Rect.unit off size inb, w⟩ : View.Piece (Elt Ideal) S e) :: L) y = w j := by
  have e : y = (Rect.unit off size inb).emb j := funext fun a => Fin.ext (by
    rw [Rect.emb_apply]; show (y a).val = off a + 1 * (j a).val; rw [Nat.one_mul]; exact h a)
  rw [e]
  exact View.canon_cons_emb _ w L j

/-- An index outside the last piece reads the earlier ones. -/
theorem canon_miss {S : Shape} {e : EltTy} (off size : Fin S.rank → ℕ) (inb : ∀ a, off a + size a ≤ S.size a)
    (w : (Rect.unit off size inb).shape.Idx → Elt Ideal e) (L : List (View.Piece (Elt Ideal) S e)) (y : S.Idx) (a : Fin S.rank)
    (h : (y a).val < off a ∨ off a + size a ≤ (y a).val) :
    View.canon ((⟨Rect.unit off size inb, w⟩ : View.Piece (Elt Ideal) S e) :: L) y = View.canon L y :=
  View.canon_cons_of_not_mem _ L fun hm => by
    have := (Rect.mem_set_unit (inb := inb).mp hm) a
    omega

/-- The rows from `o` on agree with `V` on the columns before `c`. -/
def Upto {N : ℕ} {e : EltTy} (o : ℕ) (L : List (View.Piece (Elt Ideal) ⟨2, ![512, N]⟩ e)) (V : (⟨2, ![256, N]⟩ : Shape).Idx → Elt Ideal e) (c : ℕ) : Prop :=
  ∀ (r : Fin 256) (d : Fin N) (h : o + r.val < 512), d.val < c → View.canon L (ix2 ⟨o + r.val, h⟩ d) = V (ix2 r d)

theorem upto_zero {N : ℕ} {e : EltTy} (o : ℕ) (L : List (View.Piece (Elt Ideal) ⟨2, ![512, N]⟩ e)) (V : (⟨2, ![256, N]⟩ : Shape).Idx → Elt Ideal e) :
    Upto o L V 0 := fun _ _ _ h => absurd h (Nat.not_lt_zero _)

/-- One more chunk of 256 columns. -/
theorem upto_step {N : ℕ} {e : EltTy} (o c : ℕ) (inb : ∀ a : Fin 2, (![o, c] : Fin 2 → ℕ) a + (![256, 256] : Fin 2 → ℕ) a ≤ (![512, N] : Fin 2 → ℕ) a)
    (w : (⟨2, ![256, 256]⟩ : Shape).Idx → Elt Ideal e) (L : List (View.Piece (Elt Ideal) ⟨2, ![512, N]⟩ e)) (V : (⟨2, ![256, N]⟩ : Shape).Idx → Elt Ideal e)
    (hw : ∀ (r l : Fin 256) (h : c + l.val < N), w (ix2 r l) = V (ix2 r ⟨c + l.val, h⟩)) (hL : Upto o L V c) :
    Upto o ((⟨Rect.unit (s := ⟨2, ![512, N]⟩) ![o, c] ![256, 256] inb, w⟩ : View.Piece (Elt Ideal) ⟨2, ![512, N]⟩ e) :: L) V (c + 256) := by
  intro r d h hd
  by_cases hc : d.val < c
  · rw [canon_miss (S := ⟨2, ![512, N]⟩) ![o, c] ![256, 256] inb w L _ (1 : Fin 2) (Or.inl hc)]
    exact hL r d h hc
  · have hl : d.val - c < 256 := by omega
    have hq : c + (d.val - c) = d.val := by omega
    refine (canon_hit (S := ⟨2, ![512, N]⟩) ![o, c] ![256, 256] inb w L _ (ix2 r ⟨d.val - c, hl⟩) (fun a => ?_)).trans ?_
    · match a with
      | ⟨0, _⟩ => rfl
      | ⟨1, _⟩ => exact hq.symm
    · rw [hw r ⟨d.val - c, hl⟩ (by show c + (d.val - c) < N; have := d.isLt; omega)]
      exact congrArg (fun q => V (ix2 r q)) (Fin.ext hq)

/-- The rows from `o` on, read back through a box over all columns. -/
theorem readCov_rows {sig : RefSig} {κ : Kind} {sp : Space} {N : ℕ} {e : EltTy} (v : View sig κ sp ⟨2, ![512, N]⟩ e) (o : ℕ) (ho : o + 256 ≤ 512)
    (L : List (View.Piece (Elt Ideal) ⟨2, ![512, N]⟩ e)) (V : (⟨2, ![256, N]⟩ : Shape).Idx → Elt Ideal e)
    (inb : ∀ a : Fin 2, (![o, 0] : Fin 2 → ℕ) a + (![256, N] : Fin 2 → ℕ) a ≤ (![512, N] : Fin 2 → ℕ) a) (h : Upto o L V N) :
    v.readCov L (Rect.unit (s := ⟨2, ![512, N]⟩) ![o, 0] ![256, N] inb).toLoadRect = V := by
  rw [View.readCov_eq_canon']
  funext y
  obtain ⟨r, d, rfl⟩ : ∃ (r : Fin 256) (d : Fin N), y = ix2 r d := ⟨y 0, y 1, eq_ix2 y⟩
  refine Eq.trans (congrArg (View.canon L) (funext fun a => Fin.ext ?_)) (h r d (by omega) d.isLt)
  match a with
  | ⟨0, _⟩ => show o + 1 * r.val = o + r.val; omega
  | ⟨1, _⟩ => show 0 + 1 * d.val = d.val; omega

/-! ### Whole and partial loads of a whole buffer -/

/-- A load of rows of a whole buffer's contents, a piece at given offsets. -/
theorem load_apply {sig : RefSig} {κ : Kind} {sp : Space} {S : Shape} {e : EltTy} (m : Memref sig κ sp S e) (hm : m.IsWhole) (X : S.Idx → Elt Ideal e)
    (off size : Fin S.rank → ℕ) (inb : ∀ a, off a + size a ≤ S.size a) (j : (Rect.unit off size inb).shape.Idx) (y : S.Idx)
    (h : ∀ a, (y a).val = off a + (j a).val) :
    m.view.readAt (Elt Ideal) (Rect.unit off size inb).toLoadRect (hm.unread X) j = X y := by
  rw [View.readAt_eq_ld, hm.read_unread]
  exact congrArg X (funext fun a => Fin.ext (by show off a + 1 * (j a).val = _; rw [Nat.one_mul]; exact (h a).symm))

/-- A load of a whole buffer reads its contents. -/
theorem load_all {sig : RefSig} {κ : Kind} {sp : Space} {S : Shape} {e : EltTy} (m : Memref sig κ sp S e) (hm : m.IsWhole) (X : S.Idx → Elt Ideal e)
    (off : Fin S.rank → ℕ) (ho : off = fun _ => 0) (inb : ∀ a, off a + S.size a ≤ S.size a) :
    m.view.readAt (Elt Ideal) (Rect.unit off S.size inb).toLoadRect (hm.unread X) = X := by
  rw [View.readAt_eq_ld, hm.read_unread]
  exact View.ld_unit_zero ho inb X

theorem zero2 : (![0, 0] : Fin 2 → ℕ) = fun _ => 0 := by
  funext a; match a with
  | ⟨0, _⟩ => rfl
  | ⟨1, _⟩ => rfl

theorem zero3 : (![0, 0, 0] : Fin 3 → ℕ) = fun _ => 0 := by
  funext a; match a with
  | ⟨0, _⟩ => rfl
  | ⟨1, _⟩ => rfl
  | ⟨2, _⟩ => rfl

/-! ### The vectors of a point -/

/-- The first and the last 256 rows of a block of 512. -/
def loRows {e : FTy} (x : FVec Ideal S512x1024 e) : FVec Ideal S256x1024 e := fun y => x (ix2 ⟨(y 0).val, Nat.lt_trans (y 0).isLt (by decide)⟩ (y 1))
def hiRows {e : FTy} (x : FVec Ideal S512x1024 e) : FVec Ideal S256x1024 e := fun y => x (ix2 ⟨256 + (y 0).val, Nat.add_lt_add_left (y 0).isLt 256⟩ (y 1))

/-- A column's channel group and its place there. -/
def grp (d : Fin 1024) : Fin 4 := ⟨d.val / 256, by omega⟩
def lane (d : Fin 1024) : Fin 256 := ⟨d.val % 256, by omega⟩

theorem grp_col (g : Fin 4) (l : Fin 256) : grp (col g l) = g := Fin.ext (by show (256 * g.val + l.val) / 256 = g.val; omega)
theorem lane_col (g : Fin 4) (l : Fin 256) : lane (col g l) = l := Fin.ext (by show (256 * g.val + l.val) % 256 = l.val; omega)

/-- The mixed rows: positions from `p`, halo `t`, normed rows `h`, residual rows `x`, weights and scale. -/
def x1V (p : ℕ) (t : FVec Ideal S16x1024 .f32) (h x : FVec Ideal S256x1024 .f32) (w : FVec Ideal S1x4x256x256 .bf16) (s : FVec Ideal S1x1024 .f32) :
    FVec Ideal S256x1024 .f32 := fun y =>
  mixS (grp (y 1)) (p + (y 0).val) (fun j d => rowOf (haloVec t h) (16 + (y 0).val - j) d) (x y) (fun c => w (ix4 0 (grp (y 1)) c (lane (y 1)))) (s (ix2 0 (y 1)))

/-- The rows' norm, narrowed. -/
def hfV (x : FVec Ideal S256x1024 .f32) (g : FVec Ideal S1x1024 .f32) : FVec Ideal S256x1024 .bf16 := truncf .bf16 (rmsVec x g) bitsLt_bf16_f32

/-- The gated activation of the rows. -/
def actV (hf : FVec Ideal S256x1024 .bf16) (w : FVec Ideal S1024x5632 .bf16) : FVec Ideal S256x2816 .bf16 := fun y =>
  gated (∑ k, hf (ix2 (y 0) k) * w (ix2 k ⟨(y 1).val, Nat.lt_trans (y 1).isLt (by decide)⟩))
    (∑ k, hf (ix2 (y 0) k) * w (ix2 k ⟨2816 + (y 1).val, Nat.add_lt_add_left (y 1).isLt 2816⟩))

/-- The last 16 rows, and a halo of zeros. -/
def last16 (h : FVec Ideal S256x1024 .f32) : FVec Ideal S16x1024 .f32 := extractStridedSlice S16x1024 ![240, 0] h slices_S256x1024_o240_0_S16x1024
def zero16 : FVec Ideal S16x1024 .f32 := broadcast S16x1024 (Scalar.ofBits .f32 0x00000000#32)

/-- The output block of two halves of mixed rows and their norms. -/
def outV (a : FVec Ideal S256x1024 .f32) (ha : FVec Ideal S256x1024 .bf16) (b : FVec Ideal S256x1024 .f32) (hb : FVec Ideal S256x1024 .bf16)
    (w : FVec Ideal S1024x5632 .bf16) (d : FVec Ideal S2816x1024 .bf16) : FVec Ideal S512x1024 .f32 := fun y =>
  if h : (y 0).val < 256 then k0_pay53 a (actV ha w) d (ix2 ⟨(y 0).val, h⟩ (y 1))
  else k0_pay53 b (actV hb w) d (ix2 ⟨(y 0).val - 256, by have : (y 0).val < 512 := (y 0).isLt; omega⟩ (y 1))

/-- The second half's mixed rows at point `n`, and the next point's first half's. -/
def hiX1 (n : ℕ) (x0 : FVec Ideal S512x1024 .f32) (x2 : FVec Ideal S1x1024 .f32) (x3 : FVec Ideal S1x4x256x256 .bf16) (x4 : FVec Ideal S1x1024 .f32)
    (t : FVec Ideal S16x1024 .f32) : FVec Ideal S256x1024 .f32 := x1V (512 * (n % 4) + 256) t (rmsVec (hiRows x0) x2) (hiRows x0) x3 x4
def nxX1 (n : ℕ) (x0 : FVec Ideal S512x1024 .f32) (xn : FVec Ideal S256x1024 .f32) (x2 : FVec Ideal S1x1024 .f32) (x3 : FVec Ideal S1x4x256x256 .bf16)
    (x4 : FVec Ideal S1x1024 .f32) : FVec Ideal S256x1024 .f32 :=
  x1V (512 * ((n + 1) % 4)) (if (n + 1) % 4 = 0 then zero16 else last16 (rmsVec (hiRows x0) x2)) (rmsVec xn x2) xn x3 x4
def fsX1 (x0 : FVec Ideal S512x1024 .f32) (x2 : FVec Ideal S1x1024 .f32) (x3 : FVec Ideal S1x4x256x256 .bf16) (x4 : FVec Ideal S1x1024 .f32) :
    FVec Ideal S256x1024 .f32 := x1V 0 zero16 (rmsVec (loRows x0) x2) (loRows x0) x3 x4

/-- The four channel groups' pieces are the mixed rows. -/
theorem x1_upto (o p : ℕ) (hp : p + 256 ≤ 2048) (base : BitVec 32) (hb : base = BitVec.ofNat 32 p) (t : FVec Ideal S16x1024 .f32)
    (h x : FVec Ideal S256x1024 .f32) (w : FVec Ideal S1x4x256x256 .bf16) (s : FVec Ideal S1x1024 .f32)
    (hh : FVec Ideal S272x1024 .f32) (h' x' : FVec Ideal S256x1024 .f32) (ehh : hh = haloVec t h) (eh : h' = h) (ex : x' = x)
    (w0 w1 w2 w3 : FVec Ideal S256x256 .f32) (W0 W1 W2 W3 : FVec Ideal S1x1x256x256 .bf16) (P0 P1 P2 P3 : FVec Ideal S1x256 .f32)
    (inb0 inb1 inb2 inb3) (L : List (View.Piece (Elt Ideal) S512x1024 .f32))
    (e0 : w0 = grp0 base hh h' x' W0 P0) (e1 : w1 = grp1 base hh h' x' W1 P1) (e2 : w2 = grp2 base hh h' x' W2 P2) (e3 : w3 = grp3 base hh h' x' W3 P3)
    (hW0 : ∀ c l, W0 (ix4 0 0 c l) = w (ix4 0 0 c l)) (hW1 : ∀ c l, W1 (ix4 0 0 c l) = w (ix4 0 1 c l))
    (hW2 : ∀ c l, W2 (ix4 0 0 c l) = w (ix4 0 2 c l)) (hW3 : ∀ c l, W3 (ix4 0 0 c l) = w (ix4 0 3 c l))
    (hP0 : ∀ l, P0 (ix2 0 l) = s (ix2 0 (col 0 l))) (hP1 : ∀ l, P1 (ix2 0 l) = s (ix2 0 (col 1 l)))
    (hP2 : ∀ l, P2 (ix2 0 l) = s (ix2 0 (col 2 l))) (hP3 : ∀ l, P3 (ix2 0 l) = s (ix2 0 (col 3 l))) :
    Upto (N := 1024) o ((⟨Rect.unit (s := S512x1024) ![o, 768] ![256, 256] inb3, w3⟩ : View.Piece (Elt Ideal) S512x1024 .f32) ::
      (⟨Rect.unit (s := S512x1024) ![o, 512] ![256, 256] inb2, w2⟩ : View.Piece (Elt Ideal) S512x1024 .f32) ::
      (⟨Rect.unit (s := S512x1024) ![o, 256] ![256, 256] inb1, w1⟩ : View.Piece (Elt Ideal) S512x1024 .f32) ::
      (⟨Rect.unit (s := S512x1024) ![o, 0] ![256, 256] inb0, w0⟩ : View.Piece (Elt Ideal) S512x1024 .f32) :: L)
      (x1V p t h x w s) 1024 := by
  have key : ∀ (g : Fin 4) (r l : Fin 256) (hh : 256 * g.val + l.val < 1024) (W : FVec Ideal S1x1x256x256 .bf16) (P : FVec Ideal S1x256 .f32)
      (_ : ∀ c l, W (ix4 0 0 c l) = w (ix4 0 g c l)) (_ : ∀ l, P (ix2 0 l) = s (ix2 0 (col g l))),
      mixS g (p + r.val) (fun j d => rowOf (haloVec t h) (16 + r.val - j) d)
      (x (ix2 r (col g l))) (fun c => W (ix4 0 0 c l)) (P (ix2 0 l)) = x1V p t h x w s (ix2 r ⟨256 * g.val + l.val, hh⟩) := by
    intro g r l hh W P hW hP
    show _ = mixS (grp (col g l)) (p + r.val) (fun j d => rowOf (haloVec t h) (16 + r.val - j) d) (x (ix2 r (col g l)))
      (fun c => w (ix4 0 (grp (col g l)) c (lane (col g l)))) (s (ix2 0 (col g l)))
    simp only [grp_col, lane_col, hW, hP]
  subst ehh eh ex e0 e1 e2 e3
  refine upto_step (N := 1024) o 768 inb3 _ _ _ (fun r l hh => (grp3_apply base h' x' _ _ p hp hb t r l).trans (key 3 r l hh _ _ hW3 hP3)) ?_
  refine upto_step (N := 1024) o 512 inb2 _ _ _ (fun r l hh => (grp2_apply base h' x' _ _ p hp hb t r l).trans (key 2 r l hh _ _ hW2 hP2)) ?_
  refine upto_step (N := 1024) o 256 inb1 _ _ _ (fun r l hh => (grp1_apply base h' x' _ _ p hp hb t r l).trans (key 1 r l hh _ _ hW1 hP1)) ?_
  refine upto_step (N := 1024) o 0 inb0 _ _ _ (fun r l hh => (grp0_apply base h' x' _ _ p hp hb t r l).trans (key 0 r l (by omega) _ _ hW0 hP0)) (upto_zero _ _ _)

/-- A chunk of the activation at its columns. -/
theorem act_chunk (c : ℕ) (hf : FVec Ideal S256x1024 .bf16) (w : FVec Ideal S1024x5632 .bf16) (wg wu : FVec Ideal S1024x256 .bf16)
    (hg : ∀ (k : Fin 1024) (l : Fin 256) (h : c + l.val < 5632), wg (ix2 k l) = w (ix2 k ⟨c + l.val, h⟩))
    (hu : ∀ (k : Fin 1024) (l : Fin 256) (h : 2816 + (c + l.val) < 5632), wu (ix2 k l) = w (ix2 k ⟨2816 + (c + l.val), h⟩))
    (r l : Fin 256) (h : c + l.val < 2816) : actVec hf wg wu (ix2 r l) = actV hf w (ix2 r ⟨c + l.val, h⟩) := by
  rw [actVec_apply]
  show _ = gated (∑ k, hf (ix2 r k) * w (ix2 k ⟨c + l.val, _⟩)) (∑ k, hf (ix2 r k) * w (ix2 k ⟨2816 + (c + l.val), _⟩))
  simp only [fun k => hg k l (by omega), fun k => hu k l (by omega)]

/-- Eleven chunks are the activation. -/
theorem act_upto (o : ℕ) (hf hf' : FVec Ideal S256x1024 .bf16) (eh : hf' = hf) (w : FVec Ideal S1024x5632 .bf16)
    (w0 w1 w2 w3 w4 w5 w6 w7 w8 w9 w10 : FVec Ideal S256x256 .bf16) (g0 g1 g2 g3 g4 g5 g6 g7 g8 g9 g10 u0 u1 u2 u3 u4 u5 u6 u7 u8 u9 u10 : FVec Ideal S1024x256 .bf16)
    (inb0 inb1 inb2 inb3 inb4 inb5 inb6 inb7 inb8 inb9 inb10) (L : List (View.Piece (Elt Ideal) S512x2816 .bf16))
    (e0 : w0 = actVec hf' g0 u0) (e1 : w1 = actVec hf' g1 u1) (e2 : w2 = actVec hf' g2 u2) (e3 : w3 = actVec hf' g3 u3) (e4 : w4 = actVec hf' g4 u4) (e5 : w5 = actVec hf' g5 u5) (e6 : w6 = actVec hf' g6 u6) (e7 : w7 = actVec hf' g7 u7) (e8 : w8 = actVec hf' g8 u8) (e9 : w9 = actVec hf' g9 u9) (e10 : w10 = actVec hf' g10 u10)
    (hg0 : ∀ (k : Fin 1024) (l : Fin 256) (h : 0 + l.val < 5632), g0 (ix2 k l) = w (ix2 k ⟨0 + l.val, h⟩))
    (hg1 : ∀ (k : Fin 1024) (l : Fin 256) (h : 256 + l.val < 5632), g1 (ix2 k l) = w (ix2 k ⟨256 + l.val, h⟩))
    (hg2 : ∀ (k : Fin 1024) (l : Fin 256) (h : 512 + l.val < 5632), g2 (ix2 k l) = w (ix2 k ⟨512 + l.val, h⟩))
    (hg3 : ∀ (k : Fin 1024) (l : Fin 256) (h : 768 + l.val < 5632), g3 (ix2 k l) = w (ix2 k ⟨768 + l.val, h⟩))
    (hg4 : ∀ (k : Fin 1024) (l : Fin 256) (h : 1024 + l.val < 5632), g4 (ix2 k l) = w (ix2 k ⟨1024 + l.val, h⟩))
    (hg5 : ∀ (k : Fin 1024) (l : Fin 256) (h : 1280 + l.val < 5632), g5 (ix2 k l) = w (ix2 k ⟨1280 + l.val, h⟩))
    (hg6 : ∀ (k : Fin 1024) (l : Fin 256) (h : 1536 + l.val < 5632), g6 (ix2 k l) = w (ix2 k ⟨1536 + l.val, h⟩))
    (hg7 : ∀ (k : Fin 1024) (l : Fin 256) (h : 1792 + l.val < 5632), g7 (ix2 k l) = w (ix2 k ⟨1792 + l.val, h⟩))
    (hg8 : ∀ (k : Fin 1024) (l : Fin 256) (h : 2048 + l.val < 5632), g8 (ix2 k l) = w (ix2 k ⟨2048 + l.val, h⟩))
    (hg9 : ∀ (k : Fin 1024) (l : Fin 256) (h : 2304 + l.val < 5632), g9 (ix2 k l) = w (ix2 k ⟨2304 + l.val, h⟩))
    (hg10 : ∀ (k : Fin 1024) (l : Fin 256) (h : 2560 + l.val < 5632), g10 (ix2 k l) = w (ix2 k ⟨2560 + l.val, h⟩))
    (hu0 : ∀ (k : Fin 1024) (l : Fin 256) (h : 2816 + l.val < 5632), u0 (ix2 k l) = w (ix2 k ⟨2816 + l.val, h⟩))
    (hu1 : ∀ (k : Fin 1024) (l : Fin 256) (h : 3072 + l.val < 5632), u1 (ix2 k l) = w (ix2 k ⟨3072 + l.val, h⟩))
    (hu2 : ∀ (k : Fin 1024) (l : Fin 256) (h : 3328 + l.val < 5632), u2 (ix2 k l) = w (ix2 k ⟨3328 + l.val, h⟩))
    (hu3 : ∀ (k : Fin 1024) (l : Fin 256) (h : 3584 + l.val < 5632), u3 (ix2 k l) = w (ix2 k ⟨3584 + l.val, h⟩))
    (hu4 : ∀ (k : Fin 1024) (l : Fin 256) (h : 3840 + l.val < 5632), u4 (ix2 k l) = w (ix2 k ⟨3840 + l.val, h⟩))
    (hu5 : ∀ (k : Fin 1024) (l : Fin 256) (h : 4096 + l.val < 5632), u5 (ix2 k l) = w (ix2 k ⟨4096 + l.val, h⟩))
    (hu6 : ∀ (k : Fin 1024) (l : Fin 256) (h : 4352 + l.val < 5632), u6 (ix2 k l) = w (ix2 k ⟨4352 + l.val, h⟩))
    (hu7 : ∀ (k : Fin 1024) (l : Fin 256) (h : 4608 + l.val < 5632), u7 (ix2 k l) = w (ix2 k ⟨4608 + l.val, h⟩))
    (hu8 : ∀ (k : Fin 1024) (l : Fin 256) (h : 4864 + l.val < 5632), u8 (ix2 k l) = w (ix2 k ⟨4864 + l.val, h⟩))
    (hu9 : ∀ (k : Fin 1024) (l : Fin 256) (h : 5120 + l.val < 5632), u9 (ix2 k l) = w (ix2 k ⟨5120 + l.val, h⟩))
    (hu10 : ∀ (k : Fin 1024) (l : Fin 256) (h : 5376 + l.val < 5632), u10 (ix2 k l) = w (ix2 k ⟨5376 + l.val, h⟩)) :
    Upto (N := 2816) o ((⟨Rect.unit (s := S512x2816) ![o, 2560] ![256, 256] inb10, w10⟩ : View.Piece (Elt Ideal) S512x2816 .bf16) ::
      (⟨Rect.unit (s := S512x2816) ![o, 2304] ![256, 256] inb9, w9⟩ : View.Piece (Elt Ideal) S512x2816 .bf16) ::
      (⟨Rect.unit (s := S512x2816) ![o, 2048] ![256, 256] inb8, w8⟩ : View.Piece (Elt Ideal) S512x2816 .bf16) ::
      (⟨Rect.unit (s := S512x2816) ![o, 1792] ![256, 256] inb7, w7⟩ : View.Piece (Elt Ideal) S512x2816 .bf16) ::
      (⟨Rect.unit (s := S512x2816) ![o, 1536] ![256, 256] inb6, w6⟩ : View.Piece (Elt Ideal) S512x2816 .bf16) ::
      (⟨Rect.unit (s := S512x2816) ![o, 1280] ![256, 256] inb5, w5⟩ : View.Piece (Elt Ideal) S512x2816 .bf16) ::
      (⟨Rect.unit (s := S512x2816) ![o, 1024] ![256, 256] inb4, w4⟩ : View.Piece (Elt Ideal) S512x2816 .bf16) ::
      (⟨Rect.unit (s := S512x2816) ![o, 768] ![256, 256] inb3, w3⟩ : View.Piece (Elt Ideal) S512x2816 .bf16) ::
      (⟨Rect.unit (s := S512x2816) ![o, 512] ![256, 256] inb2, w2⟩ : View.Piece (Elt Ideal) S512x2816 .bf16) ::
      (⟨Rect.unit (s := S512x2816) ![o, 256] ![256, 256] inb1, w1⟩ : View.Piece (Elt Ideal) S512x2816 .bf16) ::
      (⟨Rect.unit (s := S512x2816) ![o, 0] ![256, 256] inb0, w0⟩ : View.Piece (Elt Ideal) S512x2816 .bf16) :: L) (actV hf w) 2816 := by
  subst eh e0 e1 e2 e3 e4 e5 e6 e7 e8 e9 e10
  refine upto_step (N := 2816) o 2560 inb10 _ _ _ (act_chunk 2560 hf' w _ _ hg10 (fun k l h => (hu10 k l (by omega)).trans (congrArg (fun q => w (ix2 k q)) (Fin.ext (by show 5376 + l.val = 2816 + (2560 + l.val); omega))))) ?_
  refine upto_step (N := 2816) o 2304 inb9 _ _ _ (act_chunk 2304 hf' w _ _ hg9 (fun k l h => (hu9 k l (by omega)).trans (congrArg (fun q => w (ix2 k q)) (Fin.ext (by show 5120 + l.val = 2816 + (2304 + l.val); omega))))) ?_
  refine upto_step (N := 2816) o 2048 inb8 _ _ _ (act_chunk 2048 hf' w _ _ hg8 (fun k l h => (hu8 k l (by omega)).trans (congrArg (fun q => w (ix2 k q)) (Fin.ext (by show 4864 + l.val = 2816 + (2048 + l.val); omega))))) ?_
  refine upto_step (N := 2816) o 1792 inb7 _ _ _ (act_chunk 1792 hf' w _ _ hg7 (fun k l h => (hu7 k l (by omega)).trans (congrArg (fun q => w (ix2 k q)) (Fin.ext (by show 4608 + l.val = 2816 + (1792 + l.val); omega))))) ?_
  refine upto_step (N := 2816) o 1536 inb6 _ _ _ (act_chunk 1536 hf' w _ _ hg6 (fun k l h => (hu6 k l (by omega)).trans (congrArg (fun q => w (ix2 k q)) (Fin.ext (by show 4352 + l.val = 2816 + (1536 + l.val); omega))))) ?_
  refine upto_step (N := 2816) o 1280 inb5 _ _ _ (act_chunk 1280 hf' w _ _ hg5 (fun k l h => (hu5 k l (by omega)).trans (congrArg (fun q => w (ix2 k q)) (Fin.ext (by show 4096 + l.val = 2816 + (1280 + l.val); omega))))) ?_
  refine upto_step (N := 2816) o 1024 inb4 _ _ _ (act_chunk 1024 hf' w _ _ hg4 (fun k l h => (hu4 k l (by omega)).trans (congrArg (fun q => w (ix2 k q)) (Fin.ext (by show 3840 + l.val = 2816 + (1024 + l.val); omega))))) ?_
  refine upto_step (N := 2816) o 768 inb3 _ _ _ (act_chunk 768 hf' w _ _ hg3 (fun k l h => (hu3 k l (by omega)).trans (congrArg (fun q => w (ix2 k q)) (Fin.ext (by show 3584 + l.val = 2816 + (768 + l.val); omega))))) ?_
  refine upto_step (N := 2816) o 512 inb2 _ _ _ (act_chunk 512 hf' w _ _ hg2 (fun k l h => (hu2 k l (by omega)).trans (congrArg (fun q => w (ix2 k q)) (Fin.ext (by show 3328 + l.val = 2816 + (512 + l.val); omega))))) ?_
  refine upto_step (N := 2816) o 256 inb1 _ _ _ (act_chunk 256 hf' w _ _ hg1 (fun k l h => (hu1 k l (by omega)).trans (congrArg (fun q => w (ix2 k q)) (Fin.ext (by show 3072 + l.val = 2816 + (256 + l.val); omega))))) ?_
  refine upto_step (N := 2816) o 0 inb0 _ _ _ (act_chunk 0 hf' w _ _ hg0 (fun k l h => (hu0 k l (by omega)).trans (congrArg (fun q => w (ix2 k q)) (Fin.ext (by show 2816 + l.val = 2816 + (0 + l.val); omega))))) ?_
  exact upto_zero _ _ _

/-- Two halves of rows stored one after the other. -/
theorem canon_halves (P Q : FVec Ideal S256x1024 .f32) (inbP inbQ) (y : S512x1024.Idx) :
    View.canon [(⟨Rect.unit (s := S512x1024) ![256, 0] ![256, 1024] inbP, P⟩ : View.Piece (Elt Ideal) S512x1024 .f32),
      (⟨Rect.unit (s := S512x1024) ![0, 0] ![256, 1024] inbQ, Q⟩ : View.Piece (Elt Ideal) S512x1024 .f32)] y =
    if h : (y 0).val < 256 then Q (ix2 ⟨(y 0).val, h⟩ (y 1)) else P (ix2 ⟨(y 0).val - 256, by have : (y 0).val < 512 := (y 0).isLt; omega⟩ (y 1)) := by
  by_cases h : (y 0).val < 256
  · refine Eq.trans ?_ (dif_pos h).symm
    refine (canon_miss (S := S512x1024) (e := .f32) ![256, 0] ![256, 1024] inbP P _ y (0 : Fin 2) (Or.inl h)).trans ?_
    refine canon_hit (S := S512x1024) (e := .f32) ![0, 0] ![256, 1024] inbQ Q _ y (ix2 (n0 := 256) (n1 := 1024) ⟨(y 0).val, h⟩ (y 1)) fun a => ?_
    match a with
    | ⟨0, _⟩ => exact (Nat.zero_add _).symm
    | ⟨1, _⟩ => exact (Nat.zero_add _).symm
  · refine Eq.trans ?_ (dif_neg h).symm
    have h2 : (y 0).val < 512 := (y 0).isLt
    refine canon_hit (S := S512x1024) (e := .f32) ![256, 0] ![256, 1024] inbP P _ y (ix2 (n0 := 256) (n1 := 1024) ⟨(y 0).val - 256, by omega⟩ (y 1)) fun a => ?_
    match a with
    | ⟨0, _⟩ => show (y 0).val = 256 + ((y 0).val - 256); omega
    | ⟨1, _⟩ => exact (Nat.zero_add _).symm

/-- All columns of the rows of the last piece. -/
theorem upto_whole {N : ℕ} {e : EltTy} (o : ℕ) (inb : ∀ a : Fin 2, (![o, 0] : Fin 2 → ℕ) a + (![256, N] : Fin 2 → ℕ) a ≤ (![512, N] : Fin 2 → ℕ) a)
    (P : (⟨2, ![256, N]⟩ : Shape).Idx → Elt Ideal e) (L : List (View.Piece (Elt Ideal) ⟨2, ![512, N]⟩ e)) :
    Upto o ((⟨Rect.unit (s := ⟨2, ![512, N]⟩) ![o, 0] ![256, N] inb, P⟩ : View.Piece (Elt Ideal) ⟨2, ![512, N]⟩ e) :: L) P N := by
  intro r d h hd
  refine canon_hit (S := ⟨2, ![512, N]⟩) ![o, 0] ![256, N] inb P L _ (ix2 r d) fun a => ?_
  match a with
  | ⟨0, _⟩ => rfl
  | ⟨1, _⟩ => exact (Nat.zero_add _).symm

/-- The first half of rows of pieces known up to the last column. -/
theorem loRows_upto (L : List (View.Piece (Elt Ideal) S512x1024 .f32)) (V : FVec Ideal S256x1024 .f32) (h : Upto (N := 1024) 0 L V 1024) :
    loRows (e := .f32) (View.canon L) = V := by
  funext y
  have e0 := h (y 0) (y 1) (by have : (y 0).val < 256 := (y 0).isLt; omega) (y 1).isLt
  have e1 : ix2 (n0 := 256) (n1 := 1024) (y 0) (y 1) = y := ix2_eta y
  rw [e1] at e0
  refine Eq.trans (congrArg (View.canon L) (congrArg (fun q => ix2 q (y 1)) (Fin.ext ?_))) e0
  exact (Nat.zero_add _).symm

/-- The first half of rows of pieces known up to the last column. -/
theorem loRows_upto16 (L : List (View.Piece (Elt Ideal) S512x1024 .bf16)) (V : FVec Ideal S256x1024 .bf16) (h : Upto (N := 1024) 0 L V 1024) :
    loRows (e := .bf16) (View.canon L) = V := by
  funext y
  have e0 := h (y 0) (y 1) (by have : (y 0).val < 256 := (y 0).isLt; omega) (y 1).isLt
  have e1 : ix2 (n0 := 256) (n1 := 1024) (y 0) (y 1) = y := ix2_eta y
  rw [e1] at e0
  refine Eq.trans (congrArg (View.canon L) (congrArg (fun q => ix2 q (y 1)) (Fin.ext ?_))) e0
  exact (Nat.zero_add _).symm

/-! ### The point's words -/

theorem A_v41 (i : grid0.Coords) (n : ℕ) (h : (i 0).val = n) (hn : n < 32) : kernelRun0_A.sl.v41 i = BitVec.ofNat 32 (512 * (n % 4) + 256) := by
  unfold kernelRun0_A.sl.v41 kernelRun0_A.sl.v40 kernelRun0_A.sl.v25 kernelRun0_A.sl.v24 kernelRun0_A.sl.v23 kernelRun0_A.sl.v22 kernelRun0_A.sl.v20 kernelRun0_A.sl.v19 kernelRun0_A.sl.v18
  rw [h]
  interval_cases n <;> rfl
theorem A_v420 (i : grid0.Coords) (n : ℕ) (h : (i 0).val = n) (hn : n < 32) : kernelRun0_A.sl.v420 i = BitVec.ofNat 32 (512 * ((n + 1) % 4)) := by
  unfold kernelRun0_A.sl.v420 kernelRun0_A.sl.v36 kernelRun0_A.sl.v35 kernelRun0_A.sl.v34 kernelRun0_A.sl.v33 kernelRun0_A.sl.v31 kernelRun0_A.sl.v30 kernelRun0_A.sl.v29 kernelRun0_A.sl.v26
  rw [h]
  interval_cases n <;> rfl
theorem A_sel (i : grid0.Coords) (n : ℕ) (h : (i 0).val = n) (hn : n < 32) (a b : FVec Ideal S16x1024 .f32) :
    Scalar.select (Scalar.cmpi .sgt (kernelRun0_A.sl.v36 i) 0#32) a b = if (n + 1) % 4 = 0 then b else a := by
  unfold kernelRun0_A.sl.v36 kernelRun0_A.sl.v35 kernelRun0_A.sl.v34 kernelRun0_A.sl.v33 kernelRun0_A.sl.v31 kernelRun0_A.sl.v30 kernelRun0_A.sl.v29 kernelRun0_A.sl.v26
  rw [h]
  interval_cases n <;> rfl
theorem B_v41 (i : grid0.Coords) (n : ℕ) (h : (i 0).val = n) (hn : n < 32) : kernelRun0_B.sl.v41 i = BitVec.ofNat 32 (512 * (n % 4) + 256) := by
  unfold kernelRun0_B.sl.v41 kernelRun0_B.sl.v40 kernelRun0_B.sl.v25 kernelRun0_B.sl.v24 kernelRun0_B.sl.v23 kernelRun0_B.sl.v22 kernelRun0_B.sl.v20 kernelRun0_B.sl.v19 kernelRun0_B.sl.v18
  rw [h]
  interval_cases n <;> rfl
theorem B_v420 (i : grid0.Coords) (n : ℕ) (h : (i 0).val = n) (hn : n < 32) : kernelRun0_B.sl.v420 i = BitVec.ofNat 32 (512 * ((n + 1) % 4)) := by
  unfold kernelRun0_B.sl.v420 kernelRun0_B.sl.v36 kernelRun0_B.sl.v35 kernelRun0_B.sl.v34 kernelRun0_B.sl.v33 kernelRun0_B.sl.v31 kernelRun0_B.sl.v30 kernelRun0_B.sl.v29 kernelRun0_B.sl.v26
  rw [h]
  interval_cases n <;> rfl
theorem B_sel (i : grid0.Coords) (n : ℕ) (h : (i 0).val = n) (hn : n < 32) (a b : FVec Ideal S16x1024 .f32) :
    Scalar.select (Scalar.cmpi .sgt (kernelRun0_B.sl.v36 i) 0#32) a b = if (n + 1) % 4 = 0 then b else a := by
  unfold kernelRun0_B.sl.v36 kernelRun0_B.sl.v35 kernelRun0_B.sl.v34 kernelRun0_B.sl.v33 kernelRun0_B.sl.v31 kernelRun0_B.sl.v30 kernelRun0_B.sl.v29 kernelRun0_B.sl.v26
  rw [h]
  interval_cases n <;> rfl

section Point

variable (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1x32x5632 .f32) (harg9 : arg9.IsWhole) (arg10 : Memref sig .tc .vmem S1x176x1024 .f32) (harg10 : arg10.IsWhole) (arg11 : Memref sig .tc .vmem S1x64x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S64x1024 .bf16) (harg15 : arg15.IsWhole) (arg16 : Memref sig .tc .vmem S512x2816 .bf16) (harg16 : arg16.IsWhole) (arg17 : Memref sig .tc .vmem S512x1024 .f32) (harg17 : arg17.IsWhole) (arg18 : Memref sig .tc .vmem S512x1024 .bf16) (harg18 : arg18.IsWhole) (arg19 : Memref sig .tc .vmem S16x1024 .f32) (harg19 : arg19.IsWhole)
variable (x0 : FVec Ideal S512x1024 .f32) (x1 : FVec Ideal S256x1024 .f32) (x2 : FVec Ideal S1x1024 .f32) (x3 : FVec Ideal S1x4x256x256 .bf16) (x4 : FVec Ideal S1x1024 .f32) (x5 : FVec Ideal S1x1024 .f32) (x6 : FVec Ideal S1024x5632 .bf16) (x7 : FVec Ideal S2816x1024 .bf16) (x8 : FVec Ideal S1x32x5632 .f32) (x9 : FVec Ideal S1x176x1024 .f32) (x10 : FVec Ideal S1x64x1024 .f32) (xs1 : FVec Ideal S512x1024 .f32) (xs2 : FVec Ideal S512x1024 .bf16) (xs3 : FVec Ideal S16x1024 .f32)

/-! ### The point's loads -/

theorem rd_lo (inb) : arg1.view.readAt (Elt Ideal) (Rect.unit (s := S512x1024) ![0, 0] S256x1024.size inb).toLoadRect (harg1.unread x0) = loRows (e := .f32) x0 := by
  funext y
  exact load_apply arg1 harg1 x0 _ _ _ y _ fun a => by
    match a with
    | ⟨0, _⟩ => exact (Nat.zero_add _).symm
    | ⟨1, _⟩ => exact (Nat.zero_add _).symm

theorem rd_hi (inb) : arg1.view.readAt (Elt Ideal) (Rect.unit (s := S512x1024) ![256, 0] S256x1024.size inb).toLoadRect (harg1.unread x0) = hiRows (e := .f32) x0 := by
  funext y
  exact load_apply arg1 harg1 x0 _ _ _ y _ fun a => by
    match a with
    | ⟨0, _⟩ => rfl
    | ⟨1, _⟩ => exact (Nat.zero_add _).symm

theorem rd_w (g : Fin 4) (inb) (k l : Fin 256) : arg4.view.readAt (Elt Ideal) (Rect.unit (s := S1x4x256x256) ![0, g.val, 0, 0] S1x1x256x256.size inb).toLoadRect
    (harg4.unread x3) (ix4 0 0 k l) = x3 (ix4 0 g k l) :=
  load_apply arg4 harg4 x3 _ _ _ _ _ fun a => by
    match a with
    | ⟨0, _⟩ => rfl
    | ⟨1, _⟩ => rfl
    | ⟨2, _⟩ => exact (Nat.zero_add _).symm
    | ⟨3, _⟩ => exact (Nat.zero_add _).symm

theorem rd_s (g : Fin 4) (inb) (l : Fin 256) : arg5.view.readAt (Elt Ideal) (Rect.unit (s := S1x1024) ![0, 256 * g.val] S1x256.size inb).toLoadRect
    (harg5.unread x4) (ix2 0 l) = x4 (ix2 0 (col g l)) :=
  load_apply arg5 harg5 x4 _ _ _ _ _ fun a => by
    match a with
    | ⟨0, _⟩ => rfl
    | ⟨1, _⟩ => rfl

theorem rd_gu (q : ℕ) (inb) (k : Fin 1024) (l : Fin 256) (h : q + l.val < 5632) : arg7.view.readAt (Elt Ideal) (Rect.unit (s := S1024x5632) ![0, q] S1024x256.size inb).toLoadRect
    (harg7.unread x6) (ix2 k l) = x6 (ix2 k ⟨q + l.val, h⟩) :=
  load_apply arg7 harg7 x6 _ _ _ _ _ fun a => by
    match a with
    | ⟨0, _⟩ => exact (Nat.zero_add _).symm
    | ⟨1, _⟩ => rfl

theorem rd_x1 (inb) : arg17.view.readAt (Elt Ideal) (Rect.unit (s := S512x1024) ![0, 0] S256x1024.size inb).toLoadRect (harg17.unread xs1) = loRows (e := .f32) xs1 := by
  funext y
  exact load_apply arg17 harg17 xs1 _ _ _ y _ fun a => by
    match a with
    | ⟨0, _⟩ => exact (Nat.zero_add _).symm
    | ⟨1, _⟩ => exact (Nat.zero_add _).symm

theorem rd_hf (inb) : arg18.view.readAt (Elt Ideal) (Rect.unit (s := S512x1024) ![0, 0] S256x1024.size inb).toLoadRect (harg18.unread xs2) = loRows (e := .bf16) xs2 := by
  funext y
  exact load_apply arg18 harg18 xs2 _ _ _ y _ fun a => by
    match a with
    | ⟨0, _⟩ => exact (Nat.zero_add _).symm
    | ⟨1, _⟩ => exact (Nat.zero_add _).symm

end Point

end Cert.KernelIdeal.Pool

end
-- ==== Proof.PoolRows.lean ====
/- The pooling layer row by row: what each flat row of the input becomes, and that the vectors of a grid point are those rows. -/
module

public import proofs.«01_k».proof.Proof.PoolRead

@[expose] public section

noncomputable section

namespace Cert.KernelIdeal.Pool

open Cert.KernelIdeal Cert.KernelIdeal.Gen Idealize.ShloMosaic Idealize.ShloMosaic.TcCoe Idealize.ShloMosaic.Pointwise Idealize.SL.Sem

/-- The layer's operands: the rows of all sequences one after the other, the two norms' weights, the pooling weights and
    scale, and the feed-forward weights. -/
structure Ops where
  X : ℕ → Fin 1024 → EReal
  gm : Fin 1024 → EReal
  gf : Fin 1024 → EReal
  pw : Fin 4 → Fin 256 → Fin 256 → EReal
  ps : Fin 1024 → EReal
  gu : Fin 1024 → Fin 5632 → EReal
  dn : Fin 2816 → Fin 1024 → EReal

namespace Ops

variable (P : Ops)

/-- A row's norm. -/
def hRow (R : ℕ) (d : Fin 1024) : EReal := rmsRow (P.X R) P.gm d
/-- The normed rows before `R` in its sequence, nothing before the sequence's start. -/
def past (R j : ℕ) (d : Fin 1024) : EReal := if j ≤ R % 2048 then P.hRow (R - j) d else 0
/-- A row after the mixer. -/
def x1Row (R : ℕ) (e : Fin 1024) : EReal :=
  mixS (grp e) (R % 2048) (P.past R) (P.X R e) (fun c => P.pw (grp e) c (lane e)) (P.ps e)
/-- Its norm. -/
def hfRow (R : ℕ) (d : Fin 1024) : EReal := rmsRow (P.x1Row R) P.gf d
/-- Its gated activation. -/
def actRow (R : ℕ) (f : Fin 2816) : EReal :=
  gated (∑ k, P.hfRow R k * P.gu k ⟨f.val, Nat.lt_trans f.isLt (by decide)⟩) (∑ k, P.hfRow R k * P.gu k ⟨2816 + f.val, Nat.add_lt_add_left f.isLt 2816⟩)
/-- The layer's row. -/
def outRow (R : ℕ) (e : Fin 1024) : EReal := P.x1Row R e + ∑ f, P.actRow R f * P.dn f e

end Ops

/-- A mixed value depends on the window's rows only. -/
theorem mixS_congr (g : Fin 4) (p : ℕ) (H H' : ℕ → Fin 1024 → EReal) (x : EReal) (w : Fin 256 → EReal) (s : EReal)
    (h : ∀ j, j < 16 → ∀ d, H j d = H' j d) : mixS g p H x w s = mixS g p H' x w s := by
  unfold mixS
  have hg : 2 ^ (g.val + 1) ≤ 16 := by
    have := g.isLt
    calc 2 ^ (g.val + 1) ≤ 2 ^ 4 := Nat.pow_le_pow_right (by decide) (by omega)
      _ = 16 := by decide
  congr 2
  refine Finset.sum_congr rfl fun c _ => ?_
  rw [h 0 (by decide)]
  congr 3
  exact Finset.sum_congr rfl fun j hj => h j (by have := Finset.mem_range.mp hj; omega) _

variable (P : Ops)

/-- A half of mixed rows from flat row `S` on. -/
theorem x1V_rows (S p : ℕ) (hS : S % 256 = 0) (hp : S % 2048 = p) (t : FVec Ideal S16x1024 .f32) (h x : FVec Ideal S256x1024 .f32)
    (w : FVec Ideal S1x4x256x256 .bf16) (s : FVec Ideal S1x1024 .f32)
    (ht : ∀ (i : Fin 16) d, t (ix2 i d) = if p = 0 then 0 else P.hRow (S - 16 + i.val) d)
    (hh : ∀ r d, h (ix2 r d) = P.hRow (S + r.val) d) (hx : ∀ r d, x (ix2 r d) = P.X (S + r.val) d)
    (hw : ∀ g c l, w (ix4 0 g c l) = P.pw g c l) (hs : ∀ d, s (ix2 0 d) = P.ps d) (r : Fin 256) (e : Fin 1024) :
    x1V p t h x w s (ix2 r e) = P.x1Row (S + r.val) e := by
  have hr := r.isLt
  have hm : (S + r.val) % 2048 = p + r.val := by omega
  show mixS (grp e) (p + r.val) (fun j d => rowOf (haloVec t h) (16 + r.val - j) d) (x (ix2 r e)) (fun c => w (ix4 0 (grp e) c (lane e))) (s (ix2 0 e)) = _
  unfold Ops.x1Row
  rw [hm, hx, hs, show (fun c => w (ix4 0 (grp e) c (lane e))) = fun c => P.pw (grp e) c (lane e) from funext fun c => hw _ _ _]
  refine mixS_congr _ _ _ _ _ _ _ fun j hj d => ?_
  show rowOf (haloVec t h) (16 + r.val - j) d = P.past (S + r.val) j d
  unfold Ops.past
  rw [hm]
  by_cases hjr : j ≤ r.val
  · rw [if_pos (by omega)]
    have e1 : 16 + r.val - j = 16 + (⟨r.val - j, by omega⟩ : Fin 256).val := by show _ = 16 + (r.val - j); omega
    rw [e1, rowOf_halo_ge t h (r.val - j) (by omega), hh]
    congr 1
    show S + (r.val - j) = _
    omega
  · rw [rowOf_halo_lt t h _ (by omega), ht]
    by_cases h0 : p = 0
    · rw [if_pos h0, if_neg (by omega)]
    · rw [if_neg h0, if_pos (by omega)]
      congr 1
      show S - 16 + (16 + r.val - j) = _
      omega

theorem rms_rows (S : ℕ) (x : FVec Ideal S256x1024 .f32) (g : FVec Ideal S1x1024 .f32) (hx : ∀ r d, x (ix2 r d) = P.X (S + r.val) d)
    (hg : ∀ d, g (ix2 0 d) = P.gm d) (r : Fin 256) (d : Fin 1024) : rmsVec x g (ix2 r d) = P.hRow (S + r.val) d := by
  rw [rmsVec_apply]
  unfold Ops.hRow
  congr 1
  · exact funext fun k => hx r k
  · exact funext fun k => hg k

theorem hf_rows (S : ℕ) (x : FVec Ideal S256x1024 .f32) (g : FVec Ideal S1x1024 .f32) (hx : ∀ r d, x (ix2 r d) = P.x1Row (S + r.val) d)
    (hg : ∀ d, g (ix2 0 d) = P.gf d) (r : Fin 256) (d : Fin 1024) : hfV x g (ix2 r d) = P.hfRow (S + r.val) d := by
  show rmsVec x g (ix2 r d) = _
  rw [rmsVec_apply]
  unfold Ops.hfRow
  congr 1
  · exact funext fun k => hx r k
  · exact funext fun k => hg k

theorem act_rows (S : ℕ) (hf : FVec Ideal S256x1024 .bf16) (w : FVec Ideal S1024x5632 .bf16) (hx : ∀ r d, hf (ix2 r d) = P.hfRow (S + r.val) d)
    (hw : ∀ k f, w (ix2 k f) = P.gu k f) (r : Fin 256) (f : Fin 2816) : actV hf w (ix2 r f) = P.actRow (S + r.val) f := by
  show gated (∑ k, hf (ix2 r k) * w (ix2 k ⟨f.val, _⟩)) (∑ k, hf (ix2 r k) * w (ix2 k ⟨2816 + f.val, _⟩)) = _
  unfold Ops.actRow
  congr 1
  · exact Finset.sum_congr rfl fun k _ => by rw [hx, hw]
  · exact Finset.sum_congr rfl fun k _ => by rw [hx, hw]

/-- An output block from flat row `S` on. -/
theorem out_rows (S : ℕ) (a b : FVec Ideal S256x1024 .f32) (ha hb : FVec Ideal S256x1024 .bf16) (w : FVec Ideal S1024x5632 .bf16) (d : FVec Ideal S2816x1024 .bf16)
    (h1 : ∀ r d, a (ix2 r d) = P.x1Row (S + r.val) d) (h2 : ∀ r d, b (ix2 r d) = P.x1Row (S + 256 + r.val) d)
    (h3 : ∀ r d, ha (ix2 r d) = P.hfRow (S + r.val) d) (h4 : ∀ r d, hb (ix2 r d) = P.hfRow (S + 256 + r.val) d)
    (hw : ∀ k f, w (ix2 k f) = P.gu k f) (hd : ∀ f e, d (ix2 f e) = P.dn f e) (i : Fin 512) (e : Fin 1024) :
    outV a ha b hb w d (ix2 i e) = P.outRow (S + i.val) e := by
  unfold outV
  by_cases h : i.val < 256
  · rw [dif_pos (show ((ix2 i e : S512x1024.Idx) 0).val < 256 from h)]
    refine (down_apply _ _ _ ⟨i.val, h⟩ e).trans ?_
    rw [h1]
    unfold Ops.outRow
    congr 1
    exact Finset.sum_congr rfl fun f _ => by rw [act_rows P S ha w h3 hw, hd]
  · rw [dif_neg (show ¬((ix2 i e : S512x1024.Idx) 0).val < 256 from h)]
    have hi := i.isLt
    refine (down_apply _ _ _ ⟨i.val - 256, by omega⟩ e).trans ?_
    rw [h2, show S + 256 + (⟨i.val - 256, by omega⟩ : Fin 256).val = S + i.val from by show S + 256 + (i.val - 256) = _; omega]
    unfold Ops.outRow
    congr 1
    exact Finset.sum_congr rfl fun f _ => by
      rw [act_rows P (S + 256) hb w h4 hw, hd, show S + 256 + (⟨i.val - 256, by omega⟩ : Fin 256).val = S + i.val from by show S + 256 + (i.val - 256) = _; omega]

theorem last16_apply (h : FVec Ideal S256x1024 .f32) (i : Fin 16) (d : Fin 1024) :
    last16 h (ix2 i d) = h (ix2 ⟨240 + i.val, by omega⟩ d) := by
  pointwise [last16]

theorem zero16_apply (i : Fin 16) (d : Fin 1024) : zero16 (ix2 i d) = 0 := by
  show Scalar.ofBits (F := Ideal) .f32 0x00000000#32 = 0
  simp

section Step

variable (n : ℕ) (hn : n < 32) (x0 : FVec Ideal S512x1024 .f32) (xn : FVec Ideal S256x1024 .f32) (x2 : FVec Ideal S1x1024 .f32) (x3 : FVec Ideal S1x4x256x256 .bf16)
  (x4 : FVec Ideal S1x1024 .f32) (h0 : ∀ i d, x0 (ix2 i d) = P.X (512 * n + i.val) d) (h2 : ∀ d, x2 (ix2 0 d) = P.gm d)
  (h3 : ∀ g c l, x3 (ix4 0 g c l) = P.pw g c l) (h4 : ∀ d, x4 (ix2 0 d) = P.ps d)
include h0 h2

theorem hi_rows (r : Fin 256) (d : Fin 1024) : hiRows x0 (ix2 r d) = P.X (512 * n + 256 + r.val) d := by
  show x0 (ix2 ⟨256 + r.val, _⟩ d) = _
  rw [h0]
  congr 1
  show 512 * n + (256 + r.val) = _
  omega

theorem hi_tail (i : Fin 16) (d : Fin 1024) : last16 (rmsVec (hiRows x0) x2) (ix2 i d) = P.hRow (512 * (n + 1) - 16 + i.val) d := by
  rw [last16_apply, rms_rows P (512 * n + 256) _ _ (hi_rows P n x0 x2 h0 h2) h2]
  congr 1
  show 512 * n + 256 + (240 + i.val) = _
  omega

include h3 h4

/-- The second half of point `n`. -/
theorem hiX1_rows (t : FVec Ideal S16x1024 .f32) (ht : ∀ (i : Fin 16) d, t (ix2 i d) = P.hRow (512 * n + 240 + i.val) d) (r : Fin 256) (e : Fin 1024) :
    hiX1 n x0 x2 x3 x4 t (ix2 r e) = P.x1Row (512 * n + 256 + r.val) e :=
  x1V_rows P (512 * n + 256) _ (by omega) (by omega) t _ _ x3 x4
    (fun i d => by
      rw [ht, if_neg (by omega)]
      congr 1)
    (rms_rows P (512 * n + 256) _ _ (hi_rows P n x0 x2 h0 h2) h2) (hi_rows P n x0 x2 h0 h2) h3 h4 r e

/-- The first half of the point after `n`. -/
theorem nxX1_rows (h1 : ∀ r d, xn (ix2 r d) = P.X (512 * (n + 1) + r.val) d) (r : Fin 256) (e : Fin 1024) :
    nxX1 n x0 xn x2 x3 x4 (ix2 r e) = P.x1Row (512 * (n + 1) + r.val) e :=
  x1V_rows P (512 * (n + 1)) _ (by omega) (by omega) _ _ _ x3 x4
    (fun i d => by
      by_cases hz : (n + 1) % 4 = 0
      · rw [if_pos hz, if_pos (by omega), zero16_apply]
      · rw [if_neg hz, if_neg (by omega)]
        exact hi_tail P n x0 x2 h0 h2 i d)
    (rms_rows P (512 * (n + 1)) _ _ h1 h2) h1 h3 h4 r e

end Step

/-- The first half of the first point. -/
theorem fsX1_rows (x0 : FVec Ideal S512x1024 .f32) (x2 : FVec Ideal S1x1024 .f32) (x3 : FVec Ideal S1x4x256x256 .bf16)
    (x4 : FVec Ideal S1x1024 .f32) (h0 : ∀ i d, x0 (ix2 i d) = P.X (512 * 0 + i.val) d) (h2 : ∀ d, x2 (ix2 0 d) = P.gm d)
    (h3 : ∀ g c l, x3 (ix4 0 g c l) = P.pw g c l) (h4 : ∀ d, x4 (ix2 0 d) = P.ps d) (r : Fin 256) (e : Fin 1024) :
    fsX1 x0 x2 x3 x4 (ix2 r e) = P.x1Row (512 * 0 + r.val) e :=
  have hl : ∀ (r : Fin 256) d, loRows x0 (ix2 r d) = P.X (512 * 0 + r.val) d := fun r d => h0 _ _
  x1V_rows P (512 * 0) 0 (by omega) (by omega) _ _ _ x3 x4 (fun i d => by rw [if_pos rfl, zero16_apply])
    (rms_rows P _ _ _ hl h2) hl h3 h4 r e

theorem fs_tail (x0 : FVec Ideal S512x1024 .f32) (x2 : FVec Ideal S1x1024 .f32) (h0 : ∀ i d, x0 (ix2 i d) = P.X (512 * 0 + i.val) d)
    (h2 : ∀ d, x2 (ix2 0 d) = P.gm d) (i : Fin 16) (d : Fin 1024) :
    last16 (rmsVec (loRows x0) x2) (ix2 i d) = P.hRow (512 * 0 + 240 + i.val) d := by
  have hl : ∀ (r : Fin 256) d, loRows x0 (ix2 r d) = P.X (512 * 0 + r.val) d := fun r d => h0 _ _
  rw [last16_apply, rms_rows P _ _ _ hl h2]
  congr 1
  show 512 * 0 + (240 + i.val) = _
  omega

theorem nx_tail (n : ℕ) (xn : FVec Ideal S256x1024 .f32) (x2 : FVec Ideal S1x1024 .f32) (h1 : ∀ r d, xn (ix2 r d) = P.X (512 * (n + 1) + r.val) d)
    (h2 : ∀ d, x2 (ix2 0 d) = P.gm d) (i : Fin 16) (d : Fin 1024) :
    last16 (rmsVec xn x2) (ix2 i d) = P.hRow (512 * (n + 1) + 240 + i.val) d := by
  rw [last16_apply, rms_rows P _ _ _ h1 h2]
  congr 1
  show 512 * (n + 1) + (240 + i.val) = _
  omega

end Cert.KernelIdeal.Pool

end
-- ==== Proof.PoolIn.lean ====
/- The blocks the idealized call's body finds at a grid point, in terms of the program's arguments. -/
module

public import proofs.«01_k».proof.Proof.PoolRows

@[expose] public section

noncomputable section

namespace Cert.KernelIdeal.Pool

open Cert.KernelIdeal Cert.KernelIdeal.Gen Idealize.ShloMosaic Idealize.ShloMosaic.TcCoe Idealize.ShloMosaic.Pointwise Idealize.SL.Sem

variable (m : (ℓ : Loc nD τ sig) → Buf (Elt Ideal) ℓ) (c : Dev nD)

/-- The index maps of the windows, decided over the grid. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = min (2 * t.val + 2) 63 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 4) = 0 ∧ win0_3.index t (1 : Fin 4) = 0 ∧ win0_3.index t (2 : Fin 4) = 0 ∧ win0_3.index t (3 : Fin 4) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 3) = 1 ∧ win0_8.index t (1 : Fin 3) = t.val ∧ win0_8.index t (2 : Fin 3) = 0 := (by decide +kernel : ∀ t : Fin grid0.N, _)
theorem idx9 : ∀ t : Fin cfg0.N, win0_9.index t (0 : Fin 3) = 1 ∧ win0_9.index t (1 : Fin 3) = t.val / 2 ∧ win0_9.index t (2 : Fin 3) = 0 := (by decide +kernel : ∀ t : Fin grid0.N, _)
theorem idx10 : ∀ t : Fin cfg0.N, win0_10.index t (0 : Fin 3) = 0 ∧ win0_10.index t (1 : Fin 3) = t.val ∧ win0_10.index t (2 : Fin 3) = 0 := (by decide +kernel : ∀ t : Fin grid0.N, _)

/-! ### What the host leaves for the call -/

theorem host_v14 : V m c main_v14 = shapeCast S16384x1024 (m ((c : Thread nD τ).loc main_arg0)) shapeCasts_S8x2048x1024_S16384x1024 := by
  unfold V; after_results; rfl
theorem host_v15 : V m c main_v15 = shapeCast S1x1024 (shapeCast S1024 (extractStridedSlice S1x1024 ![0, 0] (m ((c : Thread nD τ).loc main_arg1)) slices_S4x1024_S1x1024_0_0) shapeCasts_S1x1024_S1024) shapeCasts_S1024_S1x1024 := by
  unfold V; after_results; rfl
theorem host_v16 : V m c main_v16 = shapeCast S1x1024 (shapeCast S1024 (extractStridedSlice S1x1024 ![0, 0] (m ((c : Thread nD τ).loc main_arg4)) slices_S2x1024_S1x1024_0_0) shapeCasts_S1x1024_S1024) shapeCasts_S1024_S1x1024 := by
  unfold V; after_results; rfl
theorem host_v17 : V m c main_v17 = shapeCast S1x1024 (shapeCast S1024 (extractStridedSlice S1x1024 ![0, 0] (m ((c : Thread nD τ).loc main_arg2)) slices_S4x1024_S1x1024_0_0) shapeCasts_S1x1024_S1024) shapeCasts_S1024_S1x1024 := by
  unfold V; after_results; rfl
theorem host_v3 : V m c main_v3 = (truncf .bf16 (m ((c : Thread nD τ).loc main_arg3) : FVec Ideal S2x4x256x256 .f32) bitsLt_bf16_f32 : FVec Ideal S2x4x256x256 .bf16) := by
  unfold V; after_results
theorem host_v10 : V m c main_v10 = (truncf .bf16 (shapeCast S1024x5632 (extractStridedSlice S1x1024x5632 ![0, 0, 0] (m ((c : Thread nD τ).loc main_arg5)) slices_S4x1024x5632_S1x1024x5632_0_0_0) shapeCasts_S1x1024x5632_S1024x5632 : FVec Ideal S1024x5632 .f32) bitsLt_bf16_f32 : FVec Ideal S1024x5632 .bf16) := by
  unfold V; after_results; rfl
theorem host_v13 : V m c main_v13 = (truncf .bf16 (shapeCast S2816x1024 (extractStridedSlice S1x2816x1024 ![0, 0, 0] (m ((c : Thread nD τ).loc main_arg6)) slices_S4x2816x1024_S1x2816x1024_0_0_0) shapeCasts_S1x2816x1024_S2816x1024 : FVec Ideal S2816x1024 .f32) bitsLt_bf16_f32 : FVec Ideal S2816x1024 .bf16) := by
  unfold V; after_results; rfl
theorem host_v0 : V m c main_v0 = shapeCast S1x2048x1024 (m ((c : Thread nD τ).loc main_arg7)) shapeCasts_S2x1024x1024_S1x2048x1024 := by
  unfold V; after_results; rfl

/-- The layer's operands in the launch memory. -/
def ops : Ops where
  X R d := (m ((c : Thread nD τ).loc main_arg0) : FVec Ideal S8x2048x1024 .f32) (ix3 ⟨R / 2048 % 8, Nat.mod_lt _ (by decide)⟩ ⟨R % 2048, Nat.mod_lt _ (by decide)⟩ d)
  gm d := (m ((c : Thread nD τ).loc main_arg1) : FVec Ideal S4x1024 .f32) (ix2 0 d)
  gf d := (m ((c : Thread nD τ).loc main_arg2) : FVec Ideal S4x1024 .f32) (ix2 0 d)
  pw g k l := (m ((c : Thread nD τ).loc main_arg3) : FVec Ideal S2x4x256x256 .f32) (ix4 0 g k l)
  ps d := (m ((c : Thread nD τ).loc main_arg4) : FVec Ideal S2x1024 .f32) (ix2 0 d)
  gu k f := (m ((c : Thread nD τ).loc main_arg5) : FVec Ideal S4x1024x5632 .f32) (ix3 0 k f)
  dn f e := (m ((c : Thread nD τ).loc main_arg6) : FVec Ideal S4x2816x1024 .f32) (ix3 0 f e)

/-! ### The host's reshapes and slices at an index -/

theorem flat_apply (x : FVec Ideal S8x2048x1024 .f32) (R : Fin 16384) (d : Fin 1024) :
    shapeCast S16384x1024 x shapeCasts_S8x2048x1024_S16384x1024 (ix2 R d) = x (ix3 ⟨R.val / 2048 % 8, Nat.mod_lt _ (by decide)⟩ ⟨R.val % 2048, Nat.mod_lt _ (by decide)⟩ d) :=
  shapeCast_apply x _ _ _ (by
    have hR := R.isLt
    rw [Shape.rowMajor_val_three, Shape.rowMajor_val_two]
    show (R.val / 2048 % 8 * 2048 + R.val % 2048) * 1024 + d.val = R.val * 1024 + d.val
    omega)

theorem flatW_apply (x : FVec Ideal S2x1024x1024 .f32) (k : Fin 2048) (d : Fin 1024) :
    shapeCast S1x2048x1024 x shapeCasts_S2x1024x1024_S1x2048x1024 (ix3 0 k d) = x (ix3 ⟨k.val / 1024 % 2, Nat.mod_lt _ (by decide)⟩ ⟨k.val % 1024, Nat.mod_lt _ (by decide)⟩ d) :=
  shapeCast_apply x _ _ _ (by
    have hR := k.isLt
    rw [Shape.rowMajor_val_three, Shape.rowMajor_val_three]
    show (k.val / 1024 % 2 * 1024 + k.val % 1024) * 1024 + d.val = (0 * 2048 + k.val) * 1024 + d.val
    omega)

theorem row_apply (y : FVec Ideal S1x1024 .f32) (d : Fin 1024) :
    shapeCast S1x1024 (shapeCast S1024 y shapeCasts_S1x1024_S1024) shapeCasts_S1024_S1x1024 (ix2 0 d) = y (ix2 0 d) := by
  rw [shapeCast_shapeCast]

theorem row4_apply (x : FVec Ideal S4x1024 .f32) (d : Fin 1024) : extractStridedSlice S1x1024 ![0, 0] x slices_S4x1024_S1x1024_0_0 (ix2 0 d) = x (ix2 0 d) := by
  pointwise []
theorem row2_apply (x : FVec Ideal S2x1024 .f32) (d : Fin 1024) : extractStridedSlice S1x1024 ![0, 0] x slices_S2x1024_S1x1024_0_0 (ix2 0 d) = x (ix2 0 d) := by
  pointwise []

theorem gu_apply (x : FVec Ideal S4x1024x5632 .f32) (k : Fin 1024) (f : Fin 5632) :
    shapeCast S1024x5632 (extractStridedSlice S1x1024x5632 ![0, 0, 0] x slices_S4x1024x5632_S1x1024x5632_0_0_0) shapeCasts_S1x1024x5632_S1024x5632 (ix2 k f)
      = x (ix3 0 k f) := by
  pointwise []

theorem dn_apply (x : FVec Ideal S4x2816x1024 .f32) (k : Fin 2816) (f : Fin 1024) :
    shapeCast S2816x1024 (extractStridedSlice S1x2816x1024 ![0, 0, 0] x slices_S4x2816x1024_S1x2816x1024_0_0_0) shapeCasts_S1x2816x1024_S2816x1024 (ix2 k f)
      = x (ix3 0 k f) := by
  pointwise []

/-! ### The blocks -/

theorem blk0 (t : Fin cfg0.N) (i : Fin 512) (d : Fin 1024) : (iblk m c 0 t : FVec Ideal S512x1024 .f32) (ix2 i d) = (ops m c).X (512 * t.val + i.val) d := by
  have ht : t.val < 32 := t.isLt
  obtain ⟨e0, e1⟩ := idx0 t
  show (V m c main_v14 : FVec Ideal S16384x1024 .f32) (((cfg0.win 0).blk t).view.emb (ix2 i d)) = _
  rw [show ((cfg0.win 0).blk t).view.emb (ix2 i d) = (ix2 ⟨512 * t.val + i.val, by omega⟩ d : S16384x1024.Idx) from funext fun a => Fin.ext (by
    match a with
    | ⟨0, _⟩ => show win0_0.index t (0 : Fin 2) * 512 + 1 * i.val = 512 * t.val + i.val; omega
    | ⟨1, _⟩ => show win0_0.index t (1 : Fin 2) * 1024 + 1 * d.val = d.val; omega), host_v14]
  exact flat_apply _ _ _

theorem blk1 (t : Fin cfg0.N) (hn : t.val + 1 < 32) (i : Fin 256) (d : Fin 1024) :
    (iblk m c 1 t : FVec Ideal S256x1024 .f32) (ix2 i d) = (ops m c).X (512 * (t.val + 1) + i.val) d := by
  have ht : t.val < 32 := t.isLt
  obtain ⟨e0, e1⟩ := idx1 t
  show (V m c main_v14 : FVec Ideal S16384x1024 .f32) (((cfg0.win 1).blk t).view.emb (ix2 i d)) = _
  rw [show ((cfg0.win 1).blk t).view.emb (ix2 i d) = (ix2 ⟨512 * (t.val + 1) + i.val, by omega⟩ d : S16384x1024.Idx) from funext fun a => Fin.ext (by
    match a with
    | ⟨0, _⟩ => show win0_1.index t (0 : Fin 2) * 256 + 1 * i.val = 512 * (t.val + 1) + i.val; omega
    | ⟨1, _⟩ => show win0_1.index t (1 : Fin 2) * 1024 + 1 * d.val = d.val; omega), host_v14]
  exact flat_apply _ _ _

theorem blk2 (t : Fin cfg0.N) (d : Fin 1024) : (iblk m c 2 t : FVec Ideal S1x1024 .f32) (ix2 0 d) = (ops m c).gm d := by
  obtain ⟨e0, e1⟩ := idx2 t
  show (V m c main_v15 : FVec Ideal S1x1024 .f32) (((cfg0.win 2).blk t).view.emb (ix2 0 d)) = _
  rw [show ((cfg0.win 2).blk t).view.emb (ix2 0 d) = (ix2 0 d : S1x1024.Idx) from funext fun a => Fin.ext (by
    match a with
    | ⟨0, _⟩ => show win0_2.index t (0 : Fin 2) * 1 + 1 * 0 = 0; omega
    | ⟨1, _⟩ => show win0_2.index t (1 : Fin 2) * 1024 + 1 * d.val = d.val; omega), host_v15]
  exact (row_apply _ _).trans (row4_apply _ _)

theorem blk3 (t : Fin cfg0.N) (g : Fin 4) (k l : Fin 256) : (iblk m c 3 t : FVec Ideal S1x4x256x256 .bf16) (ix4 0 g k l) = (ops m c).pw g k l := by
  obtain ⟨e0, e1, e2, e3⟩ := idx3 t
  show (V m c main_v3 : FVec Ideal S2x4x256x256 .bf16) (((cfg0.win 3).blk t).view.emb (ix4 0 g k l)) = _
  rw [show ((cfg0.win 3).blk t).view.emb (ix4 0 g k l) = (ix4 0 g k l : S2x4x256x256.Idx) from funext fun a => Fin.ext (by
    match a with
    | ⟨0, _⟩ => show win0_3.index t (0 : Fin 4) * 1 + 1 * 0 = 0; omega
    | ⟨1, _⟩ => show win0_3.index t (1 : Fin 4) * 4 + 1 * g.val = g.val; omega
    | ⟨2, _⟩ => show win0_3.index t (2 : Fin 4) * 256 + 1 * k.val = k.val; omega
    | ⟨3, _⟩ => show win0_3.index t (3 : Fin 4) * 256 + 1 * l.val = l.val; omega), host_v3]
  rfl

theorem blk4 (t : Fin cfg0.N) (d : Fin 1024) : (iblk m c 4 t : FVec Ideal S1x1024 .f32) (ix2 0 d) = (ops m c).ps d := by
  obtain ⟨e0, e1⟩ := idx4 t
  show (V m c main_v16 : FVec Ideal S1x1024 .f32) (((cfg0.win 4).blk t).view.emb (ix2 0 d)) = _
  rw [show ((cfg0.win 4).blk t).view.emb (ix2 0 d) = (ix2 0 d : S1x1024.Idx) from funext fun a => Fin.ext (by
    match a with
    | ⟨0, _⟩ => show win0_4.index t (0 : Fin 2) * 1 + 1 * 0 = 0; omega
    | ⟨1, _⟩ => show win0_4.index t (1 : Fin 2) * 1024 + 1 * d.val = d.val; omega), host_v16]
  exact (row_apply _ _).trans (row2_apply _ _)

theorem blk5 (t : Fin cfg0.N) (d : Fin 1024) : (iblk m c 5 t : FVec Ideal S1x1024 .f32) (ix2 0 d) = (ops m c).gf d := by
  obtain ⟨e0, e1⟩ := idx5 t
  show (V m c main_v17 : FVec Ideal S1x1024 .f32) (((cfg0.win 5).blk t).view.emb (ix2 0 d)) = _
  rw [show ((cfg0.win 5).blk t).view.emb (ix2 0 d) = (ix2 0 d : S1x1024.Idx) from funext fun a => Fin.ext (by
    match a with
    | ⟨0, _⟩ => show win0_5.index t (0 : Fin 2) * 1 + 1 * 0 = 0; omega
    | ⟨1, _⟩ => show win0_5.index t (1 : Fin 2) * 1024 + 1 * d.val = d.val; omega), host_v17]
  exact (row_apply _ _).trans (row4_apply _ _)

theorem blk6 (t : Fin cfg0.N) (k : Fin 1024) (f : Fin 5632) : (iblk m c 6 t : FVec Ideal S1024x5632 .bf16) (ix2 k f) = (ops m c).gu k f := by
  obtain ⟨e0, e1⟩ := idx6 t
  show (V m c main_v10 : FVec Ideal S1024x5632 .bf16) (((cfg0.win 6).blk t).view.emb (ix2 k f)) = _
  rw [show ((cfg0.win 6).blk t).view.emb (ix2 k f) = (ix2 k f : S1024x5632.Idx) from funext fun a => Fin.ext (by
    match a with
    | ⟨0, _⟩ => show win0_6.index t (0 : Fin 2) * 1024 + 1 * k.val = k.val; omega
    | ⟨1, _⟩ => show win0_6.index t (1 : Fin 2) * 5632 + 1 * f.val = f.val; omega), host_v10]
  exact gu_apply _ _ _

theorem blk7 (t : Fin cfg0.N) (k : Fin 2816) (f : Fin 1024) : (iblk m c 7 t : FVec Ideal S2816x1024 .bf16) (ix2 k f) = (ops m c).dn k f := by
  obtain ⟨e0, e1⟩ := idx7 t
  show (V m c main_v13 : FVec Ideal S2816x1024 .bf16) (((cfg0.win 7).blk t).view.emb (ix2 k f)) = _
  rw [show ((cfg0.win 7).blk t).view.emb (ix2 k f) = (ix2 k f : S2816x1024.Idx) from funext fun a => Fin.ext (by
    match a with
    | ⟨0, _⟩ => show win0_7.index t (0 : Fin 2) * 2816 + 1 * k.val = k.val; omega
    | ⟨1, _⟩ => show win0_7.index t (1 : Fin 2) * 1024 + 1 * f.val = f.val; omega), host_v13]
  exact dn_apply _ _ _

theorem blk8 (t : Fin cfg0.N) (k : Fin 32) (f : Fin 5632) : (iblk m c 8 t : FVec Ideal S1x32x5632 .f32) (ix3 0 k f)
    = (m ((c : Thread nD τ).loc main_arg5) : FVec Ideal S4x1024x5632 .f32) (ix3 1 ⟨32 * t.val + k.val, by have : t.val < 32 := t.isLt; omega⟩ f) := by
  have ht : t.val < 32 := t.isLt
  obtain ⟨e0, e1, e2⟩ := idx8 t
  show (V m c main_arg5 : FVec Ideal S4x1024x5632 .f32) (((cfg0.win 8).blk t).view.emb (ix3 0 k f)) = _
  rw [show ((cfg0.win 8).blk t).view.emb (ix3 0 k f) = (ix3 1 ⟨32 * t.val + k.val, by omega⟩ f : S4x1024x5632.Idx) from funext fun a => Fin.ext (by
    match a with
    | ⟨0, _⟩ => show win0_8.index t (0 : Fin 3) * 1 + 1 * 0 = 1; omega
    | ⟨1, _⟩ => show win0_8.index t (1 : Fin 3) * 32 + 1 * k.val = 32 * t.val + k.val; omega
    | ⟨2, _⟩ => show win0_8.index t (2 : Fin 3) * 5632 + 1 * f.val = f.val; omega), V_main_arg5]

theorem blk9 (t : Fin cfg0.N) (k : Fin 176) (f : Fin 1024) : (iblk m c 9 t : FVec Ideal S1x176x1024 .f32) (ix3 0 k f)
    = (m ((c : Thread nD τ).loc main_arg6) : FVec Ideal S4x2816x1024 .f32) (ix3 1 ⟨176 * (t.val / 2) + k.val, by have : t.val < 32 := t.isLt; omega⟩ f) := by
  have ht : t.val < 32 := t.isLt
  obtain ⟨e0, e1, e2⟩ := idx9 t
  show (V m c main_arg6 : FVec Ideal S4x2816x1024 .f32) (((cfg0.win 9).blk t).view.emb (ix3 0 k f)) = _
  rw [show ((cfg0.win 9).blk t).view.emb (ix3 0 k f) = (ix3 1 ⟨176 * (t.val / 2) + k.val, by omega⟩ f : S4x2816x1024.Idx) from funext fun a => Fin.ext (by
    match a with
    | ⟨0, _⟩ => show win0_9.index t (0 : Fin 3) * 1 + 1 * 0 = 1; omega
    | ⟨1, _⟩ => show win0_9.index t (1 : Fin 3) * 176 + 1 * k.val = 176 * (t.val / 2) + k.val; omega
    | ⟨2, _⟩ => show win0_9.index t (2 : Fin 3) * 1024 + 1 * f.val = f.val; omega), V_main_arg6]

theorem blk10 (t : Fin cfg0.N) (k : Fin 64) (f : Fin 1024) : (iblk m c 10 t : FVec Ideal S1x64x1024 .f32) (ix3 0 k f)
    = (m ((c : Thread nD τ).loc main_arg7) : FVec Ideal S2x1024x1024 .f32) (ix3 ⟨(64 * t.val + k.val) / 1024 % 2, Nat.mod_lt _ (by decide)⟩ ⟨(64 * t.val + k.val) % 1024, Nat.mod_lt _ (by decide)⟩ f) := by
  have ht : t.val < 32 := t.isLt
  obtain ⟨e0, e1, e2⟩ := idx10 t
  show (V m c main_v0 : FVec Ideal S1x2048x1024 .f32) (((cfg0.win 10).blk t).view.emb (ix3 0 k f)) = _
  rw [show ((cfg0.win 10).blk t).view.emb (ix3 0 k f) = (ix3 0 ⟨64 * t.val + k.val, by omega⟩ f : S1x2048x1024.Idx) from funext fun a => Fin.ext (by
    match a with
    | ⟨0, _⟩ => show win0_10.index t (0 : Fin 3) * 1 + 1 * 0 = 0; omega
    | ⟨1, _⟩ => show win0_10.index t (1 : Fin 3) * 64 + 1 * k.val = 64 * t.val + k.val; omega
    | ⟨2, _⟩ => show win0_10.index t (2 : Fin 3) * 1024 + 1 * f.val = f.val; omega), host_v0]
  exact flatW_apply _ _ _

/-! ### The narrowed blocks -/

theorem pay18_apply (x : FVec Ideal S1x32x5632 .f32) (k : Fin 32) (f : Fin 5632) : k0_pay18 (F := Ideal) x (ix2 k f) = x (ix3 0 k f) := by
  pointwise [k0_pay18]
theorem pay19_apply (x : FVec Ideal S1x176x1024 .f32) (k : Fin 176) (f : Fin 1024) : k0_pay19 (F := Ideal) x (ix2 k f) = x (ix3 0 k f) := by
  pointwise [k0_pay19]
theorem pay20_apply (x : FVec Ideal S1x64x1024 .f32) (k : Fin 64) (f : Fin 1024) : k0_pay20 (F := Ideal) x (ix2 k f) = x (ix3 0 k f) := by
  pointwise [k0_pay20]

end Cert.KernelIdeal.Pool

end
-- ==== Proof.PoolReadA.lean ====
/- What the idealized call's body leaves at the first grid point, whose prologue fills the scratch. -/
module

public import proofs.«01_k».proof.Proof.PoolRead

@[expose] public section

noncomputable section

namespace Cert.KernelIdeal.Pool

open Cert.KernelIdeal Cert.KernelIdeal.Gen Idealize.ShloMosaic Idealize.ShloMosaic.TcCoe Idealize.ShloMosaic.Pointwise Idealize.SL.Sem

section Point

variable (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1x32x5632 .f32) (harg9 : arg9.IsWhole) (arg10 : Memref sig .tc .vmem S1x176x1024 .f32) (harg10 : arg10.IsWhole) (arg11 : Memref sig .tc .vmem S1x64x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S64x1024 .bf16) (harg15 : arg15.IsWhole) (arg16 : Memref sig .tc .vmem S512x2816 .bf16) (harg16 : arg16.IsWhole) (arg17 : Memref sig .tc .vmem S512x1024 .f32) (harg17 : arg17.IsWhole) (arg18 : Memref sig .tc .vmem S512x1024 .bf16) (harg18 : arg18.IsWhole) (arg19 : Memref sig .tc .vmem S16x1024 .f32) (harg19 : arg19.IsWhole)
variable (x0 : FVec Ideal S512x1024 .f32) (x1 : FVec Ideal S256x1024 .f32) (x2 : FVec Ideal S1x1024 .f32) (x3 : FVec Ideal S1x4x256x256 .bf16) (x4 : FVec Ideal S1x1024 .f32) (x5 : FVec Ideal S1x1024 .f32) (x6 : FVec Ideal S1024x5632 .bf16) (x7 : FVec Ideal S2816x1024 .bf16) (x8 : FVec Ideal S1x32x5632 .f32) (x9 : FVec Ideal S1x176x1024 .f32) (x10 : FVec Ideal S1x64x1024 .f32) (xs1 : FVec Ideal S512x1024 .f32) (xs2 : FVec Ideal S512x1024 .bf16) (xs3 : FVec Ideal S16x1024 .f32)

/-! ### The first point -/

theorem A_r : (kernelRun0_A.sl.r (F := Ideal) c arg3 harg3 x2) = x2 := (shapeCast_self _ _).trans (load_all arg3 harg3 x2 _ zero2 _)
theorem A_r1 : (kernelRun0_A.sl.r_1 (F := Ideal) c arg6 harg6 x5) = x5 := (shapeCast_self _ _).trans (load_all arg6 harg6 x5 _ zero2 _)
theorem A_r2 : (kernelRun0_A.sl.r_2 (F := Ideal) c arg1 harg1 x0) = loRows x0 := (x_a _).trans (rd_lo arg1 harg1 x0 _)
theorem A_r3 : (kernelRun0_A.sl.r_3 (F := Ideal) c arg1 harg1 arg3 harg3 x0 x2) = (rmsVec (loRows x0) x2) := by
  refine (a_rms _ _).trans ?_
  rw [x_a, rd_lo, A_r]
theorem A_r4 : (kernelRun0_A.sl.r_4 (F := Ideal) c arg1 harg1 arg3 harg3 x0 x2) = haloVec zero16 (rmsVec (loRows x0) x2) := by
  refine (a_halo _ _).trans ?_
  rw [a_rms, x_a, rd_lo, A_r]
  rfl
theorem A_fs : Upto (N := 1024) 0 (kernelRun0_A.sl.HS1_4 (F := Ideal) c arg1 harg1 arg3 harg3 arg4 harg4 arg5 harg5 x0 x2 x3 x4) (fsX1 x0 x2 x3 x4) 1024 :=
  x1_upto 0 (0) (by omega) 0#32 rfl zero16 (rmsVec (loRows x0) x2) (loRows x0) x3 x4
    (kernelRun0_A.sl.r_4 (F := Ideal) c arg1 harg1 arg3 harg3 x0 x2) (kernelRun0_A.sl.r_3 (F := Ideal) c arg1 harg1 arg3 harg3 x0 x2) (kernelRun0_A.sl.r_2 (F := Ideal) c arg1 harg1 x0) (A_r4 ..) (A_r3 ..) (A_r2 ..)
    _ _ _ _ _ _ _ _ _ _ _ _ _ _ _ _ [] (by exact a_g0 ..) (by exact a_g1 _ _ _ _ _) (by exact a_g2 _ _ _ _ _) (by exact a_g3 _ _ _ _ _)
    (fun c l => rd_w arg4 harg4 x3 0 _ c l) (fun c l => rd_w arg4 harg4 x3 1 _ c l) (fun c l => rd_w arg4 harg4 x3 2 _ c l) (fun c l => rd_w arg4 harg4 x3 3 _ c l) (fun l => rd_s arg5 harg5 x4 0 _ l) (fun l => rd_s arg5 harg5 x4 1 _ l) (fun l => rd_s arg5 harg5 x4 2 _ l) (fun l => rd_s arg5 harg5 x4 3 _ l)
theorem A_950 : ((kernelRun0_A.sl.v950 (F := Ideal) c arg1 harg1 arg3 harg3 arg4 harg4 arg5 harg5 arg17 x0 x2 x3 x4) : FVec Ideal S256x1024 .f32) = (fsX1 x0 x2 x3 x4) :=
  readCov_rows (N := 1024) arg17.view 0 (by omega) _ _ _ (by apply A_fs <;> assumption)
theorem A_43 : ((kernelRun0_A.sl.v43 (F := Ideal) c arg1 harg1 arg3 harg3 arg4 harg4 arg5 harg5 arg6 harg6 arg17 arg18 x0 x2 x3 x4 x5) : FVec Ideal S256x1024 .bf16) = hfV (fsX1 x0 x2 x3 x4) x5 := by
  refine (View.readCov_cons_toLoadRect _ _ _ _).trans ?_
  refine (a_hf _ _).trans ?_
  rw [A_r1, A_950]
  rfl
theorem A_77 : ((kernelRun0_A.sl.v77 (F := Ideal) c arg1 harg1 arg3 harg3 arg19 x0 x2) : FVec Ideal S16x1024 .f32) = last16 (rmsVec (loRows x0) x2) := by
  refine (View.readCov_cons_toLoadRect _ _ _ _).trans ?_
  refine (shapeCast_self _ _).trans ?_
  show extractStridedSlice S16x1024 ![240, 0] (kernelRun0_A.sl.r_3 (F := Ideal) c arg1 harg1 arg3 harg3 x0 x2) slices_S256x1024_o240_0_S16x1024 = _
  rw [A_r3]
  rfl
theorem A_r10 : (kernelRun0_A.sl.r_10 (F := Ideal) c arg1 harg1 x0) = hiRows x0 := (x_b _).trans (rd_hi arg1 harg1 x0 _)
theorem A_r11 : (kernelRun0_A.sl.r_11 (F := Ideal) c arg1 harg1 arg3 harg3 x0 x2) = (rmsVec (hiRows x0) x2) := by
  refine (b_rms _ _).trans ?_
  rw [x_b, rd_hi, A_r]
theorem A_r12 : (kernelRun0_A.sl.r_12 (F := Ideal) c arg1 harg1 arg3 harg3 arg19 x0 x2) = haloVec (last16 (rmsVec (loRows x0) x2)) (rmsVec (hiRows x0) x2) := by
  refine (b_halo _ _ _).trans ?_
  rw [b_rms, x_b, rd_hi, A_r, A_77]
theorem A_hi (n : ℕ) (h : (i 0).val = n) (hn : n < 32): Upto (N := 1024) 256 (kernelRun0_A.sl.HS1_8 (F := Ideal) c i arg1 harg1 arg3 harg3 arg4 harg4 arg5 harg5 arg19 x0 x2 x3 x4) (hiX1 n x0 x2 x3 x4 (last16 (rmsVec (loRows x0) x2))) 1024 :=
  x1_upto 256 (512 * (n % 4) + 256) (by omega) (kernelRun0_A.sl.v41 i) (A_v41 i n h hn) (last16 (rmsVec (loRows x0) x2)) (rmsVec (hiRows x0) x2) (hiRows x0) x3 x4
    (kernelRun0_A.sl.r_12 (F := Ideal) c arg1 harg1 arg3 harg3 arg19 x0 x2) (kernelRun0_A.sl.r_11 (F := Ideal) c arg1 harg1 arg3 harg3 x0 x2) (kernelRun0_A.sl.r_10 (F := Ideal) c arg1 harg1 x0) (A_r12 ..) (A_r11 ..) (A_r10 ..)
    _ _ _ _ _ _ _ _ _ _ _ _ _ _ _ _ (kernelRun0_A.sl.HS1_4 (F := Ideal) c arg1 harg1 arg3 harg3 arg4 harg4 arg5 harg5 x0 x2 x3 x4) (by exact b_g0 ..) (by exact b_g1 _ _ _ _ _ _) (by exact b_g2 _ _ _ _ _ _) (by exact b_g3 _ _ _ _ _ _)
    (fun c l => rd_w arg4 harg4 x3 0 _ c l) (fun c l => rd_w arg4 harg4 x3 1 _ c l) (fun c l => rd_w arg4 harg4 x3 2 _ c l) (fun c l => rd_w arg4 harg4 x3 3 _ c l) (fun l => rd_s arg5 harg5 x4 0 _ l) (fun l => rd_s arg5 harg5 x4 1 _ l) (fun l => rd_s arg5 harg5 x4 2 _ l) (fun l => rd_s arg5 harg5 x4 3 _ l)
theorem A_r23 : ((kernelRun0_A.sl.r_23 (F := Ideal) c arg2 harg2 x1) : FVec Ideal S256x1024 .f32) = x1 := load_all arg2 harg2 x1 _ zero2 _
theorem A_r24 : (kernelRun0_A.sl.r_24 (F := Ideal) c arg2 harg2 x1) = x1 := (x_c _).trans (A_r23 ..)
theorem A_r25 : (kernelRun0_A.sl.r_25 (F := Ideal) c arg2 harg2 arg3 harg3 x1 x2) = rmsVec x1 x2 := by
  refine (c_rms _ _).trans ?_
  rw [x_c, A_r23, A_r]
theorem A_r26 (n : ℕ) (h : (i 0).val = n) (hn : n < 32): (kernelRun0_A.sl.r_26 (F := Ideal) c i arg1 harg1 arg2 harg2 arg3 harg3 x0 x1 x2) = haloVec (if (n + 1) % 4 = 0 then zero16 else last16 (rmsVec (hiRows x0) x2)) (rmsVec x1 x2) := by
  refine (c_halo _ _ _ _).trans ?_
  rw [c_rms, x_c, A_r23, A_r, A_r11, A_sel i n h hn]
  rfl
theorem A_nx (n : ℕ) (h : (i 0).val = n) (hn : n < 32): Upto (N := 1024) 0 (kernelRun0_A.sl.HS1_12 (F := Ideal) c i arg1 harg1 arg2 harg2 arg3 harg3 arg4 harg4 arg5 harg5 arg19 x0 x1 x2 x3 x4) (nxX1 n x0 x1 x2 x3 x4) 1024 :=
  x1_upto 0 (512 * ((n + 1) % 4)) (by omega) (kernelRun0_A.sl.v420 i) (A_v420 i n h hn) (if (n + 1) % 4 = 0 then zero16 else last16 (rmsVec (hiRows x0) x2)) (rmsVec x1 x2) x1 x3 x4
    (kernelRun0_A.sl.r_26 (F := Ideal) c i arg1 harg1 arg2 harg2 arg3 harg3 x0 x1 x2) (kernelRun0_A.sl.r_25 (F := Ideal) c arg2 harg2 arg3 harg3 x1 x2) (kernelRun0_A.sl.r_24 (F := Ideal) c arg2 harg2 x1) (A_r26 (n := n) (h := h) (hn := hn) ..) (A_r25 ..) (A_r24 ..)
    _ _ _ _ _ _ _ _ _ _ _ _ _ _ _ _ (kernelRun0_A.sl.HS1_8 (F := Ideal) c i arg1 harg1 arg3 harg3 arg4 harg4 arg5 harg5 arg19 x0 x2 x3 x4) (by exact c_g0 ..) (by exact c_g1 _ _ _ _ _ _) (by exact c_g2 _ _ _ _ _ _) (by exact c_g3 _ _ _ _ _ _)
    (fun c l => rd_w arg4 harg4 x3 0 _ c l) (fun c l => rd_w arg4 harg4 x3 1 _ c l) (fun c l => rd_w arg4 harg4 x3 2 _ c l) (fun c l => rd_w arg4 harg4 x3 3 _ c l) (fun l => rd_s arg5 harg5 x4 0 _ l) (fun l => rd_s arg5 harg5 x4 1 _ l) (fun l => rd_s arg5 harg5 x4 2 _ l) (fun l => rd_s arg5 harg5 x4 3 _ l)
theorem A_302 (n : ℕ) (h : (i 0).val = n) (hn : n < 32): ((kernelRun0_A.sl.v302 (F := Ideal) c i arg1 harg1 arg3 harg3 arg4 harg4 arg5 harg5 arg17 arg19 x0 x2 x3 x4) : FVec Ideal S256x1024 .f32) = (hiX1 n x0 x2 x3 x4 (last16 (rmsVec (loRows x0) x2))) :=
  readCov_rows (N := 1024) arg17.view 256 (by omega) _ _ _ (by apply A_hi <;> assumption)
theorem A_684 (n : ℕ) (h : (i 0).val = n) (hn : n < 32): ((kernelRun0_A.sl.v684 (F := Ideal) c i arg1 harg1 arg2 harg2 arg3 harg3 arg4 harg4 arg5 harg5 arg17 arg19 x0 x1 x2 x3 x4) : FVec Ideal S256x1024 .f32) = (nxX1 n x0 x1 x2 x3 x4) :=
  readCov_rows (N := 1024) arg17.view 0 (by omega) _ _ _ (by apply A_nx <;> assumption)
theorem A_422 (n : ℕ) (h : (i 0).val = n) (hn : n < 32): ((kernelRun0_A.sl.v422 (F := Ideal) c i arg1 harg1 arg3 harg3 arg4 harg4 arg5 harg5 arg6 harg6 arg17 arg18 arg19 x0 x2 x3 x4 x5) : FVec Ideal S256x1024 .bf16) = hfV (hiX1 n x0 x2 x3 x4 (last16 (rmsVec (loRows x0) x2))) x5 := by
  refine (View.readCov_cons_toLoadRect _ _ _ _).trans ?_
  refine (b_hf _ _).trans ?_
  rw [A_r1, A_302 (n := n) (h := h) (hn := hn)]
  rfl
theorem A_act0 : Upto (N := 2816) 0 (kernelRun0_A.sl.HS0_11 (F := Ideal) c arg1 harg1 arg3 harg3 arg4 harg4 arg5 harg5 arg6 harg6 arg7 harg7 arg17 arg18 x0 x2 x3 x4 x5 x6) (actV (hfV (fsX1 x0 x2 x3 x4) x5) x6) 2816 :=
  act_upto 0 (hfV (fsX1 x0 x2 x3 x4) x5) (kernelRun0_A.sl.v43 (F := Ideal) c arg1 harg1 arg3 harg3 arg4 harg4 arg5 harg5 arg6 harg6 arg17 arg18 x0 x2 x3 x4 x5) (A_43 ..) x6 _ _ _ _ _ _ _ _ _ _ _ _ _ _ _ _ _ _ _ _ _ _ _ _ _ _ _ _ _ _ _ _ _
    _ _ _ _ _ _ _ _ _ _ _ []
    (by exact lo_0 _ _ _) (by exact lo_1 _ _ _) (by exact lo_2 _ _ _) (by exact lo_3 _ _ _) (by exact lo_4 _ _ _) (by exact lo_5 _ _ _) (by exact lo_6 _ _ _) (by exact lo_7 _ _ _) (by exact lo_8 _ _ _) (by exact lo_9 _ _ _) (by exact lo_10 _ _ _)
    (fun k l h => rd_gu arg7 harg7 x6 0 _ k l h) (fun k l h => rd_gu arg7 harg7 x6 256 _ k l h) (fun k l h => rd_gu arg7 harg7 x6 512 _ k l h) (fun k l h => rd_gu arg7 harg7 x6 768 _ k l h) (fun k l h => rd_gu arg7 harg7 x6 1024 _ k l h) (fun k l h => rd_gu arg7 harg7 x6 1280 _ k l h) (fun k l h => rd_gu arg7 harg7 x6 1536 _ k l h) (fun k l h => rd_gu arg7 harg7 x6 1792 _ k l h) (fun k l h => rd_gu arg7 harg7 x6 2048 _ k l h) (fun k l h => rd_gu arg7 harg7 x6 2304 _ k l h) (fun k l h => rd_gu arg7 harg7 x6 2560 _ k l h)
    (fun k l h => rd_gu arg7 harg7 x6 2816 _ k l h) (fun k l h => rd_gu arg7 harg7 x6 3072 _ k l h) (fun k l h => rd_gu arg7 harg7 x6 3328 _ k l h) (fun k l h => rd_gu arg7 harg7 x6 3584 _ k l h) (fun k l h => rd_gu arg7 harg7 x6 3840 _ k l h) (fun k l h => rd_gu arg7 harg7 x6 4096 _ k l h) (fun k l h => rd_gu arg7 harg7 x6 4352 _ k l h) (fun k l h => rd_gu arg7 harg7 x6 4608 _ k l h) (fun k l h => rd_gu arg7 harg7 x6 4864 _ k l h) (fun k l h => rd_gu arg7 harg7 x6 5120 _ k l h) (fun k l h => rd_gu arg7 harg7 x6 5376 _ k l h)
theorem A_act1 (n : ℕ) (h : (i 0).val = n) (hn : n < 32): Upto (N := 2816) 256 (kernelRun0_A.sl.HS0_22 (F := Ideal) c i arg1 harg1 arg3 harg3 arg4 harg4 arg5 harg5 arg6 harg6 arg7 harg7 arg17 arg18 arg19 x0 x2 x3 x4 x5 x6) (actV (hfV (hiX1 n x0 x2 x3 x4 (last16 (rmsVec (loRows x0) x2))) x5) x6) 2816 :=
  act_upto 256 (hfV (hiX1 n x0 x2 x3 x4 (last16 (rmsVec (loRows x0) x2))) x5) (kernelRun0_A.sl.v422 (F := Ideal) c i arg1 harg1 arg3 harg3 arg4 harg4 arg5 harg5 arg6 harg6 arg17 arg18 arg19 x0 x2 x3 x4 x5) (A_422 (n := n) (h := h) (hn := hn) ..) x6 _ _ _ _ _ _ _ _ _ _ _ _ _ _ _ _ _ _ _ _ _ _ _ _ _ _ _ _ _ _ _ _ _
    _ _ _ _ _ _ _ _ _ _ _ (kernelRun0_A.sl.HS0_11 (F := Ideal) c arg1 harg1 arg3 harg3 arg4 harg4 arg5 harg5 arg6 harg6 arg7 harg7 arg17 arg18 x0 x2 x3 x4 x5 x6)
    (by exact hi_0 _ _ _) (by exact hi_1 _ _ _) (by exact hi_2 _ _ _) (by exact hi_3 _ _ _) (by exact hi_4 _ _ _) (by exact hi_5 _ _ _) (by exact hi_6 _ _ _) (by exact hi_7 _ _ _) (by exact hi_8 _ _ _) (by exact hi_9 _ _ _) (by exact hi_10 _ _ _)
    (fun k l h => rd_gu arg7 harg7 x6 0 _ k l h) (fun k l h => rd_gu arg7 harg7 x6 256 _ k l h) (fun k l h => rd_gu arg7 harg7 x6 512 _ k l h) (fun k l h => rd_gu arg7 harg7 x6 768 _ k l h) (fun k l h => rd_gu arg7 harg7 x6 1024 _ k l h) (fun k l h => rd_gu arg7 harg7 x6 1280 _ k l h) (fun k l h => rd_gu arg7 harg7 x6 1536 _ k l h) (fun k l h => rd_gu arg7 harg7 x6 1792 _ k l h) (fun k l h => rd_gu arg7 harg7 x6 2048 _ k l h) (fun k l h => rd_gu arg7 harg7 x6 2304 _ k l h) (fun k l h => rd_gu arg7 harg7 x6 2560 _ k l h)
    (fun k l h => rd_gu arg7 harg7 x6 2816 _ k l h) (fun k l h => rd_gu arg7 harg7 x6 3072 _ k l h) (fun k l h => rd_gu arg7 harg7 x6 3328 _ k l h) (fun k l h => rd_gu arg7 harg7 x6 3584 _ k l h) (fun k l h => rd_gu arg7 harg7 x6 3840 _ k l h) (fun k l h => rd_gu arg7 harg7 x6 4096 _ k l h) (fun k l h => rd_gu arg7 harg7 x6 4352 _ k l h) (fun k l h => rd_gu arg7 harg7 x6 4608 _ k l h) (fun k l h => rd_gu arg7 harg7 x6 4864 _ k l h) (fun k l h => rd_gu arg7 harg7 x6 5120 _ k l h) (fun k l h => rd_gu arg7 harg7 x6 5376 _ k l h)
theorem A_414 : ((kernelRun0_A.sl.v414 (F := Ideal) c arg1 harg1 arg3 harg3 arg4 harg4 arg5 harg5 arg6 harg6 arg7 harg7 arg16 arg17 arg18 x0 x2 x3 x4 x5 x6) : FVec Ideal S256x2816 .bf16) = actV (hfV (fsX1 x0 x2 x3 x4) x5) x6 :=
  readCov_rows (N := 2816) arg16.view 0 (by omega) _ _ _ (by apply A_act0 <;> assumption)
theorem A_800 (n : ℕ) (h : (i 0).val = n) (hn : n < 32): ((kernelRun0_A.sl.v800 (F := Ideal) c i arg1 harg1 arg3 harg3 arg4 harg4 arg5 harg5 arg6 harg6 arg7 harg7 arg16 arg17 arg18 arg19 x0 x2 x3 x4 x5 x6) : FVec Ideal S256x2816 .bf16) = actV (hfV (hiX1 n x0 x2 x3 x4 (last16 (rmsVec (loRows x0) x2))) x5) x6 :=
  readCov_rows (N := 2816) arg16.view 256 (by omega) _ _ _ (by apply A_act1 <;> assumption)
/-- What the point leaves in the output block, -/
theorem A_out (hc0 : cond0_0 i) (n : ℕ) (h : (i 0).val = n) (hn : n < 32): out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = outV (fsX1 x0 x2 x3 x4) (hfV (fsX1 x0 x2 x3 x4) x5) (hiX1 n x0 x2 x3 x4 (last16 (rmsVec (loRows x0) x2))) (hfV (hiX1 n x0 x2 x3 x4 (last16 (rmsVec (loRows x0) x2))) x5) x6 x7 := by
  unfold out0_A_11 kernelRun0_A
  dsimp only
  rw [View.read_writes_junk_eq_canon, A_302 (n := n) (h := h) (hn := hn), A_800 (n := n) (h := h) (hn := hn), A_950, A_414]
  rw [load_all arg8 harg8 x7 _ zero2 _]
  funext y
  exact canon_halves _ _ _ _ y
/-- in the rows carried to the next point, -/
theorem A_x1 (hc0 : cond0_0 i) (n : ℕ) (h : (i 0).val = n) (hn : n < 32): loRows (e := .f32) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10) = (nxX1 n x0 x1 x2 x3 x4) := by
  unfold sout0_A_1 kernelRun0_A
  dsimp only
  rw [View.read_writes_junk_eq_canon]
  exact loRows_upto _ _ (by apply A_nx <;> assumption)
/-- in their norm, -/
theorem A_hf (hc0 : cond0_0 i) (n : ℕ) (h : (i 0).val = n) (hn : n < 32): loRows (e := .bf16) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10) = hfV (nxX1 n x0 x1 x2 x3 x4) x5 := by
  unfold sout0_A_2 kernelRun0_A
  dsimp only
  rw [View.read_writes_junk_eq_canon, A_684 (n := n) (h := h) (hn := hn), A_r1, c_hf]
  exact loRows_upto16 _ _ (upto_whole (N := 1024) 0 _ _ _)
/-- in the halo, -/
theorem A_tail (hc0 : cond0_0 i) : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = last16 (rmsVec x1 x2) := by
  unfold sout0_A_3 kernelRun0_A
  dsimp only
  rw [View.read_writes_junk_eq_canon]
  refine (View.canon_cons_unit_zero (S := S16x1024) zero2 _ _ _).trans ?_
  refine (shapeCast_self _ _).trans ?_
  rw [A_r25]
  rfl
/-- and in the three narrowed blocks. -/
theorem A_c12 (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = k0_pay18 (F := Ideal) x8 := by
  unfold out0_A_12 kernelRun0_A
  dsimp only
  rw [View.read_writes_junk_eq_canon]
  refine (View.canon_cons_unit_zero (S := S32x5632) zero2 _ _ _).trans ?_
  rw [load_all arg9 harg9 x8 _ zero3 _]
theorem A_c13 (hc0 : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = k0_pay19 (F := Ideal) x9 := by
  unfold out0_A_13 kernelRun0_A
  dsimp only
  rw [View.read_writes_junk_eq_canon]
  refine (View.canon_cons_unit_zero (S := S176x1024) zero2 _ _ _).trans ?_
  rw [load_all arg10 harg10 x9 _ zero3 _]
theorem A_c14 (hc0 : cond0_0 i) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = k0_pay20 (F := Ideal) x10 := by
  unfold out0_A_14 kernelRun0_A
  dsimp only
  rw [View.read_writes_junk_eq_canon]
  refine (View.canon_cons_unit_zero (S := S64x1024) zero2 _ _ _).trans ?_
  rw [load_all arg11 harg11 x10 _ zero3 _]

end Point

end Cert.KernelIdeal.Pool

end
-- ==== Proof.PoolReadB.lean ====
/- What the idealized call's body leaves at a grid point after the first. -/
module

public import proofs.«01_k».proof.Proof.PoolRead

@[expose] public section

noncomputable section

namespace Cert.KernelIdeal.Pool

open Cert.KernelIdeal Cert.KernelIdeal.Gen Idealize.ShloMosaic Idealize.ShloMosaic.TcCoe Idealize.ShloMosaic.Pointwise Idealize.SL.Sem

section Point

variable (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x4x256x256 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1x32x5632 .f32) (harg9 : arg9.IsWhole) (arg10 : Memref sig .tc .vmem S1x176x1024 .f32) (harg10 : arg10.IsWhole) (arg11 : Memref sig .tc .vmem S1x64x1024 .f32) (harg11 : arg11.IsWhole) (arg12 : Memref sig .tc .vmem S512x1024 .f32) (harg12 : arg12.IsWhole) (arg13 : Memref sig .tc .vmem S32x5632 .bf16) (harg13 : arg13.IsWhole) (arg14 : Memref sig .tc .vmem S176x1024 .bf16) (harg14 : arg14.IsWhole) (arg15 : Memref sig .tc .vmem S64x1024 .bf16) (harg15 : arg15.IsWhole) (arg16 : Memref sig .tc .vmem S512x2816 .bf16) (harg16 : arg16.IsWhole) (arg17 : Memref sig .tc .vmem S512x1024 .f32) (harg17 : arg17.IsWhole) (arg18 : Memref sig .tc .vmem S512x1024 .bf16) (harg18 : arg18.IsWhole) (arg19 : Memref sig .tc .vmem S16x1024 .f32) (harg19 : arg19.IsWhole)
variable (x0 : FVec Ideal S512x1024 .f32) (x1 : FVec Ideal S256x1024 .f32) (x2 : FVec Ideal S1x1024 .f32) (x3 : FVec Ideal S1x4x256x256 .bf16) (x4 : FVec Ideal S1x1024 .f32) (x5 : FVec Ideal S1x1024 .f32) (x6 : FVec Ideal S1024x5632 .bf16) (x7 : FVec Ideal S2816x1024 .bf16) (x8 : FVec Ideal S1x32x5632 .f32) (x9 : FVec Ideal S1x176x1024 .f32) (x10 : FVec Ideal S1x64x1024 .f32) (xs1 : FVec Ideal S512x1024 .f32) (xs2 : FVec Ideal S512x1024 .bf16) (xs3 : FVec Ideal S16x1024 .f32)

/-! ### A later point -/

theorem B_r : (kernelRun0_B.sl.r (F := Ideal) c arg3 harg3 x2) = x2 := (shapeCast_self _ _).trans (load_all arg3 harg3 x2 _ zero2 _)
theorem B_r1 : (kernelRun0_B.sl.r_1 (F := Ideal) c arg6 harg6 x5) = x5 := (shapeCast_self _ _).trans (load_all arg6 harg6 x5 _ zero2 _)
theorem B_r4 : (kernelRun0_B.sl.r_4 (F := Ideal) c arg1 harg1 x0) = hiRows x0 := (x_b _).trans (rd_hi arg1 harg1 x0 _)
theorem B_r5 : (kernelRun0_B.sl.r_5 (F := Ideal) c arg1 harg1 arg3 harg3 x0 x2) = (rmsVec (hiRows x0) x2) := by
  refine (b_rms _ _).trans ?_
  rw [x_b, rd_hi, B_r]
theorem B_r6 : (kernelRun0_B.sl.r_6 (F := Ideal) c arg1 harg1 arg3 harg3 arg19 harg19 x0 x2 xs3) = haloVec xs3 (rmsVec (hiRows x0) x2) := by
  refine (b_halo _ _ _).trans ?_
  rw [b_rms, x_b, rd_hi, B_r, load_all arg19 harg19 xs3 _ zero2 _]
theorem B_hi (n : ℕ) (h : (i 0).val = n) (hn : n < 32): Upto (N := 1024) 256 (kernelRun0_B.sl.HS1_4 (F := Ideal) c i arg1 harg1 arg3 harg3 arg4 harg4 arg5 harg5 arg19 harg19 x0 x2 x3 x4 xs3) (hiX1 n x0 x2 x3 x4 xs3) 1024 :=
  x1_upto 256 (512 * (n % 4) + 256) (by omega) (kernelRun0_B.sl.v41 i) (B_v41 i n h hn) xs3 (rmsVec (hiRows x0) x2) (hiRows x0) x3 x4
    (kernelRun0_B.sl.r_6 (F := Ideal) c arg1 harg1 arg3 harg3 arg19 harg19 x0 x2 xs3) (kernelRun0_B.sl.r_5 (F := Ideal) c arg1 harg1 arg3 harg3 x0 x2) (kernelRun0_B.sl.r_4 (F := Ideal) c arg1 harg1 x0) (B_r6 ..) (B_r5 ..) (B_r4 ..)
    _ _ _ _ _ _ _ _ _ _ _ _ _ _ _ _ [] (by exact b_g0 ..) (by exact b_g1 _ _ _ _ _ _) (by exact b_g2 _ _ _ _ _ _) (by exact b_g3 _ _ _ _ _ _)
    (fun c l => rd_w arg4 harg4 x3 0 _ c l) (fun c l => rd_w arg4 harg4 x3 1 _ c l) (fun c l => rd_w arg4 harg4 x3 2 _ c l) (fun c l => rd_w arg4 harg4 x3 3 _ c l) (fun l => rd_s arg5 harg5 x4 0 _ l) (fun l => rd_s arg5 harg5 x4 1 _ l) (fun l => rd_s arg5 harg5 x4 2 _ l) (fun l => rd_s arg5 harg5 x4 3 _ l)
theorem B_r17 : ((kernelRun0_B.sl.r_17 (F := Ideal) c arg2 harg2 x1) : FVec Ideal S256x1024 .f32) = x1 := load_all arg2 harg2 x1 _ zero2 _
theorem B_r18 : (kernelRun0_B.sl.r_18 (F := Ideal) c arg2 harg2 x1) = x1 := (x_c _).trans (B_r17 ..)
theorem B_r19 : (kernelRun0_B.sl.r_19 (F := Ideal) c arg2 harg2 arg3 harg3 x1 x2) = rmsVec x1 x2 := by
  refine (c_rms _ _).trans ?_
  rw [x_c, B_r17, B_r]
theorem B_r20 (n : ℕ) (h : (i 0).val = n) (hn : n < 32): (kernelRun0_B.sl.r_20 (F := Ideal) c i arg1 harg1 arg2 harg2 arg3 harg3 x0 x1 x2) = haloVec (if (n + 1) % 4 = 0 then zero16 else last16 (rmsVec (hiRows x0) x2)) (rmsVec x1 x2) := by
  refine (c_halo _ _ _ _).trans ?_
  rw [c_rms, x_c, B_r17, B_r, B_r5, B_sel i n h hn]
  rfl
theorem B_nx (n : ℕ) (h : (i 0).val = n) (hn : n < 32): Upto (N := 1024) 0 (kernelRun0_B.sl.HS1_8 (F := Ideal) c i arg1 harg1 arg2 harg2 arg3 harg3 arg4 harg4 arg5 harg5 arg19 harg19 x0 x1 x2 x3 x4 xs3) (nxX1 n x0 x1 x2 x3 x4) 1024 :=
  x1_upto 0 (512 * ((n + 1) % 4)) (by omega) (kernelRun0_B.sl.v420 i) (B_v420 i n h hn) (if (n + 1) % 4 = 0 then zero16 else last16 (rmsVec (hiRows x0) x2)) (rmsVec x1 x2) x1 x3 x4
    (kernelRun0_B.sl.r_20 (F := Ideal) c i arg1 harg1 arg2 harg2 arg3 harg3 x0 x1 x2) (kernelRun0_B.sl.r_19 (F := Ideal) c arg2 harg2 arg3 harg3 x1 x2) (kernelRun0_B.sl.r_18 (F := Ideal) c arg2 harg2 x1) (B_r20 (n := n) (h := h) (hn := hn) ..) (B_r19 ..) (B_r18 ..)
    _ _ _ _ _ _ _ _ _ _ _ _ _ _ _ _ (kernelRun0_B.sl.HS1_4 (F := Ideal) c i arg1 harg1 arg3 harg3 arg4 harg4 arg5 harg5 arg19 harg19 x0 x2 x3 x4 xs3) (by exact c_g0 ..) (by exact c_g1 _ _ _ _ _ _) (by exact c_g2 _ _ _ _ _ _) (by exact c_g3 _ _ _ _ _ _)
    (fun c l => rd_w arg4 harg4 x3 0 _ c l) (fun c l => rd_w arg4 harg4 x3 1 _ c l) (fun c l => rd_w arg4 harg4 x3 2 _ c l) (fun c l => rd_w arg4 harg4 x3 3 _ c l) (fun l => rd_s arg5 harg5 x4 0 _ l) (fun l => rd_s arg5 harg5 x4 1 _ l) (fun l => rd_s arg5 harg5 x4 2 _ l) (fun l => rd_s arg5 harg5 x4 3 _ l)
theorem B_302 (n : ℕ) (h : (i 0).val = n) (hn : n < 32): ((kernelRun0_B.sl.v302 (F := Ideal) c i arg1 harg1 arg3 harg3 arg4 harg4 arg5 harg5 arg17 arg19 harg19 x0 x2 x3 x4 xs3) : FVec Ideal S256x1024 .f32) = (hiX1 n x0 x2 x3 x4 xs3) :=
  readCov_rows (N := 1024) arg17.view 256 (by omega) _ _ _ (by apply B_hi <;> assumption)
theorem B_684 (n : ℕ) (h : (i 0).val = n) (hn : n < 32): ((kernelRun0_B.sl.v684 (F := Ideal) c i arg1 harg1 arg2 harg2 arg3 harg3 arg4 harg4 arg5 harg5 arg17 arg19 harg19 x0 x1 x2 x3 x4 xs3) : FVec Ideal S256x1024 .f32) = (nxX1 n x0 x1 x2 x3 x4) :=
  readCov_rows (N := 1024) arg17.view 0 (by omega) _ _ _ (by apply B_nx <;> assumption)
theorem B_422 (n : ℕ) (h : (i 0).val = n) (hn : n < 32): ((kernelRun0_B.sl.v422 (F := Ideal) c i arg1 harg1 arg3 harg3 arg4 harg4 arg5 harg5 arg6 harg6 arg17 arg18 arg19 harg19 x0 x2 x3 x4 x5 xs3) : FVec Ideal S256x1024 .bf16) = hfV (hiX1 n x0 x2 x3 x4 xs3) x5 := by
  refine (View.readCov_cons_toLoadRect _ _ _ _).trans ?_
  refine (b_hf _ _).trans ?_
  rw [B_r1, B_302 (n := n) (h := h) (hn := hn)]
  rfl
theorem B_r3 : ((kernelRun0_B.sl.r_3 (F := Ideal) c arg18 harg18 xs2) : FVec Ideal S256x1024 .bf16) = loRows (e := .bf16) xs2 := rd_hf arg18 harg18 xs2 _
theorem B_r2 : ((kernelRun0_B.sl.r_2 (F := Ideal) c arg17 harg17 xs1) : FVec Ideal S256x1024 .f32) = loRows (e := .f32) xs1 := rd_x1 arg17 harg17 xs1 _
theorem B_act0 : Upto (N := 2816) 0 (kernelRun0_B.sl.HS0_11 (F := Ideal) c arg7 harg7 arg18 harg18 x6 xs2) (actV (loRows (e := .bf16) xs2) x6) 2816 :=
  act_upto 0 (loRows (e := .bf16) xs2) (kernelRun0_B.sl.r_3 (F := Ideal) c arg18 harg18 xs2) (B_r3 ..) x6 _ _ _ _ _ _ _ _ _ _ _ _ _ _ _ _ _ _ _ _ _ _ _ _ _ _ _ _ _ _ _ _ _
    _ _ _ _ _ _ _ _ _ _ _ []
    (by exact lo_0 _ _ _) (by exact lo_1 _ _ _) (by exact lo_2 _ _ _) (by exact lo_3 _ _ _) (by exact lo_4 _ _ _) (by exact lo_5 _ _ _) (by exact lo_6 _ _ _) (by exact lo_7 _ _ _) (by exact lo_8 _ _ _) (by exact lo_9 _ _ _) (by exact lo_10 _ _ _)
    (fun k l h => rd_gu arg7 harg7 x6 0 _ k l h) (fun k l h => rd_gu arg7 harg7 x6 256 _ k l h) (fun k l h => rd_gu arg7 harg7 x6 512 _ k l h) (fun k l h => rd_gu arg7 harg7 x6 768 _ k l h) (fun k l h => rd_gu arg7 harg7 x6 1024 _ k l h) (fun k l h => rd_gu arg7 harg7 x6 1280 _ k l h) (fun k l h => rd_gu arg7 harg7 x6 1536 _ k l h) (fun k l h => rd_gu arg7 harg7 x6 1792 _ k l h) (fun k l h => rd_gu arg7 harg7 x6 2048 _ k l h) (fun k l h => rd_gu arg7 harg7 x6 2304 _ k l h) (fun k l h => rd_gu arg7 harg7 x6 2560 _ k l h)
    (fun k l h => rd_gu arg7 harg7 x6 2816 _ k l h) (fun k l h => rd_gu arg7 harg7 x6 3072 _ k l h) (fun k l h => rd_gu arg7 harg7 x6 3328 _ k l h) (fun k l h => rd_gu arg7 harg7 x6 3584 _ k l h) (fun k l h => rd_gu arg7 harg7 x6 3840 _ k l h) (fun k l h => rd_gu arg7 harg7 x6 4096 _ k l h) (fun k l h => rd_gu arg7 harg7 x6 4352 _ k l h) (fun k l h => rd_gu arg7 harg7 x6 4608 _ k l h) (fun k l h => rd_gu arg7 harg7 x6 4864 _ k l h) (fun k l h => rd_gu arg7 harg7 x6 5120 _ k l h) (fun k l h => rd_gu arg7 harg7 x6 5376 _ k l h)
theorem B_act1 (n : ℕ) (h : (i 0).val = n) (hn : n < 32): Upto (N := 2816) 256 (kernelRun0_B.sl.HS0_22 (F := Ideal) c i arg1 harg1 arg3 harg3 arg4 harg4 arg5 harg5 arg6 harg6 arg7 harg7 arg17 arg18 harg18 arg19 harg19 x0 x2 x3 x4 x5 x6 xs2 xs3) (actV (hfV (hiX1 n x0 x2 x3 x4 xs3) x5) x6) 2816 :=
  act_upto 256 (hfV (hiX1 n x0 x2 x3 x4 xs3) x5) (kernelRun0_B.sl.v422 (F := Ideal) c i arg1 harg1 arg3 harg3 arg4 harg4 arg5 harg5 arg6 harg6 arg17 arg18 arg19 harg19 x0 x2 x3 x4 x5 xs3) (B_422 (n := n) (h := h) (hn := hn) ..) x6 _ _ _ _ _ _ _ _ _ _ _ _ _ _ _ _ _ _ _ _ _ _ _ _ _ _ _ _ _ _ _ _ _
    _ _ _ _ _ _ _ _ _ _ _ (kernelRun0_B.sl.HS0_11 (F := Ideal) c arg7 harg7 arg18 harg18 x6 xs2)
    (by exact hi_0 _ _ _) (by exact hi_1 _ _ _) (by exact hi_2 _ _ _) (by exact hi_3 _ _ _) (by exact hi_4 _ _ _) (by exact hi_5 _ _ _) (by exact hi_6 _ _ _) (by exact hi_7 _ _ _) (by exact hi_8 _ _ _) (by exact hi_9 _ _ _) (by exact hi_10 _ _ _)
    (fun k l h => rd_gu arg7 harg7 x6 0 _ k l h) (fun k l h => rd_gu arg7 harg7 x6 256 _ k l h) (fun k l h => rd_gu arg7 harg7 x6 512 _ k l h) (fun k l h => rd_gu arg7 harg7 x6 768 _ k l h) (fun k l h => rd_gu arg7 harg7 x6 1024 _ k l h) (fun k l h => rd_gu arg7 harg7 x6 1280 _ k l h) (fun k l h => rd_gu arg7 harg7 x6 1536 _ k l h) (fun k l h => rd_gu arg7 harg7 x6 1792 _ k l h) (fun k l h => rd_gu arg7 harg7 x6 2048 _ k l h) (fun k l h => rd_gu arg7 harg7 x6 2304 _ k l h) (fun k l h => rd_gu arg7 harg7 x6 2560 _ k l h)
    (fun k l h => rd_gu arg7 harg7 x6 2816 _ k l h) (fun k l h => rd_gu arg7 harg7 x6 3072 _ k l h) (fun k l h => rd_gu arg7 harg7 x6 3328 _ k l h) (fun k l h => rd_gu arg7 harg7 x6 3584 _ k l h) (fun k l h => rd_gu arg7 harg7 x6 3840 _ k l h) (fun k l h => rd_gu arg7 harg7 x6 4096 _ k l h) (fun k l h => rd_gu arg7 harg7 x6 4352 _ k l h) (fun k l h => rd_gu arg7 harg7 x6 4608 _ k l h) (fun k l h => rd_gu arg7 harg7 x6 4864 _ k l h) (fun k l h => rd_gu arg7 harg7 x6 5120 _ k l h) (fun k l h => rd_gu arg7 harg7 x6 5376 _ k l h)
theorem B_414 : ((kernelRun0_B.sl.v414 (F := Ideal) c arg7 harg7 arg16 arg18 harg18 x6 xs2) : FVec Ideal S256x2816 .bf16) = actV (loRows (e := .bf16) xs2) x6 :=
  readCov_rows (N := 2816) arg16.view 0 (by omega) _ _ _ (by apply B_act0 <;> assumption)
theorem B_800 (n : ℕ) (h : (i 0).val = n) (hn : n < 32): ((kernelRun0_B.sl.v800 (F := Ideal) c i arg1 harg1 arg3 harg3 arg4 harg4 arg5 harg5 arg6 harg6 arg7 harg7 arg16 arg17 arg18 harg18 arg19 harg19 x0 x2 x3 x4 x5 x6 xs2 xs3) : FVec Ideal S256x2816 .bf16) = actV (hfV (hiX1 n x0 x2 x3 x4 xs3) x5) x6 :=
  readCov_rows (N := 2816) arg16.view 256 (by omega) _ _ _ (by apply B_act1 <;> assumption)
/-- What the point leaves in the output block, -/
theorem B_out (hc0 : ¬cond0_0 i) (n : ℕ) (h : (i 0).val = n) (hn : n < 32): out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3 = outV (loRows (e := .f32) xs1) (loRows (e := .bf16) xs2) (hiX1 n x0 x2 x3 x4 xs3) (hfV (hiX1 n x0 x2 x3 x4 xs3) x5) x6 x7 := by
  unfold out0_B_11 kernelRun0_B
  dsimp only
  rw [View.read_writes_junk_eq_canon, B_302 (n := n) (h := h) (hn := hn), B_800 (n := n) (h := h) (hn := hn), B_r2, B_414]
  rw [load_all arg8 harg8 x7 _ zero2 _]
  funext y
  exact canon_halves _ _ _ _ y
/-- in the rows carried to the next point, -/
theorem B_x1 (hc0 : ¬cond0_0 i) (n : ℕ) (h : (i 0).val = n) (hn : n < 32): loRows (e := .f32) (sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3) = (nxX1 n x0 x1 x2 x3 x4) := by
  unfold sout0_B_1 kernelRun0_B
  dsimp only
  rw [View.read_writes_junk_eq_canon]
  exact loRows_upto _ _ (by apply B_nx <;> assumption)
/-- in their norm, -/
theorem B_hf (hc0 : ¬cond0_0 i) (n : ℕ) (h : (i 0).val = n) (hn : n < 32): loRows (e := .bf16) (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3) = hfV (nxX1 n x0 x1 x2 x3 x4) x5 := by
  unfold sout0_B_2 kernelRun0_B
  dsimp only
  rw [View.read_writes_junk_eq_canon, B_684 (n := n) (h := h) (hn := hn), B_r1, c_hf]
  exact loRows_upto16 _ _ (upto_whole (N := 1024) 0 _ _ _)
/-- in the halo, -/
theorem B_tail (hc0 : ¬cond0_0 i) : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3 = last16 (rmsVec x1 x2) := by
  unfold sout0_B_3 kernelRun0_B
  dsimp only
  rw [View.read_writes_junk_eq_canon]
  refine (View.canon_cons_unit_zero (S := S16x1024) zero2 _ _ _).trans ?_
  refine (shapeCast_self _ _).trans ?_
  rw [B_r19]
  rfl
/-- and in the three narrowed blocks. -/
theorem B_c12 (hc0 : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3 = k0_pay18 (F := Ideal) x8 := by
  unfold out0_B_12 kernelRun0_B
  dsimp only
  rw [View.read_writes_junk_eq_canon]
  refine (View.canon_cons_unit_zero (S := S32x5632) zero2 _ _ _).trans ?_
  rw [load_all arg9 harg9 x8 _ zero3 _]
theorem B_c13 (hc0 : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3 = k0_pay19 (F := Ideal) x9 := by
  unfold out0_B_13 kernelRun0_B
  dsimp only
  rw [View.read_writes_junk_eq_canon]
  refine (View.canon_cons_unit_zero (S := S176x1024) zero2 _ _ _).trans ?_
  rw [load_all arg10 harg10 x9 _ zero3 _]
theorem B_c14 (hc0 : ¬cond0_0 i) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs1 xs2 xs3 = k0_pay20 (F := Ideal) x10 := by
  unfold out0_B_14 kernelRun0_B
  dsimp only
  rw [View.read_writes_junk_eq_canon]
  refine (View.canon_cons_unit_zero (S := S64x1024) zero2 _ _ _).trans ?_
  rw [load_all arg11 harg11 x10 _ zero3 _]

end Point

end Cert.KernelIdeal.Pool

end
-- ==== Proof.PoolFold.lean ====
/- What the idealized call leaves in its four result arrays, by induction over the grid points. -/
module

public import proofs.«01_k».proof.Proof.PoolIn
public import proofs.«01_k».proof.Proof.PoolReadA
public import proofs.«01_k».proof.Proof.PoolReadB

@[expose] public section

noncomputable section

namespace Cert.KernelIdeal.Pool

open Cert.KernelIdeal Cert.KernelIdeal.Gen Cert.KernelIdeal.Value Idealize.ShloMosaic Idealize.ShloMosaic.TcCoe Idealize.ShloMosaic.Pointwise Idealize.SL.Sem

variable (m : (ℓ : Loc nD τ sig) → Buf (Elt Ideal) ℓ) (c : Dev nD)

theorem coord : ∀ t : Fin cfg0.N, ((grid0.coords t) 0).val = t.val := (by decide +kernel : ∀ t : Fin grid0.N, _)

/-- The state after a point. -/
abbrev St : Type := FVec Ideal S512x1024 .f32 × FVec Ideal S32x5632 .bf16 × FVec Ideal S176x1024 .bf16 × FVec Ideal S64x1024 .bf16 × FVec Ideal S512x1024 .f32 × FVec Ideal S512x1024 .bf16 × FVec Ideal S16x1024 .f32

/-- The first point, at its input blocks. -/
theorem st_A (t : Fin cfg0.N) (acc : St) (h0 : t.val % 32 = 0) :
    let s : St := stAt0 m c t.val t.isLt acc
    s.1 = outV (fsX1 (iblk m c 0 t) (iblk m c 2 t) (iblk m c 3 t) (iblk m c 4 t)) (hfV (fsX1 (iblk m c 0 t) (iblk m c 2 t) (iblk m c 3 t) (iblk m c 4 t)) (iblk m c 5 t))
        (hiX1 t.val (iblk m c 0 t) (iblk m c 2 t) (iblk m c 3 t) (iblk m c 4 t) (last16 (rmsVec (loRows (iblk m c 0 t)) (iblk m c 2 t))))
        (hfV (hiX1 t.val (iblk m c 0 t) (iblk m c 2 t) (iblk m c 3 t) (iblk m c 4 t) (last16 (rmsVec (loRows (iblk m c 0 t)) (iblk m c 2 t)))) (iblk m c 5 t))
        (iblk m c 6 t) (iblk m c 7 t)
    ∧ s.2.1 = k0_pay18 (F := Ideal) (iblk m c 8 t) ∧ s.2.2.1 = k0_pay19 (F := Ideal) (iblk m c 9 t) ∧ s.2.2.2.1 = k0_pay20 (F := Ideal) (iblk m c 10 t)
    ∧ loRows s.2.2.2.2.1 = nxX1 t.val (iblk m c 0 t) (iblk m c 1 t) (iblk m c 2 t) (iblk m c 3 t) (iblk m c 4 t)
    ∧ loRows s.2.2.2.2.2.1 = hfV (nxX1 t.val (iblk m c 0 t) (iblk m c 1 t) (iblk m c 2 t) (iblk m c 3 t) (iblk m c 4 t)) (iblk m c 5 t)
    ∧ s.2.2.2.2.2.2 = last16 (rmsVec (iblk m c 1 t) (iblk m c 2 t)) := by
  have ht : t.val < 32 := t.isLt
  intro s
  have e : s = _ := stAt0_A m c t acc h0
  rw [e]
  refine ⟨?_, ?_, ?_, ?_, ?_, ?_, ?_⟩
  · rw [A_out (n := t.val) (h := coord t) (hn := ht)]
  · rw [A_c12]
  · rw [A_c13]
  · rw [A_c14]
  · rw [A_x1 (n := t.val) (h := coord t) (hn := ht)]
  · rw [A_hf (n := t.val) (h := coord t) (hn := ht)]
  · rw [A_tail]

/-- A later point, at its input blocks and what the point before left. -/
theorem st_B (t : Fin cfg0.N) (acc : St) (h0 : ¬t.val % 32 = 0) :
    let s : St := stAt0 m c t.val t.isLt acc
    s.1 = outV (loRows acc.2.2.2.2.1) (loRows acc.2.2.2.2.2.1)
        (hiX1 t.val (iblk m c 0 t) (iblk m c 2 t) (iblk m c 3 t) (iblk m c 4 t) acc.2.2.2.2.2.2)
        (hfV (hiX1 t.val (iblk m c 0 t) (iblk m c 2 t) (iblk m c 3 t) (iblk m c 4 t) acc.2.2.2.2.2.2) (iblk m c 5 t))
        (iblk m c 6 t) (iblk m c 7 t)
    ∧ s.2.1 = k0_pay18 (F := Ideal) (iblk m c 8 t) ∧ s.2.2.1 = k0_pay19 (F := Ideal) (iblk m c 9 t) ∧ s.2.2.2.1 = k0_pay20 (F := Ideal) (iblk m c 10 t)
    ∧ loRows s.2.2.2.2.1 = nxX1 t.val (iblk m c 0 t) (iblk m c 1 t) (iblk m c 2 t) (iblk m c 3 t) (iblk m c 4 t)
    ∧ loRows s.2.2.2.2.2.1 = hfV (nxX1 t.val (iblk m c 0 t) (iblk m c 1 t) (iblk m c 2 t) (iblk m c 3 t) (iblk m c 4 t)) (iblk m c 5 t)
    ∧ s.2.2.2.2.2.2 = last16 (rmsVec (iblk m c 1 t) (iblk m c 2 t)) := by
  have ht : t.val < 32 := t.isLt
  intro s
  have e : s = _ := stAt0_B m c t acc h0
  rw [e]
  refine ⟨?_, ?_, ?_, ?_, ?_, ?_, ?_⟩
  · rw [B_out (n := t.val) (h := coord t) (hn := ht)]
  · rw [B_c12]
  · rw [B_c13]
  · rw [B_c14]
  · rw [B_x1 (n := t.val) (h := coord t) (hn := ht)]
  · rw [B_hf (n := t.val) (h := coord t) (hn := ht)]
  · rw [B_tail]

/-- What holds after point `n`. -/
structure Good (n : ℕ) (s : St) : Prop where
  out : ∀ (i : Fin 512) e, s.1 (ix2 i e) = (ops m c).outRow (512 * n + i.val) e
  c12 : ∀ h : n < cfg0.N, s.2.1 = k0_pay18 (F := Ideal) (iblk m c 8 ⟨n, h⟩)
  c13 : ∀ h : n < cfg0.N, s.2.2.1 = k0_pay19 (F := Ideal) (iblk m c 9 ⟨n, h⟩)
  c14 : ∀ h : n < cfg0.N, s.2.2.2.1 = k0_pay20 (F := Ideal) (iblk m c 10 ⟨n, h⟩)
  x1 : n + 1 < 32 → ∀ (r : Fin 256) d, loRows s.2.2.2.2.1 (ix2 r d) = (ops m c).x1Row (512 * (n + 1) + r.val) d
  hf : n + 1 < 32 → ∀ (r : Fin 256) d, loRows s.2.2.2.2.2.1 (ix2 r d) = (ops m c).hfRow (512 * (n + 1) + r.val) d
  tail : n + 1 < 32 → ∀ (i : Fin 16) d, s.2.2.2.2.2.2 (ix2 i d) = (ops m c).hRow (512 * (n + 1) + 240 + i.val) d

theorem good_A (t : Fin cfg0.N) (acc : St) (h0 : t.val = 0) : Good m c t.val (stAt0 m c t.val t.isLt acc) := by
  obtain ⟨e1, e2, e3, e4, e5, e6, e7⟩ := st_A m c t acc (by omega)
  have b0 : ∀ (i : Fin 512) d, (iblk m c 0 t : FVec Ideal S512x1024 .f32) (ix2 i d) = (ops m c).X (512 * 0 + i.val) d := by
    have := blk0 m c t
    rwa [h0] at this
  have hn : ∀ h : t.val + 1 < 32, _ := fun h => nxX1_rows (ops m c) t.val _ _ _ _ _ (blk0 m c t) (blk2 m c t) (blk3 m c t) (blk4 m c t) (blk1 m c t h)
  have hh := hiX1_rows (ops m c) 0 _ _ _ _ b0 (blk2 m c t) (blk3 m c t) (blk4 m c t) _ (fs_tail (ops m c) _ _ b0 (blk2 m c t))
  have hl := fsX1_rows (ops m c) _ _ _ _ b0 (blk2 m c t) (blk3 m c t) (blk4 m c t)
  refine ⟨fun i e => ?_, fun _ => e2, fun _ => e3, fun _ => e4, fun h r d => ?_, fun h r d => ?_, fun h i d => ?_⟩
  · rw [e1, h0]
    exact out_rows (ops m c) (512 * 0) _ _ _ _ _ _ hl hh (hf_rows (ops m c) _ _ _ hl (blk5 m c t)) (hf_rows (ops m c) _ _ _ hh (blk5 m c t)) (blk6 m c t) (blk7 m c t) i e
  · rw [e5]; exact hn h r d
  · rw [e6]; exact hf_rows (ops m c) _ _ _ (hn h) (blk5 m c t) r d
  · rw [e7]; exact nx_tail (ops m c) t.val _ _ (blk1 m c t h) (blk2 m c t) i d

theorem good_B (n : ℕ) (hb : n + 1 < cfg0.N) (acc : St) (ha : Good m c n acc) : Good m c (n + 1) (stAt0 m c (n + 1) hb acc) := by
  have hlt : n + 1 < 32 := hb
  obtain ⟨e1, e2, e3, e4, e5, e6, e7⟩ := st_B m c ⟨n + 1, hb⟩ acc (by show ¬(n + 1) % 32 = 0; omega)
  have hn : ∀ h : n + 1 + 1 < 32, _ := fun h => nxX1_rows (ops m c) (n + 1) _ _ _ _ _ (blk0 m c ⟨n + 1, hb⟩) (blk2 m c ⟨n + 1, hb⟩) (blk3 m c ⟨n + 1, hb⟩) (blk4 m c ⟨n + 1, hb⟩) (blk1 m c ⟨n + 1, hb⟩ h)
  have hh := hiX1_rows (ops m c) (n + 1) _ _ _ _ (blk0 m c ⟨n + 1, hb⟩) (blk2 m c ⟨n + 1, hb⟩) (blk3 m c ⟨n + 1, hb⟩) (blk4 m c ⟨n + 1, hb⟩) _ (ha.tail hlt)
  refine ⟨fun i e => ?_, fun _ => e2, fun _ => e3, fun _ => e4, fun h r d => ?_, fun h r d => ?_, fun h i d => ?_⟩
  · rw [e1]
    exact out_rows (ops m c) (512 * (n + 1)) _ _ _ _ _ _ (ha.x1 hlt) hh (ha.hf hlt) (hf_rows (ops m c) _ _ _ hh (blk5 m c ⟨n + 1, hb⟩)) (blk6 m c ⟨n + 1, hb⟩) (blk7 m c ⟨n + 1, hb⟩) i e
  · rw [e5]; exact hn h r d
  · rw [e6]; exact hf_rows (ops m c) _ _ _ (hn h) (blk5 m c ⟨n + 1, hb⟩) r d
  · rw [e7]; exact nx_tail (ops m c) (n + 1) _ _ (blk1 m c ⟨n + 1, hb⟩ h) (blk2 m c ⟨n + 1, hb⟩) i d

/-- What the first point leaves and every point keeps, the fold over the points has. -/
theorem fold_ind {N : ℕ} {α : Type} (a : (n : ℕ) → n < N → α) (g : (n : ℕ) → n < N → α → α) (Q : ℕ → α → Prop)
    (h0 : ∀ h : 0 < N, Q 0 (a 0 h)) (hs : ∀ (n : ℕ) (h : n + 1 < N) (s : α), Q n s → Q (n + 1) (g (n + 1) h s)) (j : ℕ) :
    ∀ h : 0 + j < N, Q j (Pipeline.accAt a g 0 j h) := by
  induction j with
  | zero => intro h; exact h0 h
  | succ j ih =>
    intro h
    rw [Pipeline.accAt_succ]
    have q := ih (Nat.lt_of_succ_lt h)
    generalize Pipeline.accAt a g 0 j _ = s at q ⊢
    have key : ∀ k (hk : k < N), k = j + 1 → Q (j + 1) (g k hk s) := by
      intro k hk e; subst e; exact hs j hk s q
    exact key _ h (Nat.zero_add _)

/-- Every point leaves its rows. -/
theorem good (n : ℕ) (hn : 0 + n < cfg0.N) :
    Good m c n (Pipeline.accAt (α := St) (fun n h => stAt0 (F := Ideal) m c n h (junk0 (F := Ideal)))
      (stAt0 (F := Ideal) m c) 0 n hn) := by
  refine fold_ind (α := St) _ _ (Good m c) ?_ ?_ n hn
  · intro h
    exact good_A m c ⟨0, h⟩ _ rfl
  · intro n h s q
    exact good_B m c n h s q

/-! ### The four arrays -/

theorem G11_apply (R : Fin 16384) (e : Fin 1024) : (G11 m c : FVec Ideal S16384x1024 .f32) (ix2 R e) = (ops m c).outRow R.val e := by
  have hR := R.isLt
  have he := e.isLt
  have hp : pt11Of (ix2 R e) = R.val / 512 := by
    show 1 * (R.val / 512 - 0) + 1 * (e.val / 1024 - 0) = _
    omega
  have hl : loc11Of (ix2 R e) = ix2 ⟨R.val % 512, Nat.mod_lt _ (by decide)⟩ e := by
    funext a; apply Fin.ext
    match a with
    | ⟨0, _⟩ => rfl
    | ⟨1, _⟩ => show e.val % 1024 = e.val; omega
  have hlt : pt11Of (ix2 R e) < cfg0.N := by rw [hp]; show _ < 32; omega
  unfold G11
  rw [dif_pos hlt, hl, (good m c _ (by omega)).out, hp]
  congr 1
  show 512 * (R.val / 512) + R.val % 512 = R.val
  omega

theorem G12_apply (k : Fin 1024) (f : Fin 5632) : (G12 m c : FVec Ideal S1024x5632 .bf16) (ix2 k f)
    = (m ((c : Thread nD τ).loc main_arg5) : FVec Ideal S4x1024x5632 .f32) (ix3 1 k f) := by
  have hk := k.isLt
  have hf := f.isLt
  have hp : pt12Of (ix2 k f) = k.val / 32 := by
    show 1 * (k.val / 32 - 0) + 1 * (f.val / 5632 - 0) = _
    omega
  have hl : loc12Of (ix2 k f) = ix2 ⟨k.val % 32, Nat.mod_lt _ (by decide)⟩ f := by
    funext a; apply Fin.ext
    match a with
    | ⟨0, _⟩ => rfl
    | ⟨1, _⟩ => show f.val % 5632 = f.val; omega
  have hlt : pt12Of (ix2 k f) < cfg0.N := by rw [hp]; show _ < 32; omega
  unfold G12
  rw [dif_pos hlt, hl, (good m c _ (by omega)).c12 hlt, pay18_apply, blk8]
  congr 2
  apply Fin.ext
  show 32 * pt12Of (ix2 k f) + k.val % 32 = k.val
  omega

theorem G13_apply (k : Fin 2816) (f : Fin 1024) : (G13 m c : FVec Ideal S2816x1024 .bf16) (ix2 k f)
    = (m ((c : Thread nD τ).loc main_arg6) : FVec Ideal S4x2816x1024 .f32) (ix3 1 k f) := by
  have hk := k.isLt
  have hf := f.isLt
  have hp : pt13Of (ix2 k f) = 2 * (k.val / 176) + 1 := by
    show 2 * (1 * (k.val / 176 - 0) + 1 * (f.val / 1024 - 0)) + 1 = _
    omega
  have hl : loc13Of (ix2 k f) = ix2 ⟨k.val % 176, Nat.mod_lt _ (by decide)⟩ f := by
    funext a; apply Fin.ext
    match a with
    | ⟨0, _⟩ => rfl
    | ⟨1, _⟩ => show f.val % 1024 = f.val; omega
  have hlt : pt13Of (ix2 k f) < cfg0.N := by rw [hp]; show _ < 32; omega
  unfold G13
  rw [dif_pos hlt, hl, (good m c _ (by omega)).c13 hlt, pay19_apply, blk9]
  congr 2
  apply Fin.ext
  show 176 * (pt13Of (ix2 k f) / 2) + k.val % 176 = k.val
  omega

theorem G14_apply (k : Fin 2048) (f : Fin 1024) : (G14 m c : FVec Ideal S2048x1024 .bf16) (ix2 k f)
    = (m ((c : Thread nD τ).loc main_arg7) : FVec Ideal S2x1024x1024 .f32) (ix3 ⟨k.val / 1024 % 2, Nat.mod_lt _ (by decide)⟩ ⟨k.val % 1024, Nat.mod_lt _ (by decide)⟩ f) := by
  have hk := k.isLt
  have hf := f.isLt
  have hp : pt14Of (ix2 k f) = k.val / 64 := by
    show 1 * (k.val / 64 - 0) + 1 * (f.val / 1024 - 0) = _
    omega
  have hl : loc14Of (ix2 k f) = ix2 ⟨k.val % 64, Nat.mod_lt _ (by decide)⟩ f := by
    funext a; apply Fin.ext
    match a with
    | ⟨0, _⟩ => rfl
    | ⟨1, _⟩ => show f.val % 1024 = f.val; omega
  have hlt : pt14Of (ix2 k f) < cfg0.N := by rw [hp]; show _ < 32; omega
  have hs : 64 * pt14Of (ix2 k f) + k.val % 64 = k.val := by omega
  unfold G14
  rw [dif_pos hlt, hl, (good m c _ (by omega)).c14 hlt, pay20_apply, blk10]
  congr 2
  · apply Fin.ext
    show (64 * pt14Of (ix2 k f) + k.val % 64) / 1024 % 2 = k.val / 1024 % 2
    rw [hs]
  · apply Fin.ext
    show (64 * pt14Of (ix2 k f) + k.val % 64) % 1024 = k.val % 1024
    rw [hs]

end Cert.KernelIdeal.Pool

end
-- ==== Proof.PoolTake.lean ====
/- The reference's window means: its running sum read as a sum, the take of the running sum at the window's start, and one
   channel group's mean minus token. -/
module

public import proofs.«01_k».proof.Proof.Gen.ReferenceIdeal.Read
public import Idealize.ShloMosaic.Lib.Pointwise
public import Idealize.ShloMosaic.Lib.ReduceAll

@[expose] public section

noncomputable section

namespace Cert.ReferenceIdeal.Pool

open Cert.ReferenceIdeal Cert.ReferenceIdeal.Gen Idealize.ShloMosaic Idealize.ShloMosaic.TcCoe Idealize.ShloMosaic.Pointwise

/-! ### The running sum -/

/-- A left fold of additions is the starting value plus the sum. -/
theorem foldl_add_sum {n : ℕ} (f : Fin n → EReal) (v : EReal) : (List.finRange n).foldl (fun r k => r + f k) v = v + ∑ k, f k := by
  rw [← List.sum_ofFn, List.ofFn_eq_map]
  generalize List.finRange n = l
  induction l generalizing v with
  | nil => simp
  | cons a l ih => rw [List.foldl_cons, ih, List.map_cons, List.sum_cons, add_assoc]

/-- A window sum is the starting value plus the sum over the window's positions. -/
theorem window_add {s t u : Shape} (window strides lo hi : Fin s.rank → ℕ) (x : FVec Ideal s .f32) (init : FVec Ideal u .f32)
    (h : s.ReduceWindows window strides lo hi t) (hu : 0 < u.numel) (j : t.Idx) :
    (Host.reduceWindowAdd window strides lo hi x init h hu : FVec Ideal t .f32) j = init (Shape.Idx.first hu)
      + ∑ n : Fin (⟨s.rank, window⟩ : Shape).numel,
        (if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else init (Shape.Idx.first hu) : EReal) := by
  unfold Host.reduceWindowAdd
  rw [Ideal.hostReduceWindowAdd_def]
  unfold Ideal.hostReduceWindowAdd Host.reduceWindow
  rw [← foldl_add_sum]
  dsimp only
  refine congrArg (fun f => List.foldl f (init (Shape.Idx.first hu)) _) (funext fun r => funext fun n => ?_)
  refine congrArg (fun z => r + z) ?_
  split
  · rfl
  · rfl

/-- The last `t + 1` positions of a padded window of `N` rows are the first `t + 1` rows. -/
theorem sum_padded (N t : ℕ) (ht : t < N) (h : ℕ → EReal) :
    ∑ n ∈ Finset.range N, (if N - 1 ≤ t + n then h (t + n - (N - 1)) else 0) = ∑ i ∈ Finset.range (t + 1), h i := by
  obtain ⟨k, rfl⟩ : ∃ k, N = k + (t + 1) := ⟨N - (t + 1), by omega⟩
  rw [Finset.sum_range_add, Finset.sum_eq_zero (fun n hn => if_neg (by have := Finset.mem_range.mp hn; omega)), zero_add]
  refine Finset.sum_congr rfl fun i _ => ?_
  rw [if_pos (by omega)]
  congr 1
  omega

/-- A column of the running sum's operand, by row number. -/
def colOf (x : FVec Ideal S8x2048x1024 .f32) (b : Fin 8) (d : Fin 1024) (i : ℕ) : EReal := x (ix3 b ⟨i % 2048, Nat.mod_lt _ (by decide)⟩ d)

/-- The running sum at row `t` is the sum of the rows up to it. -/
theorem cumsum_apply (x : FVec Ideal S8x2048x1024 .f32) (v : FVec Ideal S_ .f32) (hv : v (Shape.Idx.first h_S_) = 0) (b : Fin 8) (t : Fin 2048) (d : Fin 1024) :
    (Host.reduceWindowAdd ![1, 2048, 1] ![1, 1, 1] ![0, 2047, 0] ![0, 0, 0] x v reduceWindows_S8x2048x1024_S8x2048x1024_w1s1p0_0_w2048s1p2047_0_w1s1p0_0 h_S_ : FVec Ideal S8x2048x1024 .f32) (ix3 b t d)
      = ∑ i ∈ Finset.range (t.val + 1), colOf x b d i := by
  have ht := t.isLt
  have hb := b.isLt
  have hd := d.isLt
  have hN : (⟨3, ![1, 2048, 1]⟩ : Shape).numel = 2048 := rfl
  have key : ∀ n : Fin (⟨3, ![1, 2048, 1]⟩ : Shape).numel, ∀ j : (⟨3, ![1, 2048, 1]⟩ : Shape).Idx,
      (⟨3, ![1, 2048, 1]⟩ : Shape).rowMajor.symm n = j → (j 0).val = 0 ∧ (j 1).val = n.val ∧ (j 2).val = 0 := by
    intro n j e
    have e' := (Equiv.symm_apply_eq _).mp e
    have h0 : (j 0).val < 1 := (j 0).isLt
    have h2 : (j 2).val < 1 := (j 2).isLt
    have e2 : n.val = ((j 0).val * 2048 + (j 1).val) * 1 + (j 2).val := by
      rw [e', Shape.rowMajor_val_three]; rfl
    refine ⟨by omega, by omega, by omega⟩
  have hS : ∑ n : Fin (⟨3, ![1, 2048, 1]⟩ : Shape).numel, (if 2048 - 1 ≤ t.val + n.val then colOf x b d (t.val + n.val - (2048 - 1)) else 0)
      = ∑ i ∈ Finset.range (t.val + 1), colOf x b d i := by
    rw [Fin.sum_univ_eq_sum_range (fun n => if 2048 - 1 ≤ t.val + n then colOf x b d (t.val + n - (2048 - 1)) else 0), hN]
    exact sum_padded 2048 t.val ht _
  rw [← hS]
  rw [window_add, hv, zero_add]
  refine Finset.sum_congr rfl fun n _ => ?_
  obtain ⟨k0, k1, k2⟩ := key n _ rfl
  generalize (⟨3, ![1, 2048, 1]⟩ : Shape).rowMajor.symm n = j at k0 k1 k2 ⊢
  have hn : n.val < 2048 := n.isLt
  split
  · next hin =>
    have h1 := hin 1
    change 2047 ≤ t.val * 1 + (j 1).val ∧ t.val * 1 + (j 1).val - 2047 < 2048 at h1
    rw [if_pos (by omega)]
    refine congrArg x (funext fun a => Fin.ext ?_)
    match a with
    | ⟨0, _⟩ => show b.val * 1 + (j 0).val - 0 = b.val; omega
    | ⟨1, _⟩ => show t.val * 1 + (j 1).val - 2047 = (t.val + n.val - (2048 - 1)) % 2048; omega
    | ⟨2, _⟩ => show d.val * 1 + (j 2).val - 0 = d.val; omega
  · next hin =>
    rw [if_neg fun hle => hin fun a => by
      match a with
      | ⟨0, _⟩ => show 0 ≤ b.val * 1 + (j 0).val ∧ b.val * 1 + (j 0).val - 0 < 8; omega
      | ⟨1, _⟩ => show 2047 ≤ t.val * 1 + (j 1).val ∧ t.val * 1 + (j 1).val - 2047 < 2048; omega
      | ⟨2, _⟩ => show 0 ≤ d.val * 1 + (j 2).val ∧ d.val * 1 + (j 2).val - 0 < 1024; omega]

/-- The running sum with a row of zeros in front, at row `k`: the sum of the rows before it. -/
theorem csum_apply (x : FVec Ideal S8x2048x1024 .f32) (z : FVec Ideal S8x1x1024 .f32) (hz : ∀ i, z i = 0) (v : FVec Ideal S_ .f32) (hv : v (Shape.Idx.first h_S_) = 0)
    (b : Fin 8) (k : Fin 2049) (d : Fin 1024) :
    (concatenate S8x2049x1024 1 [⟨S8x1x1024, z⟩, ⟨S8x2048x1024, (Host.reduceWindowAdd ![1, 2048, 1] ![1, 1, 1] ![0, 2047, 0] ![0, 0, 0] x v reduceWindows_S8x2048x1024_S8x2048x1024_w1s1p0_0_w2048s1p2047_0_w1s1p0_0 h_S_ : FVec Ideal S8x2048x1024 .f32)⟩]
      concatenates_S8x1x1024_S8x2048x1024_S8x2049x1024_d1 : FVec Ideal S8x2049x1024 .f32) (ix3 b k d)
      = ∑ i ∈ Finset.range k.val, colOf x b d i := by
  have hk := k.isLt
  have hc := fun t => cumsum_apply x v hv b t d
  generalize (Host.reduceWindowAdd ![1, 2048, 1] ![1, 1, 1] ![0, 2047, 0] ![0, 0, 0] x v reduceWindows_S8x2048x1024_S8x2048x1024_w1s1p0_0_w2048s1p2047_0_w1s1p0_0 h_S_ : FVec Ideal S8x2048x1024 .f32) = y at hc ⊢
  by_cases h0 : k.val = 0
  · rw [h0, Finset.range_zero, Finset.sum_empty, ← hz (ix3 b 0 d)]
    exact concatenate_pair_apply_left (t := S8x2049x1024) (s₁ := S8x1x1024) (s₂ := S8x2048x1024) 1 z y _ (ix3 b k d) rfl (ix3 b 0 d) (fun a => by
      match a with
      | ⟨0, _⟩ => rfl
      | ⟨1, _⟩ => exact h0.symm
      | ⟨2, _⟩ => rfl)
  · have := hc ⟨k.val - 1, by omega⟩
    rw [show k.val = (⟨k.val - 1, by omega⟩ : Fin 2048).val + 1 from by show k.val = k.val - 1 + 1; omega, ← this]
    exact concatenate_pair_apply_right (t := S8x2049x1024) (s₁ := S8x1x1024) (s₂ := S8x2048x1024) 1 z y _ (ix3 b k d) rfl rfl (ix3 b ⟨k.val - 1, by omega⟩ d) (fun a ha => by
      match a with
      | ⟨0, _⟩ => rfl
      | ⟨1, _⟩ => exact absurd rfl ha
      | ⟨2, _⟩ => rfl) (by show k.val - 1 + 1 = k.val; omega)

/-- The difference of two running sums of reals is the sum between them, counted back from the end. -/
theorem window_sum (h : ℕ → EReal) (hr : ∀ i, ∃ r : ℝ, h i = r) (t s : ℕ) (hs : s ≤ t + 1) :
    ∑ i ∈ Finset.range (t + 1), h i - ∑ i ∈ Finset.range s, h i = ∑ j ∈ Finset.range (t + 1 - s), h (t - j) := by
  choose r hr using hr
  obtain rfl : h = fun i => ((r i : ℝ) : EReal) := funext hr
  have hc : ∀ (u : Finset ℕ) (f : ℕ → ℝ), ∑ i ∈ u, ((f i : ℝ) : EReal) = ((∑ i ∈ u, f i : ℝ) : EReal) := by
    intro u f
    induction u using Finset.induction_on with
    | empty => simp
    | insert a u ha ih => rw [Finset.sum_insert ha, Finset.sum_insert ha, ih, EReal.coe_add]
  rw [hc, hc, hc, ← EReal.coe_sub]
  congr 1
  obtain ⟨n, hn⟩ : ∃ n, t + 1 = s + n := ⟨t + 1 - s, by omega⟩
  rw [hn, Finset.sum_range_add, add_sub_cancel_left, Nat.add_sub_cancel_left, ← Finset.sum_range_reflect]
  refine Finset.sum_congr rfl fun j hj => ?_
  have := Finset.mem_range.mp hj
  congr 1
  omega

/-! ### The window's start and length -/

/-- Where the windows of `w` rows start. -/
def startV (w : BitVec 32) : IVec S2048 32 :=
  maxsi (subi (addi (iotaInDim S2048 32 0) (broadcastInDim S2048 ![] bcast_S_S2048 (constantI S_ 32 1#32))) (broadcastInDim S2048 ![] bcast_S_S2048 (constantI S_ 32 w)))
    (broadcastInDim S2048 ![] bcast_S_S2048 (constantI S_ 32 0#32))

/-- How many rows they hold. -/
def lenV (w : BitVec 32) : IVec S2048 32 :=
  subi (addi (iotaInDim S2048 32 0) (broadcastInDim S2048 ![] bcast_S_S2048 (constantI S_ 32 1#32))) (startV w)

theorem start_words : ∀ g : Fin 4, ∀ t : Fin 2048,
    IntOp.maxsi (IntOp.subi (IntOp.addi (BitVec.ofNat 32 t.val) 1#32) (BitVec.ofNat 32 (2 ^ (g.val + 1)))) 0#32 = BitVec.ofNat 32 (t.val + 1 - 2 ^ (g.val + 1)) := by
  decide +kernel

theorem len_words : ∀ g : Fin 4, ∀ t : Fin 2048,
    IntOp.subi (IntOp.addi (BitVec.ofNat 32 t.val) 1#32) (BitVec.ofNat 32 (t.val + 1 - 2 ^ (g.val + 1))) = BitVec.ofNat 32 (min (t.val + 1) (2 ^ (g.val + 1))) := by
  decide +kernel

theorem startV_apply (g : Fin 4) (t : Fin 2048) : startV (BitVec.ofNat 32 (2 ^ (g.val + 1))) (ix1 t) = BitVec.ofNat 32 (t.val + 1 - 2 ^ (g.val + 1)) :=
  start_words g t

theorem lenV_apply (g : Fin 4) (t : Fin 2048) : lenV (BitVec.ofNat 32 (2 ^ (g.val + 1))) (ix1 t) = BitVec.ofNat 32 (min (t.val + 1) (2 ^ (g.val + 1))) := by
  rw [← len_words g t, ← startV_apply g t]
  rfl

/-! ### The take -/

/-- The start rows as the take reads them. -/
def takeIdx (st : IVec S2048 32) : IVec S2048x1 32 :=
  broadcastInDim S2048x1 ![0] bcast_S2048_S2048x1_0 (select (cmpi .slt st (broadcastInDim S2048 ![] bcast_S_S2048 (constantI S_ 32 0#32)))
    (addi st (broadcastInDim S2048 ![] bcast_S_S2048 (constantI S_ 32 2049#32))) st)

/-- Which of them lie in the array. -/
def takeIn (st : IVec S2048 32) : IVec S2048x1 1 :=
  andi (cmpi .sge (takeIdx st) (broadcastInDim S2048x1 ![] bcast_S_S2048x1 (constantI S_ 32 0#32)))
    (cmpi .sle (takeIdx st) (broadcastInDim S2048x1 ![0, 1] bcast_S1x1_S2048x1_0_1 (broadcastInDim S1x1 ![1] bcast_S1_S1x1_1 (constantI S1 32 2048#32))))

/-- The take of rows of a channel group. -/
def takeV (y : FVec Ideal S8x2049x256 .f32) (st : IVec S2048 32) : FVec Ideal S8x2048x256 .f32 :=
  select (broadcastInDim S8x2048x256 ![1] bcast_S2048_S8x2048x256_1 (Host.reduce IntOp.andi (takeIn st) (constantI S_ 1 1#1) reducesTo_S2048x1_S2048_d1 h_S_))
    (Host.gather gather_S8x2049x256_S2048x1_S8x2048x256_02_1_n_n_1_1_81256 y (takeIdx st))
    (broadcastInDim S8x2048x256 ![] bcast_S_S8x2048x256 (constant S_ .f32 0x7FC00000#32))

theorem idx_words : ∀ s : Fin 2049, (Scalar.select (IntOp.cmpi .slt (BitVec.ofNat 32 s.val) 0#32) (IntOp.addi (BitVec.ofNat 32 s.val) 2049#32) (BitVec.ofNat 32 s.val) : BitVec 32) = BitVec.ofNat 32 s.val := by
  decide +kernel
theorem in_words : ∀ s : Fin 2049, IntOp.andi (IntOp.cmpi .sge (BitVec.ofNat 32 s.val) 0#32) (IntOp.cmpi .sle (BitVec.ofNat 32 s.val) 2048#32) = 1#1 := by
  decide +kernel
theorem nat_words : ∀ s : Fin 2049, min (BitVec.ofNat 32 s.val).toInt.toNat 2048 = s.val := by
  decide +kernel

theorem takeIdx_apply (st : IVec S2048 32) (t : Fin 2048) (s : Fin 2049) (h : st (ix1 t) = BitVec.ofNat 32 s.val) :
    takeIdx st (ix2 t 0) = BitVec.ofNat 32 s.val := by
  rw [← idx_words s, ← h]
  pointwise [takeIdx]

theorem takeIn_one (st : IVec S2048 32) (s : Fin 2048 → Fin 2049) (h : ∀ t, st (ix1 t) = BitVec.ofNat 32 (s t).val) (i : S2048x1.Idx) : takeIn st i = 1#1 := by
  obtain ⟨t, u, rfl⟩ : ∃ (t : Fin 2048) (u : Fin 1), i = ix2 t u := ⟨i 0, i 1, eq_ix2 i⟩
  obtain rfl : u = 0 := Subsingleton.elim _ _
  rw [← in_words (s t), ← takeIdx_apply st t (s t) (h t)]
  unfold takeIn
  generalize takeIdx st = y
  pointwise []

/-- The gather at an index: the row its start index names. -/
theorem gather_apply (y : FVec Ideal S8x2049x256 .f32) (idx : IVec S2048x1 32) (b : Fin 8) (t : Fin 2048) (l : Fin 256) (s : Fin 2049) (h : idx (ix2 t 0) = BitVec.ofNat 32 s.val) :
    (Host.gather gather_S8x2049x256_S2048x1_S8x2048x256_02_1_n_n_1_1_81256 y idx : FVec Ideal S8x2048x256 .f32) (ix3 b t l) = y (ix3 b s l) := by
  unfold Host.gather
  congr 1
  funext a
  refine Fin.ext ?_
  show (gather_S8x2049x256_S2048x1_S8x2048x256_02_1_n_n_1_1_81256).start (ix3 b t l) idx a + (gather_S8x2049x256_S2048x1_S8x2048x256_02_1_n_n_1_1_81256).batchCoord (ix3 b t l) a
    + (gather_S8x2049x256_S2048x1_S8x2048x256_02_1_n_n_1_1_81256).offCoord (ix3 b t l) a = _
  rw [GatherDims.batchCoord_eq_zero _ _ _ List.not_mem_nil, Nat.add_zero]
  match a with
  | ⟨0, _⟩ =>
    show (gather_S8x2049x256_S2048x1_S8x2048x256_02_1_n_n_1_1_81256).start (ix3 b t l) idx (0 : Fin 3) + (gather_S8x2049x256_S2048x1_S8x2048x256_02_1_n_n_1_1_81256).offCoord (ix3 b t l) (0 : Fin 3) = b.val
    unfold GatherDims.start
    rw [dif_neg (show ¬(0 : Fin 3) ∈ (gather_S8x2049x256_S2048x1_S8x2048x256_02_1_n_n_1_1_81256).startIndexMap by decide), Nat.zero_add]
    rfl
  | ⟨1, _⟩ =>
    show (gather_S8x2049x256_S2048x1_S8x2048x256_02_1_n_n_1_1_81256).start (ix3 b t l) idx (1 : Fin 3) + (gather_S8x2049x256_S2048x1_S8x2048x256_02_1_n_n_1_1_81256).offCoord (ix3 b t l) (1 : Fin 3) = s.val
    rw [GatherDims.offCoord_eq_zero _ _ _ (fun h => ((GatherDims.mem_sKept _ _).mp h).1 (List.mem_singleton.mpr rfl)), Nat.add_zero]
    unfold GatherDims.start
    rw [dif_pos (show (1 : Fin 3) ∈ (gather_S8x2049x256_S2048x1_S8x2048x256_02_1_n_n_1_1_81256).startIndexMap by decide)]
    refine Eq.trans ?_ (nat_words s)
    rw [← h]
    refine congrArg (fun q => min (idx q).toInt.toNat 2048) ?_
    funext q
    refine Fin.ext ?_
    match q with
    | ⟨0, _⟩ => rfl
    | ⟨1, _⟩ => rfl
  | ⟨2, _⟩ =>
    show (gather_S8x2049x256_S2048x1_S8x2048x256_02_1_n_n_1_1_81256).start (ix3 b t l) idx (2 : Fin 3) + (gather_S8x2049x256_S2048x1_S8x2048x256_02_1_n_n_1_1_81256).offCoord (ix3 b t l) (2 : Fin 3) = l.val
    unfold GatherDims.start
    rw [dif_neg (show ¬(2 : Fin 3) ∈ (gather_S8x2049x256_S2048x1_S8x2048x256_02_1_n_n_1_1_81256).startIndexMap by decide), Nat.zero_add]
    rfl

theorem takeV_apply (y : FVec Ideal S8x2049x256 .f32) (st : IVec S2048 32) (s : Fin 2048 → Fin 2049) (h : ∀ t, st (ix1 t) = BitVec.ofNat 32 (s t).val)
    (b : Fin 8) (t : Fin 2048) (l : Fin 256) : takeV y st (ix3 b t l) = y (ix3 b (s t) l) := by
  have hm := Host.reduce_andi_one (takeIn st) (constantI S_ 1 1#1) reducesTo_S2048x1_S2048_d1 h_S_ (ix1 t) rfl (takeIn_one st s h)
  have hg := gather_apply y (takeIdx st) b t l (s t) (takeIdx_apply st t (s t) (h t))
  unfold takeV
  generalize Host.reduce IntOp.andi (takeIn st) (constantI S_ 1 1#1) reducesTo_S2048x1_S2048_d1 h_S_ = mk at hm ⊢
  generalize (Host.gather gather_S8x2049x256_S2048x1_S8x2048x256_02_1_n_n_1_1_81256 y (takeIdx st) : FVec Ideal S8x2048x256 .f32) = gv at hg ⊢
  rw [← hg]
  show Scalar.select (broadcastInDim S8x2048x256 ![1] bcast_S2048_S8x2048x256_1 mk (ix3 b t l)) _ _ = _
  rw [broadcastInDim_apply _ bcast_S2048_S8x2048x256_1 mk (ix3 b t l) (ix1 t) (fun a => match a with | ⟨0, _⟩ => rfl), hm]
  rfl

/-! ### One channel group -/

/-- A channel group's window mean minus token, as the reference writes it. -/
def grpV (cs : FVec Ideal S8x2049x1024 .f32) (h : FVec Ideal S8x2048x1024 .f32) (o : ℕ) (w : BitVec 32)
    (h1 : S8x2049x1024.Slices ![0, 1, o] S8x2048x256) (h2 : S8x2049x1024.Slices ![0, 0, o] S8x2049x256) (h3 : S8x2048x1024.Slices ![0, 0, o] S8x2048x256) : FVec Ideal S8x2048x256 .f32 :=
  subf (Host.divf (subf (extractStridedSlice S8x2048x256 ![0, 1, o] cs h1) (takeV (extractStridedSlice S8x2049x256 ![0, 0, o] cs h2) (startV w)))
    (broadcastInDim S8x2048x256 ![0, 1, 2] bcast_S1x2048x1_S8x2048x256_0_1_2 (broadcastInDim S1x2048x1 ![1] bcast_S2048_S1x2048x1_1 (sitofp .f32 (lenV w) : FVec Ideal S2048 .f32))))
    (extractStridedSlice S8x2048x256 ![0, 0, o] h h3)

/-- It is the mean of the window's rows, the token's own row subtracted. -/
theorem grpV_apply (cs : FVec Ideal S8x2049x1024 .f32) (h : FVec Ideal S8x2048x1024 .f32) (hr : ∀ b d i, ∃ r : ℝ, colOf h b d i = r)
    (hcs : ∀ b k d, cs (ix3 b k d) = ∑ i ∈ Finset.range k.val, colOf h b d i) (g : Fin 4) (o : ℕ) (ho : o + 256 ≤ 1024)
    (h1 : S8x2049x1024.Slices ![0, 1, o] S8x2048x256) (h2 : S8x2049x1024.Slices ![0, 0, o] S8x2049x256) (h3 : S8x2048x1024.Slices ![0, 0, o] S8x2048x256)
    (b : Fin 8) (t : Fin 2048) (l : Fin 256) :
    grpV cs h o (BitVec.ofNat 32 (2 ^ (g.val + 1))) h1 h2 h3 (ix3 b t l)
      = Ideal.div (∑ j ∈ Finset.range (min (t.val + 1) (2 ^ (g.val + 1))), colOf h b ⟨o + l.val, by omega⟩ (t.val - j))
          (FloatOps.sitofp (F := Ideal) .f32 (BitVec.ofNat 32 (min (t.val + 1) (2 ^ (g.val + 1))))) - colOf h b ⟨o + l.val, by omega⟩ t.val := by
  have ht := t.isLt
  have hl := l.isLt
  have e1 : extractStridedSlice S8x2048x256 ![0, 1, o] cs h1 (ix3 b t l) = ∑ i ∈ Finset.range (t.val + 1), colOf h b ⟨o + l.val, by omega⟩ i := by
    rw [extractStridedSlice_apply ![0, 1, o] cs h1 (ix3 b t l) (ix3 b ⟨t.val + 1, by omega⟩ ⟨o + l.val, by omega⟩) (fun a => match a with
      | ⟨0, _⟩ => (Nat.zero_add _).symm
      | ⟨1, _⟩ => Nat.add_comm _ _
      | ⟨2, _⟩ => rfl), hcs]
  have e2 : takeV (extractStridedSlice S8x2049x256 ![0, 0, o] cs h2) (startV (BitVec.ofNat 32 (2 ^ (g.val + 1)))) (ix3 b t l)
      = ∑ i ∈ Finset.range (t.val + 1 - 2 ^ (g.val + 1)), colOf h b ⟨o + l.val, by omega⟩ i := by
    rw [takeV_apply _ _ (fun t => ⟨t.val + 1 - 2 ^ (g.val + 1), Nat.lt_of_le_of_lt (Nat.sub_le _ _) (by have := t.isLt; omega)⟩) (fun t => startV_apply g t),
      extractStridedSlice_apply ![0, 0, o] cs h2 _ (ix3 b ⟨t.val + 1 - 2 ^ (g.val + 1), Nat.lt_of_le_of_lt (Nat.sub_le _ _) (by omega)⟩ ⟨o + l.val, by omega⟩) (fun a => match a with
      | ⟨0, _⟩ => (Nat.zero_add _).symm
      | ⟨1, _⟩ => (Nat.zero_add _).symm
      | ⟨2, _⟩ => rfl), hcs]
  have e3 : extractStridedSlice S8x2048x256 ![0, 0, o] h h3 (ix3 b t l) = colOf h b ⟨o + l.val, by omega⟩ t.val := by
    rw [extractStridedSlice_apply ![0, 0, o] h h3 _ (ix3 b t ⟨o + l.val, by omega⟩) (fun a => match a with
      | ⟨0, _⟩ => (Nat.zero_add _).symm
      | ⟨1, _⟩ => (Nat.zero_add _).symm
      | ⟨2, _⟩ => rfl)]
    refine congrArg h (funext fun a => Fin.ext ?_)
    match a with
    | ⟨0, _⟩ => rfl
    | ⟨1, _⟩ => exact (Nat.mod_eq_of_lt ht).symm
    | ⟨2, _⟩ => rfl
  have e4 : broadcastInDim S8x2048x256 ![0, 1, 2] bcast_S1x2048x1_S8x2048x256_0_1_2 (broadcastInDim S1x2048x1 ![1] bcast_S2048_S1x2048x1_1 (sitofp .f32 (lenV (BitVec.ofNat 32 (2 ^ (g.val + 1)))) : FVec Ideal S2048 .f32)) (ix3 b t l)
      = FloatOps.sitofp (F := Ideal) .f32 (BitVec.ofNat 32 (min (t.val + 1) (2 ^ (g.val + 1)))) := by
    rw [← lenV_apply g t]
    generalize lenV (BitVec.ofNat 32 (2 ^ (g.val + 1))) = y
    rw [broadcastInDim_apply _ bcast_S1x2048x1_S8x2048x256_0_1_2 _ (ix3 b t l) (ix3 0 t 0) (fun a => match a with | ⟨0, _⟩ => rfl | ⟨1, _⟩ => rfl | ⟨2, _⟩ => rfl),
      broadcastInDim_apply _ bcast_S2048_S1x2048x1_1 _ (ix3 0 t 0) (ix1 t) (fun a => match a with | ⟨0, _⟩ => rfl)]
    rfl
  show Ideal.div (extractStridedSlice S8x2048x256 ![0, 1, o] cs h1 (ix3 b t l) - takeV (extractStridedSlice S8x2049x256 ![0, 0, o] cs h2) (startV (BitVec.ofNat 32 (2 ^ (g.val + 1)))) (ix3 b t l))
    (broadcastInDim S8x2048x256 ![0, 1, 2] bcast_S1x2048x1_S8x2048x256_0_1_2 (broadcastInDim S1x2048x1 ![1] bcast_S2048_S1x2048x1_1 (sitofp .f32 (lenV (BitVec.ofNat 32 (2 ^ (g.val + 1)))) : FVec Ideal S2048 .f32)) (ix3 b t l))
    - extractStridedSlice S8x2048x256 ![0, 0, o] h h3 (ix3 b t l) = _
  rw [e1, e2, e3, e4, window_sum _ (hr b _) _ _ (Nat.sub_le _ _), show t.val + 1 - (t.val + 1 - 2 ^ (g.val + 1)) = min (t.val + 1) (2 ^ (g.val + 1)) by generalize 2 ^ (g.val + 1) = w; omega]

end Cert.ReferenceIdeal.Pool

end
-- ==== Proof.PoolRef.lean ====
/- The reference's pooling layer row by row, as functions of its arguments. -/
module

public import proofs.«01_k».proof.Proof.PoolTake
public import proofs.«01_k».proof.Proof.PoolRows

@[expose] public section

noncomputable section

namespace Cert.ReferenceIdeal.Pool

open Cert.ReferenceIdeal Cert.ReferenceIdeal.Gen Cert.ReferenceIdeal.Read Idealize.ShloMosaic Idealize.ShloMosaic.TcCoe Idealize.ShloMosaic.Pointwise
open Cert.KernelIdeal.Pool (Ops rmsRow mixS cnt gated grp lane col)

/-- The layer's operands in the reference's arguments. -/
def opsR (x0 : FVec Ideal S8x2048x1024 .f32) (x1 x2 : FVec Ideal S4x1024 .f32) (x3 : FVec Ideal S2x4x256x256 .f32) (x4 : FVec Ideal S2x1024 .f32)
    (x5 : FVec Ideal S4x1024x5632 .f32) (x6 : FVec Ideal S4x2816x1024 .f32) : Ops where
  X R d := x0 (ix3 ⟨R / 2048 % 8, Nat.mod_lt _ (by decide)⟩ ⟨R % 2048, Nat.mod_lt _ (by decide)⟩ d)
  gm d := x1 (ix2 0 d)
  gf d := x2 (ix2 0 d)
  pw g k l := x3 (ix4 0 g k l)
  ps d := x4 (ix2 0 d)
  gu k f := x5 (ix3 0 k f)
  dn f e := x6 (ix3 0 f e)

/-! ### The two norms -/

/-- The first row of a stack of norm weights, on every row. -/
def gainV (g : FVec Ideal S4x1024 .f32) : FVec Ideal S8x2048x1024 .f32 :=
  broadcastInDim S8x2048x1024 ![0, 1, 2] bcast_S1x1x1024_S8x2048x1024_0_1_2 (broadcastInDim S1x1x1024 ![2] bcast_S1024_S1x1x1024_2
    (shapeCast S1024 (extractStridedSlice S1x1024 ![0, 0] g slices_S4x1024_S1x1024_0_0) shapeCasts_S1x1024_S1024))

theorem gainV_apply (g : FVec Ideal S4x1024 .f32) (b : Fin 8) (t : Fin 2048) (d : Fin 1024) : gainV g (ix3 b t d) = g (ix2 0 d) := by
  pointwise [gainV]

/-- The rows' norm as the reference writes it. -/
def normV (x : FVec Ideal S8x2048x1024 .f32) (g : FVec Ideal S4x1024 .f32) : FVec Ideal S8x2048x1024 .f32 :=
  mulf (mulf x (broadcastInDim S8x2048x1024 ![0, 1, 2] bcast_S8x2048x1_S8x2048x1024_0_1_2 (Host.rsqrt (addf
    (Host.divf (broadcastInDim S8x2048x1 ![0, 1] bcast_S8x2048_S8x2048x1_0_1 (Host.reduceAdd (mulf x x) (constant S_ .f32 0x00000000#32) reducesTo_S8x2048x1024_S8x2048_d2 h_S_ : FVec Ideal S8x2048 .f32))
      (broadcastInDim S8x2048x1 ![] bcast_S_S8x2048x1 (constant S_ .f32 0x44800000#32)))
    (broadcastInDim S8x2048x1 ![] bcast_S_S8x2048x1 (constant S_ .f32 0x358637BD#32)))))) (gainV g)

theorem normV_apply (x : FVec Ideal S8x2048x1024 .f32) (g : FVec Ideal S4x1024 .f32) (b : Fin 8) (t : Fin 2048) (d : Fin 1024) :
    normV x g (ix3 b t d) = rmsRow (fun k => x (ix3 b t k)) (fun k => g (ix2 0 k)) d := by
  rw [show normV x g (ix3 b t d) = _ * gainV g (ix3 b t d) from rfl, gainV_apply]
  unfold rmsRow
  pointwise []

/-! ### The mixer -/

/-- The four groups' means in one array, at a group. -/
theorem stack_apply (a0 a1 a2 a3 : FVec Ideal S8x2048x256 .f32) (f : Fin 4 → Fin 8 → Fin 2048 → Fin 256 → EReal)
    (h0 : ∀ b t c, a0 (ix3 b t c) = f 0 b t c) (h1 : ∀ b t c, a1 (ix3 b t c) = f 1 b t c) (h2 : ∀ b t c, a2 (ix3 b t c) = f 2 b t c) (h3 : ∀ b t c, a3 (ix3 b t c) = f 3 b t c)
    (b : Fin 8) (t : Fin 2048) (g : Fin 4) (c : Fin 256) :
    (concatenate S8x2048x4x256 2 [⟨S8x2048x1x256, (broadcastInDim S8x2048x1x256 ![0, 1, 3] bcast_S8x2048x256_S8x2048x1x256_0_1_3 a0 : FVec Ideal S8x2048x1x256 .f32)⟩,
      ⟨S8x2048x1x256, (broadcastInDim S8x2048x1x256 ![0, 1, 3] bcast_S8x2048x256_S8x2048x1x256_0_1_3 a1 : FVec Ideal S8x2048x1x256 .f32)⟩,
      ⟨S8x2048x1x256, (broadcastInDim S8x2048x1x256 ![0, 1, 3] bcast_S8x2048x256_S8x2048x1x256_0_1_3 a2 : FVec Ideal S8x2048x1x256 .f32)⟩,
      ⟨S8x2048x1x256, (broadcastInDim S8x2048x1x256 ![0, 1, 3] bcast_S8x2048x256_S8x2048x1x256_0_1_3 a3 : FVec Ideal S8x2048x1x256 .f32)⟩]
      concatenates_S8x2048x1x256_S8x2048x1x256_S8x2048x1x256_S8x2048x1x256_S8x2048x4x256_d2 : FVec Ideal S8x2048x4x256 .f32) (ix4 b t g c) = f g b t c := by
  match g with
  | ⟨0, _⟩ => refine Eq.trans ?_ (h0 b t c); pointwise []
  | ⟨1, _⟩ => refine Eq.trans ?_ (h1 b t c); pointwise []
  | ⟨2, _⟩ => refine Eq.trans ?_ (h2 b t c); pointwise []
  | ⟨3, _⟩ => refine Eq.trans ?_ (h3 b t c); pointwise []

/-- The pooling weights' product, reshaped back to rows of channels. -/
def mixOut (w : FVec Ideal S2x4x256x256 .f32) (d : FVec Ideal S8x2048x4x256 .f32) : FVec Ideal S8x2048x1024 .f32 :=
  shapeCast S8x2048x1024 (transpose S8x2048x4x256 [2, 3, 0, 1] (Host.dotGeneral dot_S4x256x256_S8x2048x4x256_S4x256x8x2048_1_3_2_01_0_2 none
    (shapeCast S4x256x256 (extractStridedSlice S1x4x256x256 ![0, 0, 0, 0] w slices_S2x4x256x256_S1x4x256x256_0_0_0_0) shapeCasts_S1x4x256x256_S4x256x256) d : FVec Ideal S4x256x8x2048 .f32)
    transposes_S4x256x8x2048_S8x2048x4x256_2_3_0_1) shapeCasts_S8x2048x4x256_S8x2048x1024

/-- The pooling scale, on every row. -/
def scaleV (s : FVec Ideal S2x1024 .f32) : FVec Ideal S8x2048x1024 .f32 :=
  broadcastInDim S8x2048x1024 ![0, 1, 2] bcast_S1x1x1024_S8x2048x1024_0_1_2 (broadcastInDim S1x1x1024 ![2] bcast_S1024_S1x1x1024_2
    (shapeCast S1024 (extractStridedSlice S1x1024 ![0, 0] s slices_S2x1024_S1x1024_0_0) shapeCasts_S1x1024_S1024))

theorem scaleV_apply (s : FVec Ideal S2x1024 .f32) (b : Fin 8) (t : Fin 2048) (d : Fin 1024) : scaleV s (ix3 b t d) = s (ix2 0 d) := by
  pointwise [scaleV]

/-! ### A normed row is real -/

theorem mean_word : Ideal.ofBits .f32 0x44800000#32 = ((1024 : ℝ) : EReal) := by
  have h : (8388608 : ℝ) * (2 ^ 13)⁻¹ = 1024 := by norm_num
  simp [Ideal.ofBits, Ideal.ieee]
  rw [← EReal.coe_mul, h]

theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem sum_coe {n : ℕ} (f : Fin n → ℝ) : ∑ k, ((f k : ℝ) : EReal) = ((∑ k, f k : ℝ) : EReal) := by
  induction (Finset.univ : Finset (Fin n)) using Finset.induction_on with
  | empty => simp
  | insert a u ha ih => rw [Finset.sum_insert ha, Finset.sum_insert ha, ih, EReal.coe_add]

theorem sq_nonneg' (x : EReal) : 0 ≤ x * x := by
  induction x with
  | bot => simp
  | top => simp
  | coe r => rw [← EReal.coe_mul]; exact EReal.coe_nonneg.mpr (mul_self_nonneg r)

/-- A row's norm is a real wherever its weight is: an infinite entry makes the row's scale zero. -/
theorem rmsRow_real (x g : Fin 1024 → EReal) (d : Fin 1024) (hg : ∃ r : ℝ, g d = r) : ∃ r : ℝ, rmsRow x g d = r := by
  obtain ⟨γ, hγ⟩ := hg
  obtain ⟨e, he, hE⟩ := eps_word
  unfold rmsRow
  rw [hγ, hE, mean_word]
  by_cases h : ∀ k, ∃ r : ℝ, x k = r
  · choose r hr using h
    have hS : ∑ k, x k * x k = ((∑ k, r k * r k : ℝ) : EReal) := by
      rw [← sum_coe]
      exact Finset.sum_congr rfl fun k _ => by rw [hr, EReal.coe_mul]
    have h0 : (0 : ℝ) ≤ ∑ k, r k * r k := Finset.sum_nonneg fun k _ => mul_self_nonneg _
    have hd : Ideal.div ((∑ k, r k * r k : ℝ) : EReal) ((1024 : ℝ) : EReal) = (((∑ k, r k * r k) * (1024 : ℝ)⁻¹ : ℝ) : EReal) := by
      unfold Ideal.div
      rw [if_neg (by norm_num), ← EReal.coe_inv, ← EReal.coe_mul]
    have hp : (0 : ℝ) < (∑ k, r k * r k) * (1024 : ℝ)⁻¹ + e := by positivity
    rw [hS, hd, ← EReal.coe_add, Ideal.rsqrt_coe, if_neg (not_lt.mpr hp.le), if_neg hp.ne', hr]
    exact ⟨_, by rw [← EReal.coe_mul, ← EReal.coe_mul]⟩
  · push Not at h
    obtain ⟨k, hk⟩ := h
    have hkk : x k * x k = ⊤ := by
      generalize x k = y at hk ⊢
      induction y with
      | bot => simp
      | top => simp
      | coe r => exact absurd rfl (hk r)
    have hS : ∑ k, x k * x k = ⊤ := top_le_iff.mp (hkk ▸ Finset.single_le_sum (f := fun k => x k * x k) (fun i _ => sq_nonneg' (x i)) (Finset.mem_univ k))
    have hd : Ideal.div ⊤ ((1024 : ℝ) : EReal) = ⊤ := by
      unfold Ideal.div
      rw [if_neg (by norm_num), ← EReal.coe_inv]
      exact EReal.top_mul_coe_of_pos (by norm_num)
    rw [hS, hd, EReal.top_add_coe, Ideal.rsqrt_top, mul_zero, zero_mul]
    exact ⟨0, rfl⟩

/-! ### The layer -/

variable (x0 : FVec Ideal S8x2048x1024 .f32) (x1 x2 : FVec Ideal S4x1024 .f32) (x3 : FVec Ideal S2x4x256x256 .f32) (x4 : FVec Ideal S2x1024 .f32)
  (x5 : FVec Ideal S4x1024x5632 .f32) (x6 : FVec Ideal S4x2816x1024 .f32)

/-- The flat number of a row. -/
abbrev flat (b : Fin 8) (t : Fin 2048) : ℕ := 2048 * b.val + t.val

theorem opsR_X (b : Fin 8) (t : Fin 2048) (d : Fin 1024) : (opsR x0 x1 x2 x3 x4 x5 x6).X (flat b t) d = x0 (ix3 b t d) := by
  have hb := b.isLt
  have ht := t.isLt
  refine congrArg x0 (funext fun a => Fin.ext ?_)
  match a with
  | ⟨0, _⟩ => show (2048 * b.val + t.val) / 2048 % 8 = b.val; omega
  | ⟨1, _⟩ => show (2048 * b.val + t.val) % 2048 = t.val; omega
  | ⟨2, _⟩ => rfl

theorem v14_eq : val_main_v14 (F := Ideal) x0 x1 = normV x0 x1 := rfl

theorem v14_apply (b : Fin 8) (t : Fin 2048) (d : Fin 1024) : val_main_v14 (F := Ideal) x0 x1 (ix3 b t d) = (opsR x0 x1 x2 x3 x4 x5 x6).hRow (flat b t) d := by
  rw [v14_eq, normV_apply]
  unfold Ops.hRow
  congr 1
  exact funext fun k => (opsR_X x0 x1 x2 x3 x4 x5 x6 b t k).symm

theorem colOf_apply (b : Fin 8) (d : Fin 1024) (i : ℕ) (hi : i < 2048) :
    colOf (val_main_v14 (F := Ideal) x0 x1) b d i = (opsR x0 x1 x2 x3 x4 x5 x6).hRow (2048 * b.val + i) d := by
  rw [← v14_apply x0 x1 x2 x3 x4 x5 x6 b ⟨i, hi⟩ d]
  unfold colOf
  refine congrArg _ (funext fun a => Fin.ext ?_)
  match a with
  | ⟨0, _⟩ => rfl
  | ⟨1, _⟩ => exact Nat.mod_eq_of_lt hi
  | ⟨2, _⟩ => rfl

theorem colOf_real (hf : ∀ d, ∃ r : ℝ, x1 (ix2 0 d) = r) (b : Fin 8) (d : Fin 1024) (i : ℕ) : ∃ r : ℝ, colOf (val_main_v14 (F := Ideal) x0 x1) b d i = r := by
  unfold colOf
  rw [v14_eq, normV_apply]
  exact rmsRow_real _ _ _ (hf d)

theorem v21_apply (b : Fin 8) (k : Fin 2049) (d : Fin 1024) :
    val_main_v21 (F := Ideal) x0 x1 (ix3 b k d) = ∑ i ∈ Finset.range k.val, colOf (val_main_v14 (F := Ideal) x0 x1) b d i :=
  csum_apply (val_main_v14 (F := Ideal) x0 x1) (val_main_v19 (F := Ideal)) (fun i => by
    rw [val_main_v19_apply]; exact Ideal.ofBits_zero_f32) (val_main_call0_call0_v0 (F := Ideal)) (by
    rw [val_main_call0_call0_v0_apply]; exact Ideal.ofBits_zero_f32) b k d

/-- One entry of the four groups' means minus tokens. -/
def meanOf (P : Ops) (g : Fin 4) (b : Fin 8) (t : Fin 2048) (c : Fin 256) : EReal :=
  Ideal.div (∑ j ∈ Finset.range (2 ^ (g.val + 1)), P.past (flat b t) j (col g c)) (cnt (min (t.val + 1) (2 ^ (g.val + 1)))) - P.past (flat b t) 0 (col g c)

/-- A group's entry as the running sums give it. -/
theorem meanOf_eq (g : Fin 4) (o : ℕ) (ho : o = 256 * g.val) (b : Fin 8) (t : Fin 2048) (c : Fin 256) (hc : o + c.val < 1024) :
    Ideal.div (∑ j ∈ Finset.range (min (t.val + 1) (2 ^ (g.val + 1))), colOf (val_main_v14 (F := Ideal) x0 x1) b ⟨o + c.val, hc⟩ (t.val - j))
          (FloatOps.sitofp (F := Ideal) .f32 (BitVec.ofNat 32 (min (t.val + 1) (2 ^ (g.val + 1))))) - colOf (val_main_v14 (F := Ideal) x0 x1) b ⟨o + c.val, hc⟩ t.val
      = meanOf (opsR x0 x1 x2 x3 x4 x5 x6) g b t c := by
  subst ho
  have ht := t.isLt
  have hm : (2048 * b.val + t.val) % 2048 = t.val := by omega
  unfold meanOf Ops.past cnt
  rw [hm, if_pos (Nat.zero_le _), colOf_apply x0 x1 x2 x3 x4 x5 x6 b _ _ ht]
  congr 2
  rw [← Finset.sum_filter_add_sum_filter_not (Finset.range (2 ^ (g.val + 1))) (fun j => j ≤ t.val),
    Finset.sum_eq_zero (s := Finset.filter (fun j => ¬ j ≤ t.val) _) (fun j hj => if_neg (Finset.mem_filter.mp hj).2), add_zero]
  refine Finset.sum_congr (Finset.ext fun j => ?_) fun j hj => ?_
  · rw [Finset.mem_filter, Finset.mem_range, Finset.mem_range]
    generalize 2 ^ (g.val + 1) = w
    omega
  · have hj' := (Finset.mem_filter.mp hj).2
    rw [if_pos hj', colOf_apply x0 x1 x2 x3 x4 x5 x6 b _ _ (by omega)]
    congr 1
    show 2048 * b.val + (t.val - j) = 2048 * b.val + t.val - j
    omega

variable (hf : ∀ d, ∃ r : ℝ, x1 (ix2 0 d) = r)
include hf

theorem v41_apply (b : Fin 8) (t : Fin 2048) (c : Fin 256) : val_main_v41 (F := Ideal) x0 x1 (ix3 b t c) = meanOf (opsR x0 x1 x2 x3 x4 x5 x6) 0 b t c :=
  (grpV_apply (val_main_v21 (F := Ideal) x0 x1) (val_main_v14 (F := Ideal) x0 x1) (colOf_real x0 x1 hf) (v21_apply x0 x1) 0 0 (by omega)
    slices_S8x2049x1024_S8x2048x256_0_1_0 slices_S8x2049x1024_S8x2049x256_0_0_0 slices_S8x2048x1024_S8x2048x256_0_0_0 b t c).trans (meanOf_eq x0 x1 x2 x3 x4 x5 x6 0 0 rfl b t c _)
theorem v60_apply (b : Fin 8) (t : Fin 2048) (c : Fin 256) : val_main_v60 (F := Ideal) x0 x1 (ix3 b t c) = meanOf (opsR x0 x1 x2 x3 x4 x5 x6) 1 b t c :=
  (grpV_apply (val_main_v21 (F := Ideal) x0 x1) (val_main_v14 (F := Ideal) x0 x1) (colOf_real x0 x1 hf) (v21_apply x0 x1) 1 256 (by omega)
    slices_S8x2049x1024_S8x2048x256_0_1_256 slices_S8x2049x1024_S8x2049x256_0_0_256 slices_S8x2048x1024_S8x2048x256_0_0_256 b t c).trans (meanOf_eq x0 x1 x2 x3 x4 x5 x6 1 256 rfl b t c _)
theorem v79_apply (b : Fin 8) (t : Fin 2048) (c : Fin 256) : val_main_v79 (F := Ideal) x0 x1 (ix3 b t c) = meanOf (opsR x0 x1 x2 x3 x4 x5 x6) 2 b t c :=
  (grpV_apply (val_main_v21 (F := Ideal) x0 x1) (val_main_v14 (F := Ideal) x0 x1) (colOf_real x0 x1 hf) (v21_apply x0 x1) 2 512 (by omega)
    slices_S8x2049x1024_S8x2048x256_0_1_512 slices_S8x2049x1024_S8x2049x256_0_0_512 slices_S8x2048x1024_S8x2048x256_0_0_512 b t c).trans (meanOf_eq x0 x1 x2 x3 x4 x5 x6 2 512 rfl b t c _)
theorem v98_apply (b : Fin 8) (t : Fin 2048) (c : Fin 256) : val_main_v98 (F := Ideal) x0 x1 (ix3 b t c) = meanOf (opsR x0 x1 x2 x3 x4 x5 x6) 3 b t c :=
  (grpV_apply (val_main_v21 (F := Ideal) x0 x1) (val_main_v14 (F := Ideal) x0 x1) (colOf_real x0 x1 hf) (v21_apply x0 x1) 3 768 (by omega)
    slices_S8x2049x1024_S8x2048x256_0_1_768 slices_S8x2049x1024_S8x2049x256_0_0_768 slices_S8x2048x1024_S8x2048x256_0_0_768 b t c).trans (meanOf_eq x0 x1 x2 x3 x4 x5 x6 3 768 rfl b t c _)

theorem v103_apply (b : Fin 8) (t : Fin 2048) (g : Fin 4) (c : Fin 256) :
    val_main_v103 (F := Ideal) x0 x1 (ix4 b t g c) = meanOf (opsR x0 x1 x2 x3 x4 x5 x6) g b t c :=
  stack_apply (val_main_v41 (F := Ideal) x0 x1) (val_main_v60 (F := Ideal) x0 x1) (val_main_v79 (F := Ideal) x0 x1) (val_main_v98 (F := Ideal) x0 x1)
    (meanOf (opsR x0 x1 x2 x3 x4 x5 x6)) (v41_apply x0 x1 x2 x3 x4 x5 x6 hf) (v60_apply x0 x1 x2 x3 x4 x5 x6 hf) (v79_apply x0 x1 x2 x3 x4 x5 x6 hf)
    (v98_apply x0 x1 x2 x3 x4 x5 x6 hf) b t g c

omit hf in
theorem v16_at (g : Fin 4) (k l : Fin 256) : val_main_v16 (F := Ideal) x3 (ix3 g k l) = x3 (ix4 0 g k l) := by
  unfold val_main_v16 val_main_v15
  pointwise []

/-- A row after the mixer. -/
theorem v110_apply' (b : Fin 8) (t : Fin 2048) (e : Fin 1024) :
    val_main_v110 (F := Ideal) x0 x1 x3 x4 (ix3 b t e) = (opsR x0 x1 x2 x3 x4 x5 x6).x1Row (flat b t) e := by
  have hb := b.isLt
  have ht := t.isLt
  have he := e.isLt
  have hm : (2048 * b.val + t.val) % 2048 = t.val := by omega
  have hy : val_main_v106 (F := Ideal) x0 x1 x3 (ix3 b t e) = ∑ c, meanOf (opsR x0 x1 x2 x3 x4 x5 x6) (grp e) b t c * x3 (ix4 0 (grp e) c (lane e)) := by
    rw [val_main_v106_apply, val_main_v105_apply, val_main_v104_apply]
    refine Finset.sum_congr rfl fun c _ => ?_
    rw [mul_comm, ← v103_apply x0 x1 x2 x3 x4 x5 x6 hf, ← v16_at x3]
    refine congrArg₂ (· * ·) (congrArg _ (funext fun a => Fin.ext ?_)) (congrArg _ (funext fun a => Fin.ext ?_))
    · match a with
      | ⟨0, _⟩ => show ((b.val * 2048 + t.val) * 1024 + e.val) / 2097152 = b.val; omega
      | ⟨1, _⟩ => show ((b.val * 2048 + t.val) * 1024 + e.val) / 1024 % 2048 = t.val; omega
      | ⟨2, _⟩ => show ((b.val * 2048 + t.val) * 1024 + e.val) / 256 % 4 = e.val / 256; omega
      | ⟨3, _⟩ => rfl
    · match a with
      | ⟨0, _⟩ => show ((b.val * 2048 + t.val) * 1024 + e.val) / 256 % 4 = e.val / 256; omega
      | ⟨1, _⟩ => rfl
      | ⟨2, _⟩ => show ((b.val * 2048 + t.val) * 1024 + e.val) % 256 = e.val % 256; omega
  have hs : val_main_v108 (F := Ideal) x4 (ix3 b t e) = x4 (ix2 0 e) := scaleV_apply x4 b t e
  show x0 (ix3 b t e) + val_main_v106 (F := Ideal) x0 x1 x3 (ix3 b t e) * val_main_v108 (F := Ideal) x4 (ix3 b t e) = _
  rw [hy, hs, ← opsR_X x0 x1 x2 x3 x4 x5 x6 b t e]
  unfold Ops.x1Row mixS
  rw [hm]
  rfl

theorem v125_at (b : Fin 8) (t : Fin 2048) (k : Fin 1024) :
    val_main_v125 (F := Ideal) x0 x1 x2 x3 x4 (ix3 b t k) = (opsR x0 x1 x2 x3 x4 x5 x6).hfRow (flat b t) k := by
  show normV (val_main_v110 (F := Ideal) x0 x1 x3 x4) x2 (ix3 b t k) = _
  rw [normV_apply]
  unfold Ops.hfRow
  congr 1
  exact funext fun d => v110_apply' x0 x1 x2 x3 x4 x5 x6 hf b t d

omit hf in
theorem v127_at (k : Fin 1024) (f : Fin 5632) : val_main_v127 (F := Ideal) x5 (ix2 k f) = x5 (ix3 0 k f) := by
  unfold val_main_v127 val_main_v126
  pointwise []

omit hf in
theorem v129_at (f : Fin 2816) (e : Fin 1024) : val_main_v129 (F := Ideal) x6 (ix2 f e) = x6 (ix3 0 f e) := by
  unfold val_main_v129 val_main_v128
  pointwise []

theorem v130_at (b : Fin 8) (t : Fin 2048) (f : Fin 5632) :
    val_main_v130 (F := Ideal) x0 x1 x2 x3 x4 x5 (ix3 b t f) = ∑ k, (opsR x0 x1 x2 x3 x4 x5 x6).hfRow (flat b t) k * x5 (ix3 0 k f) := by
  rw [val_main_v130_apply]
  refine Finset.sum_congr rfl fun k _ => ?_
  rw [← v125_at x0 x1 x2 x3 x4 x5 x6 hf, ← v127_at x5]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

theorem v134_at (b : Fin 8) (t : Fin 2048) (f : Fin 2816) :
    val_main_v134 (F := Ideal) x0 x1 x2 x3 x4 x5 (ix3 b t f) = (opsR x0 x1 x2 x3 x4 x5 x6).actRow (flat b t) f := by
  have hG : val_main_v131 (F := Ideal) x0 x1 x2 x3 x4 x5 (ix3 b t f) = val_main_v130 (F := Ideal) x0 x1 x2 x3 x4 x5 (ix3 b t ⟨f.val, by omega⟩) := by
    rw [val_main_v131_apply]
    refine congrArg _ (funext fun a => Fin.ext ?_)
    match a with
    | ⟨0, _⟩ => first | rfl | exact Nat.zero_add _
    | ⟨1, _⟩ => first | rfl | exact Nat.zero_add _
    | ⟨2, _⟩ => first | rfl | exact Nat.zero_add _
  have hU : val_main_v132 (F := Ideal) x0 x1 x2 x3 x4 x5 (ix3 b t f) = val_main_v130 (F := Ideal) x0 x1 x2 x3 x4 x5 (ix3 b t ⟨2816 + f.val, by omega⟩) := by
    rw [val_main_v132_apply]
    refine congrArg _ (funext fun a => Fin.ext ?_)
    match a with
    | ⟨0, _⟩ => first | rfl | exact Nat.zero_add _
    | ⟨1, _⟩ => first | rfl | exact Nat.zero_add _
    | ⟨2, _⟩ => first | rfl | exact Nat.add_comm _ _
  have h1 : val_main_call5_v2 (F := Ideal) (ix3 b t f) = 1 := by rw [val_main_call5_v2_apply]; exact Ideal.ofBits_one_f32
  have h2 : val_main_call5_v4 (F := Ideal) (ix3 b t f) = 1 := by rw [val_main_call5_v4_apply]; exact Ideal.ofBits_one_f32
  show val_main_v131 (F := Ideal) x0 x1 x2 x3 x4 x5 (ix3 b t f) * Ideal.div (val_main_call5_v4 (F := Ideal) (ix3 b t f))
    (val_main_call5_v2 (F := Ideal) (ix3 b t f) + Ideal.exp (-(val_main_v131 (F := Ideal) x0 x1 x2 x3 x4 x5 (ix3 b t f)))) * val_main_v132 (F := Ideal) x0 x1 x2 x3 x4 x5 (ix3 b t f) = _
  rw [h1, h2, hG, hU, v130_at x0 x1 x2 x3 x4 x5 x6 hf, v130_at x0 x1 x2 x3 x4 x5 x6 hf]
  unfold Ops.actRow gated
  rw [zero_sub]
  rfl

/-- The layer's output row. -/
theorem v137_at (R : Fin 16384) (e : Fin 1024) :
    val_main_v137 (F := Ideal) x0 x1 x2 x3 x4 x5 x6 (ix2 R e) = (opsR x0 x1 x2 x3 x4 x5 x6).outRow R.val e := by
  have hR := R.isLt
  have he := e.isLt
  have hb : R.val / 2048 < 8 := by omega
  have ht : R.val % 2048 < 2048 := by omega
  have hi : val_main_v137 (F := Ideal) x0 x1 x2 x3 x4 x5 x6 (ix2 R e) = val_main_v136 (F := Ideal) x0 x1 x2 x3 x4 x5 x6 (ix3 ⟨R.val / 2048, hb⟩ ⟨R.val % 2048, ht⟩ e) := by
    rw [val_main_v137_apply]
    refine congrArg _ (funext fun a => Fin.ext ?_)
    match a with
    | ⟨0, _⟩ => show (R.val * 1024 + e.val) / 2097152 = R.val / 2048; omega
    | ⟨1, _⟩ => show (R.val * 1024 + e.val) / 1024 % 2048 = R.val % 2048; omega
    | ⟨2, _⟩ => show (R.val * 1024 + e.val) % 1024 = e.val; omega
  have hfl : flat ⟨R.val / 2048, hb⟩ ⟨R.val % 2048, ht⟩ = R.val := by show 2048 * (R.val / 2048) + R.val % 2048 = R.val; omega
  rw [hi]
  show val_main_v110 (F := Ideal) x0 x1 x3 x4 (ix3 ⟨R.val / 2048, hb⟩ ⟨R.val % 2048, ht⟩ e) + val_main_v135 (F := Ideal) x0 x1 x2 x3 x4 x5 x6 (ix3 ⟨R.val / 2048, hb⟩ ⟨R.val % 2048, ht⟩ e) = _
  rw [v110_apply' x0 x1 x2 x3 x4 x5 x6 hf, hfl, val_main_v135_apply]
  unfold Ops.outRow
  congr 1
  refine Finset.sum_congr rfl fun f _ => ?_
  rw [show (opsR x0 x1 x2 x3 x4 x5 x6).actRow R.val f = (opsR x0 x1 x2 x3 x4 x5 x6).actRow (flat ⟨R.val / 2048, hb⟩ ⟨R.val % 2048, ht⟩) f from by rw [hfl],
    ← v134_at x0 x1 x2 x3 x4 x5 x6 hf, show (opsR x0 x1 x2 x3 x4 x5 x6).dn f e = val_main_v129 (F := Ideal) x6 (ix2 f e) from (v129_at x6 f e).symm]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

omit hf

/-! ### The weights passed on -/

theorem v140_at (k : Fin 1024) (f : Fin 5632) : val_main_v140 (F := Ideal) x5 (ix2 k f) = x5 (ix3 1 k f) := by
  unfold val_main_v140 val_main_v139 val_main_v138
  pointwise []

theorem v143_at (k : Fin 2816) (f : Fin 1024) : val_main_v143 (F := Ideal) x6 (ix2 k f) = x6 (ix3 1 k f) := by
  unfold val_main_v143 val_main_v142 val_main_v141
  pointwise []

theorem v145_at (x7 : FVec Ideal S2x1024x1024 .f32) (k : Fin 2048) (f : Fin 1024) :
    val_main_v145 (F := Ideal) x7 (ix2 k f) = x7 (ix3 ⟨k.val / 1024 % 2, Nat.mod_lt _ (by decide)⟩ ⟨k.val % 1024, Nat.mod_lt _ (by decide)⟩ f) := by
  have hk := k.isLt
  have hf := f.isLt
  show val_main_v144 (F := Ideal) x7 (ix2 k f) = _
  rw [val_main_v144_apply]
  refine congrArg _ (funext fun a => Fin.ext ?_)
  match a with
  | ⟨0, _⟩ => show (k.val * 1024 + f.val) / 1048576 = k.val / 1024 % 2; omega
  | ⟨1, _⟩ => show (k.val * 1024 + f.val) / 1024 % 1024 = k.val % 1024; omega
  | ⟨2, _⟩ => show (k.val * 1024 + f.val) % 1024 = f.val; omega

end Cert.ReferenceIdeal.Pool

end
-- ==== Proof.PoolEq.lean ====
/- The pool layer's claims: the frames, and the kernel's four arrays against the plain layer's, over the extended reals. -/
module

public import proofs.«01_k».proof.Defs
public import proofs.«01_k».proof.Proof.Gen.Kernel.Frame
public import proofs.«01_k».proof.Proof.Gen.KernelIdeal.Frame
public import proofs.«01_k».proof.Proof.PoolFold
public import proofs.«01_k».proof.Proof.PoolRef
public import proofs.«01_k».proof.Proof.Gen.ReferenceIdeal.Run
public import Idealize.ShloMosaic.Lib.Quiescent

@[expose] public section

noncomputable section

namespace Cert.PoolEq

open Idealize.ShloMosaic Idealize.ShloMosaic.Pointwise Idealize.ShloMosaic.StableHlo Idealize.SL.Sem

/-- The predicate's side conditions. -/
instance preFacts : Cert.Pre_finite_norm.Facts := ⟨by decide, by decide, by decide⟩

/-- The predicate says that every weight of the mixer's norm is a real. -/
theorem real_of_pre (x0 : FVec Ideal ⟨3, ![8, 2048, 1024]⟩ .f32) (x1 x2 : FVec Ideal ⟨2, ![4, 1024]⟩ .f32) (x3 : FVec Ideal ⟨4, ![2, 4, 256, 256]⟩ .f32)
    (x4 : FVec Ideal ⟨2, ![2, 1024]⟩ .f32) (x5 : FVec Ideal ⟨3, ![4, 1024, 5632]⟩ .f32) (x6 : FVec Ideal ⟨3, ![4, 2816, 1024]⟩ .f32) (x7 : FVec Ideal ⟨3, ![2, 1024, 1024]⟩ .f32)
    (h : Cert.Pre_finite_norm.fn x0 x1 x2 x3 x4 x5 x6 x7 = fun _ => 1#1) (d : Fin 1024) : ∃ r : ℝ, x1 (ix2 0 d) = r := by
  have e : shapeCast Cert.Pre_finite_norm.S1024 (extractStridedSlice Cert.Pre_finite_norm.S1x1024 ![0, 0] x1 Cert.Pre_finite_norm.Facts.slices_S4x1024_S1x1024_0_0)
      Cert.Pre_finite_norm.Facts.shapeCasts_S1x1024_S1024 (ix1 d) = x1 (ix2 0 d) := by
    pointwise []
  have h1 : BitVec.ofBool (decide (max (shapeCast Cert.Pre_finite_norm.S1024 (extractStridedSlice Cert.Pre_finite_norm.S1x1024 ![0, 0] x1 Cert.Pre_finite_norm.Facts.slices_S4x1024_S1x1024_0_0)
      Cert.Pre_finite_norm.Facts.shapeCasts_S1x1024_S1024 (ix1 d)) (-(shapeCast Cert.Pre_finite_norm.S1024 (extractStridedSlice Cert.Pre_finite_norm.S1x1024 ![0, 0] x1 Cert.Pre_finite_norm.Facts.slices_S4x1024_S1x1024_0_0)
      Cert.Pre_finite_norm.Facts.shapeCasts_S1x1024_S1024 (ix1 d))) < Ideal.ofBits .f32 0x7F800000#32)) = 1#1 := congrFun h (ix1 d)
  rw [e] at h1
  have ht : Ideal.ofBits .f32 0x7F800000#32 = ⊤ := by simp [Ideal.ofBits, Ideal.ieee]
  rw [ht] at h1
  have h2 : max (x1 (ix2 0 d)) (-(x1 (ix2 0 d))) < ⊤ := by
    by_contra hn
    rw [decide_eq_false hn] at h1
    exact absurd h1 (by decide)
  generalize x1 (ix2 0 d) = y at h2
  induction y using EReal.rec with
  | bot => simp at h2
  | top => simp at h2
  | coe r => exact ⟨r, rfl⟩

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_norm := fun m ρ _ => Cert.KernelIdeal.Gen.frame m ρ

/-- The plain layer runs and leaves its arguments; it declares no semaphore. -/
theorem frame_reference : Cert.quiescent_ReferenceIdeal := fun m ρ _ =>
  (θ_run Cert.ReferenceIdeal.defs _ _).mono (fun r h => ⟨fun c => (h c).2.2.2.2, sem_eq_zero_of_no_sems rfl r.2⟩) (Cert.ReferenceIdeal.Value.run m ρ)

theorem frame_reference_pre : Cert.quiescent_ReferenceIdeal_pre_finite_norm := fun m ρ _ => frame_reference m ρ trivial

/-- The kernel's four arrays are the plain layer's output and the three weight arrays it passes on. -/
theorem equal : Cert.algebraic_KernelIdeal_ReferenceIdeal_pre_finite_norm := by
  intro m g m' g' hpre harg
  refine ⟨Cert.KernelIdeal.Value.G11 m, Cert.KernelIdeal.Value.G12 m, Cert.KernelIdeal.Value.G13 m, Cert.KernelIdeal.Value.G14 m, Cert.KernelIdeal.Value.run m g, ?_⟩
  refine (θ_run Cert.ReferenceIdeal.defs _ _).mono (fun r h c => ?_) (Cert.ReferenceIdeal.Value.run m' g')
  obtain ⟨a0, a1, a2, a3, a4, a5, a6, a7⟩ := harg c
  have e0 : launchContents m' c (Proc.devRef .tc Cert.ReferenceIdeal.main_arg0) = m ((c.tc : Thread Cert.KernelIdeal.nD Cert.KernelIdeal.τ).loc Cert.KernelIdeal.main_arg0) := a0
  have e1 : launchContents m' c (Proc.devRef .tc Cert.ReferenceIdeal.main_arg1) = m ((c.tc : Thread Cert.KernelIdeal.nD Cert.KernelIdeal.τ).loc Cert.KernelIdeal.main_arg1) := a1
  have e2 : launchContents m' c (Proc.devRef .tc Cert.ReferenceIdeal.main_arg2) = m ((c.tc : Thread Cert.KernelIdeal.nD Cert.KernelIdeal.τ).loc Cert.KernelIdeal.main_arg2) := a2
  have e3 : launchContents m' c (Proc.devRef .tc Cert.ReferenceIdeal.main_arg3) = m ((c.tc : Thread Cert.KernelIdeal.nD Cert.KernelIdeal.τ).loc Cert.KernelIdeal.main_arg3) := a3
  have e4 : launchContents m' c (Proc.devRef .tc Cert.ReferenceIdeal.main_arg4) = m ((c.tc : Thread Cert.KernelIdeal.nD Cert.KernelIdeal.τ).loc Cert.KernelIdeal.main_arg4) := a4
  have e5 : launchContents m' c (Proc.devRef .tc Cert.ReferenceIdeal.main_arg5) = m ((c.tc : Thread Cert.KernelIdeal.nD Cert.KernelIdeal.τ).loc Cert.KernelIdeal.main_arg5) := a5
  have e6 : launchContents m' c (Proc.devRef .tc Cert.ReferenceIdeal.main_arg6) = m ((c.tc : Thread Cert.KernelIdeal.nD Cert.KernelIdeal.τ).loc Cert.KernelIdeal.main_arg6) := a6
  have e7 : launchContents m' c (Proc.devRef .tc Cert.ReferenceIdeal.main_arg7) = m ((c.tc : Thread Cert.KernelIdeal.nD Cert.KernelIdeal.τ).loc Cert.KernelIdeal.main_arg7) := a7
  obtain ⟨r0, r1, r2, r3, kept⟩ := h c
  refine ⟨?_, ?_, ?_, ?_, kept⟩
  · refine (r0.trans (Cert.ReferenceIdeal.Read.val_main_v137_eq (F := Ideal) (launchContents m' c))).trans ?_
    rw [e0, e1, e2, e3, e4, e5, e6]
    funext i
    obtain ⟨k, f, rfl⟩ : ∃ (k : Fin 16384) (f : Fin 1024), i = ix2 k f := ⟨i 0, i 1, eq_ix2 (n0 := 16384) (n1 := 1024) i⟩
    exact (Cert.ReferenceIdeal.Pool.v137_at _ _ _ _ _ _ _ (real_of_pre _ _ _ _ _ _ _ _ (hpre c)) k f).trans (Cert.KernelIdeal.Pool.G11_apply m c k f).symm
  · refine (r1.trans (Cert.ReferenceIdeal.Read.val_main_v140_eq (F := Ideal) (launchContents m' c))).trans ?_
    rw [e5]
    funext i
    obtain ⟨k, f, rfl⟩ : ∃ (k : Fin 1024) (f : Fin 5632), i = ix2 k f := ⟨i 0, i 1, eq_ix2 (n0 := 1024) (n1 := 5632) i⟩
    exact (Cert.ReferenceIdeal.Pool.v140_at _ k f).trans (Cert.KernelIdeal.Pool.G12_apply m c k f).symm
  · refine (r2.trans (Cert.ReferenceIdeal.Read.val_main_v143_eq (F := Ideal) (launchContents m' c))).trans ?_
    rw [e6]
    funext i
    obtain ⟨k, f, rfl⟩ : ∃ (k : Fin 2816) (f : Fin 1024), i = ix2 k f := ⟨i 0, i 1, eq_ix2 (n0 := 2816) (n1 := 1024) i⟩
    exact (Cert.ReferenceIdeal.Pool.v143_at _ k f).trans (Cert.KernelIdeal.Pool.G13_apply m c k f).symm
  · refine (r3.trans (Cert.ReferenceIdeal.Read.val_main_v145_eq (F := Ideal) (launchContents m' c))).trans ?_
    rw [e7]
    funext i
    obtain ⟨k, f, rfl⟩ : ∃ (k : Fin 2048) (f : Fin 1024), i = ix2 k f := ⟨i 0, i 1, eq_ix2 (n0 := 2048) (n1 := 1024) i⟩
    exact (Cert.ReferenceIdeal.Pool.v145_at _ k f).trans (Cert.KernelIdeal.Pool.G14_apply m c k f).symm

end Cert.PoolEq

end
-- ==== Proof.FfnRead.lean ====
/- The last feed-forward call's body read at an index: the rows' norm, the gated activation written chunk by chunk, and the
   output block as a function of the input blocks. -/
module

public import proofs.«01_k».proof.Proof.Gen.Kernel2Ideal.Value
public import proofs.«01_k».proof.Proof.PoolRead

@[expose] public section

noncomputable section

namespace Cert.Kernel2Ideal.Ffn

open Cert.Kernel2Ideal Cert.Kernel2Ideal.Gen Idealize.ShloMosaic Idealize.ShloMosaic.TcCoe Idealize.ShloMosaic.Pointwise Idealize.SL.Sem
open Cert.KernelIdeal.Pool (rmsRow gated canon_hit canon_miss load_apply load_all zero2)

/-- The rows' norm as the body writes it. -/
def rmsVec (x : FVec Ideal S1024x1024 .f32) (g : FVec Ideal S1x1024 .f32) : FVec Ideal S1024x1024 .f32 :=
  mulf (mulf x (broadcastTo S1024x1024 (rsqrt (addf (divf (shapeCast S1024x1 (multiReduction .add [1] S1024 (mulf x x) 0x00000000#32
    reduces_S1024x1024_S1024 (.inl rfl) rfl) shapeCasts_S1024_S1024x1) (broadcast S1024x1 (Scalar.ofBits .f32 0x44800000#32)))
    (broadcast S1024x1 (Scalar.ofBits .f32 0x358637BD#32)))) broadcasts_S1024x1_S1024x1024))
    (broadcastTo S1024x1024 (shapeCast S1x1024 g shapeCasts_S1x1024_S1x1024) broadcasts_S1x1024_S1024x1024)

/-- The rows' norm at an index is its row's norm. -/
theorem rmsVec_apply (x : FVec Ideal S1024x1024 .f32) (g : FVec Ideal S1x1024 .f32) (r d : Fin 1024) :
    rmsVec x g (ix2 r d) = rmsRow (fun k => x (ix2 r k)) (fun k => g (ix2 0 k)) d := by
  unfold rmsRow
  pointwise [rmsVec]

/-- The rows' norm, narrowed. -/
def hfV (x : FVec Ideal S1024x1024 .f32) (g : FVec Ideal S1x1024 .f32) : FVec Ideal S1024x1024 .bf16 := truncf .bf16 (rmsVec x g) bitsLt_bf16_f32

/-- A chunk of the gated activation as the body writes it. -/
def actVec (hf : FVec Ideal S1024x1024 .bf16) (wg wu : FVec Ideal S1024x256 .bf16) : FVec Ideal S1024x256 .bf16 :=
  shapeCast S1024x256 (truncf .bf16 (mulf (mulf (matmul dot_S1024x1024_S1024x256_S1024x256_1_0_0_1_n_n none hf (shapeCast S1024x256 wg shapeCasts_S1024x256_S1024x256) (constant S1024x256 .f32 0x00000000#32))
     (divf (broadcast S1024x256 (Scalar.ofBits .f32 0x3F800000#32)) (addf (broadcast S1024x256 (Scalar.ofBits .f32 0x3F800000#32))
      (exp (subf (broadcast S1024x256 (Scalar.ofBits .f32 0x00000000#32)) (matmul dot_S1024x1024_S1024x256_S1024x256_1_0_0_1_n_n none hf (shapeCast S1024x256 wg shapeCasts_S1024x256_S1024x256) (constant S1024x256 .f32 0x00000000#32)))))))
     (matmul dot_S1024x1024_S1024x256_S1024x256_1_0_0_1_n_n none hf (shapeCast S1024x256 wu shapeCasts_S1024x256_S1024x256) (constant S1024x256 .f32 0x00000000#32))) bitsLt_bf16_f32) shapeCasts_S1024x256_S1024x256

theorem actVec_apply (hf : FVec Ideal S1024x1024 .bf16) (wg wu : FVec Ideal S1024x256 .bf16) (r : Fin 1024) (l : Fin 256) :
    actVec hf wg wu (ix2 r l) = gated (∑ k, hf (ix2 r k) * wg (ix2 k l)) (∑ k, hf (ix2 r k) * wu (ix2 k l)) := by
  unfold gated
  pointwise [actVec]

/-- The down projection and its residual. -/
def downV (x : FVec Ideal S1024x1024 .f32) (a : FVec Ideal S1024x2816 .bf16) (w : FVec Ideal S2816x1024 .bf16) : FVec Ideal S1024x1024 .f32 :=
  addf x (matmul dot_S1024x2816_S2816x1024_S1024x1024_1_0_0_1_n_n none a (shapeCast S2816x1024 w shapeCasts_S2816x1024_S2816x1024) (constant S1024x1024 .f32 0x00000000#32))

theorem downV_apply (x : FVec Ideal S1024x1024 .f32) (a : FVec Ideal S1024x2816 .bf16) (w : FVec Ideal S2816x1024 .bf16) (r d : Fin 1024) :
    downV x a w (ix2 r d) = x (ix2 r d) + ∑ f, a (ix2 r f) * w (ix2 f d) := by
  pointwise [downV]

/-- The gated activation of the rows. -/
def actV (hf : FVec Ideal S1024x1024 .bf16) (w : FVec Ideal S1024x5632 .bf16) : FVec Ideal S1024x2816 .bf16 := fun y =>
  gated (∑ k, hf (ix2 (y 0) k) * w (ix2 k ⟨(y 1).val, Nat.lt_trans (y 1).isLt (by decide)⟩))
    (∑ k, hf (ix2 (y 0) k) * w (ix2 k ⟨2816 + (y 1).val, Nat.add_lt_add_left (y 1).isLt 2816⟩))

/-- The output block. -/
def outV (x : FVec Ideal S1024x1024 .f32) (g : FVec Ideal S1x1024 .f32) (w : FVec Ideal S1024x5632 .bf16) (d : FVec Ideal S2816x1024 .bf16)
    (fg : FVec Ideal S1x1024 .f32) : FVec Ideal S1024x1024 .f32 := rmsVec (downV x (actV (hfV x g) w) d) fg

/-! ### The body's terms -/

section Terms
variable (hf : FVec Ideal S1024x1024 .bf16) (wg wu : FVec Ideal S1024x256 .bf16) (x : FVec Ideal S1024x1024 .f32) (g fg : FVec Ideal S1x1024 .f32)
  (a : FVec Ideal S1024x2816 .bf16) (d : FVec Ideal S2816x1024 .bf16)
theorem t_x : k0_pay3 x = x := shapeCast_self _ _
theorem t_hf : k0_pay4 x g = hfV x g := by
  show truncf .bf16 (rmsVec (k0_pay3 x) g) bitsLt_bf16_f32 = _
  rw [t_x]; rfl
theorem t_out : k0_pay2 x a d fg = rmsVec (downV x a d) fg := rfl
theorem t_0 : k0_pay5 x g wg wu = actVec (k0_pay4 x g) wg wu := rfl
theorem t_1 : k0_pay7 hf (k0_pay6 wg) wu = actVec hf wg wu := rfl
theorem t_2 : k0_pay8 hf wg wu = actVec hf wg wu := rfl
theorem t_3 : k0_pay9 hf wg wu = actVec hf wg wu := rfl
theorem t_4 : k0_pay10 hf wg wu = actVec hf wg wu := rfl
theorem t_5 : k0_pay11 hf wg wu = actVec hf wg wu := rfl
theorem t_6 : k0_pay13 (k0_pay12 hf wg wu) = actVec hf wg wu := rfl
theorem t_7 : k0_pay14 hf wg wu = actVec hf wg wu := rfl
theorem t_8 : k0_pay16 (k0_pay15 hf wg wu) = actVec hf wg wu := rfl
theorem t_9 : k0_pay17 hf wg wu = actVec hf wg wu := rfl
theorem t_10 : k0_pay1 (k0_pay18 hf wg wu) = actVec hf wg wu := rfl
end Terms

/-! ### The scratch read back -/

/-- The rows agree with `V` on the columns before `c`. -/
def Upto (L : List (View.Piece (Elt Ideal) S1024x2816 .bf16)) (V : FVec Ideal S1024x2816 .bf16) (c : ℕ) : Prop :=
  ∀ (r : Fin 1024) (d : Fin 2816), d.val < c → View.canon L (ix2 r d) = V (ix2 r d)

/-- One more chunk of 256 columns. -/
theorem upto_step (c : ℕ) (inb : ∀ a : Fin 2, (![0, c] : Fin 2 → ℕ) a + (![1024, 256] : Fin 2 → ℕ) a ≤ (![1024, 2816] : Fin 2 → ℕ) a)
    (w : FVec Ideal S1024x256 .bf16) (L : List (View.Piece (Elt Ideal) S1024x2816 .bf16)) (V : FVec Ideal S1024x2816 .bf16)
    (hw : ∀ (r : Fin 1024) (l : Fin 256) (h : c + l.val < 2816), w (ix2 r l) = V (ix2 r ⟨c + l.val, h⟩)) (hL : Upto L V c) :
    Upto ((⟨Rect.unit (s := S1024x2816) ![0, c] ![1024, 256] inb, w⟩ : View.Piece (Elt Ideal) S1024x2816 .bf16) :: L) V (c + 256) := by
  intro r d hd
  by_cases hc : d.val < c
  · rw [canon_miss (S := S1024x2816) (e := .bf16) ![0, c] ![1024, 256] inb w L _ (1 : Fin 2) (Or.inl hc)]
    exact hL r d hc
  · have hl : d.val - c < 256 := by omega
    have hq : c + (d.val - c) = d.val := by omega
    refine (canon_hit (S := S1024x2816) (e := .bf16) ![0, c] ![1024, 256] inb w L _ (ix2 r ⟨d.val - c, hl⟩) (fun a => ?_)).trans ?_
    · match a with
      | ⟨0, _⟩ => exact (Nat.zero_add _).symm
      | ⟨1, _⟩ => exact hq.symm
    · rw [hw r ⟨d.val - c, hl⟩ (by show c + (d.val - c) < 2816; have := d.isLt; omega)]
      exact congrArg (fun q => V (ix2 r q)) (Fin.ext hq)

/-- A chunk of the activation at its columns. -/
theorem act_chunk (c : ℕ) (hf : FVec Ideal S1024x1024 .bf16) (w : FVec Ideal S1024x5632 .bf16) (wg wu : FVec Ideal S1024x256 .bf16)
    (hg : ∀ (k : Fin 1024) (l : Fin 256) (h : c + l.val < 5632), wg (ix2 k l) = w (ix2 k ⟨c + l.val, h⟩))
    (hu : ∀ (k : Fin 1024) (l : Fin 256) (h : 2816 + c + l.val < 5632), wu (ix2 k l) = w (ix2 k ⟨2816 + c + l.val, h⟩))
    (r : Fin 1024) (l : Fin 256) (h : c + l.val < 2816) : actVec hf wg wu (ix2 r l) = actV hf w (ix2 r ⟨c + l.val, h⟩) := by
  rw [actVec_apply]
  show _ = gated (∑ k, hf (ix2 r k) * w (ix2 k ⟨c + l.val, _⟩)) (∑ k, hf (ix2 r k) * w (ix2 k ⟨2816 + (c + l.val), _⟩))
  have e : ∀ k : Fin 1024, wu (ix2 k l) = w (ix2 k ⟨2816 + (c + l.val), by omega⟩) := fun k =>
    (hu k l (by omega)).trans (congrArg (fun q => w (ix2 k q)) (Fin.ext (Nat.add_assoc _ _ _)))
  simp only [fun k => hg k l (by omega), e]

section Point

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x2816 .bf16) (harg7 : arg7.IsWhole)
variable (x0 : FVec Ideal S1024x1024 .f32) (x1 : FVec Ideal S1x1024 .f32) (x2 : FVec Ideal S1024x5632 .bf16) (x3 : FVec Ideal S2816x1024 .bf16) (x4 : FVec Ideal S1x1024 .f32)

theorem rd_gu (q : ℕ) (inb) (k : Fin 1024) (l : Fin 256) (h : q + l.val < 5632) : arg3.view.readAt (Elt Ideal) (Rect.unit (s := S1024x5632) ![0, q] S1024x256.size inb).toLoadRect
    (harg3.unread x2) (ix2 k l) = x2 (ix2 k ⟨q + l.val, h⟩) :=
  load_apply arg3 harg3 x2 _ _ _ _ _ fun a => by
    match a with
    | ⟨0, _⟩ => exact (Nat.zero_add _).symm
    | ⟨1, _⟩ => rfl

/-- The rows kept in registers, and their norm. -/
theorem r_x : (kernelRun0_A.sl.r (F := Ideal) c arg1 harg1 x0) = x0 :=
  (t_x _).trans (load_all arg1 harg1 x0 _ zero2 _)
theorem r_hf : (kernelRun0_A.sl.r_1 (F := Ideal) c arg1 harg1 arg2 harg2 x0 x1) = hfV x0 x1 := by
  refine (t_hf _ _).trans ?_
  rw [show _ = x0 from load_all arg1 harg1 x0 _ zero2 _, show _ = x1 from load_all arg2 harg2 x1 _ zero2 _]

/-- The eleven chunks are the activation. -/
theorem act_upto : Upto (kernelRun0_A.sl.HS0_11 (F := Ideal) c arg1 harg1 arg2 harg2 arg3 harg3 x0 x1 x2) (actV (hfV x0 x1) x2) 2816 := by
  have e := r_hf c arg1 harg1 arg2 harg2 x0 x1
  have ch : ∀ (q : ℕ) (inbg inbu), ∀ (r : Fin 1024) (l : Fin 256) (h : q + l.val < 2816),
      actVec (kernelRun0_A.sl.r_1 (F := Ideal) c arg1 harg1 arg2 harg2 x0 x1)
        (arg3.view.readAt (Elt Ideal) (Rect.unit (s := S1024x5632) ![0, q] S1024x256.size inbg).toLoadRect (harg3.unread x2))
        (arg3.view.readAt (Elt Ideal) (Rect.unit (s := S1024x5632) ![0, 2816 + q] S1024x256.size inbu).toLoadRect (harg3.unread x2)) (ix2 r l)
      = actV (hfV x0 x1) x2 (ix2 r ⟨q + l.val, h⟩) := by
    intro q inbg inbu r l h
    rw [e]
    exact act_chunk q (hfV x0 x1) x2 _ _ (fun k l h => rd_gu arg3 harg3 x2 q inbg k l h) (fun k l h => rd_gu arg3 harg3 x2 (2816 + q) inbu k l h) r l h
  unfold kernelRun0_A.sl.HS0_11
  refine upto_step 2560 _ _ _ _ (ch 2560 inb_S1024x5632_S1024x256_0_2560 inb_S1024x5632_S1024x256_0_5376) ?_
  refine upto_step 2304 _ _ _ _ (ch 2304 inb_S1024x5632_S1024x256_0_2304 inb_S1024x5632_S1024x256_0_5120) ?_
  refine upto_step 2048 _ _ _ _ (ch 2048 inb_S1024x5632_S1024x256_0_2048 inb_S1024x5632_S1024x256_0_4864) ?_
  refine upto_step 1792 _ _ _ _ (ch 1792 inb_S1024x5632_S1024x256_0_1792 inb_S1024x5632_S1024x256_0_4608) ?_
  refine upto_step 1536 _ _ _ _ (ch 1536 inb_S1024x5632_S1024x256_0_1536 inb_S1024x5632_S1024x256_0_4352) ?_
  refine upto_step 1280 _ _ _ _ (ch 1280 inb_S1024x5632_S1024x256_0_1280 inb_S1024x5632_S1024x256_0_4096) ?_
  refine upto_step 1024 _ _ _ _ (ch 1024 inb_S1024x5632_S1024x256_0_1024 inb_S1024x5632_S1024x256_0_3840) ?_
  refine upto_step 768 _ _ _ _ (ch 768 inb_S1024x5632_S1024x256_0_768 inb_S1024x5632_S1024x256_0_3584) ?_
  refine upto_step 512 _ _ _ _ (ch 512 inb_S1024x5632_S1024x256_0_512 inb_S1024x5632_S1024x256_0_3328) ?_
  refine upto_step 256 _ _ _ _ (ch 256 inb_S1024x5632_S1024x256_0_256 inb_S1024x5632_S1024x256_0_3072) ?_
  refine upto_step 0 _ _ _ _ (ch 0 inb_S1024x5632_S1024x256_0_0 inb_S1024x5632_S1024x256_0_2816) ?_
  exact fun _ _ h => absurd h (Nat.not_lt_zero _)

/-- The scratch read back for the down projection. -/
theorem v226_eq : (kernelRun0_A.sl.v226 (F := Ideal) c arg1 harg1 arg2 harg2 arg3 harg3 arg7 x0 x1 x2 : FVec Ideal S1024x2816 .bf16) = actV (hfV x0 x1) x2 := by
  unfold kernelRun0_A.sl.v226
  rw [View.readCov_eq_canon']
  funext y
  obtain ⟨r, d, rfl⟩ : ∃ (r : Fin 1024) (d : Fin 2816), y = ix2 r d := ⟨y 0, y 1, eq_ix2 y⟩
  refine Eq.trans (congrArg (View.canon _) (funext fun a => Fin.ext ?_)) (act_upto c arg1 harg1 arg2 harg2 arg3 harg3 x0 x1 x2 r d d.isLt)
  match a with
  | ⟨0, _⟩ => show 0 + 1 * r.val = r.val; omega
  | ⟨1, _⟩ => show 0 + 1 * d.val = d.val; omega

/-- The output block after the body. -/
theorem out5_eq : out0_A_5 (F := Ideal) c i arg1 harg1 arg2 harg2 arg3 harg3 arg4 harg4 arg5 harg5 arg6 harg6 arg7 harg7 x0 x1 x2 x3 x4 = outV x0 x1 x2 x3 x4 := by
  unfold out0_A_5 kernelRun0_A
  dsimp only
  rw [View.read_writes_junk_eq_canon]
  refine (View.canon_cons_unit_zero zero2 _ _ _).trans ?_
  refine (t_out _ _ _ _).trans ?_
  rw [r_x, v226_eq, show _ = x3 from load_all arg4 harg4 x3 _ zero2 _, show _ = x4 from load_all arg5 harg5 x4 _ zero2 _]
  rfl

end Point

end Cert.Kernel2Ideal.Ffn

end
-- ==== Proof.FfnIn.lean ====
/- The last feed-forward call's final array, row by row, in the program's arguments. -/
module

public import proofs.«01_k».proof.Proof.FfnRead

@[expose] public section

noncomputable section

namespace Cert.Kernel2Ideal.Ffn

open Cert.Kernel2Ideal Cert.Kernel2Ideal.Gen Idealize.ShloMosaic Idealize.ShloMosaic.TcCoe Idealize.ShloMosaic.Pointwise Idealize.SL.Sem
open Cert.KernelIdeal.Pool (rmsRow gated)

/-- The gated activation of one row. -/
def actRow (x g : Fin 1024 → EReal) (gu : Fin 1024 → Fin 5632 → EReal) (f : Fin 2816) : EReal :=
  gated (∑ k, rmsRow x g k * gu k ⟨f.val, Nat.lt_trans f.isLt (by decide)⟩) (∑ k, rmsRow x g k * gu k ⟨2816 + f.val, Nat.add_lt_add_left f.isLt 2816⟩)

/-- One row of the layer's output: norm, gated projection, residual, last norm. -/
def ffnRow (x g : Fin 1024 → EReal) (gu : Fin 1024 → Fin 5632 → EReal) (dn : Fin 2816 → Fin 1024 → EReal) (fg : Fin 1024 → EReal) : Fin 1024 → EReal :=
  rmsRow (fun d => x d + ∑ f, actRow x g gu f * dn f d) fg

/-- The layer's output row `R` in its arguments. -/
def layerRow (x0 : FVec Ideal S8x2048x1024 .f32) (x1 : FVec Ideal S4x1024 .f32) (x2 : FVec Ideal S4x1024x5632 .f32) (x3 : FVec Ideal S4x2816x1024 .f32)
    (x4 : FVec Ideal S1024 .f32) (R : ℕ) : Fin 1024 → EReal :=
  ffnRow (fun d => x0 (ix3 ⟨R / 2048 % 8, Nat.mod_lt _ (by decide)⟩ ⟨R % 2048, Nat.mod_lt _ (by decide)⟩ d)) (fun d => x1 (ix2 3 d)) (fun k f => x2 (ix3 3 k f))
    (fun f d => x3 (ix3 3 f d)) (fun d => x4 (ix1 d))

/-- The output block at an index is its row's value. -/
theorem outV_apply (x : FVec Ideal S1024x1024 .f32) (g : FVec Ideal S1x1024 .f32) (w : FVec Ideal S1024x5632 .bf16) (d : FVec Ideal S2816x1024 .bf16)
    (fg : FVec Ideal S1x1024 .f32) (r e : Fin 1024) :
    outV x g w d fg (ix2 r e) = ffnRow (fun k => x (ix2 r k)) (fun k => g (ix2 0 k)) (fun k f => w (ix2 k f)) (fun f k => d (ix2 f k)) (fun k => fg (ix2 0 k)) e := by
  have hh : ∀ k, hfV x g (ix2 r k) = rmsRow (fun k => x (ix2 r k)) (fun k => g (ix2 0 k)) k := fun k => rmsVec_apply x g r k
  have ha : ∀ f, actV (hfV x g) w (ix2 r f) = actRow (fun k => x (ix2 r k)) (fun k => g (ix2 0 k)) (fun k f => w (ix2 k f)) f := fun f => by
    show gated (∑ k, hfV x g (ix2 r k) * _) (∑ k, hfV x g (ix2 r k) * _) = _
    simp only [hh]
    rfl
  unfold outV ffnRow
  rw [rmsVec_apply]
  refine congrFun (congrFun (congrArg rmsRow (funext fun k => ?_)) _) _
  rw [downV_apply]
  simp only [ha]

variable (m : (ℓ : Loc nD τ sig) → Buf (Elt Ideal) ℓ) (c : Dev nD)

/-- The index maps of the windows, decided over the grid. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, (cfg0.win 5).flush t = true ∧ win0_5.index t (0 : Fin 2) = t.val ∧ win0_5.index t (1 : Fin 2) = 0 :=
  (by decide +kernel : ∀ t : Fin grid0.N, win0_5.flush t = true ∧ win0_5.index t (0 : Fin 2) = t.val ∧ win0_5.index t (1 : Fin 2) = 0)

/-! ### What the host leaves for the call -/

theorem host_v8 : V m c main_v8 = shapeCast S16384x1024 (m ((c : Thread nD τ).loc main_arg0)) shapeCasts_S8x2048x1024_S16384x1024 := by
  unfold V; after_results; rfl
theorem host_v9 : V m c main_v9 = shapeCast S1x1024 (shapeCast S1024 (extractStridedSlice S1x1024 ![3, 0] (m ((c : Thread nD τ).loc main_arg1)) slices_S4x1024_S1x1024_3_0) shapeCasts_S1x1024_S1024) shapeCasts_S1024_S1x1024 := by
  unfold V; after_results; rfl
theorem host_v4 : V m c main_v4 = (truncf .bf16 (shapeCast S1024x5632 (extractStridedSlice S1x1024x5632 ![3, 0, 0] (m ((c : Thread nD τ).loc main_arg2)) slices_S4x1024x5632_S1x1024x5632_3_0_0) shapeCasts_S1x1024x5632_S1024x5632 : FVec Ideal S1024x5632 .f32) bitsLt_bf16_f32 : FVec Ideal S1024x5632 .bf16) := by
  unfold V; after_results; rfl
theorem host_v7 : V m c main_v7 = (truncf .bf16 (shapeCast S2816x1024 (extractStridedSlice S1x2816x1024 ![3, 0, 0] (m ((c : Thread nD τ).loc main_arg3)) slices_S4x2816x1024_S1x2816x1024_3_0_0) shapeCasts_S1x2816x1024_S2816x1024 : FVec Ideal S2816x1024 .f32) bitsLt_bf16_f32 : FVec Ideal S2816x1024 .bf16) := by
  unfold V; after_results; rfl
theorem host_v10 : V m c main_v10 = shapeCast S1x1024 (m ((c : Thread nD τ).loc main_arg4)) shapeCasts_S1024_S1x1024 := by
  unfold V; after_results; rfl

/-! ### The host's reshapes and slices at an index -/

theorem flat_apply (x : FVec Ideal S8x2048x1024 .f32) (R : Fin 16384) (d : Fin 1024) :
    shapeCast S16384x1024 x shapeCasts_S8x2048x1024_S16384x1024 (ix2 R d) = x (ix3 ⟨R.val / 2048 % 8, Nat.mod_lt _ (by decide)⟩ ⟨R.val % 2048, Nat.mod_lt _ (by decide)⟩ d) :=
  shapeCast_apply x _ _ _ (by
    have hR := R.isLt
    rw [Shape.rowMajor_val_three, Shape.rowMajor_val_two]
    show (R.val / 2048 % 8 * 2048 + R.val % 2048) * 1024 + d.val = R.val * 1024 + d.val
    omega)

theorem gain_apply (x : FVec Ideal S4x1024 .f32) (d : Fin 1024) :
    shapeCast S1x1024 (shapeCast S1024 (extractStridedSlice S1x1024 ![3, 0] x slices_S4x1024_S1x1024_3_0) shapeCasts_S1x1024_S1024) shapeCasts_S1024_S1x1024 (ix2 0 d) = x (ix2 3 d) := by
  rw [shapeCast_shapeCast]
  pointwise []

theorem last_apply (x : FVec Ideal S1024 .f32) (d : Fin 1024) : shapeCast S1x1024 x shapeCasts_S1024_S1x1024 (ix2 0 d) = x (ix1 d) := by
  pointwise []

theorem gu_apply (x : FVec Ideal S4x1024x5632 .f32) (k : Fin 1024) (f : Fin 5632) :
    shapeCast S1024x5632 (extractStridedSlice S1x1024x5632 ![3, 0, 0] x slices_S4x1024x5632_S1x1024x5632_3_0_0) shapeCasts_S1x1024x5632_S1024x5632 (ix2 k f)
      = x (ix3 3 k f) := by
  pointwise []

theorem dn_apply (x : FVec Ideal S4x2816x1024 .f32) (k : Fin 2816) (f : Fin 1024) :
    shapeCast S2816x1024 (extractStridedSlice S1x2816x1024 ![3, 0, 0] x slices_S4x2816x1024_S1x2816x1024_3_0_0) shapeCasts_S1x2816x1024_S2816x1024 (ix2 k f)
      = x (ix3 3 k f) := by
  pointwise []

/-! ### The blocks -/

theorem blk0 (t : Fin cfg0.N) (i : Fin 1024) (d : Fin 1024) : (iblk m c 0 t : FVec Ideal S1024x1024 .f32) (ix2 i d)
    = (m ((c : Thread nD τ).loc main_arg0) : FVec Ideal S8x2048x1024 .f32) (ix3 ⟨(1024 * t.val + i.val) / 2048 % 8, Nat.mod_lt _ (by decide)⟩ ⟨(1024 * t.val + i.val) % 2048, Nat.mod_lt _ (by decide)⟩ d) := by
  have ht : t.val < 16 := t.isLt
  obtain ⟨e0, e1⟩ := idx0 t
  show (V m c main_v8 : FVec Ideal S16384x1024 .f32) (((cfg0.win 0).blk t).view.emb (ix2 i d)) = _
  rw [show ((cfg0.win 0).blk t).view.emb (ix2 i d) = (ix2 ⟨1024 * t.val + i.val, by omega⟩ d : S16384x1024.Idx) from funext fun a => Fin.ext (by
    match a with
    | ⟨0, _⟩ => show win0_0.index t (0 : Fin 2) * 1024 + 1 * i.val = 1024 * t.val + i.val; omega
    | ⟨1, _⟩ => show win0_0.index t (1 : Fin 2) * 1024 + 1 * d.val = d.val; omega), host_v8]
  exact flat_apply _ _ _

theorem blk1 (t : Fin cfg0.N) (d : Fin 1024) : (iblk m c 1 t : FVec Ideal S1x1024 .f32) (ix2 0 d) = (m ((c : Thread nD τ).loc main_arg1) : FVec Ideal S4x1024 .f32) (ix2 3 d) := by
  obtain ⟨e0, e1⟩ := idx1 t
  show (V m c main_v9 : FVec Ideal S1x1024 .f32) (((cfg0.win 1).blk t).view.emb (ix2 0 d)) = _
  rw [show ((cfg0.win 1).blk t).view.emb (ix2 0 d) = (ix2 0 d : S1x1024.Idx) from funext fun a => Fin.ext (by
    match a with
    | ⟨0, _⟩ => show win0_1.index t (0 : Fin 2) * 1 + 1 * 0 = 0; omega
    | ⟨1, _⟩ => show win0_1.index t (1 : Fin 2) * 1024 + 1 * d.val = d.val; omega), host_v9]
  exact gain_apply _ _

theorem blk2 (t : Fin cfg0.N) (k : Fin 1024) (f : Fin 5632) : (iblk m c 2 t : FVec Ideal S1024x5632 .bf16) (ix2 k f) = (m ((c : Thread nD τ).loc main_arg2) : FVec Ideal S4x1024x5632 .f32) (ix3 3 k f) := by
  obtain ⟨e0, e1⟩ := idx2 t
  show (V m c main_v4 : FVec Ideal S1024x5632 .bf16) (((cfg0.win 2).blk t).view.emb (ix2 k f)) = _
  rw [show ((cfg0.win 2).blk t).view.emb (ix2 k f) = (ix2 k f : S1024x5632.Idx) from funext fun a => Fin.ext (by
    match a with
    | ⟨0, _⟩ => show win0_2.index t (0 : Fin 2) * 1024 + 1 * k.val = k.val; omega
    | ⟨1, _⟩ => show win0_2.index t (1 : Fin 2) * 5632 + 1 * f.val = f.val; omega), host_v4]
  exact gu_apply _ _ _

theorem blk3 (t : Fin cfg0.N) (k : Fin 2816) (f : Fin 1024) : (iblk m c 3 t : FVec Ideal S2816x1024 .bf16) (ix2 k f) = (m ((c : Thread nD τ).loc main_arg3) : FVec Ideal S4x2816x1024 .f32) (ix3 3 k f) := by
  obtain ⟨e0, e1⟩ := idx3 t
  show (V m c main_v7 : FVec Ideal S2816x1024 .bf16) (((cfg0.win 3).blk t).view.emb (ix2 k f)) = _
  rw [show ((cfg0.win 3).blk t).view.emb (ix2 k f) = (ix2 k f : S2816x1024.Idx) from funext fun a => Fin.ext (by
    match a with
    | ⟨0, _⟩ => show win0_3.index t (0 : Fin 2) * 2816 + 1 * k.val = k.val; omega
    | ⟨1, _⟩ => show win0_3.index t (1 : Fin 2) * 1024 + 1 * f.val = f.val; omega), host_v7]
  exact dn_apply _ _ _

theorem blk4 (t : Fin cfg0.N) (d : Fin 1024) : (iblk m c 4 t : FVec Ideal S1x1024 .f32) (ix2 0 d) = (m ((c : Thread nD τ).loc main_arg4) : FVec Ideal S1024 .f32) (ix1 d) := by
  obtain ⟨e0, e1⟩ := idx4 t
  show (V m c main_v10 : FVec Ideal S1x1024 .f32) (((cfg0.win 4).blk t).view.emb (ix2 0 d)) = _
  rw [show ((cfg0.win 4).blk t).view.emb (ix2 0 d) = (ix2 0 d : S1x1024.Idx) from funext fun a => Fin.ext (by
    match a with
    | ⟨0, _⟩ => show win0_4.index t (0 : Fin 2) * 1 + 1 * 0 = 0; omega
    | ⟨1, _⟩ => show win0_4.index t (1 : Fin 2) * 1024 + 1 * d.val = d.val; omega), host_v10]
  exact last_apply _ _

/-! ### The final array -/

/-- The array the call leaves. -/
def G (c : Dev nD) : FVec Ideal S16384x1024 .f32 := fun i =>
  layerRow (m ((c : Thread nD τ).loc main_arg0)) (m ((c : Thread nD τ).loc main_arg1)) (m ((c : Thread nD τ).loc main_arg2)) (m ((c : Thread nD τ).loc main_arg3))
    (m ((c : Thread nD τ).loc main_arg4)) (i 0).val (i 1)

/-- The output block of point `t` at an index. -/
theorem block_apply (t : Fin cfg0.N) (r e : Fin 1024) :
    outV (iblk m c 0 t) (iblk m c 1 t) (iblk m c 2 t) (iblk m c 3 t) (iblk m c 4 t) (ix2 r e)
      = layerRow (m ((c : Thread nD τ).loc main_arg0)) (m ((c : Thread nD τ).loc main_arg1)) (m ((c : Thread nD τ).loc main_arg2)) (m ((c : Thread nD τ).loc main_arg3))
        (m ((c : Thread nD τ).loc main_arg4)) (1024 * t.val + r.val) e := by
  rw [outV_apply]
  simp only [blk0, blk1, blk2, blk3, blk4]
  rfl

/-- What point `t` writes back is block `t` of the array. -/
theorem flushed_eq (t : Fin cfg0.N) : (dats m 0 c).flushed 5 t = ((cfg0.win 5).blk t).view.read (Elt Ideal) (G m c) := by
  obtain ⟨-, e0, e1⟩ := idx5 t
  rw [Value.flushed5_A, out5_eq]
  funext y
  have hy0 : (y 0).val < 1024 := (y 0).isLt
  have hy1 : (y 1).val < 1024 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  show outV (iblk m c 0 t) (iblk m c 1 t) (iblk m c 2 t) (iblk m c 3 t) (iblk m c 4 t) ((cfg0.win 5).xinj (grid0.coords t) y) = G m c (((cfg0.win 5).blk t).view.emb y)
  have hx : (cfg0.win 5).xinj (grid0.coords t) y = ix2 ⟨(y 0).val, hy0⟩ ⟨(y 1).val, hy1⟩ := by
    funext a; apply Fin.ext
    match a with
    | ⟨0, _⟩ => rfl
    | ⟨1, _⟩ => rfl
  rw [hx, block_apply]
  show _ = layerRow _ _ _ _ _ (((cfg0.win 5).blk t).view.emb y 0).val (((cfg0.win 5).blk t).view.emb y 1)
  rw [show (((cfg0.win 5).blk t).view.emb y 0).val = 1024 * t.val + (y 0).val by rw [hb0, e0]; omega,
    show ((cfg0.win 5).blk t).view.emb y 1 = (⟨(y 1).val, hy1⟩ : Fin 1024) from Fin.ext (by rw [hb1, e1]; show 0 * 1024 + 1 * (y 1).val = (y 1).val; omega)]

/-- Every index is in some point's block. -/
theorem covered (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : (i 0).val / 1024 < cfg0.N := lt_of_lt_of_eq (by omega : (i 0).val / 1024 < 16) N_0.symm
  obtain ⟨hf, e0, e1⟩ := idx5 ⟨(i 0).val / 1024, hN⟩
  refine ⟨⟨(i 0).val / 1024, hN⟩, hf, ?_⟩
  show i ∈ ((View.whole main_v11).slice (win0_5.rect ⟨(i 0).val / 1024, hN⟩)).set
  rw [View.set_slice_whole, Rect.mem_set_unit]
  intro a
  match a with
  | ⟨0, _⟩ =>
    show win0_5.index ⟨(i 0).val / 1024, hN⟩ (0 : Fin 2) * 1024 ≤ (i 0).val ∧ (i 0).val < win0_5.index ⟨(i 0).val / 1024, hN⟩ (0 : Fin 2) * 1024 + 1024
    rw [e0]; show (i 0).val / 1024 * 1024 ≤ _ ∧ _ < (i 0).val / 1024 * 1024 + 1024; omega
  | ⟨1, _⟩ =>
    show win0_5.index ⟨(i 0).val / 1024, hN⟩ (1 : Fin 2) * 1024 ≤ (i 1).val ∧ (i 1).val < win0_5.index ⟨(i 0).val / 1024, hN⟩ (1 : Fin 2) * 1024 + 1024
    rw [e1]; omega

/-- The array after the run. -/
theorem final : (dats m 0 c).arrAt 5 cfg0.N = G m c :=
  (dats m 0 c).arrAt_eq_of_cover 5 _ (fun t _ => flushed_eq m c t) covered

end Cert.Kernel2Ideal.Ffn

end
-- ==== Proof.FfnRef.lean ====
/- The reference's last feed-forward layer row by row, as functions of its arguments. -/
module

public import proofs.«01_k».proof.Proof.FfnIn
public import proofs.«01_k».proof.Proof.Gen.Reference2Ideal.Read
public import Idealize.ShloMosaic.Lib.Pointwise
public import Idealize.ShloMosaic.Lib.ReduceAll

@[expose] public section

noncomputable section

namespace Cert.Reference2Ideal.Ffn

open Cert.Reference2Ideal Cert.Reference2Ideal.Gen Cert.Reference2Ideal.Read Idealize.ShloMosaic Idealize.ShloMosaic.TcCoe Idealize.ShloMosaic.Pointwise
open Cert.KernelIdeal.Pool (rmsRow gated)
open Cert.Kernel2Ideal.Ffn (actRow ffnRow layerRow)

/-- The rows' norm as the reference writes it, under the gain `G`. -/
def normV (x G : FVec Ideal S8x2048x1024 .f32) : FVec Ideal S8x2048x1024 .f32 :=
  mulf (mulf x (broadcastInDim S8x2048x1024 ![0, 1, 2] bcast_S8x2048x1_S8x2048x1024_0_1_2 (Host.rsqrt (addf
    (Host.divf (broadcastInDim S8x2048x1 ![0, 1] bcast_S8x2048_S8x2048x1_0_1 (Host.reduceAdd (mulf x x) (constant S_ .f32 0x00000000#32) reducesTo_S8x2048x1024_S8x2048_d2 h_S_ : FVec Ideal S8x2048 .f32))
      (broadcastInDim S8x2048x1 ![] bcast_S_S8x2048x1 (constant S_ .f32 0x44800000#32)))
    (broadcastInDim S8x2048x1 ![] bcast_S_S8x2048x1 (constant S_ .f32 0x358637BD#32)))))) G

/-- The norm at an index is its row's norm. -/
theorem normV_apply (x G : FVec Ideal S8x2048x1024 .f32) (g : Fin 1024 → EReal) (hG : ∀ b t d, G (ix3 b t d) = g d) (b : Fin 8) (t : Fin 2048) (d : Fin 1024) :
    normV x G (ix3 b t d) = rmsRow (fun k => x (ix3 b t k)) g d := by
  rw [show normV x G (ix3 b t d) = _ * G (ix3 b t d) from rfl, hG]
  unfold rmsRow
  pointwise []

variable (x0 : FVec Ideal S8x2048x1024 .f32) (x1 : FVec Ideal S4x1024 .f32) (x2 : FVec Ideal S4x1024x5632 .f32) (x3 : FVec Ideal S4x2816x1024 .f32) (x4 : FVec Ideal S1024 .f32)

theorem v13_at (b : Fin 8) (t : Fin 2048) (d : Fin 1024) : val_main_v13 (F := Ideal) x1 (ix3 b t d) = x1 (ix2 3 d) := by
  unfold val_main_v13 val_main_v12 val_main_v1 val_main_v0
  pointwise []

theorem v37_at (b : Fin 8) (t : Fin 2048) (d : Fin 1024) : val_main_v37 (F := Ideal) x4 (ix3 b t d) = x4 (ix1 d) := by
  unfold val_main_v37 val_main_v36
  pointwise []

theorem v14_at (b : Fin 8) (t : Fin 2048) (k : Fin 1024) :
    val_main_v14 (F := Ideal) x0 x1 (ix3 b t k) = rmsRow (fun d => x0 (ix3 b t d)) (fun d => x1 (ix2 3 d)) k :=
  normV_apply x0 (val_main_v13 (F := Ideal) x1) (fun d => x1 (ix2 3 d)) (v13_at x1) b t k

theorem v16_at (k : Fin 1024) (f : Fin 5632) : val_main_v16 (F := Ideal) x2 (ix2 k f) = x2 (ix3 3 k f) := by
  unfold val_main_v16 val_main_v15
  pointwise []

theorem v18_at (f : Fin 2816) (e : Fin 1024) : val_main_v18 (F := Ideal) x3 (ix2 f e) = x3 (ix3 3 f e) := by
  unfold val_main_v18 val_main_v17
  pointwise []

theorem v19_at (b : Fin 8) (t : Fin 2048) (f : Fin 5632) :
    val_main_v19 (F := Ideal) x0 x1 x2 (ix3 b t f) = ∑ k, rmsRow (fun d => x0 (ix3 b t d)) (fun d => x1 (ix2 3 d)) k * x2 (ix3 3 k f) := by
  rw [val_main_v19_apply]
  refine Finset.sum_congr rfl fun k _ => ?_
  rw [← v14_at x0 x1, ← v16_at x2]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

theorem v23_at (b : Fin 8) (t : Fin 2048) (f : Fin 2816) :
    val_main_v23 (F := Ideal) x0 x1 x2 (ix3 b t f) = actRow (fun d => x0 (ix3 b t d)) (fun d => x1 (ix2 3 d)) (fun k f => x2 (ix3 3 k f)) f := by
  have hG : val_main_v20 (F := Ideal) x0 x1 x2 (ix3 b t f) = val_main_v19 (F := Ideal) x0 x1 x2 (ix3 b t ⟨f.val, by omega⟩) := by
    rw [val_main_v20_apply]
    refine congrArg _ (funext fun a => Fin.ext ?_)
    match a with
    | ⟨0, _⟩ => first | rfl | exact Nat.zero_add _
    | ⟨1, _⟩ => first | rfl | exact Nat.zero_add _
    | ⟨2, _⟩ => first | rfl | exact Nat.zero_add _
  have hU : val_main_v21 (F := Ideal) x0 x1 x2 (ix3 b t f) = val_main_v19 (F := Ideal) x0 x1 x2 (ix3 b t ⟨2816 + f.val, by omega⟩) := by
    rw [val_main_v21_apply]
    refine congrArg _ (funext fun a => Fin.ext ?_)
    match a with
    | ⟨0, _⟩ => first | rfl | exact Nat.zero_add _
    | ⟨1, _⟩ => first | rfl | exact Nat.zero_add _
    | ⟨2, _⟩ => first | rfl | exact Nat.add_comm _ _
  have h1 : val_main_call0_v2 (F := Ideal) (ix3 b t f) = 1 := by rw [val_main_call0_v2_apply]; exact Ideal.ofBits_one_f32
  have h2 : val_main_call0_v4 (F := Ideal) (ix3 b t f) = 1 := by rw [val_main_call0_v4_apply]; exact Ideal.ofBits_one_f32
  show val_main_v20 (F := Ideal) x0 x1 x2 (ix3 b t f) * Ideal.div (val_main_call0_v4 (F := Ideal) (ix3 b t f))
    (val_main_call0_v2 (F := Ideal) (ix3 b t f) + Ideal.exp (-(val_main_v20 (F := Ideal) x0 x1 x2 (ix3 b t f)))) * val_main_v21 (F := Ideal) x0 x1 x2 (ix3 b t f) = _
  rw [h1, h2, hG, hU, v19_at, v19_at]
  unfold actRow gated
  rw [zero_sub]

theorem v25_at (b : Fin 8) (t : Fin 2048) (e : Fin 1024) :
    val_main_v25 (F := Ideal) x0 x1 x2 x3 (ix3 b t e)
      = x0 (ix3 b t e) + ∑ f, actRow (fun d => x0 (ix3 b t d)) (fun d => x1 (ix2 3 d)) (fun k f => x2 (ix3 3 k f)) f * x3 (ix3 3 f e) := by
  show x0 (ix3 b t e) + val_main_v24 (F := Ideal) x0 x1 x2 x3 (ix3 b t e) = _
  rw [val_main_v24_apply]
  congr 1
  refine Finset.sum_congr rfl fun f _ => ?_
  rw [← v23_at x0 x1 x2, ← v18_at x3]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

theorem v38_at (b : Fin 8) (t : Fin 2048) (e : Fin 1024) :
    val_main_v38 (F := Ideal) x0 x1 x2 x3 x4 (ix3 b t e)
      = ffnRow (fun d => x0 (ix3 b t d)) (fun d => x1 (ix2 3 d)) (fun k f => x2 (ix3 3 k f)) (fun f d => x3 (ix3 3 f d)) (fun d => x4 (ix1 d)) e := by
  refine (normV_apply (val_main_v25 (F := Ideal) x0 x1 x2 x3) (val_main_v37 (F := Ideal) x4) (fun d => x4 (ix1 d)) (v37_at x4) b t e).trans ?_
  simp only [v25_at]
  rfl

/-- The layer's output row. -/
theorem v39_at (R : Fin 16384) (e : Fin 1024) : val_main_v39 (F := Ideal) x0 x1 x2 x3 x4 (ix2 R e) = layerRow x0 x1 x2 x3 x4 R.val e := by
  have hR := R.isLt
  have he := e.isLt
  refine Eq.trans ?_ (v38_at x0 x1 x2 x3 x4 ⟨R.val / 2048 % 8, Nat.mod_lt _ (by decide)⟩ ⟨R.val % 2048, Nat.mod_lt _ (by decide)⟩ e)
  rw [val_main_v39_apply]
  refine congrArg _ (funext fun a => Fin.ext ?_)
  match a with
  | ⟨0, _⟩ => show (R.val * 1024 + e.val) / 2097152 = R.val / 2048 % 8; omega
  | ⟨1, _⟩ => show (R.val * 1024 + e.val) / 1024 % 2048 = R.val % 2048; omega
  | ⟨2, _⟩ => show (R.val * 1024 + e.val) % 1024 = e.val; omega

end Cert.Reference2Ideal.Ffn

end
-- ==== Proof.FfnEq.lean ====
/- The last feed-forward call's claims: the frames, and its array against the plain layer's, over the extended reals. -/
module

public import proofs.«01_k».proof.Defs
public import proofs.«01_k».proof.Proof.Gen.Kernel2.Frame
public import proofs.«01_k».proof.Proof.FfnRef
public import proofs.«01_k».proof.Proof.Gen.Reference2Ideal.Run
public import Idealize.ShloMosaic.Lib.Quiescent

@[expose] public section

noncomputable section

namespace Cert.FfnEq

open Idealize.ShloMosaic Idealize.ShloMosaic.Pointwise Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

/-- The plain layer runs and leaves its arguments; it declares no semaphore. -/
theorem frame_reference : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

/-- The kernel's array is the plain layer's output. -/
theorem equal : Cert.algebraic_Kernel2Ideal_Reference2Ideal := by
  intro m g m' g' _ harg
  refine ⟨Cert.Kernel2Ideal.Ffn.G m, (θ_run Cert.Kernel2Ideal.defs _ _).mono (fun r h c => ⟨(h c).1.trans (Cert.Kernel2Ideal.Ffn.final m c), (h c).2⟩) (Cert.Kernel2Ideal.Value.run_blocks m g), ?_⟩
  refine (θ_run Cert.Reference2Ideal.defs _ _).mono (fun r h c => ?_) (Cert.Reference2Ideal.Value.run m' g')
  obtain ⟨a0, a1, a2, a3, a4⟩ := harg c
  obtain ⟨r0, kept⟩ := h c
  refine ⟨(r0.trans (Cert.Reference2Ideal.Read.val_main_v39_eq (F := Ideal) m' c)).trans ?_, kept⟩
  rw [a0, a1, a2, a3, a4]
  funext i
  obtain ⟨k, f, rfl⟩ : ∃ (k : Fin 16384) (f : Fin 1024), i = ix2 k f := ⟨i 0, i 1, eq_ix2 (n0 := 16384) (n1 := 1024) i⟩
  exact Cert.Reference2Ideal.Ffn.v39_at _ _ _ _ _ k f

end Cert.FfnEq

end
-- ==== Proof.Ffn2Read.lean ====
/- The feed-forward call of layer 2 (no final norm; the next layer's weights cast on the side): its body read at an index. -/
module

public import proofs.«01_k».proof.Proof.Gen.Kernel3Ideal.Value
public import proofs.«01_k».proof.Proof.FfnIn

@[expose] public section

noncomputable section

namespace Cert.Kernel3Ideal.Ffn

open Cert.Kernel3Ideal Cert.Kernel3Ideal.Gen Idealize.ShloMosaic Idealize.ShloMosaic.TcCoe Idealize.ShloMosaic.Pointwise Idealize.SL.Sem
open Cert.KernelIdeal.Pool (rmsRow gated load_all zero2 zero3)
open Cert.Kernel2Ideal.Ffn (rmsVec hfV actVec downV actV Upto upto_step act_chunk)

section Terms
variable (hf : FVec Ideal S1024x1024 .bf16) (wg wu : FVec Ideal S1024x256 .bf16) (x : FVec Ideal S1024x1024 .f32) (g : FVec Ideal S1x1024 .f32)
  (a : FVec Ideal S1024x2816 .bf16) (d : FVec Ideal S2816x1024 .bf16)
theorem t_x : k0_pay5 x = x := shapeCast_self _ _
theorem t_hf : k0_pay6 x g = hfV x g := by
  show truncf .bf16 (rmsVec (k0_pay5 x) g) bitsLt_bf16_f32 = _
  rw [t_x]; rfl
theorem t_out : k0_pay2 x a d = downV x a d := rfl
theorem t_0 : k0_pay10 (k0_pay7 x g wg) (k0_pay8 x g wu) (k0_pay9 x g wg) = actVec (k0_pay6 x g) wg wu := rfl
theorem t_1 : k0_pay11 hf wg wu = actVec hf wg wu := rfl
theorem t_2 : k0_pay14 (k0_pay12 hf wg) (k0_pay13 hf wu) kernelRun0_A.sl.cst_38 = actVec hf wg wu := rfl
theorem t_3 : k0_pay15 hf wg wu = actVec hf wg wu := rfl
theorem t_4 : k0_pay18 hf (k0_pay16 hf wg) (k0_pay17 wu) kernelRun0_A.sl.cst_55 = actVec hf wg wu := rfl
theorem t_5 : k0_pay19 hf wg wu = actVec hf wg wu := rfl
theorem t_6 : k0_pay21 hf (k0_pay20 hf wg) wu = actVec hf wg wu := rfl
theorem t_7 : k0_pay22 hf wg wu = actVec hf wg wu := rfl
theorem t_8 : k0_pay24 hf (k0_pay23 hf wg) wu = actVec hf wg wu := rfl
theorem t_9 : k0_pay25 hf wg wu = actVec hf wg wu := rfl
theorem t_10 : k0_pay1 hf (k0_pay26 wg) kernelRun0_A.sl.cst_55 wu = actVec hf wg wu := rfl
end Terms

/-- The output block. -/
def outV (x : FVec Ideal S1024x1024 .f32) (g : FVec Ideal S1x1024 .f32) (w : FVec Ideal S1024x5632 .bf16) (d : FVec Ideal S2816x1024 .bf16) :
    FVec Ideal S1024x1024 .f32 := downV x (actV (hfV x g) w) d

section Point

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x64x5632 .f32) (harg6 : arg6.IsWhole) (arg7 : Memref sig .tc .vmem S1x176x1024 .f32) (harg7 : arg7.IsWhole) (arg8 : Memref sig .tc .vmem S1024x1024 .f32) (harg8 : arg8.IsWhole) (arg9 : Memref sig .tc .vmem S64x5632 .bf16) (harg9 : arg9.IsWhole) (arg10 : Memref sig .tc .vmem S176x1024 .bf16) (harg10 : arg10.IsWhole) (arg11 : Memref sig .tc .vmem S1024x2816 .bf16) (harg11 : arg11.IsWhole)
variable (x0 : FVec Ideal S1024x1024 .f32) (x1 : FVec Ideal S1x1024 .f32) (x2 : FVec Ideal S1024x5632 .bf16) (x3 : FVec Ideal S2816x1024 .bf16) (x4 : FVec Ideal S1x1024 .f32)
  (x5 : FVec Ideal S1x64x5632 .f32) (x6 : FVec Ideal S1x176x1024 .f32)

theorem rd_gu (q : ℕ) (inb) (k : Fin 1024) (l : Fin 256) (h : q + l.val < 5632) : arg3.view.readAt (Elt Ideal) (Rect.unit (s := S1024x5632) ![0, q] S1024x256.size inb).toLoadRect
    (harg3.unread x2) (ix2 k l) = x2 (ix2 k ⟨q + l.val, h⟩) :=
  Cert.KernelIdeal.Pool.load_apply arg3 harg3 x2 _ _ _ _ _ fun a => by
    match a with
    | ⟨0, _⟩ => exact (Nat.zero_add _).symm
    | ⟨1, _⟩ => rfl

/-- The rows kept in registers, and their norm. -/
theorem r_x : (kernelRun0_A.sl.r (F := Ideal) c arg1 harg1 x0) = x0 :=
  (t_x _).trans (load_all arg1 harg1 x0 _ zero2 _)
theorem r_hf : (kernelRun0_A.sl.r_1 (F := Ideal) c arg1 harg1 arg2 harg2 x0 x1) = hfV x0 x1 := by
  refine (t_hf _ _).trans ?_
  rw [show _ = x0 from load_all arg1 harg1 x0 _ zero2 _, show _ = x1 from load_all arg2 harg2 x1 _ zero2 _]

/-- The eleven chunks are the activation. -/
theorem act_upto : Upto (kernelRun0_A.sl.HS0_11 (F := Ideal) c arg1 harg1 arg2 harg2 arg3 harg3 x0 x1 x2) (actV (hfV x0 x1) x2) 2816 := by
  have e := r_hf c arg1 harg1 arg2 harg2 x0 x1
  have ch : ∀ (q : ℕ) (inbg inbu), ∀ (r : Fin 1024) (l : Fin 256) (h : q + l.val < 2816),
      actVec (kernelRun0_A.sl.r_1 (F := Ideal) c arg1 harg1 arg2 harg2 x0 x1)
        (arg3.view.readAt (Elt Ideal) (Rect.unit (s := S1024x5632) ![0, q] S1024x256.size inbg).toLoadRect (harg3.unread x2))
        (arg3.view.readAt (Elt Ideal) (Rect.unit (s := S1024x5632) ![0, 2816 + q] S1024x256.size inbu).toLoadRect (harg3.unread x2)) (ix2 r l)
      = actV (hfV x0 x1) x2 (ix2 r ⟨q + l.val, h⟩) := by
    intro q inbg inbu r l h
    rw [e]
    exact act_chunk q (hfV x0 x1) x2 _ _ (fun k l h => rd_gu arg3 harg3 x2 q inbg k l h) (fun k l h => rd_gu arg3 harg3 x2 (2816 + q) inbu k l h) r l h
  unfold kernelRun0_A.sl.HS0_11
  refine upto_step 2560 _ _ _ _ (ch 2560 inb_S1024x5632_S1024x256_0_2560 inb_S1024x5632_S1024x256_0_5376) ?_
  refine upto_step 2304 _ _ _ _ (ch 2304 inb_S1024x5632_S1024x256_0_2304 inb_S1024x5632_S1024x256_0_5120) ?_
  refine upto_step 2048 _ _ _ _ (ch 2048 inb_S1024x5632_S1024x256_0_2048 inb_S1024x5632_S1024x256_0_4864) ?_
  refine upto_step 1792 _ _ _ _ (ch 1792 inb_S1024x5632_S1024x256_0_1792 inb_S1024x5632_S1024x256_0_4608) ?_
  refine upto_step 1536 _ _ _ _ (ch 1536 inb_S1024x5632_S1024x256_0_1536 inb_S1024x5632_S1024x256_0_4352) ?_
  refine upto_step 1280 _ _ _ _ (ch 1280 inb_S1024x5632_S1024x256_0_1280 inb_S1024x5632_S1024x256_0_4096) ?_
  refine upto_step 1024 _ _ _ _ (ch 1024 inb_S1024x5632_S1024x256_0_1024 inb_S1024x5632_S1024x256_0_3840) ?_
  refine upto_step 768 _ _ _ _ (ch 768 inb_S1024x5632_S1024x256_0_768 inb_S1024x5632_S1024x256_0_3584) ?_
  refine upto_step 512 _ _ _ _ (ch 512 inb_S1024x5632_S1024x256_0_512 inb_S1024x5632_S1024x256_0_3328) ?_
  refine upto_step 256 _ _ _ _ (ch 256 inb_S1024x5632_S1024x256_0_256 inb_S1024x5632_S1024x256_0_3072) ?_
  refine upto_step 0 _ _ _ _ (ch 0 inb_S1024x5632_S1024x256_0_0 inb_S1024x5632_S1024x256_0_2816) ?_
  exact fun _ _ h => absurd h (Nat.not_lt_zero _)

/-- The scratch read back for the down projection. -/
theorem v234_eq : (kernelRun0_A.sl.v234 (F := Ideal) c arg1 harg1 arg2 harg2 arg3 harg3 arg11 x0 x1 x2 : FVec Ideal S1024x2816 .bf16) = actV (hfV x0 x1) x2 := by
  unfold kernelRun0_A.sl.v234
  rw [View.readCov_eq_canon']
  funext y
  obtain ⟨r, d, rfl⟩ : ∃ (r : Fin 1024) (d : Fin 2816), y = ix2 r d := ⟨y 0, y 1, eq_ix2 y⟩
  refine Eq.trans (congrArg (View.canon _) (funext fun a => Fin.ext ?_)) (act_upto c arg1 harg1 arg2 harg2 arg3 harg3 x0 x1 x2 r d d.isLt)
  match a with
  | ⟨0, _⟩ => show 0 + 1 * r.val = r.val; omega
  | ⟨1, _⟩ => show 0 + 1 * d.val = d.val; omega

/-- The output block after the body. -/
theorem out7_eq : out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = outV x0 x1 x2 x3 := by
  unfold out0_A_7 kernelRun0_A
  dsimp only
  rw [View.read_writes_junk_eq_canon]
  refine (View.canon_cons_unit_zero zero2 _ _ _).trans ?_
  refine (t_out _ _ _).trans ?_
  rw [r_x, v234_eq, show _ = x3 from load_all arg4 harg4 x3 _ zero2 _]
  rfl

/-- A slab of the next layer's gate and up weights, cast. -/
theorem out8_apply (r : Fin 64) (f : Fin 5632) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 r f) = x5 (ix3 0 r f) := by
  unfold out0_A_8 kernelRun0_A
  dsimp only
  rw [View.read_writes_junk_eq_canon]
  refine (congrFun (View.canon_cons_unit_zero zero2 _ _ _) _).trans ?_
  rw [show _ = x5 from load_all arg6 harg6 x5 _ zero3 _]
  unfold k0_pay3
  pointwise []

/-- A slab of the next layer's down weights, cast. -/
theorem out9_apply (r : Fin 176) (f : Fin 1024) : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 r f) = x6 (ix3 0 r f) := by
  unfold out0_A_9 kernelRun0_A
  dsimp only
  rw [View.read_writes_junk_eq_canon]
  refine (congrFun (View.canon_cons_unit_zero zero2 _ _ _) _).trans ?_
  rw [show _ = x6 from load_all arg7 harg7 x6 _ zero3 _]
  unfold k0_pay4
  pointwise []

end Point

end Cert.Kernel3Ideal.Ffn

end
-- ==== Proof.Ffn2In.lean ====
/- The final arrays of layer 2's feed-forward call in the program's arguments. -/
module

public import proofs.«01_k».proof.Proof.Ffn2Read

@[expose] public section

noncomputable section

namespace Cert.Kernel3Ideal.Ffn

open Cert.Kernel3Ideal Cert.Kernel3Ideal.Gen Idealize.ShloMosaic Idealize.ShloMosaic.TcCoe Idealize.ShloMosaic.Pointwise Idealize.SL.Sem
open Cert.KernelIdeal.Pool (rmsRow gated)
open Cert.Kernel2Ideal.Ffn (rmsVec rmsVec_apply hfV actV downV downV_apply actRow flat_apply)

/-- One row before any final norm: norm, gated projection, residual. -/
def midRow (x g : Fin 1024 → EReal) (gu : Fin 1024 → Fin 5632 → EReal) (dn : Fin 2816 → Fin 1024 → EReal) (e : Fin 1024) : EReal :=
  x e + ∑ f, actRow x g gu f * dn f e

/-- The layer's output row `R` in its arguments: norm, gated projection, residual. -/
def layerRow (x0 : FVec Ideal S8x2048x1024 .f32) (x1 : FVec Ideal S4x1024 .f32) (x2 : FVec Ideal S4x1024x5632 .f32) (x3 : FVec Ideal S4x2816x1024 .f32)
    (R : ℕ) : Fin 1024 → EReal :=
  midRow (fun d => x0 (ix3 ⟨R / 2048 % 8, Nat.mod_lt _ (by decide)⟩ ⟨R % 2048, Nat.mod_lt _ (by decide)⟩ d)) (fun d => x1 (ix2 2 d)) (fun k f => x2 (ix3 2 k f))
    (fun f d => x3 (ix3 2 f d))

/-- The output block at an index is its row's value. -/
theorem outV_apply (x : FVec Ideal S1024x1024 .f32) (g : FVec Ideal S1x1024 .f32) (w : FVec Ideal S1024x5632 .bf16) (d : FVec Ideal S2816x1024 .bf16) (r e : Fin 1024) :
    outV x g w d (ix2 r e) = midRow (fun k => x (ix2 r k)) (fun k => g (ix2 0 k)) (fun k f => w (ix2 k f)) (fun f k => d (ix2 f k)) e := by
  have hh : ∀ k, hfV x g (ix2 r k) = rmsRow (fun k => x (ix2 r k)) (fun k => g (ix2 0 k)) k := fun k => rmsVec_apply x g r k
  have ha : ∀ f, actV (hfV x g) w (ix2 r f) = actRow (fun k => x (ix2 r k)) (fun k => g (ix2 0 k)) (fun k f => w (ix2 k f)) f := fun f => by
    show gated (∑ k, hfV x g (ix2 r k) * _) (∑ k, hfV x g (ix2 r k) * _) = _
    simp only [hh]
    rfl
  unfold outV midRow
  rw [downV_apply]
  simp only [ha]

variable (m : (ℓ : Loc nD τ sig) → Buf (Elt Ideal) ℓ) (c : Dev nD)

/-- The index maps of the windows, decided over the grid. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx5 : ∀ t : Fin cfg0.N, win0_5.index t (0 : Fin 3) = 3 ∧ win0_5.index t (1 : Fin 3) = t.val ∧ win0_5.index t (2 : Fin 3) = 0 := (by decide +kernel : ∀ t : Fin grid0.N, _)
theorem idx6 : ∀ t : Fin cfg0.N, win0_6.index t (0 : Fin 3) = 3 ∧ win0_6.index t (1 : Fin 3) = t.val ∧ win0_6.index t (2 : Fin 3) = 0 := (by decide +kernel : ∀ t : Fin grid0.N, _)
theorem idx7 : ∀ t : Fin cfg0.N, (cfg0.win 7).flush t = true ∧ win0_7.index t (0 : Fin 2) = t.val ∧ win0_7.index t (1 : Fin 2) = 0 :=
  (by decide +kernel : ∀ t : Fin grid0.N, win0_7.flush t = true ∧ win0_7.index t (0 : Fin 2) = t.val ∧ win0_7.index t (1 : Fin 2) = 0)
theorem idx8 : ∀ t : Fin cfg0.N, (cfg0.win 8).flush t = true ∧ win0_8.index t (0 : Fin 2) = t.val ∧ win0_8.index t (1 : Fin 2) = 0 :=
  (by decide +kernel : ∀ t : Fin grid0.N, win0_8.flush t = true ∧ win0_8.index t (0 : Fin 2) = t.val ∧ win0_8.index t (1 : Fin 2) = 0)
theorem idx9 : ∀ t : Fin cfg0.N, (cfg0.win 9).flush t = true ∧ win0_9.index t (0 : Fin 2) = t.val ∧ win0_9.index t (1 : Fin 2) = 0 :=
  (by decide +kernel : ∀ t : Fin grid0.N, win0_9.flush t = true ∧ win0_9.index t (0 : Fin 2) = t.val ∧ win0_9.index t (1 : Fin 2) = 0)

/-! ### What the host leaves for the call -/

theorem host_v8 : V m c main_v8 = shapeCast S16384x1024 (m ((c : Thread nD τ).loc main_arg0)) shapeCasts_S8x2048x1024_S16384x1024 := by
  unfold V; after_results; rfl
theorem host_v9 : V m c main_v9 = shapeCast S1x1024 (shapeCast S1024 (extractStridedSlice S1x1024 ![2, 0] (m ((c : Thread nD τ).loc main_arg1)) slices_S4x1024_S1x1024_2_0) shapeCasts_S1x1024_S1024) shapeCasts_S1024_S1x1024 := by
  unfold V; after_results; rfl
theorem host_v4 : V m c main_v4 = (truncf .bf16 (shapeCast S1024x5632 (extractStridedSlice S1x1024x5632 ![2, 0, 0] (m ((c : Thread nD τ).loc main_arg2)) slices_S4x1024x5632_S1x1024x5632_2_0_0) shapeCasts_S1x1024x5632_S1024x5632 : FVec Ideal S1024x5632 .f32) bitsLt_bf16_f32 : FVec Ideal S1024x5632 .bf16) := by
  unfold V; after_results; rfl
theorem host_v7 : V m c main_v7 = (truncf .bf16 (shapeCast S2816x1024 (extractStridedSlice S1x2816x1024 ![2, 0, 0] (m ((c : Thread nD τ).loc main_arg3)) slices_S4x2816x1024_S1x2816x1024_2_0_0) shapeCasts_S1x2816x1024_S2816x1024 : FVec Ideal S2816x1024 .f32) bitsLt_bf16_f32 : FVec Ideal S2816x1024 .bf16) := by
  unfold V; after_results; rfl
/-! ### The host's reshapes and slices at an index -/

theorem gain_apply (x : FVec Ideal S4x1024 .f32) (d : Fin 1024) :
    shapeCast S1x1024 (shapeCast S1024 (extractStridedSlice S1x1024 ![2, 0] x slices_S4x1024_S1x1024_2_0) shapeCasts_S1x1024_S1024) shapeCasts_S1024_S1x1024 (ix2 0 d) = x (ix2 2 d) := by
  rw [shapeCast_shapeCast]
  pointwise []

theorem gu_apply (x : FVec Ideal S4x1024x5632 .f32) (k : Fin 1024) (f : Fin 5632) :
    shapeCast S1024x5632 (extractStridedSlice S1x1024x5632 ![2, 0, 0] x slices_S4x1024x5632_S1x1024x5632_2_0_0) shapeCasts_S1x1024x5632_S1024x5632 (ix2 k f)
      = x (ix3 2 k f) := by
  pointwise []

theorem dn_apply (x : FVec Ideal S4x2816x1024 .f32) (k : Fin 2816) (f : Fin 1024) :
    shapeCast S2816x1024 (extractStridedSlice S1x2816x1024 ![2, 0, 0] x slices_S4x2816x1024_S1x2816x1024_2_0_0) shapeCasts_S1x2816x1024_S2816x1024 (ix2 k f)
      = x (ix3 2 k f) := by
  pointwise []

/-! ### The blocks -/

theorem blk0 (t : Fin cfg0.N) (i : Fin 1024) (d : Fin 1024) : (iblk m c 0 t : FVec Ideal S1024x1024 .f32) (ix2 i d)
    = (m ((c : Thread nD τ).loc main_arg0) : FVec Ideal S8x2048x1024 .f32) (ix3 ⟨(1024 * t.val + i.val) / 2048 % 8, Nat.mod_lt _ (by decide)⟩ ⟨(1024 * t.val + i.val) % 2048, Nat.mod_lt _ (by decide)⟩ d) := by
  have ht : t.val < 16 := t.isLt
  obtain ⟨e0, e1⟩ := idx0 t
  show (V m c main_v8 : FVec Ideal S16384x1024 .f32) (((cfg0.win 0).blk t).view.emb (ix2 i d)) = _
  rw [show ((cfg0.win 0).blk t).view.emb (ix2 i d) = (ix2 ⟨1024 * t.val + i.val, by omega⟩ d : S16384x1024.Idx) from funext fun a => Fin.ext (by
    match a with
    | ⟨0, _⟩ => show win0_0.index t (0 : Fin 2) * 1024 + 1 * i.val = 1024 * t.val + i.val; omega
    | ⟨1, _⟩ => show win0_0.index t (1 : Fin 2) * 1024 + 1 * d.val = d.val; omega), host_v8]
  exact flat_apply _ _ _

theorem blk1 (t : Fin cfg0.N) (d : Fin 1024) : (iblk m c 1 t : FVec Ideal S1x1024 .f32) (ix2 0 d) = (m ((c : Thread nD τ).loc main_arg1) : FVec Ideal S4x1024 .f32) (ix2 2 d) := by
  obtain ⟨e0, e1⟩ := idx1 t
  show (V m c main_v9 : FVec Ideal S1x1024 .f32) (((cfg0.win 1).blk t).view.emb (ix2 0 d)) = _
  rw [show ((cfg0.win 1).blk t).view.emb (ix2 0 d) = (ix2 0 d : S1x1024.Idx) from funext fun a => Fin.ext (by
    match a with
    | ⟨0, _⟩ => show win0_1.index t (0 : Fin 2) * 1 + 1 * 0 = 0; omega
    | ⟨1, _⟩ => show win0_1.index t (1 : Fin 2) * 1024 + 1 * d.val = d.val; omega), host_v9]
  exact gain_apply _ _

theorem blk2 (t : Fin cfg0.N) (k : Fin 1024) (f : Fin 5632) : (iblk m c 2 t : FVec Ideal S1024x5632 .bf16) (ix2 k f) = (m ((c : Thread nD τ).loc main_arg2) : FVec Ideal S4x1024x5632 .f32) (ix3 2 k f) := by
  obtain ⟨e0, e1⟩ := idx2 t
  show (V m c main_v4 : FVec Ideal S1024x5632 .bf16) (((cfg0.win 2).blk t).view.emb (ix2 k f)) = _
  rw [show ((cfg0.win 2).blk t).view.emb (ix2 k f) = (ix2 k f : S1024x5632.Idx) from funext fun a => Fin.ext (by
    match a with
    | ⟨0, _⟩ => show win0_2.index t (0 : Fin 2) * 1024 + 1 * k.val = k.val; omega
    | ⟨1, _⟩ => show win0_2.index t (1 : Fin 2) * 5632 + 1 * f.val = f.val; omega), host_v4]
  exact gu_apply _ _ _

theorem blk3 (t : Fin cfg0.N) (k : Fin 2816) (f : Fin 1024) : (iblk m c 3 t : FVec Ideal S2816x1024 .bf16) (ix2 k f) = (m ((c : Thread nD τ).loc main_arg3) : FVec Ideal S4x2816x1024 .f32) (ix3 2 k f) := by
  obtain ⟨e0, e1⟩ := idx3 t
  show (V m c main_v7 : FVec Ideal S2816x1024 .bf16) (((cfg0.win 3).blk t).view.emb (ix2 k f)) = _
  rw [show ((cfg0.win 3).blk t).view.emb (ix2 k f) = (ix2 k f : S2816x1024.Idx) from funext fun a => Fin.ext (by
    match a with
    | ⟨0, _⟩ => show win0_3.index t (0 : Fin 2) * 2816 + 1 * k.val = k.val; omega
    | ⟨1, _⟩ => show win0_3.index t (1 : Fin 2) * 1024 + 1 * f.val = f.val; omega), host_v7]
  exact dn_apply _ _ _

theorem blk5 (t : Fin cfg0.N) (r : Fin 64) (f : Fin 5632) : (iblk m c 5 t : FVec Ideal S1x64x5632 .f32) (ix3 0 r f)
    = (m ((c : Thread nD τ).loc main_arg2) : FVec Ideal S4x1024x5632 .f32) (ix3 3 ⟨64 * t.val + r.val, by have : t.val < 16 := t.isLt; omega⟩ f) := by
  have ht : t.val < 16 := t.isLt
  obtain ⟨e0, e1, e2⟩ := idx5 t
  show (V m c main_arg2 : FVec Ideal S4x1024x5632 .f32) (((cfg0.win 5).blk t).view.emb (ix3 0 r f)) = _
  rw [show ((cfg0.win 5).blk t).view.emb (ix3 0 r f) = (ix3 3 ⟨64 * t.val + r.val, by omega⟩ f : S4x1024x5632.Idx) from funext fun a => Fin.ext (by
    match a with
    | ⟨0, _⟩ => show win0_5.index t (0 : Fin 3) * 1 + 1 * 0 = 3; omega
    | ⟨1, _⟩ => show win0_5.index t (1 : Fin 3) * 64 + 1 * r.val = 64 * t.val + r.val; omega
    | ⟨2, _⟩ => show win0_5.index t (2 : Fin 3) * 5632 + 1 * f.val = f.val; omega), V_main_arg2]

theorem blk6 (t : Fin cfg0.N) (r : Fin 176) (f : Fin 1024) : (iblk m c 6 t : FVec Ideal S1x176x1024 .f32) (ix3 0 r f)
    = (m ((c : Thread nD τ).loc main_arg3) : FVec Ideal S4x2816x1024 .f32) (ix3 3 ⟨176 * t.val + r.val, by have : t.val < 16 := t.isLt; omega⟩ f) := by
  have ht : t.val < 16 := t.isLt
  obtain ⟨e0, e1, e2⟩ := idx6 t
  show (V m c main_arg3 : FVec Ideal S4x2816x1024 .f32) (((cfg0.win 6).blk t).view.emb (ix3 0 r f)) = _
  rw [show ((cfg0.win 6).blk t).view.emb (ix3 0 r f) = (ix3 3 ⟨176 * t.val + r.val, by omega⟩ f : S4x2816x1024.Idx) from funext fun a => Fin.ext (by
    match a with
    | ⟨0, _⟩ => show win0_6.index t (0 : Fin 3) * 1 + 1 * 0 = 3; omega
    | ⟨1, _⟩ => show win0_6.index t (1 : Fin 3) * 176 + 1 * r.val = 176 * t.val + r.val; omega
    | ⟨2, _⟩ => show win0_6.index t (2 : Fin 3) * 1024 + 1 * f.val = f.val; omega), V_main_arg3]

/-! ### The final arrays -/

/-- The layer's output array. -/
def G7 (c : Dev nD) : FVec Ideal S16384x1024 .f32 := fun i =>
  layerRow (m ((c : Thread nD τ).loc main_arg0)) (m ((c : Thread nD τ).loc main_arg1)) (m ((c : Thread nD τ).loc main_arg2)) (m ((c : Thread nD τ).loc main_arg3)) (i 0).val (i 1)

/-- The next layer's gate and up weights. -/
def G8 (c : Dev nD) : FVec Ideal S1024x5632 .bf16 := fun i => (m ((c : Thread nD τ).loc main_arg2) : FVec Ideal S4x1024x5632 .f32) (ix3 3 (i 0) (i 1))

/-- The next layer's down weights. -/
def G9 (c : Dev nD) : FVec Ideal S2816x1024 .bf16 := fun i => (m ((c : Thread nD τ).loc main_arg3) : FVec Ideal S4x2816x1024 .f32) (ix3 3 (i 0) (i 1))

/-- The output block of point `t` at an index. -/
theorem block_apply (t : Fin cfg0.N) (r e : Fin 1024) :
    outV (iblk m c 0 t) (iblk m c 1 t) (iblk m c 2 t) (iblk m c 3 t) (ix2 r e)
      = layerRow (m ((c : Thread nD τ).loc main_arg0)) (m ((c : Thread nD τ).loc main_arg1)) (m ((c : Thread nD τ).loc main_arg2)) (m ((c : Thread nD τ).loc main_arg3))
        (1024 * t.val + r.val) e := by
  rw [outV_apply]
  simp only [blk0, blk1, blk2, blk3]
  rfl

/-- What point `t` writes back is block `t` of the array. -/
theorem flushed7_eq (t : Fin cfg0.N) : (dats m 0 c).flushed 7 t = ((cfg0.win 7).blk t).view.read (Elt Ideal) (G7 m c) := by
  have ht : t.val < 16 := t.isLt
  obtain ⟨-, e0, e1⟩ := idx7 t
  rw [Value.flushed7_A, out7_eq]
  funext y
  have hy0 : (y 0).val < 1024 := (y 0).isLt
  have hy1 : (y 1).val < 1024 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 1024 + 1 * (y 1).val := rfl
  have hx : (cfg0.win 7).xinj (grid0.coords t) y = ix2 ⟨(y 0).val, hy0⟩ ⟨(y 1).val, hy1⟩ := by
    funext a; apply Fin.ext
    match a with
    | ⟨0, _⟩ => rfl
    | ⟨1, _⟩ => rfl
  show outV (iblk m c 0 t) (iblk m c 1 t) (iblk m c 2 t) (iblk m c 3 t) ((cfg0.win 7).xinj (grid0.coords t) y) = G7 m c (((cfg0.win 7).blk t).view.emb y)
  rw [hx, block_apply]
  show _ = layerRow _ _ _ _ (((cfg0.win 7).blk t).view.emb y 0).val (((cfg0.win 7).blk t).view.emb y 1)
  rw [show (((cfg0.win 7).blk t).view.emb y 0).val = 1024 * t.val + (y 0).val by rw [hb0, e0]; omega,
    show ((cfg0.win 7).blk t).view.emb y 1 = (⟨(y 1).val, hy1⟩ : Fin 1024) from Fin.ext (by rw [hb1, e1]; show 0 * 1024 + 1 * (y 1).val = (y 1).val; omega)]

/-- What point `t` writes back is block `t` of the array. -/
theorem flushed8_eq (t : Fin cfg0.N) : (dats m 0 c).flushed 8 t = ((cfg0.win 8).blk t).view.read (Elt Ideal) (G8 m c) := by
  have ht : t.val < 16 := t.isLt
  obtain ⟨-, e0, e1⟩ := idx8 t
  rw [Value.flushed8_A]
  funext y
  have hy0 : (y 0).val < 64 := (y 0).isLt
  have hy1 : (y 1).val < 5632 := (y 1).isLt
  have hb0 : (((cfg0.win 8).blk t).view.emb y 0).val = win0_8.index t (0 : Fin 2) * 64 + 1 * (y 0).val := rfl
  have hb1 : (((cfg0.win 8).blk t).view.emb y 1).val = win0_8.index t (1 : Fin 2) * 5632 + 1 * (y 1).val := rfl
  have hx : (cfg0.win 8).xinj (grid0.coords t) y = ix2 ⟨(y 0).val, hy0⟩ ⟨(y 1).val, hy1⟩ := by
    funext a; apply Fin.ext
    match a with
    | ⟨0, _⟩ => rfl
    | ⟨1, _⟩ => rfl
  refine (congrArg (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t)) hx).trans ?_
  rw [out8_apply, blk5]
  show _ = (m ((c : Thread nD τ).loc main_arg2) : FVec Ideal S4x1024x5632 .f32) (ix3 3 (((cfg0.win 8).blk t).view.emb y 0) (((cfg0.win 8).blk t).view.emb y 1))
  rw [show ((cfg0.win 8).blk t).view.emb y 0 = (⟨64 * t.val + (y 0).val, by omega⟩ : Fin 1024) from Fin.ext (by rw [hb0, e0]; show t.val * 64 + 1 * (y 0).val = 64 * t.val + (y 0).val; omega),
    show ((cfg0.win 8).blk t).view.emb y 1 = (⟨(y 1).val, hy1⟩ : Fin 5632) from Fin.ext (by rw [hb1, e1]; show 0 * 5632 + 1 * (y 1).val = (y 1).val; omega)]

/-- What point `t` writes back is block `t` of the array. -/
theorem flushed9_eq (t : Fin cfg0.N) : (dats m 0 c).flushed 9 t = ((cfg0.win 9).blk t).view.read (Elt Ideal) (G9 m c) := by
  have ht : t.val < 16 := t.isLt
  obtain ⟨-, e0, e1⟩ := idx9 t
  rw [Value.flushed9_A]
  funext y
  have hy0 : (y 0).val < 176 := (y 0).isLt
  have hy1 : (y 1).val < 1024 := (y 1).isLt
  have hb0 : (((cfg0.win 9).blk t).view.emb y 0).val = win0_9.index t (0 : Fin 2) * 176 + 1 * (y 0).val := rfl
  have hb1 : (((cfg0.win 9).blk t).view.emb y 1).val = win0_9.index t (1 : Fin 2) * 1024 + 1 * (y 1).val := rfl
  have hx : (cfg0.win 9).xinj (grid0.coords t) y = ix2 ⟨(y 0).val, hy0⟩ ⟨(y 1).val, hy1⟩ := by
    funext a; apply Fin.ext
    match a with
    | ⟨0, _⟩ => rfl
    | ⟨1, _⟩ => rfl
  refine (congrArg (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t)) hx).trans ?_
  rw [out9_apply, blk6]
  show _ = (m ((c : Thread nD τ).loc main_arg3) : FVec Ideal S4x2816x1024 .f32) (ix3 3 (((cfg0.win 9).blk t).view.emb y 0) (((cfg0.win 9).blk t).view.emb y 1))
  rw [show ((cfg0.win 9).blk t).view.emb y 0 = (⟨176 * t.val + (y 0).val, by omega⟩ : Fin 2816) from Fin.ext (by rw [hb0, e0]; show t.val * 176 + 1 * (y 0).val = 176 * t.val + (y 0).val; omega),
    show ((cfg0.win 9).blk t).view.emb y 1 = (⟨(y 1).val, hy1⟩ : Fin 1024) from Fin.ext (by rw [hb1, e1]; show 0 * 1024 + 1 * (y 1).val = (y 1).val; omega)]

/-- Every index is in some point's block. -/
theorem covered7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : (i 0).val / 1024 < cfg0.N := lt_of_lt_of_eq (by omega : (i 0).val / 1024 < 16) N_0.symm
  obtain ⟨hf, e0, e1⟩ := idx7 ⟨(i 0).val / 1024, hN⟩
  refine ⟨⟨(i 0).val / 1024, hN⟩, hf, ?_⟩
  show i ∈ ((View.whole main_v11_0).slice (win0_7.rect ⟨(i 0).val / 1024, hN⟩)).set
  rw [View.set_slice_whole, Rect.mem_set_unit]
  intro a
  match a with
  | ⟨0, _⟩ =>
    show win0_7.index ⟨(i 0).val / 1024, hN⟩ (0 : Fin 2) * 1024 ≤ (i 0).val ∧ (i 0).val < win0_7.index ⟨(i 0).val / 1024, hN⟩ (0 : Fin 2) * 1024 + 1024
    rw [e0]; show (i 0).val / 1024 * 1024 ≤ _ ∧ _ < (i 0).val / 1024 * 1024 + 1024; omega
  | ⟨1, _⟩ =>
    show win0_7.index ⟨(i 0).val / 1024, hN⟩ (1 : Fin 2) * 1024 ≤ (i 1).val ∧ (i 1).val < win0_7.index ⟨(i 0).val / 1024, hN⟩ (1 : Fin 2) * 1024 + 1024
    rw [e1]; omega

/-- The array after the run. -/
theorem final7 : (dats m 0 c).arrAt 7 cfg0.N = G7 m c :=
  (dats m 0 c).arrAt_eq_of_cover 7 _ (fun t _ => flushed7_eq m c t) covered7

/-- Every index is in some point's block. -/
theorem covered8 (i : S1024x5632.Idx) : ∃ t : Fin cfg0.N, (cfg0.win 8).flush t = true ∧ i ∈ ((cfg0.win 8).blk t).view.set := by
  have hi0 : (i 0).val < 1024 := (i 0).isLt
  have hi1 : (i 1).val < 5632 := (i 1).isLt
  have hN : (i 0).val / 64 < cfg0.N := lt_of_lt_of_eq (by omega : (i 0).val / 64 < 16) N_0.symm
  obtain ⟨hf, e0, e1⟩ := idx8 ⟨(i 0).val / 64, hN⟩
  refine ⟨⟨(i 0).val / 64, hN⟩, hf, ?_⟩
  show i ∈ ((View.whole main_v11_1).slice (win0_8.rect ⟨(i 0).val / 64, hN⟩)).set
  rw [View.set_slice_whole, Rect.mem_set_unit]
  intro a
  match a with
  | ⟨0, _⟩ =>
    show win0_8.index ⟨(i 0).val / 64, hN⟩ (0 : Fin 2) * 64 ≤ (i 0).val ∧ (i 0).val < win0_8.index ⟨(i 0).val / 64, hN⟩ (0 : Fin 2) * 64 + 64
    rw [e0]; show (i 0).val / 64 * 64 ≤ _ ∧ _ < (i 0).val / 64 * 64 + 64; omega
  | ⟨1, _⟩ =>
    show win0_8.index ⟨(i 0).val / 64, hN⟩ (1 : Fin 2) * 5632 ≤ (i 1).val ∧ (i 1).val < win0_8.index ⟨(i 0).val / 64, hN⟩ (1 : Fin 2) * 5632 + 5632
    rw [e1]; omega

/-- The array after the run. -/
theorem final8 : (dats m 0 c).arrAt 8 cfg0.N = G8 m c :=
  (dats m 0 c).arrAt_eq_of_cover 8 _ (fun t _ => flushed8_eq m c t) covered8

/-- Every index is in some point's block. -/
theorem covered9 (i : S2816x1024.Idx) : ∃ t : Fin cfg0.N, (cfg0.win 9).flush t = true ∧ i ∈ ((cfg0.win 9).blk t).view.set := by
  have hi0 : (i 0).val < 2816 := (i 0).isLt
  have hi1 : (i 1).val < 1024 := (i 1).isLt
  have hN : (i 0).val / 176 < cfg0.N := lt_of_lt_of_eq (by omega : (i 0).val / 176 < 16) N_0.symm
  obtain ⟨hf, e0, e1⟩ := idx9 ⟨(i 0).val / 176, hN⟩
  refine ⟨⟨(i 0).val / 176, hN⟩, hf, ?_⟩
  show i ∈ ((View.whole main_v11_2).slice (win0_9.rect ⟨(i 0).val / 176, hN⟩)).set
  rw [View.set_slice_whole, Rect.mem_set_unit]
  intro a
  match a with
  | ⟨0, _⟩ =>
    show win0_9.index ⟨(i 0).val / 176, hN⟩ (0 : Fin 2) * 176 ≤ (i 0).val ∧ (i 0).val < win0_9.index ⟨(i 0).val / 176, hN⟩ (0 : Fin 2) * 176 + 176
    rw [e0]; show (i 0).val / 176 * 176 ≤ _ ∧ _ < (i 0).val / 176 * 176 + 176; omega
  | ⟨1, _⟩ =>
    show win0_9.index ⟨(i 0).val / 176, hN⟩ (1 : Fin 2) * 1024 ≤ (i 1).val ∧ (i 1).val < win0_9.index ⟨(i 0).val / 176, hN⟩ (1 : Fin 2) * 1024 + 1024
    rw [e1]; omega

/-- The array after the run. -/
theorem final9 : (dats m 0 c).arrAt 9 cfg0.N = G9 m c :=
  (dats m 0 c).arrAt_eq_of_cover 9 _ (fun t _ => flushed9_eq m c t) covered9

end Cert.Kernel3Ideal.Ffn

end
-- ==== Proof.Ffn2Ref.lean ====
/- Layer 2's feed-forward part in the reference row by row, as functions of its arguments. -/
module

public import proofs.«01_k».proof.Proof.Ffn2In
public import proofs.«01_k».proof.Proof.Gen.Reference3Ideal.Read
public import Idealize.ShloMosaic.Lib.Pointwise
public import Idealize.ShloMosaic.Lib.ReduceAll

@[expose] public section

noncomputable section

namespace Cert.Reference3Ideal.Ffn

open Cert.Reference3Ideal Cert.Reference3Ideal.Gen Cert.Reference3Ideal.Read Idealize.ShloMosaic Idealize.ShloMosaic.TcCoe Idealize.ShloMosaic.Pointwise
open Cert.KernelIdeal.Pool (rmsRow gated)
open Cert.Kernel2Ideal.Ffn (actRow)
open Cert.Kernel3Ideal.Ffn (midRow layerRow)

/-- The rows' norm as the reference writes it, under the gain `G`. -/
def normV (x G : FVec Ideal S8x2048x1024 .f32) : FVec Ideal S8x2048x1024 .f32 :=
  mulf (mulf x (broadcastInDim S8x2048x1024 ![0, 1, 2] bcast_S8x2048x1_S8x2048x1024_0_1_2 (Host.rsqrt (addf
    (Host.divf (broadcastInDim S8x2048x1 ![0, 1] bcast_S8x2048_S8x2048x1_0_1 (Host.reduceAdd (mulf x x) (constant S_ .f32 0x00000000#32) reducesTo_S8x2048x1024_S8x2048_d2 h_S_ : FVec Ideal S8x2048 .f32))
      (broadcastInDim S8x2048x1 ![] bcast_S_S8x2048x1 (constant S_ .f32 0x44800000#32)))
    (broadcastInDim S8x2048x1 ![] bcast_S_S8x2048x1 (constant S_ .f32 0x358637BD#32)))))) G

/-- The norm at an index is its row's norm. -/
theorem normV_apply (x G : FVec Ideal S8x2048x1024 .f32) (g : Fin 1024 → EReal) (hG : ∀ b t d, G (ix3 b t d) = g d) (b : Fin 8) (t : Fin 2048) (d : Fin 1024) :
    normV x G (ix3 b t d) = rmsRow (fun k => x (ix3 b t k)) g d := by
  rw [show normV x G (ix3 b t d) = _ * G (ix3 b t d) from rfl, hG]
  unfold rmsRow
  pointwise []

variable (x0 : FVec Ideal S8x2048x1024 .f32) (x1 : FVec Ideal S4x1024 .f32) (x2 : FVec Ideal S4x1024x5632 .f32) (x3 : FVec Ideal S4x2816x1024 .f32)

theorem v13_at (b : Fin 8) (t : Fin 2048) (d : Fin 1024) : val_main_v13 (F := Ideal) x1 (ix3 b t d) = x1 (ix2 2 d) := by
  unfold val_main_v13 val_main_v12 val_main_v1 val_main_v0
  pointwise []

theorem v14_at (b : Fin 8) (t : Fin 2048) (k : Fin 1024) :
    val_main_v14 (F := Ideal) x0 x1 (ix3 b t k) = rmsRow (fun d => x0 (ix3 b t d)) (fun d => x1 (ix2 2 d)) k :=
  normV_apply x0 (val_main_v13 (F := Ideal) x1) (fun d => x1 (ix2 2 d)) (v13_at x1) b t k

theorem v16_at (k : Fin 1024) (f : Fin 5632) : val_main_v16 (F := Ideal) x2 (ix2 k f) = x2 (ix3 2 k f) := by
  unfold val_main_v16 val_main_v15
  pointwise []

theorem v18_at (f : Fin 2816) (e : Fin 1024) : val_main_v18 (F := Ideal) x3 (ix2 f e) = x3 (ix3 2 f e) := by
  unfold val_main_v18 val_main_v17
  pointwise []

theorem v19_at (b : Fin 8) (t : Fin 2048) (f : Fin 5632) :
    val_main_v19 (F := Ideal) x0 x1 x2 (ix3 b t f) = ∑ k, rmsRow (fun d => x0 (ix3 b t d)) (fun d => x1 (ix2 2 d)) k * x2 (ix3 2 k f) := by
  rw [val_main_v19_apply]
  refine Finset.sum_congr rfl fun k _ => ?_
  rw [← v14_at x0 x1, ← v16_at x2]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

theorem v23_at (b : Fin 8) (t : Fin 2048) (f : Fin 2816) :
    val_main_v23 (F := Ideal) x0 x1 x2 (ix3 b t f) = actRow (fun d => x0 (ix3 b t d)) (fun d => x1 (ix2 2 d)) (fun k f => x2 (ix3 2 k f)) f := by
  have hG : val_main_v20 (F := Ideal) x0 x1 x2 (ix3 b t f) = val_main_v19 (F := Ideal) x0 x1 x2 (ix3 b t ⟨f.val, by omega⟩) := by
    rw [val_main_v20_apply]
    refine congrArg _ (funext fun a => Fin.ext ?_)
    match a with
    | ⟨0, _⟩ => first | rfl | exact Nat.zero_add _
    | ⟨1, _⟩ => first | rfl | exact Nat.zero_add _
    | ⟨2, _⟩ => first | rfl | exact Nat.zero_add _
  have hU : val_main_v21 (F := Ideal) x0 x1 x2 (ix3 b t f) = val_main_v19 (F := Ideal) x0 x1 x2 (ix3 b t ⟨2816 + f.val, by omega⟩) := by
    rw [val_main_v21_apply]
    refine congrArg _ (funext fun a => Fin.ext ?_)
    match a with
    | ⟨0, _⟩ => first | rfl | exact Nat.zero_add _
    | ⟨1, _⟩ => first | rfl | exact Nat.zero_add _
    | ⟨2, _⟩ => first | rfl | exact Nat.add_comm _ _
  have h1 : val_main_call0_v2 (F := Ideal) (ix3 b t f) = 1 := by rw [val_main_call0_v2_apply]; exact Ideal.ofBits_one_f32
  have h2 : val_main_call0_v4 (F := Ideal) (ix3 b t f) = 1 := by rw [val_main_call0_v4_apply]; exact Ideal.ofBits_one_f32
  show val_main_v20 (F := Ideal) x0 x1 x2 (ix3 b t f) * Ideal.div (val_main_call0_v4 (F := Ideal) (ix3 b t f))
    (val_main_call0_v2 (F := Ideal) (ix3 b t f) + Ideal.exp (-(val_main_v20 (F := Ideal) x0 x1 x2 (ix3 b t f)))) * val_main_v21 (F := Ideal) x0 x1 x2 (ix3 b t f) = _
  rw [h1, h2, hG, hU, v19_at, v19_at]
  unfold actRow gated
  rw [zero_sub]

theorem v25_at (b : Fin 8) (t : Fin 2048) (e : Fin 1024) :
    val_main_v25 (F := Ideal) x0 x1 x2 x3 (ix3 b t e)
      = x0 (ix3 b t e) + ∑ f, actRow (fun d => x0 (ix3 b t d)) (fun d => x1 (ix2 2 d)) (fun k f => x2 (ix3 2 k f)) f * x3 (ix3 2 f e) := by
  show x0 (ix3 b t e) + val_main_v24 (F := Ideal) x0 x1 x2 x3 (ix3 b t e) = _
  rw [val_main_v24_apply]
  congr 1
  refine Finset.sum_congr rfl fun f _ => ?_
  rw [← v23_at x0 x1 x2, ← v18_at x3]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

/-- The layer's output row. -/
theorem v26_at (R : Fin 16384) (e : Fin 1024) : val_main_v26 (F := Ideal) x0 x1 x2 x3 (ix2 R e) = layerRow x0 x1 x2 x3 R.val e := by
  have hR := R.isLt
  have he := e.isLt
  refine Eq.trans ?_ (v25_at x0 x1 x2 x3 ⟨R.val / 2048 % 8, Nat.mod_lt _ (by decide)⟩ ⟨R.val % 2048, Nat.mod_lt _ (by decide)⟩ e)
  rw [val_main_v26_apply]
  refine congrArg _ (funext fun a => Fin.ext ?_)
  match a with
  | ⟨0, _⟩ => show (R.val * 1024 + e.val) / 2097152 = R.val / 2048 % 8; omega
  | ⟨1, _⟩ => show (R.val * 1024 + e.val) / 1024 % 2048 = R.val % 2048; omega
  | ⟨2, _⟩ => show (R.val * 1024 + e.val) % 1024 = e.val; omega

theorem v29_at (k : Fin 1024) (f : Fin 5632) : val_main_v29 (F := Ideal) x2 (ix2 k f) = x2 (ix3 3 k f) := by
  unfold val_main_v29 val_main_v28 val_main_v27
  pointwise []

theorem v32_at (k : Fin 2816) (f : Fin 1024) : val_main_v32 (F := Ideal) x3 (ix2 k f) = x3 (ix3 3 k f) := by
  unfold val_main_v32 val_main_v31 val_main_v30
  pointwise []

end Cert.Reference3Ideal.Ffn

end
-- ==== Proof.Ffn2Eq.lean ====
/- The claims of layer 2's feed-forward call: the frames, and its three arrays against the plain layer's, over the extended reals. -/
module

public import proofs.«01_k».proof.Defs
public import proofs.«01_k».proof.Proof.Gen.Kernel3.Frame
public import proofs.«01_k».proof.Proof.Ffn2Ref
public import proofs.«01_k».proof.Proof.Gen.Reference3Ideal.Run
public import Idealize.ShloMosaic.Lib.Quiescent

@[expose] public section

noncomputable section

namespace Cert.Ffn2Eq

open Idealize.ShloMosaic Idealize.ShloMosaic.Pointwise Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

/-- The plain layer runs and leaves its arguments; it declares no semaphore. -/
theorem frame_reference : Cert.quiescent_Reference3Ideal := fun m ρ _ =>
  (θ_run Cert.Reference3Ideal.defs _ _).mono (fun r h => ⟨fun c => (h c).2.2.2, sem_eq_zero_of_no_sems rfl r.2⟩) (Cert.Reference3Ideal.Value.run m ρ)

/-- The kernel's three arrays are the plain layer's output and the two weight arrays it passes on. -/
theorem equal : Cert.algebraic_Kernel3Ideal_Reference3Ideal := by
  intro m g m' g' _ harg
  refine ⟨Cert.Kernel3Ideal.Ffn.G7 m, Cert.Kernel3Ideal.Ffn.G8 m, Cert.Kernel3Ideal.Ffn.G9 m, (θ_run Cert.Kernel3Ideal.defs _ _).mono (fun r h c =>
    ⟨(h c).1.trans (Cert.Kernel3Ideal.Ffn.final7 m c), (h c).2.1.trans (Cert.Kernel3Ideal.Ffn.final8 m c), (h c).2.2.1.trans (Cert.Kernel3Ideal.Ffn.final9 m c), (h c).2.2.2⟩)
    (Cert.Kernel3Ideal.Value.run_blocks m g), ?_⟩
  refine (θ_run Cert.Reference3Ideal.defs _ _).mono (fun r h c => ?_) (Cert.Reference3Ideal.Value.run m' g')
  obtain ⟨a0, a1, a2, a3, a4⟩ := harg c
  obtain ⟨r0, r1, r2, kept⟩ := h c
  refine ⟨?_, ?_, ?_, kept⟩
  · refine (r0.trans (Cert.Reference3Ideal.Read.val_main_v26_eq (F := Ideal) m' c)).trans ?_
    rw [a0, a1, a2, a3]
    funext i
    obtain ⟨k, f, rfl⟩ : ∃ (k : Fin 16384) (f : Fin 1024), i = ix2 k f := ⟨i 0, i 1, eq_ix2 (n0 := 16384) (n1 := 1024) i⟩
    exact Cert.Reference3Ideal.Ffn.v26_at _ _ _ _ k f
  · refine (r1.trans (Cert.Reference3Ideal.Read.val_main_v29_eq (F := Ideal) _)).trans ?_
    rw [a2]
    funext i
    obtain ⟨k, f, rfl⟩ : ∃ (k : Fin 1024) (f : Fin 5632), i = ix2 k f := ⟨i 0, i 1, eq_ix2 (n0 := 1024) (n1 := 5632) i⟩
    exact Cert.Reference3Ideal.Ffn.v29_at _ k f
  · refine (r2.trans (Cert.Reference3Ideal.Read.val_main_v32_eq (F := Ideal) _)).trans ?_
    rw [a3]
    funext i
    obtain ⟨k, f, rfl⟩ : ∃ (k : Fin 2816) (f : Fin 1024), i = ix2 k f := ⟨i 0, i 1, eq_ix2 (n0 := 2816) (n1 := 1024) i⟩
    exact Cert.Reference3Ideal.Ffn.v32_at _ k f

end Cert.Ffn2Eq

end
-- ==== Proof.KvRun.lean ====
/- The body of the shared keys' and values' call, run: what its stores leave in its three outputs. -/
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import Idealize.ShloMosaic.Lib.WritesUnit
public import Idealize.ShloMosaic.Lib.Pointwise

@[expose] public section

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

variable {F : FTy → Type} [FloatOps F]

/-- The assertions' model. -/
abbrev KvM (F : FTy → Type) [FloatOps F] := MT nD τ sig Unit (Elt F) ℕ (UR sig nD τ) ℕ

/-- The body's run: the inputs are left, the two blocks of keys and values are written whole, and the stores of the key means are written over
    what their buffer held. -/
noncomputable def kvRun (c : Dev nD) (i : grid0.Coords) (arg2 : Memref sig .tc .vmem S1x1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole)
    (arg7 : Memref sig .tc .vmem S1x1024x1024 .bf16) (harg7 : arg7.IsWhole) (arg8 : Memref sig .tc .vmem S1x8x1024 .f32) (harg8 : arg8.IsWhole)
    (x0 : Vec F S1x1024x1024 .f32) (x1 : Vec F S1x1024 .f32) (x2 x3 : Vec F S1024x1024 .bf16) :
    Σ' (L4 L5 : List (View.Piece (Elt F) S1x1024x1024 .bf16)), { L6 : List (View.Piece (Elt F) S1x8x1024 .f32) //
      ∀ (E : Set ℕ) (f6) (K : PUnit → sProp (KvM F)),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (arg8.view.loc (c : Thread nD τ) ↦[arg8.view.set]{fullShare} f6)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
              ∗ (arg8.view.loc (c : Thread nD τ) ↦[arg8.view.set]{fullShare} arg8.view.writes (Elt F) f6 L6)) -∗ K ⟨⟩))
          ⊢ wp frame (wpE (defs₀ (F := F)) Variants.none c none) E (cc0_shared_kv i arg2 harg2 arg3 harg3 arg4 harg4 arg5 harg5 arg6 harg6 arg7 harg7 arg8 harg8) K } := by
  refine ⟨?_, ?_, ?_, fun E f6 K => ?run⟩
  case run =>
    simp only [cc0_shared_kv_eq_skeleton]; unfold cc0_shared_kv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, H6, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact H6

/-- A load of a whole buffer reads its contents. -/
theorem kvLoad {S : Shape} {e : EltTy} {sp : Space} (m : Memref sig .tc sp S e) (hm : m.IsWhole) (X : S.Idx → Elt F e)
    (off : Fin S.rank → ℕ) (ho : off = fun _ => 0) (inb : ∀ a, off a + S.size a ≤ S.size a) :
    m.view.readAt (Elt F) (Rect.unit off S.size inb).toLoadRect (hm.unread X) = X := by
  rw [View.readAt_eq_ld, hm.read_unread]
  exact View.ld_unit_zero ho inb X

theorem kvZero2 : (![0, 0] : Fin 2 → ℕ) = fun _ => 0 := by
  funext a; match a with
  | ⟨0, _⟩ => rfl
  | ⟨1, _⟩ => rfl

theorem kvZero3 : (![0, 0, 0] : Fin 3 → ℕ) = fun _ => 0 := by
  funext a; match a with
  | ⟨0, _⟩ => rfl
  | ⟨1, _⟩ => rfl
  | ⟨2, _⟩ => rfl

/-- The four means of a point's keys, as the body stores them. -/
def kvRow (x0 : Vec F S1x1024x1024 .f32) (x1 : Vec F S1x1024 .f32) (x2 : Vec F S1024x1024 .bf16) : Fin 4 → FVec F S1x1x1024 .f32
  | 0 => k0_pay7 (k0_pay6 x0 x1 x2) (Scalar.ofBits .f32 0x43800000#32)
  | 1 => k0_pay8 (k0_pay3 x0 x1 x2)
  | 2 => k0_pay9 (k0_pay3 x0 x1 x2)
  | 3 => k0_pay1 (k0_pay10 (k0_pay3 x0 x1 x2))

section Run
variable (c : Dev nD) (i : grid0.Coords) (arg2 : Memref sig .tc .vmem S1x1024x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S1024x1024 .bf16) (harg5 : arg5.IsWhole) (arg6 : Memref sig .tc .vmem S1x1024x1024 .bf16) (harg6 : arg6.IsWhole)
  (arg7 : Memref sig .tc .vmem S1x1024x1024 .bf16) (harg7 : arg7.IsWhole) (arg8 : Memref sig .tc .vmem S1x8x1024 .f32) (harg8 : arg8.IsWhole)
  (x0 : Vec F S1x1024x1024 .f32) (x1 : Vec F S1x1024 .f32) (x2 x3 : Vec F S1024x1024 .bf16)

/-- The keys' block after the body. -/
theorem kvRun_4 (f) : arg6.view.read (Elt F) (arg6.view.writes (Elt F) f (kvRun c i arg2 harg2 arg3 harg3 arg4 harg4 arg5 harg5 arg6 harg6 arg7 harg7 arg8 harg8 x0 x1 x2 x3).1) = k0_pay4 x0 x1 x2 := by
  unfold kvRun
  dsimp only
  funext y
  refine (View.read_writes_cons_unit_of_mem arg6.view f _ _ _ y y kvZero3 (fun a => (Nat.zero_add _).symm)).trans ?_
  rw [show _ = x0 from kvLoad arg2 harg2 x0 _ kvZero3 _, show _ = x1 from kvLoad arg3 harg3 x1 _ kvZero2 _, show _ = x2 from kvLoad arg4 harg4 x2 _ kvZero2 _]

/-- The values' block after the body. -/
theorem kvRun_5 (f) : arg7.view.read (Elt F) (arg7.view.writes (Elt F) f (kvRun c i arg2 harg2 arg3 harg3 arg4 harg4 arg5 harg5 arg6 harg6 arg7 harg7 arg8 harg8 x0 x1 x2 x3).2.1) = k0_pay5 x0 x1 x3 := by
  unfold kvRun
  dsimp only
  funext y
  refine (View.read_writes_cons_unit_of_mem arg7.view f _ _ _ y y kvZero3 (fun a => (Nat.zero_add _).symm)).trans ?_
  rw [show _ = x0 from kvLoad arg2 harg2 x0 _ kvZero3 _, show _ = x1 from kvLoad arg3 harg3 x1 _ kvZero2 _, show _ = x3 from kvLoad arg5 harg5 x3 _ kvZero2 _]

theorem kvRun_r : kvRun.sl.r (F := F) c arg2 harg2 arg3 harg3 arg4 harg4 x0 x1 x2 = k0_pay3 x0 x1 x2 := by
  unfold kvRun.sl.r
  rw [show _ = x0 from kvLoad arg2 harg2 x0 _ kvZero3 _, show _ = x1 from kvLoad arg3 harg3 x1 _ kvZero2 _, show _ = x2 from kvLoad arg4 harg4 x2 _ kvZero2 _]
theorem kvRun_r1 : kvRun.sl.r_1 (F := F) c arg2 harg2 arg3 harg3 arg4 harg4 x0 x1 x2 = k0_pay6 x0 x1 x2 := by
  unfold kvRun.sl.r_1
  rw [show _ = x0 from kvLoad arg2 harg2 x0 _ kvZero3 _, show _ = x1 from kvLoad arg3 harg3 x1 _ kvZero2 _, show _ = x2 from kvLoad arg4 harg4 x2 _ kvZero2 _]
theorem kvRun_r2 : kvRun.sl.r_2 (F := F) c arg2 harg2 arg3 harg3 arg4 harg4 x0 x1 x2 = k0_pay10 (k0_pay3 x0 x1 x2) := by
  unfold kvRun.sl.r_2
  rw [kvRun_r]

/-- One row stored last is read back; another row is read from before. -/
theorem row_hit (v : View sig .tc .vmem S1x8x1024 .f32) (f) (q : ℕ) (off : Fin 3 → ℕ) (ho : off = ![0, q, 0]) (inb) (w : FVec F S1x1x1024 .f32) (L) (hq : q < 8) (d : Fin 1024) :
    v.read (Elt F) (v.writes (Elt F) f ((⟨Rect.unit (s := S1x8x1024) off S1x1x1024.size inb, w⟩ : View.Piece (Elt F) S1x8x1024 .f32) :: L)) (ix3 0 ⟨q, hq⟩ d) = w (ix3 0 0 d) :=
  View.read_writes_cons_unit_of_mem v f inb w L (ix3 0 ⟨q, hq⟩ d) (ix3 0 0 d) ho fun a => by
    match a with
    | ⟨0, _⟩ => rfl
    | ⟨1, _⟩ => rfl
    | ⟨2, _⟩ => exact (Nat.zero_add _).symm

theorem row_miss (v : View sig .tc .vmem S1x8x1024 .f32) (f) (q : ℕ) (off : Fin 3 → ℕ) (ho : off = ![0, q, 0]) (inb) (w : FVec F S1x1x1024 .f32) (L) (p : Fin 8) (hp : p.val ≠ q) (d : Fin 1024) :
    v.read (Elt F) (v.writes (Elt F) f ((⟨Rect.unit (s := S1x8x1024) off S1x1x1024.size inb, w⟩ : View.Piece (Elt F) S1x8x1024 .f32) :: L)) (ix3 0 p d) = v.read (Elt F) (v.writes (Elt F) f L) (ix3 0 p d) :=
  View.read_writes_cons_unit_of_not_mem v f inb w L (ix3 0 p d) ho (1 : Fin 3) (by show p.val < q ∨ q + 1 ≤ p.val; omega)

/-- The rows the body stores. -/
theorem kvRun_6 (f) (r : Fin 4) (h : 4 * (i 1).val + r.val < 8) (d : Fin 1024) :
    arg8.view.read (Elt F) (arg8.view.writes (Elt F) f (kvRun c i arg2 harg2 arg3 harg3 arg4 harg4 arg5 harg5 arg6 harg6 arg7 harg7 arg8 harg8 x0 x1 x2 x3).2.2.1) (ix3 0 ⟨4 * (i 1).val + r.val, h⟩ d)
      = kvRow x0 x1 x2 r (ix3 0 0 d) := by
  unfold kvRun
  dsimp only
  rw [kvRun_r, kvRun_r1, kvRun_r2]
  match r with
  | 3 => exact row_hit arg8.view f _ _ (k0_off1_eq i 3) _ _ _ h d
  | 2 =>
    refine (row_miss arg8.view f _ _ (k0_off1_eq i 3) _ _ _ ⟨4 * (i 1).val + 2, h⟩ (by show 4 * (i 1).val + 2 ≠ 4 * (i 1).val + 3; omega) d).trans ?_
    exact row_hit arg8.view f _ _ (k0_off1_eq i 2) _ _ _ h d
  | 1 =>
    refine (row_miss arg8.view f _ _ (k0_off1_eq i 3) _ _ _ ⟨4 * (i 1).val + 1, h⟩ (by show 4 * (i 1).val + 1 ≠ 4 * (i 1).val + 3; omega) d).trans ?_
    refine (row_miss arg8.view f _ _ (k0_off1_eq i 2) _ _ _ ⟨4 * (i 1).val + 1, h⟩ (by show 4 * (i 1).val + 1 ≠ 4 * (i 1).val + 2; omega) d).trans ?_
    exact row_hit arg8.view f _ _ (k0_off1_eq i 1) _ _ _ h d
  | 0 =>
    refine (row_miss arg8.view f _ _ (k0_off1_eq i 3) _ _ _ ⟨4 * (i 1).val + 0, h⟩ (by show 4 * (i 1).val + 0 ≠ 4 * (i 1).val + 3; omega) d).trans ?_
    refine (row_miss arg8.view f _ _ (k0_off1_eq i 2) _ _ _ ⟨4 * (i 1).val + 0, h⟩ (by show 4 * (i 1).val + 0 ≠ 4 * (i 1).val + 2; omega) d).trans ?_
    refine (row_miss arg8.view f _ _ (k0_off1_eq i 1) _ _ _ ⟨4 * (i 1).val + 0, h⟩ (by show 4 * (i 1).val + 0 ≠ 4 * (i 1).val + 1; omega) d).trans ?_
    exact row_hit arg8.view f _ _ (k0_off1_eq i 0) _ _ _ h d

/-- The rows it does not store. -/
theorem kvRun_6_other (f) (p : Fin 8) (h : p.val < 4 * (i 1).val) (d : Fin 1024) :
    arg8.view.read (Elt F) (arg8.view.writes (Elt F) f (kvRun c i arg2 harg2 arg3 harg3 arg4 harg4 arg5 harg5 arg6 harg6 arg7 harg7 arg8 harg8 x0 x1 x2 x3).2.2.1) (ix3 0 p d)
      = arg8.view.read (Elt F) f (ix3 0 p d) := by
  unfold kvRun
  dsimp only
  refine (row_miss arg8.view f _ _ (k0_off1_eq i 3) _ _ _ _ (by show p.val ≠ 4 * (i 1).val + 3; omega) d).trans ?_
  refine (row_miss arg8.view f _ _ (k0_off1_eq i 2) _ _ _ _ (by show p.val ≠ 4 * (i 1).val + 2; omega) d).trans ?_
  refine (row_miss arg8.view f _ _ (k0_off1_eq i 1) _ _ _ _ (by show p.val ≠ 4 * (i 1).val + 1; omega) d).trans ?_
  exact row_miss arg8.view f _ _ (k0_off1_eq i 0) _ _ [] _ (by show p.val ≠ 4 * (i 1).val + 0; omega) d

end Run

end Cert.Kernel4Ideal.Gen

end
-- ==== Proof.KvFrame.lean ====
/- The shared keys' and values' call as a pipeline: its proof data, the key means held to their rows, the body's obligation and the frame. -/
module

public import proofs.«01_k».proof.Proof.KvRun
public import Idealize.ShloMosaic.Lib.Claim

@[expose] public section

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation BodyObligationRel RDat cellOf)

variable {F : FTy → Type} [FloatOps F]
variable (m : (ℓ : Loc nD τ sig) → Buf (Elt F) ℓ) (ρ : Dev nD → PrngReg)

/-- What the body leaves in the two outputs written whole, and the rows of the third. -/
def kBlk (c : Dev nD) (t : Fin cfg0.N) : Vec F S1x1024x1024 .bf16 := k0_pay4 (iblk m c 0 t) (iblk m c 1 t) (iblk m c 2 t)
def vBlk (c : Dev nD) (t : Fin cfg0.N) : Vec F S1x1024x1024 .bf16 := k0_pay5 (iblk m c 0 t) (iblk m c 1 t) (iblk m c 3 t)
def mRow (c : Dev nD) (t : Fin cfg0.N) : Fin 4 → FVec F S1x1x1024 .f32 := kvRow (iblk m c 0 t) (iblk m c 1 t) (iblk m c 2 t)

/-- The proof data: the arrays as the region finds them and the inputs' blocks; of the outputs only the first two are named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => kBlk m c t
    | ⟨5, _⟩ => vBlk m c t
    | ⟨6, _⟩ => fun _ => Scalar.ofBits .f32 0x00000000#32
  Φ _ := Pipeline.ΦA spec0 c
  q _ := fullShare
  owed _ := 0

/-- Row `p` of the means after point `t`. -/
def Means (c : Dev nD) (t : Fin cfg0.N) (X : FVec F S1x8x1024 .f32) : Prop :=
  (∀ (r : Fin 4) (h : 4 * (grid0.coords t 1).val + r.val < 8) (d : Fin 1024), X (ix3 0 ⟨4 * (grid0.coords t 1).val + r.val, h⟩ d) = mRow m c t r (ix3 0 0 d))
    ∧ ∀ u : Fin cfg0.N, u.val + 1 = t.val → (grid0.coords t 1).val = 1 → ∀ (r : Fin 4) (d : Fin 1024), X (ix3 0 ⟨r.val, Nat.lt_trans r.isLt (by decide)⟩ d) = mRow m c u r (ix3 0 0 d)

/-- The three outputs are the windows held to a predicate, -/
def fgt : Fin cfg0.W → Bool := fun w => decide (4 ≤ w.val)

/-- the first two to their blocks, the third to its rows. -/
def Rl (c : Dev nD) : (w : Fin cfg0.W) → Fin cfg0.N → ((cfg0.win w).block.Idx → Elt F (cfg0.win w).elt) → Prop := fun w t => match w with
  | ⟨4, _⟩ => fun X => X = kBlk m c t
  | ⟨5, _⟩ => fun X => X = vBlk m c t
  | ⟨6, _⟩ => fun X => Means m c t X
  | _ => fun _ => True

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The second coordinate alternates. -/
theorem coord1 : ∀ t : Fin cfg0.N, (grid0.coords t 1).val = t.val % 2 := (by decide +kernel : ∀ t : Fin grid0.N, _)

/-- At a second point of a batch the means' buffer still holds the first point's rows. -/
theorem finds6 (c : Dev nD) (t u : Fin cfg0.N) (hu : u.val + 1 = t.val) (h1 : (grid0.coords t 1).val = 1) (Y : FVec F S1x8x1024 .f32)
    (hY : ((dats m 0 c).toRRel fgt (Rl m c)).Finds 6 t Y) (r : Fin 4) (d : Fin 1024) :
    Y (ix3 0 ⟨r.val, Nat.lt_trans r.isLt (by decide)⟩ d) = mRow m c u r (ix3 0 0 d) := by
  have ht := coord1 t
  have hc := coord1 u
  have hu' : (⟨t.val - 1, Nat.lt_of_le_of_lt (Nat.sub_le _ _) t.isLt⟩ : Fin cfg0.N) = u := Fin.ext (by show t.val - 1 = u.val; omega)
  rcases (((dats m 0 c).toRRel fgt (Rl m c)).finds_of_pos (w := 6) (t := t) rfl (by omega) _).mp hY with hf | hl
  · rw [hu', flush0_6] at hf; omega
  · rw [hu'] at hl
    have hM : Means m c u Y := (dats m 0 c).toRRel_leaves (w := 6) (fgt := fgt) (Rl := Rl m c) rfl hl
    have h0 : 4 * (grid0.coords u 1).val + r.val = r.val := by omega
    refine Eq.trans ?_ (hM.1 r (by omega) d)
    exact congrArg (fun q => Y (ix3 0 q d)) (Fin.ext h0.symm)

/-- What the body is called with at point `t`, the windows one by one, -/
def bodyPre (c : Dev nD) (t : Fin cfg0.N) : sProp (KvM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel fgt (Rl m c)).Finds 4 t Y⌝ ∗ owns (c : Thread nD τ) (st0_4 t) fullShare Y)
    ∗ (∃ Y, ⌜((dats m 0 c).toRRel fgt (Rl m c)).Finds 5 t Y⌝ ∗ owns (c : Thread nD τ) (st0_5 t) fullShare Y)
    ∗ (∃ Y, ⌜((dats m 0 c).toRRel fgt (Rl m c)).Finds 6 t Y⌝ ∗ owns (c : Thread nD τ) (st0_6 t) fullShare Y))

/-- and what it returns. -/
def bodyPost (c : Dev nD) (t : Fin cfg0.N) : sProp (KvM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%Y4, %hY4, H4⟩, ⟨%Y5, %hY5, H5⟩, ⟨%Y6, %hY6, H6⟩⟩
  unfold owns
  icases H6 with ⟨%f6, %hf6, H6⟩
  have key := fun K => (kvRun c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _)
    (iblk m c 0 t) (iblk m c 1 t) (iblk m c 2 t) (iblk m c 3 t)).2.2.2 Set.univ f6 K
  unfold owns at key
  iapply (key _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  iintro ⟨H0, H1, H2, H3, ⟨%e4, H4⟩, ⟨%e5, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists (kBlk m c t); isplitr; · ipureintro; exact rfl
    iexists _; isplitr
    swap; · iexact H4
    ipureintro; exact kvRun_4 c _ _ _ _ _ _ _ _ _ _ _ _ _ _ _ _ _ _ _ _
  isplitl [H5]
  · iexists (vBlk m c t); isplitr; · ipureintro; exact rfl
    iexists _; isplitr
    swap; · iexact H5
    ipureintro; exact kvRun_5 c _ _ _ _ _ _ _ _ _ _ _ _ _ _ _ _ _ _ _ _
  iexists _; isplitr
  swap
  · iexists _; isplitr
    swap; · iexact H6
    ipureintro; rfl
  ipureintro
  refine (show Means m c t _ from ⟨fun r h d => kvRun_6 c (grid0.coords t) _ _ _ _ _ _ _ _ _ _ _ _ _ _ _ _ _ _ _ r h d, fun u hu h1 r d => ?_⟩)
  refine (kvRun_6_other c (grid0.coords t) _ _ _ _ _ _ _ _ _ _ _ _ _ _ _ _ _ _ _ _ (by show r.val < 4 * (grid0.coords t 1).val; omega) d).trans ?_
  rw [hf6]
  exact finds6 m c t u hu h1 Y6 hY6 r d

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

set_option backward.isDefEq.respectTransparency.types false in
/-- The run: the arrays as the relational data hold them, every counter at zero. -/
theorem run_main : θ_run defs (onTc (τ := τ) (main (F := F))) (s₀ m ρ)
    (fun r => RDat.FramePost cfg0 (fun c => (dats m 0 c).toRRel fgt (Rl m c)) (V m) r ∧ r.2.sem = fun _ => 0) :=
  Pipeline.RDat.θ_run_frame (Q' := _) cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments after the run. -/
theorem kept {r : PUnit × MemSt nD τ sig (Elt F)} (h : RDat.FramePost cfg0 (fun c => (dats m 0 c).toRRel fgt (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans ((A_eq m c 0).trans (V_main_arg0 m c)),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => kept m h.1 c, h.2⟩) (run_main m ρ)

end Cert.Kernel4Ideal.Gen

end
-- ==== Proof.KvIn.lean ====
/- The shared keys' and values' call's three final arrays, index by index, in the program's arguments. -/
module

public import proofs.«01_k».proof.Proof.KvFrame
public import proofs.«01_k».proof.Proof.PoolRead

@[expose] public section

noncomputable section

namespace Cert.Kernel4Ideal.Kv

open Cert.Kernel4Ideal Cert.Kernel4Ideal.Gen Idealize.ShloMosaic Idealize.ShloMosaic.TcCoe Idealize.ShloMosaic.Pointwise Idealize.SL.Sem
open Idealize.ShloMosaic.Pipeline (RDat Dat)
open Cert.KernelIdeal.Pool (rmsRow)

/-- Column `f` of the projection of the normed row `t` of batch `b`. -/
def kvAt (x0 : FVec Ideal S8x2048x1024 .f32) (x1 : FVec Ideal S1024 .f32) (x2 : FVec Ideal S1024x2048 .f32) (b : Fin 8) (t f : Fin 2048) : EReal :=
  ∑ k, rmsRow (fun d => x0 (ix3 b t d)) (fun d => x1 (ix1 d)) k * x2 (ix2 k f)

/-- The mean of the keys of block `q`, at column `d`. -/
def meanAt (x0 : FVec Ideal S8x2048x1024 .f32) (x1 : FVec Ideal S1024 .f32) (x2 : FVec Ideal S1024x2048 .f32) (b q : Fin 8) (d : Fin 1024) : EReal :=
  Ideal.div (∑ i : Fin 256, kvAt x0 x1 x2 b ⟨256 * q.val + i.val, by omega⟩ ⟨d.val, by omega⟩) (Ideal.ofBits .f32 0x43800000#32)

/-! ### The body's terms at an index -/

theorem hf_apply (x0 : FVec Ideal S1x1024x1024 .f32) (x1 : FVec Ideal S1x1024 .f32) (r d : Fin 1024) :
    k0_pay2 (F := Ideal) x0 x1 (ix2 r d) = rmsRow (fun k => x0 (ix3 0 r k)) (fun k => x1 (ix2 0 k)) d := by
  unfold rmsRow
  pointwise [k0_pay2]

theorem k_apply (x0 : FVec Ideal S1x1024x1024 .f32) (x1 : FVec Ideal S1x1024 .f32) (w : FVec Ideal S1024x1024 .bf16) (r d : Fin 1024) :
    k0_pay3 (F := Ideal) x0 x1 w (ix2 r d) = ∑ k, rmsRow (fun k => x0 (ix3 0 r k)) (fun k => x1 (ix2 0 k)) k * w (ix2 k d) := by
  simp only [← hf_apply]
  unfold k0_pay3
  generalize k0_pay2 (F := Ideal) x0 x1 = y
  pointwise []

theorem kOut_apply (x0 : FVec Ideal S1x1024x1024 .f32) (x1 : FVec Ideal S1x1024 .f32) (w : FVec Ideal S1024x1024 .bf16) (r d : Fin 1024) :
    k0_pay4 (F := Ideal) x0 x1 w (ix3 0 r d) = ∑ k, rmsRow (fun k => x0 (ix3 0 r k)) (fun k => x1 (ix2 0 k)) k * w (ix2 k d) := by
  rw [← k_apply]
  unfold k0_pay4
  generalize k0_pay3 (F := Ideal) x0 x1 w = y
  pointwise []

theorem vOut_apply (x0 : FVec Ideal S1x1024x1024 .f32) (x1 : FVec Ideal S1x1024 .f32) (w : FVec Ideal S1024x1024 .bf16) (d r : Fin 1024) :
    k0_pay5 (F := Ideal) x0 x1 w (ix3 0 d r) = ∑ k, rmsRow (fun k => x0 (ix3 0 r k)) (fun k => x1 (ix2 0 k)) k * w (ix2 d k) := by
  simp only [← hf_apply, mul_comm (k0_pay2 (F := Ideal) x0 x1 _)]
  unfold k0_pay5
  generalize k0_pay2 (F := Ideal) x0 x1 = y
  pointwise []

theorem mean_apply (x0 : FVec Ideal S1x1024x1024 .f32) (x1 : FVec Ideal S1x1024 .f32) (w : FVec Ideal S1024x1024 .bf16) (r : Fin 4) (d : Fin 1024) :
    kvRow (F := Ideal) x0 x1 w r (ix3 0 0 d) = Ideal.div (∑ i : Fin 256, k0_pay3 (F := Ideal) x0 x1 w (ix2 ⟨256 * r.val + i.val, by omega⟩ d)) (Ideal.ofBits .f32 0x43800000#32) := by
  match r with
  | 0 =>
    show k0_pay7 (F := Ideal) (k0_pay6 x0 x1 w) (Scalar.ofBits .f32 0x43800000#32) (ix3 0 0 d) = _
    unfold k0_pay7 k0_pay6
    generalize k0_pay3 (F := Ideal) x0 x1 w = y
    pointwise []
  | 1 =>
    show k0_pay8 (F := Ideal) (k0_pay3 x0 x1 w) (ix3 0 0 d) = _
    unfold k0_pay8
    generalize k0_pay3 (F := Ideal) x0 x1 w = y
    pointwise []
  | 2 =>
    show k0_pay9 (F := Ideal) (k0_pay3 x0 x1 w) (ix3 0 0 d) = _
    unfold k0_pay9
    generalize k0_pay3 (F := Ideal) x0 x1 w = y
    pointwise []
  | 3 =>
    show k0_pay1 (F := Ideal) (k0_pay10 (k0_pay3 x0 x1 w)) (ix3 0 0 d) = _
    unfold k0_pay1 k0_pay10
    generalize k0_pay3 (F := Ideal) x0 x1 w = y
    pointwise []

variable (m : (ℓ : Loc nD τ sig) → Buf (Elt Ideal) ℓ) (c : Dev nD)

/-! ### The index maps of the windows, decided over the grid -/

theorem idx0 : ∀ t : Fin cfg0.N, win0_0.index t (0 : Fin 3) = t.val / 2 ∧ win0_0.index t (1 : Fin 3) = t.val % 2 ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = t.val / 2 ∧ win0_4.index t (1 : Fin 3) = t.val % 2 ∧ win0_4.index t (2 : Fin 3) = 0 := (by decide +kernel : ∀ t : Fin grid0.N, _)
theorem idx5 : ∀ t : Fin cfg0.N, win0_5.index t (0 : Fin 3) = t.val / 2 ∧ win0_5.index t (1 : Fin 3) = 0 ∧ win0_5.index t (2 : Fin 3) = t.val % 2 := (by decide +kernel : ∀ t : Fin grid0.N, _)
theorem idx6 : ∀ t : Fin cfg0.N, win0_6.index t (0 : Fin 3) = t.val / 2 ∧ win0_6.index t (1 : Fin 3) = 0 ∧ win0_6.index t (2 : Fin 3) = 0 := (by decide +kernel : ∀ t : Fin grid0.N, _)

/-! ### What the host leaves for the call -/

theorem host_v5 : V m c main_v5 = shapeCast S1x1024 (m ((c : Thread nD τ).loc main_arg1)) shapeCasts_S1024_S1x1024 := by
  unfold V; after_results; rfl
theorem host_v1 : V m c main_v1 = (truncf .bf16 (extractStridedSlice S1024x1024 ![0, 0] (m ((c : Thread nD τ).loc main_arg2)) slices_S1024x2048_S1024x1024_0_0 : FVec Ideal S1024x1024 .f32) bitsLt_bf16_f32 : FVec Ideal S1024x1024 .bf16) := by
  unfold V; after_results
theorem host_v4 : V m c main_v4 = (truncf .bf16 (transpose S1024x1024 [1, 0] (extractStridedSlice S1024x1024 ![0, 1024] (m ((c : Thread nD τ).loc main_arg2)) slices_S1024x2048_S1024x1024_0_1024) transposes_S1024x1024_S1024x1024_1_0 : FVec Ideal S1024x1024 .f32) bitsLt_bf16_f32 : FVec Ideal S1024x1024 .bf16) := by
  unfold V; after_results

theorem gain_apply (x : FVec Ideal S1024 .f32) (d : Fin 1024) : shapeCast S1x1024 x shapeCasts_S1024_S1x1024 (ix2 0 d) = x (ix1 d) := by
  pointwise []
theorem wk_apply (x : FVec Ideal S1024x2048 .f32) (k e : Fin 1024) :
    extractStridedSlice S1024x1024 ![0, 0] x slices_S1024x2048_S1024x1024_0_0 (ix2 k e) = x (ix2 k ⟨e.val, by omega⟩) := by
  pointwise []
theorem wv_apply (x : FVec Ideal S1024x2048 .f32) (e k : Fin 1024) :
    transpose S1024x1024 [1, 0] (extractStridedSlice S1024x1024 ![0, 1024] x slices_S1024x2048_S1024x1024_0_1024) transposes_S1024x1024_S1024x1024_1_0 (ix2 e k) = x (ix2 k ⟨1024 + e.val, by omega⟩) := by
  pointwise []

/-! ### The blocks -/

theorem blk0 (t : Fin cfg0.N) (i d : Fin 1024) (hb : t.val / 2 < 8) (hi : 1024 * (t.val % 2) + i.val < 2048) : (iblk m c 0 t : FVec Ideal S1x1024x1024 .f32) (ix3 0 i d)
    = (m ((c : Thread nD τ).loc main_arg0) : FVec Ideal S8x2048x1024 .f32) (ix3 ⟨t.val / 2, hb⟩ ⟨1024 * (t.val % 2) + i.val, hi⟩ d) := by
  obtain ⟨e0, e1, e2⟩ := idx0 t
  show (V m c main_arg0 : FVec Ideal S8x2048x1024 .f32) (((cfg0.win 0).blk t).view.emb (ix3 0 i d)) = _
  rw [show ((cfg0.win 0).blk t).view.emb (ix3 0 i d) = (ix3 ⟨t.val / 2, hb⟩ ⟨1024 * (t.val % 2) + i.val, hi⟩ d : S8x2048x1024.Idx) from funext fun a => Fin.ext (by
    match a with
    | ⟨0, _⟩ => show win0_0.index t (0 : Fin 3) * 1 + 1 * 0 = t.val / 2; omega
    | ⟨1, _⟩ => show win0_0.index t (1 : Fin 3) * 1024 + 1 * i.val = 1024 * (t.val % 2) + i.val; omega
    | ⟨2, _⟩ => show win0_0.index t (2 : Fin 3) * 1024 + 1 * d.val = d.val; omega), V_main_arg0]

theorem blk1 (t : Fin cfg0.N) (d : Fin 1024) : (iblk m c 1 t : FVec Ideal S1x1024 .f32) (ix2 0 d) = (m ((c : Thread nD τ).loc main_arg1) : FVec Ideal S1024 .f32) (ix1 d) := by
  obtain ⟨e0, e1⟩ := idx1 t
  show (V m c main_v5 : FVec Ideal S1x1024 .f32) (((cfg0.win 1).blk t).view.emb (ix2 0 d)) = _
  rw [show ((cfg0.win 1).blk t).view.emb (ix2 0 d) = (ix2 0 d : S1x1024.Idx) from funext fun a => Fin.ext (by
    match a with
    | ⟨0, _⟩ => show win0_1.index t (0 : Fin 2) * 1 + 1 * 0 = 0; omega
    | ⟨1, _⟩ => show win0_1.index t (1 : Fin 2) * 1024 + 1 * d.val = d.val; omega), host_v5]
  exact gain_apply _ _

theorem blk2 (t : Fin cfg0.N) (k e : Fin 1024) : (iblk m c 2 t : FVec Ideal S1024x1024 .bf16) (ix2 k e) = (m ((c : Thread nD τ).loc main_arg2) : FVec Ideal S1024x2048 .f32) (ix2 k ⟨e.val, by omega⟩) := by
  obtain ⟨e0, e1⟩ := idx2 t
  show (V m c main_v1 : FVec Ideal S1024x1024 .bf16) (((cfg0.win 2).blk t).view.emb (ix2 k e)) = _
  rw [show ((cfg0.win 2).blk t).view.emb (ix2 k e) = (ix2 k e : S1024x1024.Idx) from funext fun a => Fin.ext (by
    match a with
    | ⟨0, _⟩ => show win0_2.index t (0 : Fin 2) * 1024 + 1 * k.val = k.val; omega
    | ⟨1, _⟩ => show win0_2.index t (1 : Fin 2) * 1024 + 1 * e.val = e.val; omega), host_v1]
  exact wk_apply _ _ _

theorem blk3 (t : Fin cfg0.N) (e k : Fin 1024) : (iblk m c 3 t : FVec Ideal S1024x1024 .bf16) (ix2 e k) = (m ((c : Thread nD τ).loc main_arg2) : FVec Ideal S1024x2048 .f32) (ix2 k ⟨1024 + e.val, by omega⟩) := by
  obtain ⟨e0, e1⟩ := idx3 t
  show (V m c main_v4 : FVec Ideal S1024x1024 .bf16) (((cfg0.win 3).blk t).view.emb (ix2 e k)) = _
  rw [show ((cfg0.win 3).blk t).view.emb (ix2 e k) = (ix2 e k : S1024x1024.Idx) from funext fun a => Fin.ext (by
    match a with
    | ⟨0, _⟩ => show win0_3.index t (0 : Fin 2) * 1024 + 1 * e.val = e.val; omega
    | ⟨1, _⟩ => show win0_3.index t (1 : Fin 2) * 1024 + 1 * k.val = k.val; omega), host_v4]
  exact wv_apply _ _ _

/-! ### The blocks the body leaves -/

variable (t : Fin cfg0.N) (hb : t.val / 2 < 8)

theorem kBlk_apply (i e : Fin 1024) : kBlk m c t (ix3 0 i e)
    = kvAt (m ((c : Thread nD τ).loc main_arg0)) (m ((c : Thread nD τ).loc main_arg1)) (m ((c : Thread nD τ).loc main_arg2)) ⟨t.val / 2, hb⟩ ⟨1024 * (t.val % 2) + i.val, by omega⟩ ⟨e.val, by omega⟩ := by
  refine (kOut_apply _ _ _ _ _).trans ?_
  simp only [fun d => blk0 m c t i d hb (by omega), blk1, blk2]
  rfl

theorem vBlk_apply (e i : Fin 1024) : vBlk m c t (ix3 0 e i)
    = kvAt (m ((c : Thread nD τ).loc main_arg0)) (m ((c : Thread nD τ).loc main_arg1)) (m ((c : Thread nD τ).loc main_arg2)) ⟨t.val / 2, hb⟩ ⟨1024 * (t.val % 2) + i.val, by omega⟩ ⟨1024 + e.val, by omega⟩ := by
  refine (vOut_apply _ _ _ _ _).trans ?_
  simp only [fun d => blk0 m c t i d hb (by omega), blk1, blk3]
  rfl

theorem mRow_apply (r : Fin 4) (d : Fin 1024) : mRow m c t r (ix3 0 0 d)
    = meanAt (m ((c : Thread nD τ).loc main_arg0)) (m ((c : Thread nD τ).loc main_arg1)) (m ((c : Thread nD τ).loc main_arg2)) ⟨t.val / 2, hb⟩ ⟨4 * (t.val % 2) + r.val, by omega⟩ d := by
  refine (mean_apply _ _ _ _ _).trans ?_
  unfold meanAt
  refine congrArg (fun s => Ideal.div s _) (Finset.sum_congr rfl fun i _ => ?_)
  have h : 256 * r.val + i.val < 1024 := by omega
  rw [k_apply]
  simp only [fun d => blk0 m c t ⟨256 * r.val + i.val, h⟩ d hb (by show 1024 * (t.val % 2) + (256 * r.val + i.val) < 2048; omega), blk1, blk2]
  exact congrArg (fun q => kvAt _ _ _ _ q _) (Fin.ext (by show 1024 * (t.val % 2) + (256 * r.val + i.val) = 256 * (4 * (t.val % 2) + r.val) + i.val; omega))

/-! ### The final arrays -/

def GK (c : Dev nD) : FVec Ideal S8x2048x1024 .bf16 := fun i =>
  kvAt (m ((c : Thread nD τ).loc main_arg0)) (m ((c : Thread nD τ).loc main_arg1)) (m ((c : Thread nD τ).loc main_arg2)) (i 0) (i 1) ⟨(i 2).val, Nat.lt_trans (i 2).isLt (by decide)⟩
def GV (c : Dev nD) : FVec Ideal S8x1024x2048 .bf16 := fun i =>
  kvAt (m ((c : Thread nD τ).loc main_arg0)) (m ((c : Thread nD τ).loc main_arg1)) (m ((c : Thread nD τ).loc main_arg2)) (i 0) (i 2) ⟨1024 + (i 1).val, Nat.add_lt_add_left (i 1).isLt 1024⟩
def GM (c : Dev nD) : FVec Ideal S8x8x1024 .f32 := fun i =>
  meanAt (m ((c : Thread nD τ).loc main_arg0)) (m ((c : Thread nD τ).loc main_arg1)) (m ((c : Thread nD τ).loc main_arg2)) (i 0) (i 1) (i 2)

abbrev rdat (c : Dev nD) := (dats m 0 c).toRRel fgt (Rl m c)

section Arrays
variable (after : (w : Fin cfg0.W) → Fin cfg0.N → (cfg0.win w).block.Idx → Elt Ideal (cfg0.win w).elt)

theorem keys (hL : ∀ u : Fin cfg0.N, (cfg0.win 4).flush u = true → after 4 u = kBlk m c u) : ((rdat m c).withAfter after).arrAt 4 cfg0.N = GK m c := by
  refine ((rdat m c).withAfter after).arrAt_eq_of_covers 4 _ (by decide +kernel) fun t hf y => ?_
  have ht : t.val < 16 := t.isLt
  obtain ⟨e0, e1, e2⟩ := idx4 t
  have hy1 : (y 1).val < 1024 := (y 1).isLt
  have hy2 : (y 2).val < 1024 := (y 2).isLt
  have hy0 : (y 0).val < 1 := (y 0).isLt
  show after 4 t ((cfg0.win 4).xinj (grid0.coords t) y) = GK m c (((cfg0.win 4).blk t).view.emb y)
  rw [hL t hf, show (cfg0.win 4).xinj (grid0.coords t) y = (ix3 0 ⟨(y 1).val, hy1⟩ ⟨(y 2).val, hy2⟩ : S1x1024x1024.Idx) from funext fun a => Fin.ext (by
    match a with
    | ⟨0, _⟩ => show (y 0).val = 0; omega
    | ⟨1, _⟩ => rfl
    | ⟨2, _⟩ => rfl), show ((cfg0.win 4).blk t).view.emb y = (ix3 ⟨t.val / 2, by omega⟩ ⟨1024 * (t.val % 2) + (y 1).val, by omega⟩ ⟨(y 2).val, hy2⟩ : S8x2048x1024.Idx) from funext fun a => Fin.ext (by
    match a with
    | ⟨0, _⟩ => show win0_4.index t (0 : Fin 3) * 1 + 1 * (y 0).val = t.val / 2; omega
    | ⟨1, _⟩ => show win0_4.index t (1 : Fin 3) * 1024 + 1 * (y 1).val = 1024 * (t.val % 2) + (y 1).val; omega
    | ⟨2, _⟩ => show win0_4.index t (2 : Fin 3) * 1024 + 1 * (y 2).val = (y 2).val; omega)]
  exact kBlk_apply m c t (by omega) _ _

theorem values (hL : ∀ u : Fin cfg0.N, (cfg0.win 5).flush u = true → after 5 u = vBlk m c u) : ((rdat m c).withAfter after).arrAt 5 cfg0.N = GV m c := by
  refine ((rdat m c).withAfter after).arrAt_eq_of_covers 5 _ (by decide +kernel) fun t hf y => ?_
  have ht : t.val < 16 := t.isLt
  obtain ⟨e0, e1, e2⟩ := idx5 t
  have hy1 : (y 1).val < 1024 := (y 1).isLt
  have hy2 : (y 2).val < 1024 := (y 2).isLt
  have hy0 : (y 0).val < 1 := (y 0).isLt
  show after 5 t ((cfg0.win 5).xinj (grid0.coords t) y) = GV m c (((cfg0.win 5).blk t).view.emb y)
  rw [hL t hf, show (cfg0.win 5).xinj (grid0.coords t) y = (ix3 0 ⟨(y 1).val, hy1⟩ ⟨(y 2).val, hy2⟩ : S1x1024x1024.Idx) from funext fun a => Fin.ext (by
    match a with
    | ⟨0, _⟩ => show (y 0).val = 0; omega
    | ⟨1, _⟩ => rfl
    | ⟨2, _⟩ => rfl), show ((cfg0.win 5).blk t).view.emb y = (ix3 ⟨t.val / 2, by omega⟩ ⟨(y 1).val, hy1⟩ ⟨1024 * (t.val % 2) + (y 2).val, by omega⟩ : S8x1024x2048.Idx) from funext fun a => Fin.ext (by
    match a with
    | ⟨0, _⟩ => show win0_5.index t (0 : Fin 3) * 1 + 1 * (y 0).val = t.val / 2; omega
    | ⟨1, _⟩ => show win0_5.index t (1 : Fin 3) * 1024 + 1 * (y 1).val = (y 1).val; omega
    | ⟨2, _⟩ => show win0_5.index t (2 : Fin 3) * 1024 + 1 * (y 2).val = 1024 * (t.val % 2) + (y 2).val; omega)]
  exact vBlk_apply m c t (by omega) _ _

theorem means (hL : ∀ u : Fin cfg0.N, (cfg0.win 6).flush u = true → Means m c u (after 6 u)) : ((rdat m c).withAfter after).arrAt 6 cfg0.N = GM m c := by
  refine ((rdat m c).withAfter after).arrAt_eq_of_covers 6 _ (by decide +kernel) fun t hf y => ?_
  have ht : t.val < 16 := t.isLt
  have hodd : t.val % 2 = 1 := (flush0_6 t).mp hf
  have hc := coord1 t
  obtain ⟨e0, e1, e2⟩ := idx6 t
  have hy1 : (y 1).val < 8 := (y 1).isLt
  have hy2 : (y 2).val < 1024 := (y 2).isLt
  have hy0 : (y 0).val < 1 := (y 0).isLt
  show after 6 t ((cfg0.win 6).xinj (grid0.coords t) y) = GM m c (((cfg0.win 6).blk t).view.emb y)
  rw [show (cfg0.win 6).xinj (grid0.coords t) y = (ix3 0 ⟨(y 1).val, hy1⟩ ⟨(y 2).val, hy2⟩ : S1x8x1024.Idx) from funext fun a => Fin.ext (by
    match a with
    | ⟨0, _⟩ => show (y 0).val = 0; omega
    | ⟨1, _⟩ => rfl
    | ⟨2, _⟩ => rfl), show ((cfg0.win 6).blk t).view.emb y = (ix3 ⟨t.val / 2, by omega⟩ ⟨(y 1).val, hy1⟩ ⟨(y 2).val, hy2⟩ : S8x8x1024.Idx) from funext fun a => Fin.ext (by
    match a with
    | ⟨0, _⟩ => show win0_6.index t (0 : Fin 3) * 1 + 1 * (y 0).val = t.val / 2; omega
    | ⟨1, _⟩ => show win0_6.index t (1 : Fin 3) * 8 + 1 * (y 1).val = (y 1).val; omega
    | ⟨2, _⟩ => show win0_6.index t (2 : Fin 3) * 1024 + 1 * (y 2).val = (y 2).val; omega)]
  show after 6 t (ix3 0 ⟨(y 1).val, hy1⟩ ⟨(y 2).val, hy2⟩) = meanAt _ _ _ (⟨t.val / 2, by omega⟩ : Fin 8) (⟨(y 1).val, hy1⟩ : Fin 8) (⟨(y 2).val, hy2⟩ : Fin 1024)
  obtain ⟨hM1, hM2⟩ := hL t hf
  by_cases h4 : (y 1).val < 4
  · refine (hM2 ⟨t.val - 1, lt_of_le_of_lt (Nat.sub_le _ _) t.isLt⟩ (by show t.val - 1 + 1 = t.val; omega) (by omega) ⟨(y 1).val, h4⟩ ⟨(y 2).val, hy2⟩).trans ?_
    refine (mRow_apply m c _ (by show (t.val - 1) / 2 < 8; omega) _ _).trans ?_
    exact congrArg₂ (fun b q => meanAt _ _ _ b q _) (Fin.ext (by show (t.val - 1) / 2 = t.val / 2; omega)) (Fin.ext (by show 4 * ((t.val - 1) % 2) + (y 1).val = (y 1).val; omega))
  · have hq : 4 * (grid0.coords t 1).val + ((y 1).val - 4) = (y 1).val := by omega
    refine Eq.trans (congrArg (fun q => after 6 t (ix3 0 q ⟨(y 2).val, hy2⟩)) (Fin.ext hq.symm)) ((hM1 ⟨(y 1).val - 4, by omega⟩ (by show 4 * (grid0.coords t 1).val + ((y 1).val - 4) < 8; omega) ⟨(y 2).val, hy2⟩).trans ?_)
    refine (mRow_apply m c t (by omega) _ _).trans ?_
    exact congrArg (fun q => meanAt _ _ _ _ q _) (Fin.ext (by show 4 * (t.val % 2) + ((y 1).val - 4) = (y 1).val; omega))

end Arrays

/-- The three arrays after the run. -/
theorem final {r : PUnit × MemSt nD τ sig (Elt Ideal)} (h : RDat.FramePost cfg0 (fun c => (dats m 0 c).toRRel fgt (Rl m c)) (V m) r) (c : Dev nD) :
    r.2.mem ((c.tc : Thread nD τ).loc main_v6_0) = GK m c ∧ r.2.mem ((c.tc : Thread nD τ).loc main_v6_1) = GV m c ∧ r.2.mem ((c.tc : Thread nD τ).loc main_v6_2) = GM m c := by
  haveI : ∀ e, Nonempty (Elt Ideal e) := fun e => by
    cases e <;> first | exact ⟨(0 : EReal)⟩ | exact ⟨(0 : BitVec _)⟩
  obtain ⟨after, hL, hA⟩ := RDat.FramePost.exists_exact h c
  exact ⟨(hA 4).trans (keys m c after fun u hf => (dats m 0 c).toRRel_leaves (w := 4) (fgt := fgt) (Rl := Rl m c) rfl (hL 4 u hf)),
    (hA 5).trans (values m c after fun u hf => (dats m 0 c).toRRel_leaves (w := 5) (fgt := fgt) (Rl := Rl m c) rfl (hL 5 u hf)),
    (hA 6).trans (means m c after fun u hf => (dats m 0 c).toRRel_leaves (w := 6) (fgt := fgt) (Rl := Rl m c) rfl (hL 6 u hf))⟩

end Cert.Kernel4Ideal.Kv

end
-- ==== Proof.KvRef.lean ====
/- The reference's shared keys, values and key means index by index, as functions of its arguments. -/
module

public import proofs.«01_k».proof.Proof.KvIn
public import proofs.«01_k».proof.Proof.Gen.Reference4Ideal.Read
public import Idealize.ShloMosaic.Lib.Pointwise
public import Idealize.ShloMosaic.Lib.ReduceAll

@[expose] public section

noncomputable section

namespace Cert.Reference4Ideal.Kv

open Cert.Reference4Ideal Cert.Reference4Ideal.Gen Cert.Reference4Ideal.Read Idealize.ShloMosaic Idealize.ShloMosaic.TcCoe Idealize.ShloMosaic.Pointwise
open Cert.KernelIdeal.Pool (rmsRow)
open Cert.Kernel4Ideal.Kv (kvAt meanAt)

/-- The rows' norm as the reference writes it, under the gain `G`. -/
def normV (x G : FVec Ideal S8x2048x1024 .f32) : FVec Ideal S8x2048x1024 .f32 :=
  mulf (mulf x (broadcastInDim S8x2048x1024 ![0, 1, 2] bcast_S8x2048x1_S8x2048x1024_0_1_2 (Host.rsqrt (addf
    (Host.divf (broadcastInDim S8x2048x1 ![0, 1] bcast_S8x2048_S8x2048x1_0_1 (Host.reduceAdd (mulf x x) (constant S_ .f32 0x00000000#32) reducesTo_S8x2048x1024_S8x2048_d2 h_S_ : FVec Ideal S8x2048 .f32))
      (broadcastInDim S8x2048x1 ![] bcast_S_S8x2048x1 (constant S_ .f32 0x44800000#32)))
    (broadcastInDim S8x2048x1 ![] bcast_S_S8x2048x1 (constant S_ .f32 0x358637BD#32)))))) G

/-- The norm at an index is its row's norm. -/
theorem normV_apply (x G : FVec Ideal S8x2048x1024 .f32) (g : Fin 1024 → EReal) (hG : ∀ b t d, G (ix3 b t d) = g d) (b : Fin 8) (t : Fin 2048) (d : Fin 1024) :
    normV x G (ix3 b t d) = rmsRow (fun k => x (ix3 b t k)) g d := by
  rw [show normV x G (ix3 b t d) = _ * G (ix3 b t d) from rfl, hG]
  unfold rmsRow
  pointwise []

variable (x0 : FVec Ideal S8x2048x1024 .f32) (x1 : FVec Ideal S1024 .f32) (x2 : FVec Ideal S1024x2048 .f32)

theorem v11_at (b : Fin 8) (t : Fin 2048) (d : Fin 1024) : val_main_v11 (F := Ideal) x1 (ix3 b t d) = x1 (ix1 d) := by
  unfold val_main_v11 val_main_v10
  pointwise []

theorem v12_at (b : Fin 8) (t : Fin 2048) (k : Fin 1024) :
    val_main_v12 (F := Ideal) x0 x1 (ix3 b t k) = rmsRow (fun d => x0 (ix3 b t d)) (fun d => x1 (ix1 d)) k :=
  normV_apply x0 (val_main_v11 (F := Ideal) x1) (fun d => x1 (ix1 d)) (v11_at x1) b t k

theorem v13_at (b : Fin 8) (t f : Fin 2048) : val_main_v13 (F := Ideal) x0 x1 x2 (ix3 b t f) = kvAt x0 x1 x2 b t f := by
  rw [val_main_v13_apply]
  refine Finset.sum_congr rfl fun k _ => ?_
  rw [← v12_at x0 x1]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
  · match a with
    | ⟨0, _⟩ => rfl
    | ⟨1, _⟩ => rfl

theorem v14_at (b : Fin 8) (t : Fin 2048) (e : Fin 1024) : val_main_v14 (F := Ideal) x0 x1 x2 (ix3 b t e) = kvAt x0 x1 x2 b t ⟨e.val, by omega⟩ := by
  refine (val_main_v14_apply x0 x1 x2 _).trans (Eq.trans (congrArg (val_main_v13 (F := Ideal) x0 x1 x2) ?_) (v13_at x0 x1 x2 b t ⟨e.val, by omega⟩))
  refine funext fun a => Fin.ext ?_
  match a with
  | ⟨0, _⟩ => rfl
  | ⟨1, _⟩ => rfl
  | ⟨2, _⟩ => rfl

theorem v15_at (b : Fin 8) (t : Fin 2048) (e : Fin 1024) : val_main_v15 (F := Ideal) x0 x1 x2 (ix3 b t e) = kvAt x0 x1 x2 b t ⟨1024 + e.val, by omega⟩ := by
  refine (val_main_v15_apply x0 x1 x2 _).trans (Eq.trans (congrArg (val_main_v13 (F := Ideal) x0 x1 x2) ?_) (v13_at x0 x1 x2 b t ⟨1024 + e.val, by omega⟩))
  refine funext fun a => Fin.ext ?_
  match a with
  | ⟨0, _⟩ => rfl
  | ⟨1, _⟩ => rfl
  | ⟨2, _⟩ => rfl

/-- The keys, -/
theorem v20_at (b : Fin 8) (t : Fin 2048) (e : Fin 1024) : val_main_v20 (F := Ideal) x0 x1 x2 (ix3 b t e) = kvAt x0 x1 x2 b t ⟨e.val, by omega⟩ := by
  rw [← v14_at]
  unfold val_main_v20
  generalize val_main_v14 (F := Ideal) x0 x1 x2 = y
  rfl

/-- the values, transposed, -/
theorem v22_at (b : Fin 8) (e : Fin 1024) (t : Fin 2048) : val_main_v22 (F := Ideal) x0 x1 x2 (ix3 b e t) = kvAt x0 x1 x2 b t ⟨1024 + e.val, by omega⟩ := by
  have h : val_main_v22 (F := Ideal) x0 x1 x2 (ix3 b e t) = val_main_v21 (F := Ideal) x0 x1 x2 (ix3 b e t) := by
    unfold val_main_v22
    generalize val_main_v21 (F := Ideal) x0 x1 x2 = y
    rfl
  refine h.trans ?_
  refine (val_main_v21_apply x0 x1 x2 _).trans (Eq.trans (congrArg (val_main_v15 (F := Ideal) x0 x1 x2) ?_) (v15_at x0 x1 x2 b t e))
  refine funext fun a => Fin.ext ?_
  match a with
  | ⟨0, _⟩ => rfl
  | ⟨1, _⟩ => rfl
  | ⟨2, _⟩ => rfl

/-- and the key means. -/
theorem v19_at (b q : Fin 8) (d : Fin 1024) : val_main_v19 (F := Ideal) x0 x1 x2 (ix3 b q d) = meanAt x0 x1 x2 b q d := by
  show Ideal.div (val_main_v17 (F := Ideal) x0 x1 x2 (ix3 b q d)) (val_main_v18 (F := Ideal) (ix3 b q d)) = _
  rw [val_main_v18_apply, val_main_v17_apply, show val_main_cst_2 (F := Ideal) (Shape.Idx.first h_S_) = 0 from Ideal.ofBits_zero_f32, zero_add]
  refine congrArg (fun s => Ideal.div s _) (Finset.sum_congr rfl fun i _ => ?_)
  have hb := b.isLt
  have hq := q.isLt
  have hi := i.isLt
  have hd := d.isLt
  refine (val_main_v16_apply x0 x1 x2 _).trans (Eq.trans (congrArg (val_main_v14 (F := Ideal) x0 x1 x2) ?_) (v14_at x0 x1 x2 b ⟨256 * q.val + i.val, by omega⟩ d))
  refine funext fun a => Fin.ext ?_
  match a with
  | ⟨0, _⟩ => show (((b.val * 8 + q.val) * 256 + i.val) * 1024 + d.val) / 2097152 = b.val; omega
  | ⟨1, _⟩ => show (((b.val * 8 + q.val) * 256 + i.val) * 1024 + d.val) / 1024 % 2048 = 256 * q.val + i.val; omega
  | ⟨2, _⟩ => show (((b.val * 8 + q.val) * 256 + i.val) * 1024 + d.val) % 1024 = d.val; omega

end Cert.Reference4Ideal.Kv

end
-- ==== Proof.KvEq.lean ====
/- The shared keys' and values' call's claims: the frames, and its three arrays against the plain layer's, over the extended reals. -/
module

public import proofs.«01_k».proof.Defs
public import proofs.«01_k».proof.Proof.KvBitsFrame
public import proofs.«01_k».proof.Proof.KvRef
public import proofs.«01_k».proof.Proof.Gen.Reference4Ideal.Run
public import Idealize.ShloMosaic.Lib.Quiescent

@[expose] public section

noncomputable section

namespace Cert.KvEq

open Idealize.ShloMosaic Idealize.ShloMosaic.Pointwise Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

/-- The plain layer runs and leaves its arguments; it declares no semaphore. -/
theorem frame_reference : Cert.quiescent_Reference4Ideal := fun m ρ _ =>
  (θ_run Cert.Reference4Ideal.defs _ _).mono (fun r h => ⟨fun c => (h c).2.2.2, sem_eq_zero_of_no_sems rfl r.2⟩) (Cert.Reference4Ideal.Value.run m ρ)

/-- The kernel's keys, values and key means are the plain layer's. -/
theorem equal : Cert.algebraic_Kernel4Ideal_Reference4Ideal := by
  intro m g m' g' _ harg
  refine ⟨Cert.Kernel4Ideal.Kv.GK m, Cert.Kernel4Ideal.Kv.GV m, Cert.Kernel4Ideal.Kv.GM m, (θ_run Cert.Kernel4Ideal.defs _ _).mono (fun r h c => ?_) (Cert.Kernel4Ideal.Gen.run_main m g), ?_⟩
  · obtain ⟨hk, hv, hm⟩ := Cert.Kernel4Ideal.Kv.final m h.1 c
    exact ⟨hk, hv, hm, Cert.Kernel4Ideal.Gen.kept m h.1 c⟩
  refine (θ_run Cert.Reference4Ideal.defs _ _).mono (fun r h c => ?_) (Cert.Reference4Ideal.Value.run m' g')
  obtain ⟨a0, a1, a2⟩ := harg c
  obtain ⟨r0, r1, r2, kept⟩ := h c
  refine ⟨(r0.trans (Cert.Reference4Ideal.Read.val_main_v20_eq (F := Ideal) _ _ _)).trans ?_, (r1.trans (Cert.Reference4Ideal.Read.val_main_v22_eq (F := Ideal) _ _ _)).trans ?_,
    (r2.trans (Cert.Reference4Ideal.Read.val_main_v19_eq (F := Ideal) _ _ _)).trans ?_, kept⟩
  · rw [a0, a1, a2]
    funext i
    obtain ⟨b, t, e, rfl⟩ : ∃ (b : Fin 8) (t : Fin 2048) (e : Fin 1024), i = ix3 b t e := ⟨i 0, i 1, i 2, eq_ix3 (n0 := 8) (n1 := 2048) (n2 := 1024) i⟩
    exact Cert.Reference4Ideal.Kv.v20_at _ _ _ b t e
  · rw [a0, a1, a2]
    funext i
    obtain ⟨b, e, t, rfl⟩ : ∃ (b : Fin 8) (e : Fin 1024) (t : Fin 2048), i = ix3 b e t := ⟨i 0, i 1, i 2, eq_ix3 (n0 := 8) (n1 := 1024) (n2 := 2048) i⟩
    exact Cert.Reference4Ideal.Kv.v22_at _ _ _ b e t
  · rw [a0, a1, a2]
    funext i
    obtain ⟨b, q, d, rfl⟩ : ∃ (b q : Fin 8) (d : Fin 1024), i = ix3 b q d := ⟨i 0, i 1, i 2, eq_ix3 (n0 := 8) (n1 := 8) (n2 := 1024) i⟩
    exact Cert.Reference4Ideal.Kv.v19_at _ _ _ b q d

end Cert.KvEq

end
-- ==== Proof.BiasNum.lean ====
/- The bucket of a distance over the extended reals: it lies among the 32 rows, from 128 on it is the last one, and the
   chain of selects over all rows picks the row the bucket names. -/
module

public import Idealize.ShloMosaic.Lib.Pointwise
public import Idealize.ShloMosaic.Lib.IdealHost
public import Mathlib.Analysis.SpecialFunctions.Log.Basic

@[expose] public section

noncomputable section

namespace Cert.Bias

open Idealize.ShloMosaic

/-- The logarithmic part of a bucket at a word. -/
def far (d : BitVec 32) : BitVec 32 :=
  IntOp.addi 16#32 (Ideal.fptosi 32 (Ideal.div (Ideal.log (Ideal.div (((IntOp.maxsi d 16#32).toInt : ℝ) : EReal) (Ideal.ofBits .f32 0x41800000#32)))
    (Ideal.ofBits .f32 0x40051592#32) * Ideal.ofBits .f32 0x41800000#32))

/-- The bucket of a word, as both programs compute it. -/
def bkt (d : BitVec 32) : BitVec 32 := Scalar.select (IntOp.cmpi .slt d 16#32) d (IntOp.minsi (far d) 31#32)

/-- The chain of selects over the first `n` rows. -/
def sel (b : BitVec 32) (a : ℕ → EReal) : ℕ → EReal
  | 0 => Ideal.ofBits .f32 0x00000000#32
  | n + 1 => Scalar.select (IntOp.cmpi .eq b (BitVec.ofNat 32 n)) (a n) (sel b a n)

theorem sel_eq (a : ℕ → EReal) (j : ℕ) (hj : j < 32) : ∀ n ≤ 32, j < n → sel (BitVec.ofNat 32 j) a n = a j
  | 0, _, h => absurd h (Nat.not_lt_zero _)
  | n + 1, hn, h => by
    by_cases e : j = n
    · subst e
      unfold sel
      rw [show IntOp.cmpi .eq (BitVec.ofNat 32 j) (BitVec.ofNat 32 j) = 1#1 by simp [IntOp.cmpi]]
      rfl
    · have hne : BitVec.ofNat 32 j ≠ BitVec.ofNat 32 n := fun he => e (by
        have := congrArg BitVec.toNat he
        simp only [BitVec.toNat_ofNat] at this
        omega)
      unfold sel
      rw [show IntOp.cmpi .eq (BitVec.ofNat 32 j) (BitVec.ofNat 32 n) = 0#1 by
        show BitVec.ofBool (BitVec.ofNat 32 j == BitVec.ofNat 32 n) = 0#1
        rw [beq_eq_false_iff_ne.mpr hne]; rfl]
      exact sel_eq a j hj n (by omega) (by omega)

theorem word16 : Ideal.ofBits .f32 0x41800000#32 = ((16 : ℝ) : EReal) := by
  simp [Ideal.ofBits, Ideal.ieee]
  rw [← EReal.coe_mul]
  norm_num

theorem word208 : ∃ c : ℝ, 2 ≤ c ∧ c ≤ 2.08 ∧ Ideal.ofBits .f32 0x40051592#32 = (c : EReal) := by
  refine ⟨(8721810 : ℝ) * 2 ^ (-22 : ℤ), by norm_num, by norm_num, ?_⟩
  simp [Ideal.ofBits, Ideal.ieee]

theorem toInt_small (n : ℕ) (h : n < 512) : (BitVec.ofNat 32 n).toInt = n := by
  rw [BitVec.toInt_eq_toNat_cond, BitVec.toNat_ofNat]; omega

theorem log_eight : (1.99 : ℝ) ≤ Real.log 8 := by
  have h1 : Real.log ((1.05 : ℝ)⁻¹) ≤ (1.05 : ℝ)⁻¹ - 1 := Real.log_le_sub_one_of_pos (by norm_num)
  rw [Real.log_inv] at h1
  have h2 : Real.log ((1.05 : ℝ) ^ 42) ≤ Real.log 8 := Real.log_le_log (by norm_num) (by norm_num)
  rw [Real.log_pow] at h2
  have h3 : (1.05 : ℝ)⁻¹ - 1 ≤ -0.0476 := by norm_num
  push_cast at h2
  linarith

theorem far_eq (n : ℕ) (h16 : 16 ≤ n) (h : n < 512) : ∃ k : ℕ, k < 512 ∧ (128 ≤ n → 15 ≤ k) ∧ far (BitVec.ofNat 32 n) = BitVec.ofNat 32 (16 + k) := by
  obtain ⟨c, hc, hc', ec⟩ := word208
  have hn : (16 : ℝ) ≤ n := by exact_mod_cast h16
  have hn' : (n : ℝ) < 512 := by exact_mod_cast h
  have hm : IntOp.maxsi (BitVec.ofNat 32 n) 16#32 = BitVec.ofNat 32 n := by
    unfold IntOp.maxsi
    split
    · rfl
    · next hs =>
      have hs' : ¬ ((16#32).toInt < (BitVec.ofNat 32 n).toInt) := by simpa [BitVec.slt] using hs
      rw [toInt_small n h, show (16#32).toInt = 16 from rfl] at hs'
      have : n = 16 := by omega
      rw [this]
  have hx : (1 : ℝ) ≤ n / 16 := by linarith
  have hl0 : 0 ≤ Real.log (n / 16) := Real.log_nonneg hx
  have hl1 : Real.log (n / 16) ≤ 31 := by
    have := Real.log_le_sub_one_of_pos (show (0 : ℝ) < n / 16 by linarith)
    linarith
  have hc0 : (0 : ℝ) < c := by linarith
  have ht0 : 0 ≤ Real.log (n / 16) * (1 / c) * 16 := by positivity
  have hi : 1 / c ≤ 1 / 2 := one_div_le_one_div_of_le (by norm_num) hc
  have ht1 : Real.log (n / 16) * (1 / c) * 16 < 512 := by
    have : Real.log (n / 16) * (1 / c) ≤ 31 * (1 / 2) := mul_le_mul hl1 hi (by positivity) (by norm_num)
    linarith
  have hf0 : 0 ≤ ⌊Real.log (n / 16) * (1 / c) * 16⌋ := Int.floor_nonneg.mpr ht0
  have hf1 : ⌊Real.log (n / 16) * (1 / c) * 16⌋ < 512 := Int.floor_lt.mpr (by exact_mod_cast ht1)
  refine ⟨⌊Real.log (n / 16) * (1 / c) * 16⌋.toNat, by omega, fun h128 => ?_, ?_⟩
  · have h8 : Real.log 8 ≤ Real.log (n / 16) := Real.log_le_log (by norm_num) (by
      have : (128 : ℝ) ≤ n := by exact_mod_cast h128
      linarith)
    have h83 := log_eight
    have hk : (15 : ℤ) ≤ ⌊Real.log (n / 16) * (1 / c) * 16⌋ := Int.le_floor.mpr (by
      have e1 : (1.99 : ℝ) ≤ Real.log (n / 16) := by linarith
      have e2 : (1 : ℝ) / 2.08 ≤ 1 / c := one_div_le_one_div_of_le hc0 hc'
      have e3 : (1.99 : ℝ) * (1 / 2.08) ≤ Real.log (n / 16) * (1 / c) := mul_le_mul e1 e2 (by norm_num) hl0
      have e4 : (15 : ℝ) / 16 ≤ 1.99 * (1 / 2.08) := by norm_num
      push_cast
      linarith)
    omega
  · unfold far
    rw [hm, toInt_small n h, ec, word16, Ideal.div_coe hc0.ne', Ideal.div_coe (show (16 : ℝ) ≠ 0 by norm_num),
      show (((n : ℤ) : ℝ) : EReal) * ((1 / 16 : ℝ) : EReal) = ((n / 16 : ℝ) : EReal) by
        rw [← EReal.coe_mul]; congr 1; push_cast; ring,
      Ideal.log_coe, if_neg (by linarith), ← EReal.coe_mul, ← EReal.coe_mul]
    unfold Ideal.fptosi
    rw [Ideal.toIntClamped_coe, if_pos ht0]
    generalize ⌊Real.log (n / 16) * (1 / c) * 16⌋ = z at hf0 hf1 ⊢
    obtain ⟨k, rfl⟩ := Int.eq_ofNat_of_zero_le hf0
    rw [show max (-(2 ^ (32 - 1) : ℕ) : ℤ) (min ((2 ^ (32 - 1) : ℕ) - 1 : ℤ) (k : ℤ)) = (k : ℤ) by
      norm_num; omega]
    show 16#32 + BitVec.ofInt 32 (k : ℤ) = _
    rw [BitVec.ofInt_natCast, Int.toNat_natCast, ← BitVec.ofNat_add]

/-- The bucket of a distance below 512 is one of the 32 rows, and from 128 on the last. -/
theorem bkt_row (n : ℕ) (h : n < 512) : ∃ j : ℕ, j < 32 ∧ (128 ≤ n → j = 31) ∧ bkt (BitVec.ofNat 32 n) = BitVec.ofNat 32 j := by
  unfold bkt
  by_cases h16 : n < 16
  · refine ⟨n, by omega, by omega, ?_⟩
    rw [show IntOp.cmpi .slt (BitVec.ofNat 32 n) 16#32 = 1#1 by
      simp only [IntOp.cmpi, BitVec.slt, toInt_small n h, show (16#32).toInt = 16 from rfl]
      rw [decide_eq_true (by omega)]; rfl]
    rfl
  · obtain ⟨k, hk, hk', e⟩ := far_eq n (by omega) h
    rw [show IntOp.cmpi .slt (BitVec.ofNat 32 n) 16#32 = 0#1 by
      simp only [IntOp.cmpi, BitVec.slt, toInt_small n h, show (16#32).toInt = 16 from rfl]
      rw [decide_eq_false (by omega)]; rfl, e]
    show ∃ j : ℕ, j < 32 ∧ (128 ≤ n → j = 31) ∧ IntOp.minsi (BitVec.ofNat 32 (16 + k)) 31#32 = BitVec.ofNat 32 j
    have ht : (BitVec.ofNat 32 (16 + k)).toInt = (16 + k : ℕ) := by
      rw [BitVec.toInt_eq_toNat_cond, BitVec.toNat_ofNat]; omega
    unfold IntOp.minsi
    by_cases hs : 16 + k < 31
    · refine ⟨16 + k, by omega, by omega, ?_⟩
      rw [if_pos (by simp only [BitVec.slt, ht, show (31#32).toInt = 31 from rfl]; exact decide_eq_true (by omega))]
    · refine ⟨31, by omega, fun _ => rfl, ?_⟩
      rw [if_neg (by simp only [BitVec.slt, ht, show (31#32).toInt = 31 from rfl]; simp; omega)]

/-- The row of a distance. -/
def row (n : ℕ) : Fin 32 := ⟨(bkt (BitVec.ofNat 32 n)).toNat % 32, Nat.mod_lt _ (by decide)⟩

theorem bkt_eq (n : ℕ) (h : n < 512) : bkt (BitVec.ofNat 32 n) = BitVec.ofNat 32 (row n).val := by
  obtain ⟨j, hj, -, e⟩ := bkt_row n h
  have : (row n).val = j := by
    show (bkt (BitVec.ofNat 32 n)).toNat % 32 = j
    rw [e, BitVec.toNat_ofNat]; omega
  rw [this, e]

theorem row_far (n : ℕ) (h1 : 128 ≤ n) (h : n < 512) : row n = 31 := by
  obtain ⟨j, hj, hj', e⟩ := bkt_row n h
  apply Fin.ext
  show (bkt (BitVec.ofNat 32 n)).toNat % 32 = 31
  rw [e, BitVec.toNat_ofNat, hj' h1]

/-! ### A distance as a word -/

/-- A query position minus a key position, in words. -/
def dist (s k : ℕ) : BitVec 32 := BitVec.ofNat 32 s - BitVec.ofNat 32 k

theorem dist_pos (s k : ℕ) (h : k ≤ s) : dist s k = BitVec.ofNat 32 (s - k) := by
  unfold dist
  conv_lhs => rw [show s = (s - k) + k by omega, BitVec.ofNat_add]
  exact BitVec.add_sub_cancel _ _

theorem clip (n : ℕ) (h : n < 512) : IntOp.maxsi (BitVec.ofNat 32 n) 0#32 = BitVec.ofNat 32 n := by
  unfold IntOp.maxsi
  split
  · rfl
  · next hs =>
    have hs' : ¬ ((0#32).toInt < (BitVec.ofNat 32 n).toInt) := by simpa [BitVec.slt] using hs
    rw [toInt_small n h, show (0#32).toInt = 0 from rfl] at hs'
    rw [show n = 0 by omega]

theorem sge_pos (s k : ℕ) (h : k ≤ s) (hs : s < 512) : IntOp.cmpi .sge (dist s k) 0#32 = 1#1 := by
  rw [dist_pos s k h]
  simp only [IntOp.cmpi, BitVec.sle, toInt_small (s - k) (by omega), show (0#32).toInt = 0 from rfl]
  rw [decide_eq_true (by omega)]; rfl

theorem sge_neg (s k : ℕ) (h : s < k) (hk : k < 512) : IntOp.cmpi .sge (dist s k) 0#32 = 0#1 := by
  have e : (dist s k).toInt = (s : ℤ) - k := by
    unfold dist
    rw [BitVec.toInt_eq_toNat_cond, BitVec.toNat_sub, BitVec.toNat_ofNat, BitVec.toNat_ofNat]
    omega
  simp only [IntOp.cmpi, BitVec.sle, e, show (0#32).toInt = 0 from rfl]
  rw [decide_eq_false (by omega)]; rfl

/-- The selected row of a distance that is not negative. -/
theorem sel_dist (a : ℕ → EReal) (s k : ℕ) (h : k ≤ s) (hs : s < 512) : sel (bkt (IntOp.maxsi (dist s k) 0#32)) a 32 = a (row (s - k)).val := by
  rw [dist_pos s k h, clip _ (by omega), bkt_eq _ (by omega)]
  exact sel_eq a _ (row (s - k)).isLt 32 le_rfl (row (s - k)).isLt

end Cert.Bias

end
-- ==== Proof.BiasRead.lean ====
/- What the call for the relative-bias tiles leaves at a grid point: each of its eight quads of 128 by 128 read at an index
   as one row of the bias, and the three narrowed slabs. -/
module

public import proofs.«01_k».proof.Proof.BiasNum
public import proofs.«01_k».proof.Proof.PoolRead
public import proofs.«01_k».proof.Proof.Gen.Kernel5Ideal.Value

@[expose] public section

noncomputable section

namespace Cert.Kernel5Ideal.Bias

open Cert.Kernel5Ideal Cert.Kernel5Ideal.Gen Idealize.ShloMosaic Idealize.ShloMosaic.TcCoe Idealize.ShloMosaic.Pointwise Idealize.SL.Sem
open Cert.Bias
open Cert.KernelIdeal.Pool (canon_hit canon_miss load_apply load_all zero2 zero3)

/-- A tile's value at query position `s` and key position `k`. -/
def tile (a : ℕ → EReal) (s k : ℕ) : EReal :=
  (if k ≤ s then a (row (s - k)).val else Ideal.ofBits .f32 0xF149F2CA#32) * Ideal.ofBits .f32 0x3FB8AA3B#32

theorem cast4 (x : FVec Ideal S128x128 .f32) (k q : Fin 128) : shapeCast S1x1x128x128 x shapeCasts_S128x128_S1x1x128x128 (ix4 0 0 k q) = x (ix2 k q) := by
  pointwise []

theorem word (o : ℕ) (k q : Fin 128) : IntOp.subi (IntOp.addi (BitVec.ofNat 32 o) (iota .tc S128x128 32 [1] iota_S128x128_d1_w32 (ix2 k q))) (iota .tc S128x128 32 [0] iota_S128x128_d0_w32 (ix2 k q))
    = Cert.Bias.dist (o + q.val) k.val := by
  rw [iota_single_apply, iota_single_apply]
  show BitVec.ofNat 32 o + BitVec.ofNat 32 q.val - BitVec.ofNat 32 k.val = _
  unfold Cert.Bias.dist
  rw [BitVec.ofNat_add]

section Quads
variable (c : Dev nD) (i : grid0.Coords) (arg1 : Memref sig .tc .smem S32x16 .f32) (harg1 : arg1.IsWhole) (x0 : FVec Ideal S32x16 .f32)

/-- The rows read at the point, in order. -/
def rows : ℕ → EReal
  | 0 => kernelRun0_A.sl.r (F := Ideal) c i arg1 harg1 x0
  | 1 => kernelRun0_A.sl.r_1 (F := Ideal) c i arg1 harg1 x0
  | 2 => kernelRun0_A.sl.r_2 (F := Ideal) c i arg1 harg1 x0
  | 3 => kernelRun0_A.sl.r_3 (F := Ideal) c i arg1 harg1 x0
  | 4 => kernelRun0_A.sl.r_4 (F := Ideal) c i arg1 harg1 x0
  | 5 => kernelRun0_A.sl.r_5 (F := Ideal) c i arg1 harg1 x0
  | 6 => kernelRun0_A.sl.r_9 (F := Ideal) c i arg1 harg1 x0
  | 7 => kernelRun0_A.sl.r_10 (F := Ideal) c i arg1 harg1 x0
  | 8 => kernelRun0_A.sl.r_11 (F := Ideal) c i arg1 harg1 x0
  | 9 => kernelRun0_A.sl.r_12 (F := Ideal) c i arg1 harg1 x0
  | 10 => kernelRun0_A.sl.r_13 (F := Ideal) c i arg1 harg1 x0
  | 11 => kernelRun0_A.sl.r_14 (F := Ideal) c i arg1 harg1 x0
  | 12 => kernelRun0_A.sl.r_15 (F := Ideal) c i arg1 harg1 x0
  | 13 => kernelRun0_A.sl.r_16 (F := Ideal) c i arg1 harg1 x0
  | 14 => kernelRun0_A.sl.r_17 (F := Ideal) c i arg1 harg1 x0
  | 15 => kernelRun0_A.sl.r_18 (F := Ideal) c i arg1 harg1 x0
  | 16 => kernelRun0_A.sl.r_19 (F := Ideal) c i arg1 harg1 x0
  | 17 => kernelRun0_A.sl.r_20 (F := Ideal) c i arg1 harg1 x0
  | 18 => kernelRun0_A.sl.r_21 (F := Ideal) c i arg1 harg1 x0
  | 19 => kernelRun0_A.sl.r_22 (F := Ideal) c i arg1 harg1 x0
  | 20 => kernelRun0_A.sl.r_23 (F := Ideal) c i arg1 harg1 x0
  | 21 => kernelRun0_A.sl.r_24 (F := Ideal) c i arg1 harg1 x0
  | 22 => kernelRun0_A.sl.r_25 (F := Ideal) c i arg1 harg1 x0
  | 23 => kernelRun0_A.sl.r_26 (F := Ideal) c i arg1 harg1 x0
  | 24 => kernelRun0_A.sl.r_27 (F := Ideal) c i arg1 harg1 x0
  | 25 => kernelRun0_A.sl.r_28 (F := Ideal) c i arg1 harg1 x0
  | 26 => kernelRun0_A.sl.r_29 (F := Ideal) c i arg1 harg1 x0
  | 27 => kernelRun0_A.sl.r_30 (F := Ideal) c i arg1 harg1 x0
  | 28 => kernelRun0_A.sl.r_31 (F := Ideal) c i arg1 harg1 x0
  | 29 => kernelRun0_A.sl.r_32 (F := Ideal) c i arg1 harg1 x0
  | 30 => kernelRun0_A.sl.r_33 (F := Ideal) c i arg1 harg1 x0
  | 31 => kernelRun0_A.sl.r_34 (F := Ideal) c i arg1 harg1 x0
  | _ => 0

theorem bkt_a (k q : Fin 128) : (kernelRun0_A.sl.r_6 (F := Ideal)) (ix2 k q) = bkt (IntOp.maxsi (IntOp.subi (IntOp.addi (BitVec.ofNat 32 0) (iota .tc S128x128 32 [1] iota_S128x128_d1_w32 (ix2 k q))) (iota .tc S128x128 32 [0] iota_S128x128_d0_w32 (ix2 k q))) 0#32) := rfl
theorem bkt_b (k q : Fin 128) : (kernelRun0_A.sl.r_35 (F := Ideal)) (ix2 k q) = bkt (IntOp.maxsi (IntOp.subi (IntOp.addi (BitVec.ofNat 32 128) (iota .tc S128x128 32 [1] iota_S128x128_d1_w32 (ix2 k q))) (iota .tc S128x128 32 [0] iota_S128x128_d0_w32 (ix2 k q))) 0#32) := rfl
theorem bkt_c (k q : Fin 128) : (kernelRun0_A.sl.r_39 (F := Ideal)) (ix2 k q) = bkt (IntOp.maxsi (IntOp.subi (IntOp.addi (BitVec.ofNat 32 0) (iota .tc S128x128 32 [1] iota_S128x128_d1_w32 (ix2 k q))) (iota .tc S128x128 32 [0] iota_S128x128_d0_w32 (ix2 k q))) 0#32) := rfl
theorem bkt_d (k q : Fin 128) : (kernelRun0_A.sl.r_47 (F := Ideal)) (ix2 k q) = bkt (IntOp.maxsi (IntOp.subi (IntOp.addi (BitVec.ofNat 32 128) (iota .tc S128x128 32 [1] iota_S128x128_d1_w32 (ix2 k q))) (iota .tc S128x128 32 [0] iota_S128x128_d0_w32 (ix2 k q))) 0#32) := rfl

/-! ### The last rows of each computed quad -/

theorem fin_a (b : IVec S128x128 32) (x : FVec Ideal S128x128 .f32) (s29 s30 s31 : EReal) (k q : Fin 128) : k0_pay16 (F := Ideal) k0_pay5 b x 29#32 s29 s30 s31 (ix4 0 0 k q)
    = Scalar.select (IntOp.cmpi .sge (IntOp.subi (IntOp.addi (BitVec.ofNat 32 0) (iota .tc S128x128 32 [1] iota_S128x128_d1_w32 (ix2 k q))) (iota .tc S128x128 32 [0] iota_S128x128_d0_w32 (ix2 k q))) 0#32) (Scalar.select (IntOp.cmpi .eq (b (ix2 k q)) 31#32) s31 (Scalar.select (IntOp.cmpi .eq (b (ix2 k q)) 30#32) s30 (Scalar.select (IntOp.cmpi .eq (b (ix2 k q)) 29#32) s29 (x (ix2 k q))))) (Ideal.ofBits .f32 0xF149F2CA#32) * Ideal.ofBits .f32 0x3FB8AA3B#32 := by
  unfold k0_pay16
  exact (cast4 _ k q).trans rfl

theorem fin_b (b : IVec S128x128 32) (x : FVec Ideal S128x128 .f32) (s28 s29 s30 s31 : EReal) (k q : Fin 128) : k0_pay29 (F := Ideal) b x (broadcast S128x128 28#32) s28 s29 s30 s31 (ix4 0 0 k q)
    = (Scalar.select (IntOp.cmpi .eq (b (ix2 k q)) 31#32) s31 (Scalar.select (IntOp.cmpi .eq (b (ix2 k q)) 30#32) s30 (Scalar.select (IntOp.cmpi .eq (b (ix2 k q)) 29#32) s29 (Scalar.select (IntOp.cmpi .eq (b (ix2 k q)) 28#32) s28 (x (ix2 k q)))))) * Ideal.ofBits .f32 0x3FB8AA3B#32 := by
  unfold k0_pay29
  exact (cast4 _ k q).trans rfl

theorem fin_c (d b : IVec S128x128 32) (x : FVec Ideal S128x128 .f32) (s26 s27 s28 s29 s30 s31 : EReal) (k q : Fin 128) :
    k0_pay40 (F := Ideal) d b x (cmpi .eq b (broadcast S128x128 26#32)) s26 s27 s28 s29 s30 s31 (ix4 0 0 k q)
    = Scalar.select (IntOp.cmpi .sge (d (ix2 k q)) 0#32) (Scalar.select (IntOp.cmpi .eq (b (ix2 k q)) 31#32) s31 (Scalar.select (IntOp.cmpi .eq (b (ix2 k q)) 30#32) s30 (Scalar.select (IntOp.cmpi .eq (b (ix2 k q)) 29#32) s29 (Scalar.select (IntOp.cmpi .eq (b (ix2 k q)) 28#32) s28 (Scalar.select (IntOp.cmpi .eq (b (ix2 k q)) 27#32) s27 (Scalar.select (IntOp.cmpi .eq (b (ix2 k q)) 26#32) s26 (x (ix2 k q)))))))) (Ideal.ofBits .f32 0xF149F2CA#32) * Ideal.ofBits .f32 0x3FB8AA3B#32 := by
  unfold k0_pay40
  exact (cast4 _ k q).trans rfl

theorem fin_d (b : IVec S128x128 32) (x : FVec Ideal S128x128 .f32) (s29 s30 s31 : EReal) (k q : Fin 128) :
    k0_pay56 (F := Ideal) b x (cmpi .eq b (broadcast S128x128 29#32)) s29 s30 s31 (ix4 0 0 k q)
    = (Scalar.select (IntOp.cmpi .eq (b (ix2 k q)) 31#32) s31 (Scalar.select (IntOp.cmpi .eq (b (ix2 k q)) 30#32) s30 (Scalar.select (IntOp.cmpi .eq (b (ix2 k q)) 29#32) s29 (x (ix2 k q))))) * Ideal.ofBits .f32 0x3FB8AA3B#32 := by
  unfold k0_pay56
  exact (cast4 _ k q).trans rfl

/-! ### The chains -/

theorem sel_a (k q : Fin 128) : kernelRun0_A.sl.v211 (F := Ideal) c i arg1 harg1 x0 (ix2 k q) = sel ((kernelRun0_A.sl.r_6 (F := Ideal)) (ix2 k q)) (rows c i arg1 harg1 x0) 29 := rfl
theorem sel_b (k q : Fin 128) : kernelRun0_A.sl.v430 (F := Ideal) c i arg1 harg1 x0 (ix2 k q) = sel ((kernelRun0_A.sl.r_35 (F := Ideal)) (ix2 k q)) (rows c i arg1 harg1 x0) 28 := rfl
theorem sel_c (k q : Fin 128) : kernelRun0_A.sl.v645 (F := Ideal) c i arg1 harg1 x0 (ix2 k q) = sel ((kernelRun0_A.sl.r_39 (F := Ideal)) (ix2 k q)) (rows c i arg1 harg1 x0) 26 := rfl
theorem sel_d (k q : Fin 128) : kernelRun0_A.sl.v904 (F := Ideal) c i arg1 harg1 x0 (ix2 k q) = sel ((kernelRun0_A.sl.r_47 (F := Ideal)) (ix2 k q)) (rows c i arg1 harg1 x0) 29 := rfl

theorem quad_a (k q : Fin 128) : k0_pay16 (F := Ideal) k0_pay5 (kernelRun0_A.sl.r_6 (F := Ideal)) (kernelRun0_A.sl.v211 (F := Ideal) c i arg1 harg1 x0) 29#32
      (kernelRun0_A.sl.r_32 (F := Ideal) c i arg1 harg1 x0) (kernelRun0_A.sl.r_33 (F := Ideal) c i arg1 harg1 x0) (kernelRun0_A.sl.r_34 (F := Ideal) c i arg1 harg1 x0) (ix4 0 0 k q)
    = Scalar.select (IntOp.cmpi .sge (IntOp.subi (IntOp.addi (BitVec.ofNat 32 0) (iota .tc S128x128 32 [1] iota_S128x128_d1_w32 (ix2 k q))) (iota .tc S128x128 32 [0] iota_S128x128_d0_w32 (ix2 k q))) 0#32) (sel ((kernelRun0_A.sl.r_6 (F := Ideal)) (ix2 k q)) (rows c i arg1 harg1 x0) 32) (Ideal.ofBits .f32 0xF149F2CA#32) * Ideal.ofBits .f32 0x3FB8AA3B#32 := by
  refine (fin_a _ _ _ _ _ k q).trans ?_
  rw [sel_a]
  rfl

theorem quad_b (k q : Fin 128) : k0_pay29 (F := Ideal) (kernelRun0_A.sl.r_35 (F := Ideal)) (kernelRun0_A.sl.v430 (F := Ideal) c i arg1 harg1 x0) kernelRun0_A.sl.v206
      (kernelRun0_A.sl.r_38 (F := Ideal) c i arg1 harg1 x0) (kernelRun0_A.sl.r_32 (F := Ideal) c i arg1 harg1 x0) (kernelRun0_A.sl.r_33 (F := Ideal) c i arg1 harg1 x0) (kernelRun0_A.sl.r_34 (F := Ideal) c i arg1 harg1 x0) (ix4 0 0 k q)
    = sel ((kernelRun0_A.sl.r_35 (F := Ideal)) (ix2 k q)) (rows c i arg1 harg1 x0) 32 * Ideal.ofBits .f32 0x3FB8AA3B#32 := by
  refine (fin_b _ _ _ _ _ _ k q).trans ?_
  rw [sel_b]
  rfl

theorem quad_c (k q : Fin 128) : kernelRun0_A.sl.r_45 (F := Ideal) c i arg1 harg1 x0 (ix4 0 0 k q)
    = Scalar.select (IntOp.cmpi .sge (IntOp.subi (IntOp.addi (BitVec.ofNat 32 0) (iota .tc S128x128 32 [1] iota_S128x128_d1_w32 (ix2 k q))) (iota .tc S128x128 32 [0] iota_S128x128_d0_w32 (ix2 k q))) 0#32) (sel ((kernelRun0_A.sl.r_39 (F := Ideal)) (ix2 k q)) (rows c i arg1 harg1 x0) 32) (Ideal.ofBits .f32 0xF149F2CA#32) * Ideal.ofBits .f32 0x3FB8AA3B#32 := by
  refine (fin_c _ _ _ _ _ _ _ _ _ k q).trans ?_
  rw [sel_c]
  rfl

theorem quad_d (k q : Fin 128) : k0_pay56 (F := Ideal) (kernelRun0_A.sl.r_47 (F := Ideal)) (kernelRun0_A.sl.v904 (F := Ideal) c i arg1 harg1 x0) (kernelRun0_A.sl.v906 (F := Ideal))
      (kernelRun0_A.sl.r_32 (F := Ideal) c i arg1 harg1 x0) (kernelRun0_A.sl.r_33 (F := Ideal) c i arg1 harg1 x0) (kernelRun0_A.sl.r_34 (F := Ideal) c i arg1 harg1 x0) (ix4 0 0 k q)
    = sel ((kernelRun0_A.sl.r_47 (F := Ideal)) (ix2 k q)) (rows c i arg1 harg1 x0) 32 * Ideal.ofBits .f32 0x3FB8AA3B#32 := by
  refine (fin_d _ _ _ _ _ k q).trans ?_
  rw [sel_d]
  rfl

/-! ### The quads of one value -/

theorem quad_masked (k q : Fin 128) : k0_pay30 (F := Ideal) (ix4 0 0 k q) = (Ideal.ofBits .f32 0xF149F2CA#32) * Ideal.ofBits .f32 0x3FB8AA3B#32 := by
  unfold k0_pay30
  exact (cast4 _ k q).trans rfl
theorem quad_far1 (x : EReal) (k q : Fin 128) : k0_pay41 (F := Ideal) x (ix4 0 0 k q) = x * Ideal.ofBits .f32 0x3FB8AA3B#32 := by
  unfold k0_pay41
  exact (cast4 _ k q).trans rfl
theorem quad_far2 (x : EReal) (k q : Fin 128) : k0_pay42 (F := Ideal) x (ix4 0 0 k q) = x * Ideal.ofBits .f32 0x3FB8AA3B#32 := by
  unfold k0_pay42
  exact (cast4 _ k q).trans rfl
theorem quad_far3 (x : EReal) (k q : Fin 128) : k0_pay1 (F := Ideal) (k0_pay57 x) (ix4 0 0 k q) = x * Ideal.ofBits .f32 0x3FB8AA3B#32 := by
  unfold k0_pay1
  exact (cast4 _ k q).trans rfl

/-- A quad with its mask, at an index. -/
theorem mixed_tile (a : ℕ → EReal) (b : BitVec 32) (k q : Fin 128)
    (hb : b = bkt (IntOp.maxsi (IntOp.subi (IntOp.addi (BitVec.ofNat 32 0) (iota .tc S128x128 32 [1] iota_S128x128_d1_w32 (ix2 k q))) (iota .tc S128x128 32 [0] iota_S128x128_d0_w32 (ix2 k q))) 0#32)) :
    (Scalar.select (IntOp.cmpi .sge (IntOp.subi (IntOp.addi (BitVec.ofNat 32 0) (iota .tc S128x128 32 [1] iota_S128x128_d1_w32 (ix2 k q))) (iota .tc S128x128 32 [0] iota_S128x128_d0_w32 (ix2 k q))) 0#32)
        (sel b a 32) (Ideal.ofBits .f32 0xF149F2CA#32) * Ideal.ofBits .f32 0x3FB8AA3B#32 : EReal) = tile a q.val k.val := by
  have hq := q.isLt
  have hk := k.isLt
  rw [hb, word, Nat.zero_add]
  unfold tile
  by_cases h : k.val ≤ q.val
  · rw [sge_pos _ _ h (by omega), sel_dist a _ _ h (by omega), if_pos h]; rfl
  · rw [sge_neg _ _ (by omega) (by omega), if_neg h]; rfl

/-- A quad without a mask, at an index. -/
theorem plain_tile (a : ℕ → EReal) (b : BitVec 32) (k q : Fin 128)
    (hb : b = bkt (IntOp.maxsi (IntOp.subi (IntOp.addi (BitVec.ofNat 32 128) (iota .tc S128x128 32 [1] iota_S128x128_d1_w32 (ix2 k q))) (iota .tc S128x128 32 [0] iota_S128x128_d0_w32 (ix2 k q))) 0#32)) :
    sel b a 32 * Ideal.ofBits .f32 0x3FB8AA3B#32 = tile a (128 + q.val) k.val := by
  have hq := q.isLt
  have hk := k.isLt
  rw [hb, word, sel_dist a _ _ (by omega) (by omega)]
  unfold tile
  rw [if_pos (by omega)]

theorem tile_shift (a : ℕ → EReal) (o s k : ℕ) : tile a (o + s) (o + k) = tile a s k := by
  unfold tile
  rw [show o + s - (o + k) = s - k by omega]
  by_cases h : k ≤ s
  · rw [if_pos h, if_pos (by omega)]
  · rw [if_neg h, if_neg (by omega)]

theorem tile_far (a : ℕ → EReal) (s k : ℕ) (h : k + 128 ≤ s) (hs : s < 512) : tile a s k = a 31 * Ideal.ofBits .f32 0x3FB8AA3B#32 := by
  unfold tile
  rw [if_pos (by omega), row_far _ (by omega) (by omega)]
  rfl

theorem tile_masked (a : ℕ → EReal) (s k : ℕ) (h : s < k) : tile a s k = Ideal.ofBits .f32 0xF149F2CA#32 * Ideal.ofBits .f32 0x3FB8AA3B#32 := by
  unfold tile
  rw [if_neg (by omega)]

/-- One entry read of the bias. -/
theorem entry_eq (off : Fin S32x16.rank → ℕ) (inb : ∀ a, off a + S1x1.size a ≤ S32x16.size a) (j : (Rect.unit off S1x1.size inb).shape.Idx) (n : Fin 32) (h : Fin 16)
    (h0 : off 0 = n.val) (h1 : off 1 = h.val) :
    View.readAt (Elt Ideal) arg1.view (Rect.unit off S1x1.size inb).toLoadRect (harg1.unread x0) j = x0 (ix2 n h) := by
  refine load_apply arg1 harg1 x0 off S1x1.size inb j (ix2 n h : S32x16.Idx) fun a => ?_
  match a with
  | ⟨0, _⟩ =>
    have e : (j (0 : Fin 2)).val < 1 := (j (0 : Fin 2)).isLt
    show n.val = off 0 + (j (0 : Fin 2)).val
    omega
  | ⟨1, _⟩ =>
    have e : (j (1 : Fin 2)).val < 1 := (j (1 : Fin 2)).isLt
    show h.val = off 1 + (j (1 : Fin 2)).val
    omega

/-- A row read at the point is the head's entry of the bias. -/
theorem rows_eq (n : Fin 32) : rows c i arg1 harg1 x0 n.val = x0 (ix2 n (i 0)) := by
  have hi : (i 0).val < 16 := (i 0).isLt
  have hw : (BitVec.ofNat 32 (i 0).val).toNat = (i 0).val := by rw [BitVec.toNat_ofNat]; omega
  match n with
  | ⟨0, _⟩ => exact entry_eq arg1 harg1 x0 (k0_off1 i) (k0_off1_inb i) _ ⟨0, by decide⟩ (i 0) rfl hw
  | ⟨1, _⟩ => exact entry_eq arg1 harg1 x0 (k0_off2 i) (k0_off2_inb i) _ ⟨1, by decide⟩ (i 0) rfl hw
  | ⟨2, _⟩ => exact entry_eq arg1 harg1 x0 (k0_off3 i) (k0_off3_inb i) _ ⟨2, by decide⟩ (i 0) rfl hw
  | ⟨3, _⟩ => exact entry_eq arg1 harg1 x0 (k0_off4 i) (k0_off4_inb i) _ ⟨3, by decide⟩ (i 0) rfl hw
  | ⟨4, _⟩ => exact entry_eq arg1 harg1 x0 (k0_off5 i) (k0_off5_inb i) _ ⟨4, by decide⟩ (i 0) rfl hw
  | ⟨5, _⟩ => exact entry_eq arg1 harg1 x0 (k0_off6 i) (k0_off6_inb i) _ ⟨5, by decide⟩ (i 0) rfl hw
  | ⟨6, _⟩ => exact entry_eq arg1 harg1 x0 (k0_off7 i) (k0_off7_inb i) _ ⟨6, by decide⟩ (i 0) rfl hw
  | ⟨7, _⟩ => exact entry_eq arg1 harg1 x0 (k0_off8 i) (k0_off8_inb i) _ ⟨7, by decide⟩ (i 0) rfl hw
  | ⟨8, _⟩ => exact entry_eq arg1 harg1 x0 (k0_off9 i) (k0_off9_inb i) _ ⟨8, by decide⟩ (i 0) rfl hw
  | ⟨9, _⟩ => exact entry_eq arg1 harg1 x0 (k0_off10 i) (k0_off10_inb i) _ ⟨9, by decide⟩ (i 0) rfl hw
  | ⟨10, _⟩ => exact entry_eq arg1 harg1 x0 (k0_off11 i) (k0_off11_inb i) _ ⟨10, by decide⟩ (i 0) rfl hw
  | ⟨11, _⟩ => exact entry_eq arg1 harg1 x0 (k0_off12 i) (k0_off12_inb i) _ ⟨11, by decide⟩ (i 0) rfl hw
  | ⟨12, _⟩ => exact entry_eq arg1 harg1 x0 (k0_off13 i) (k0_off13_inb i) _ ⟨12, by decide⟩ (i 0) rfl hw
  | ⟨13, _⟩ => exact entry_eq arg1 harg1 x0 (k0_off14 i) (k0_off14_inb i) _ ⟨13, by decide⟩ (i 0) rfl hw
  | ⟨14, _⟩ => exact entry_eq arg1 harg1 x0 (k0_off15 i) (k0_off15_inb i) _ ⟨14, by decide⟩ (i 0) rfl hw
  | ⟨15, _⟩ => exact entry_eq arg1 harg1 x0 (k0_off16 i) (k0_off16_inb i) _ ⟨15, by decide⟩ (i 0) rfl hw
  | ⟨16, _⟩ => exact entry_eq arg1 harg1 x0 (k0_off17 i) (k0_off17_inb i) _ ⟨16, by decide⟩ (i 0) rfl hw
  | ⟨17, _⟩ => exact entry_eq arg1 harg1 x0 (k0_off18 i) (k0_off18_inb i) _ ⟨17, by decide⟩ (i 0) rfl hw
  | ⟨18, _⟩ => exact entry_eq arg1 harg1 x0 (k0_off19 i) (k0_off19_inb i) _ ⟨18, by decide⟩ (i 0) rfl hw
  | ⟨19, _⟩ => exact entry_eq arg1 harg1 x0 (k0_off20 i) (k0_off20_inb i) _ ⟨19, by decide⟩ (i 0) rfl hw
  | ⟨20, _⟩ => exact entry_eq arg1 harg1 x0 (k0_off21 i) (k0_off21_inb i) _ ⟨20, by decide⟩ (i 0) rfl hw
  | ⟨21, _⟩ => exact entry_eq arg1 harg1 x0 (k0_off22 i) (k0_off22_inb i) _ ⟨21, by decide⟩ (i 0) rfl hw
  | ⟨22, _⟩ => exact entry_eq arg1 harg1 x0 (k0_off23 i) (k0_off23_inb i) _ ⟨22, by decide⟩ (i 0) rfl hw
  | ⟨23, _⟩ => exact entry_eq arg1 harg1 x0 (k0_off24 i) (k0_off24_inb i) _ ⟨23, by decide⟩ (i 0) rfl hw
  | ⟨24, _⟩ => exact entry_eq arg1 harg1 x0 (k0_off25 i) (k0_off25_inb i) _ ⟨24, by decide⟩ (i 0) rfl hw
  | ⟨25, _⟩ => exact entry_eq arg1 harg1 x0 (k0_off26 i) (k0_off26_inb i) _ ⟨25, by decide⟩ (i 0) rfl hw
  | ⟨26, _⟩ => exact entry_eq arg1 harg1 x0 (k0_off27 i) (k0_off27_inb i) _ ⟨26, by decide⟩ (i 0) rfl hw
  | ⟨27, _⟩ => exact entry_eq arg1 harg1 x0 (k0_off28 i) (k0_off28_inb i) _ ⟨27, by decide⟩ (i 0) rfl hw
  | ⟨28, _⟩ => exact entry_eq arg1 harg1 x0 (k0_off29 i) (k0_off29_inb i) _ ⟨28, by decide⟩ (i 0) rfl hw
  | ⟨29, _⟩ => exact entry_eq arg1 harg1 x0 (k0_off30 i) (k0_off30_inb i) _ ⟨29, by decide⟩ (i 0) rfl hw
  | ⟨30, _⟩ => exact entry_eq arg1 harg1 x0 (k0_off31 i) (k0_off31_inb i) _ ⟨30, by decide⟩ (i 0) rfl hw
  | ⟨31, _⟩ => exact entry_eq arg1 harg1 x0 (k0_off32 i) (k0_off32_inb i) _ ⟨31, by decide⟩ (i 0) rfl hw
  | ⟨n + 32, h⟩ => omega
end Quads

end Cert.Kernel5Ideal.Bias

end
-- ==== Proof.BiasOut.lean ====
/- What the call for the relative-bias tiles leaves in its windows at a grid point, at an index. -/
module

public import proofs.«01_k».proof.Proof.BiasRead

@[expose] public section

noncomputable section

namespace Cert.Kernel5Ideal.Bias

open Cert.Kernel5Ideal Cert.Kernel5Ideal.Gen Idealize.ShloMosaic Idealize.ShloMosaic.TcCoe Idealize.ShloMosaic.Pointwise Idealize.SL.Sem
open Cert.Bias
open Cert.KernelIdeal.Pool (canon_hit canon_miss load_all zero2 zero3)

section Point
variable (c : Dev nD) (i : grid0.Coords) (arg1 : Memref sig .tc .smem S32x16 .f32) (harg1 : arg1.IsWhole) (arg2 : Memref sig .tc .vmem S1x64x5632 .f32) (harg2 : arg2.IsWhole) (arg3 : Memref sig .tc .vmem S1x176x1024 .f32) (harg3 : arg3.IsWhole) (arg4 : Memref sig .tc .vmem S1x128x256 .f32) (harg4 : arg4.IsWhole) (arg5 : Memref sig .tc .vmem S1x2x256x256 .f32) (harg5 : arg5.IsWhole) (arg6 : Memref sig .tc .vmem S64x5632 .bf16) (harg6 : arg6.IsWhole) (arg7 : Memref sig .tc .vmem S176x1024 .bf16) (harg7 : arg7.IsWhole) (arg8 : Memref sig .tc .vmem S128x256 .bf16) (harg8 : arg8.IsWhole)
  (x0 : FVec Ideal S32x16 .f32) (x1 : FVec Ideal S1x64x5632 .f32) (x2 : FVec Ideal S1x176x1024 .f32) (x3 : FVec Ideal S1x128x256 .f32)

/-- The tiles of one head: the own block and the previous one. -/
theorem out4_apply (u : Fin 2) (k q : Fin 256) : out0_A_4 (F := Ideal) c i arg1 harg1 arg2 harg2 arg3 harg3 arg4 harg4 arg5 harg5 arg6 harg6 arg7 harg7 arg8 harg8 x0 x1 x2 x3 (ix4 0 u k q) = tile (rows c i arg1 harg1 x0) (256 * u.val + q.val) k.val := by
  have hk' := k.isLt
  have hq' := q.isLt
  unfold out0_A_4 kernelRun0_A
  dsimp only
  rw [View.read_writes_junk_eq_canon]
  match u with
  | ⟨0, _⟩ =>
    show (View.canon (_ : List (View.Piece (Elt Ideal) S1x2x256x256 .f32)) (ix4 0 0 k q) : EReal) = tile (rows c i arg1 harg1 x0) (256 * 0 + q.val) k.val
    by_cases hk : k.val < 128
    · by_cases hq : q.val < 128
      · refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (2 : Fin 4) (Or.inl (by show k.val < 128; omega))).trans ?_
        refine (canon_miss _ _ _ _ _ _ (2 : Fin 4) (Or.inl (by show k.val < 128; omega))).trans ?_
        refine (canon_miss _ _ _ _ _ _ (3 : Fin 4) (Or.inl (by show q.val < 128; omega))).trans ?_
        refine (canon_hit _ _ _ _ _ _ (ix4 0 0 (⟨k.val, by omega⟩ : Fin 128) (⟨q.val, by omega⟩ : Fin 128) : S1x1x128x128.Idx) fun a => ?_).trans ?_
        · match a with
          | ⟨0, _⟩ => rfl
          | ⟨1, _⟩ => rfl
          | ⟨2, _⟩ => show k.val = 0 + k.val; omega
          | ⟨3, _⟩ => show q.val = 0 + q.val; omega
        refine (quad_a c i arg1 harg1 x0 _ _).trans ((mixed_tile (rows c i arg1 harg1 x0) _ _ _ (bkt_a _ _)).trans ?_)
        show tile (rows c i arg1 harg1 x0) q.val k.val = tile (rows c i arg1 harg1 x0) (256 * 0 + q.val) k.val
        rw [show 256 * 0 + q.val = q.val by omega]
      · refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (2 : Fin 4) (Or.inl (by show k.val < 128; omega))).trans ?_
        refine (canon_miss _ _ _ _ _ _ (2 : Fin 4) (Or.inl (by show k.val < 128; omega))).trans ?_
        refine (canon_hit _ _ _ _ _ _ (ix4 0 0 (⟨k.val, by omega⟩ : Fin 128) (⟨q.val - 128, by omega⟩ : Fin 128) : S1x1x128x128.Idx) fun a => ?_).trans ?_
        · match a with
          | ⟨0, _⟩ => rfl
          | ⟨1, _⟩ => rfl
          | ⟨2, _⟩ => show k.val = 0 + k.val; omega
          | ⟨3, _⟩ => show q.val = 128 + (q.val - 128); omega
        refine (quad_b c i arg1 harg1 x0 _ _).trans ((plain_tile (rows c i arg1 harg1 x0) _ _ _ (bkt_b _ _)).trans ?_)
        show tile (rows c i arg1 harg1 x0) (128 + (q.val - 128)) k.val = tile (rows c i arg1 harg1 x0) (256 * 0 + q.val) k.val
        rw [show 256 * 0 + q.val = 128 + (q.val - 128) by omega]
    · by_cases hq : q.val < 128
      · refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (3 : Fin 4) (Or.inl (by show q.val < 128; omega))).trans ?_
        refine (canon_hit _ _ _ _ _ _ (ix4 0 0 (⟨k.val - 128, by omega⟩ : Fin 128) (⟨q.val, by omega⟩ : Fin 128) : S1x1x128x128.Idx) fun a => ?_).trans ?_
        · match a with
          | ⟨0, _⟩ => rfl
          | ⟨1, _⟩ => rfl
          | ⟨2, _⟩ => show k.val = 128 + (k.val - 128); omega
          | ⟨3, _⟩ => show q.val = 0 + q.val; omega
        exact (quad_masked _ _).trans (tile_masked (rows c i arg1 harg1 x0) (256 * 0 + q.val) k.val (by omega)).symm
      · refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_miss _ _ _ _ _ _ (1 : Fin 4) (Or.inl (by show 0 < 1; omega))).trans ?_
        refine (canon_hit _ _ _ _ _ _ (ix4 0 0 (⟨k.val - 128, by omega⟩ : Fin 128) (⟨q.val - 128, by omega⟩ : Fin 128) : S1x1x128x128.Idx) fun a => ?_).trans ?_
        · match a with
          | ⟨0, _⟩ => rfl
          | ⟨1, _⟩ => rfl
          | ⟨2, _⟩ => show k.val = 128 + (k.val - 128); omega
          | ⟨3, _⟩ => show q.val = 128 + (q.val - 128); omega
        refine (quad_c c i arg1 harg1 x0 _ _).trans ((mixed_tile (rows c i arg1 harg1 x0) _ _ _ (bkt_c _ _)).trans ?_)
        show tile (rows c i arg1 harg1 x0) (q.val - 128) (k.val - 128) = tile (rows c i arg1 harg1 x0) (256 * 0 + q.val) k.val
        rw [← tile_shift (rows c i arg1 harg1 x0) 128 (q.val - 128) (k.val - 128), show 256 * 0 + q.val = 128 + (q.val - 128) by omega, show 128 + (k.val - 128) = k.val by omega]
  | ⟨1, _⟩ =>
    show (View.canon (_ : List (View.Piece (Elt Ideal) S1x2x256x256 .f32)) (ix4 0 1 k q) : EReal) = tile (rows c i arg1 harg1 x0) (256 * 1 + q.val) k.val
    by_cases hk : k.val < 128
    · by_cases hq : q.val < 128
      · refine (canon_miss _ _ _ _ _ _ (2 : Fin 4) (Or.inl (by show k.val < 128; omega))).trans ?_
        refine (canon_miss _ _ _ _ _ _ (2 : Fin 4) (Or.inl (by show k.val < 128; omega))).trans ?_
        refine (canon_miss _ _ _ _ _ _ (3 : Fin 4) (Or.inl (by show q.val < 128; omega))).trans ?_
        refine (canon_hit _ _ _ _ _ _ (ix4 0 0 (⟨k.val, by omega⟩ : Fin 128) (⟨q.val, by omega⟩ : Fin 128) : S1x1x128x128.Idx) fun a => ?_).trans ?_
        · match a with
          | ⟨0, _⟩ => rfl
          | ⟨1, _⟩ => rfl
          | ⟨2, _⟩ => show k.val = 0 + k.val; omega
          | ⟨3, _⟩ => show q.val = 0 + q.val; omega
        exact (quad_far1 _ _ _).trans (tile_far (rows c i arg1 harg1 x0) (256 * 1 + q.val) k.val (by omega) (by omega)).symm
      · refine (canon_miss _ _ _ _ _ _ (2 : Fin 4) (Or.inl (by show k.val < 128; omega))).trans ?_
        refine (canon_miss _ _ _ _ _ _ (2 : Fin 4) (Or.inl (by show k.val < 128; omega))).trans ?_
        refine (canon_hit _ _ _ _ _ _ (ix4 0 0 (⟨k.val, by omega⟩ : Fin 128) (⟨q.val - 128, by omega⟩ : Fin 128) : S1x1x128x128.Idx) fun a => ?_).trans ?_
        · match a with
          | ⟨0, _⟩ => rfl
          | ⟨1, _⟩ => rfl
          | ⟨2, _⟩ => show k.val = 0 + k.val; omega
          | ⟨3, _⟩ => show q.val = 128 + (q.val - 128); omega
        exact (quad_far2 _ _ _).trans (tile_far (rows c i arg1 harg1 x0) (256 * 1 + q.val) k.val (by omega) (by omega)).symm
    · by_cases hq : q.val < 128
      · refine (canon_miss _ _ _ _ _ _ (3 : Fin 4) (Or.inl (by show q.val < 128; omega))).trans ?_
        refine (canon_hit _ _ _ _ _ _ (ix4 0 0 (⟨k.val - 128, by omega⟩ : Fin 128) (⟨q.val, by omega⟩ : Fin 128) : S1x1x128x128.Idx) fun a => ?_).trans ?_
        · match a with
          | ⟨0, _⟩ => rfl
          | ⟨1, _⟩ => rfl
          | ⟨2, _⟩ => show k.val = 128 + (k.val - 128); omega
          | ⟨3, _⟩ => show q.val = 0 + q.val; omega
        refine (quad_d c i arg1 harg1 x0 _ _).trans ((plain_tile (rows c i arg1 harg1 x0) _ _ _ (bkt_d _ _)).trans ?_)
        show tile (rows c i arg1 harg1 x0) (128 + q.val) (k.val - 128) = tile (rows c i arg1 harg1 x0) (256 * 1 + q.val) k.val
        rw [← tile_shift (rows c i arg1 harg1 x0) 128 (128 + q.val) (k.val - 128), show 256 * 1 + q.val = 128 + (128 + q.val) by omega, show 128 + (k.val - 128) = k.val by omega]
      · refine (canon_hit _ _ _ _ _ _ (ix4 0 0 (⟨k.val - 128, by omega⟩ : Fin 128) (⟨q.val - 128, by omega⟩ : Fin 128) : S1x1x128x128.Idx) fun a => ?_).trans ?_
        · match a with
          | ⟨0, _⟩ => rfl
          | ⟨1, _⟩ => rfl
          | ⟨2, _⟩ => show k.val = 128 + (k.val - 128); omega
          | ⟨3, _⟩ => show q.val = 128 + (q.val - 128); omega
        exact (quad_far3 _ _ _).trans (tile_far (rows c i arg1 harg1 x0) (256 * 1 + q.val) k.val (by omega) (by omega)).symm

/-- A slab of weights, cast. -/
theorem out5_apply (r : Fin 64) (f : Fin 5632) : out0_A_5 (F := Ideal) c i arg1 harg1 arg2 harg2 arg3 harg3 arg4 harg4 arg5 harg5 arg6 harg6 arg7 harg7 arg8 harg8 x0 x1 x2 x3 (ix2 r f) = x1 (ix3 0 r f) := by
  unfold out0_A_5 kernelRun0_A
  dsimp only
  rw [View.read_writes_junk_eq_canon]
  refine (congrFun (View.canon_cons_unit_zero zero2 _ _ _) _).trans ?_
  rw [show _ = x1 from load_all arg2 harg2 x1 _ zero3 _]
  unfold k0_pay2
  pointwise []

/-- A slab of weights, cast. -/
theorem out6_apply (r : Fin 176) (f : Fin 1024) : out0_A_6 (F := Ideal) c i arg1 harg1 arg2 harg2 arg3 harg3 arg4 harg4 arg5 harg5 arg6 harg6 arg7 harg7 arg8 harg8 x0 x1 x2 x3 (ix2 r f) = x2 (ix3 0 r f) := by
  unfold out0_A_6 kernelRun0_A
  dsimp only
  rw [View.read_writes_junk_eq_canon]
  refine (congrFun (View.canon_cons_unit_zero zero2 _ _ _) _).trans ?_
  rw [show _ = x2 from load_all arg3 harg3 x2 _ zero3 _]
  unfold k0_pay3
  pointwise []

/-- A slab of weights, cast. -/
theorem out7_apply (r : Fin 128) (f : Fin 256) : out0_A_7 (F := Ideal) c i arg1 harg1 arg2 harg2 arg3 harg3 arg4 harg4 arg5 harg5 arg6 harg6 arg7 harg7 arg8 harg8 x0 x1 x2 x3 (ix2 r f) = x3 (ix3 0 r f) := by
  unfold out0_A_7 kernelRun0_A
  dsimp only
  rw [View.read_writes_junk_eq_canon]
  refine (congrFun (View.canon_cons_unit_zero zero2 _ _ _) _).trans ?_
  rw [show _ = x3 from load_all arg4 harg4 x3 _ zero3 _]
  unfold k0_pay4
  pointwise []

end Point

end Cert.Kernel5Ideal.Bias

end
-- ==== Proof.BiasIn.lean ====
/- The final arrays of the bias tiles' call in the program's arguments. -/
module

public import proofs.«01_k».proof.Proof.BiasOut

@[expose] public section

noncomputable section

namespace Cert.Kernel5Ideal.Bias

open Cert.Kernel5Ideal Cert.Kernel5Ideal.Gen Idealize.ShloMosaic Idealize.ShloMosaic.TcCoe Idealize.ShloMosaic.Pointwise Idealize.SL.Sem
open Cert.Bias

/-- One head's entries of the bias, by row. -/
def headRow (x : FVec Ideal S32x16 .f32) (h : Fin 16) (n : ℕ) : EReal := x (ix2 ⟨n % 32, Nat.mod_lt _ (by decide)⟩ h)

/-- Layer 0's gate and up weights. -/
def at5 (x : FVec Ideal S4x1024x5632 .f32) (r : Fin 1024) (f : Fin 5632) : EReal := x (ix3 0 r f)
/-- Layer 0's down weights. -/
def at6 (x : FVec Ideal S4x2816x1024 .f32) (r : Fin 2816) (f : Fin 1024) : EReal := x (ix3 0 r f)
/-- A row of the pooling weights, the layers and groups one after another. -/
def at7 (x : FVec Ideal S2x4x256x256 .f32) (r : Fin 2048) (f : Fin 256) : EReal :=
  x (ix4 ⟨r.val / 1024 % 2, Nat.mod_lt _ (by decide)⟩ ⟨r.val / 256 % 4, Nat.mod_lt _ (by decide)⟩ ⟨r.val % 256, Nat.mod_lt _ (by decide)⟩ f)

theorem tile_congr (a b : ℕ → EReal) (h : ∀ n : Fin 32, a n.val = b n.val) (s k : ℕ) : tile a s k = tile b s k := by
  unfold tile
  rw [h]

variable (m : (ℓ : Loc nD τ sig) → Buf (Elt Ideal) ℓ) (c : Dev nD)

/-- The index maps of the windows, decided over the grid. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = 0 ∧ win0_1.index t (1 : Fin 3) = t.val ∧ win0_1.index t (2 : Fin 3) = 0 := (by decide +kernel : ∀ t : Fin grid0.N, _)
theorem idx2 : ∀ t : Fin cfg0.N, win0_2.index t (0 : Fin 3) = 0 ∧ win0_2.index t (1 : Fin 3) = t.val ∧ win0_2.index t (2 : Fin 3) = 0 := (by decide +kernel : ∀ t : Fin grid0.N, _)
theorem idx3 : ∀ t : Fin cfg0.N, win0_3.index t (0 : Fin 3) = 0 ∧ win0_3.index t (1 : Fin 3) = t.val ∧ win0_3.index t (2 : Fin 3) = 0 := (by decide +kernel : ∀ t : Fin grid0.N, _)
theorem idx4 : ∀ t : Fin cfg0.N, (cfg0.win 4).flush t = true ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, win0_4.flush t = true ∧ win0_4.index t (0 : Fin 4) = t.val ∧ win0_4.index t (1 : Fin 4) = 0 ∧ win0_4.index t (2 : Fin 4) = 0 ∧ win0_4.index t (3 : Fin 4) = 0)
theorem idx5 : ∀ t : Fin cfg0.N, (cfg0.win 5).flush t = true ∧ win0_5.index t (0 : Fin 2) = t.val ∧ win0_5.index t (1 : Fin 2) = 0 :=
  (by decide +kernel : ∀ t : Fin grid0.N, win0_5.flush t = true ∧ win0_5.index t (0 : Fin 2) = t.val ∧ win0_5.index t (1 : Fin 2) = 0)
theorem idx6 : ∀ t : Fin cfg0.N, (cfg0.win 6).flush t = true ∧ win0_6.index t (0 : Fin 2) = t.val ∧ win0_6.index t (1 : Fin 2) = 0 :=
  (by decide +kernel : ∀ t : Fin grid0.N, win0_6.flush t = true ∧ win0_6.index t (0 : Fin 2) = t.val ∧ win0_6.index t (1 : Fin 2) = 0)
theorem idx7 : ∀ t : Fin cfg0.N, (cfg0.win 7).flush t = true ∧ win0_7.index t (0 : Fin 2) = t.val ∧ win0_7.index t (1 : Fin 2) = 0 :=
  (by decide +kernel : ∀ t : Fin grid0.N, win0_7.flush t = true ∧ win0_7.index t (0 : Fin 2) = t.val ∧ win0_7.index t (1 : Fin 2) = 0)
theorem point : ∀ t : Fin cfg0.N, (grid0.coords t 0).val = t.val := (by decide +kernel : ∀ t : Fin grid0.N, (grid0.coords t 0).val = t.val)

/-! ### What the host leaves for the call -/

theorem host_v0 : V m c main_v0 = shapeCast S1x2048x256 (m ((c : Thread nD τ).loc main_arg3)) shapeCasts_S2x4x256x256_S1x2048x256 := by
  unfold V; after_results; rfl

theorem flat_apply (x : FVec Ideal S2x4x256x256 .f32) (r : Fin 2048) (f : Fin 256) :
    shapeCast S1x2048x256 x shapeCasts_S2x4x256x256_S1x2048x256 (ix3 0 r f) = at7 x r f :=
  shapeCast_apply x _ _ _ (by
    have hr := r.isLt
    rw [Shape.rowMajor_val_four, Shape.rowMajor_val_three]
    show ((r.val / 1024 % 2 * 4 + r.val / 256 % 4) * 256 + r.val % 256) * 256 + f.val = (0 * 2048 + r.val) * 256 + f.val
    omega)

/-! ### The blocks -/

theorem blk0 (t : Fin cfg0.N) (n : Fin 32) (h : Fin 16) : (iblk m c 0 t : FVec Ideal S32x16 .f32) (ix2 n h) = (m ((c : Thread nD τ).loc main_arg0) : FVec Ideal S32x16 .f32) (ix2 n h) := by
  obtain ⟨e0, e1⟩ := idx0 t
  show (V m c main_arg0 : FVec Ideal S32x16 .f32) (((cfg0.win 0).blk t).view.emb (ix2 n h)) = _
  rw [show ((cfg0.win 0).blk t).view.emb (ix2 n h) = (ix2 n h : S32x16.Idx) from funext fun a => Fin.ext (by
    match a with
    | ⟨0, _⟩ => show win0_0.index t (0 : Fin 2) * 32 + 1 * n.val = n.val; omega
    | ⟨1, _⟩ => show win0_0.index t (1 : Fin 2) * 16 + 1 * h.val = h.val; omega), V_main_arg0]

theorem blk1 (t : Fin cfg0.N) (r : Fin 64) (f : Fin 5632) : (iblk m c 1 t : FVec Ideal S1x64x5632 .f32) (ix3 0 r f)
    = at5 (m ((c : Thread nD τ).loc main_arg1)) ⟨64 * t.val + r.val, by have : t.val < 16 := t.isLt; omega⟩ f := by
  have ht : t.val < 16 := t.isLt
  obtain ⟨e0, e1, e2⟩ := idx1 t
  show (V m c main_arg1 : FVec Ideal S4x1024x5632 .f32) (((cfg0.win 1).blk t).view.emb (ix3 0 r f)) = _
  rw [show ((cfg0.win 1).blk t).view.emb (ix3 0 r f) = (ix3 0 ⟨64 * t.val + r.val, by omega⟩ f : S4x1024x5632.Idx) from funext fun a => Fin.ext (by
    match a with
    | ⟨0, _⟩ => show win0_1.index t (0 : Fin 3) * 1 + 1 * 0 = 0; omega
    | ⟨1, _⟩ => show win0_1.index t (1 : Fin 3) * 64 + 1 * r.val = 64 * t.val + r.val; omega
    | ⟨2, _⟩ => show win0_1.index t (2 : Fin 3) * 5632 + 1 * f.val = f.val; omega), V_main_arg1]
  rfl

theorem blk2 (t : Fin cfg0.N) (r : Fin 176) (f : Fin 1024) : (iblk m c 2 t : FVec Ideal S1x176x1024 .f32) (ix3 0 r f)
    = at6 (m ((c : Thread nD τ).loc main_arg2)) ⟨176 * t.val + r.val, by have : t.val < 16 := t.isLt; omega⟩ f := by
  have ht : t.val < 16 := t.isLt
  obtain ⟨e0, e1, e2⟩ := idx2 t
  show (V m c main_arg2 : FVec Ideal S4x2816x1024 .f32) (((cfg0.win 2).blk t).view.emb (ix3 0 r f)) = _
  rw [show ((cfg0.win 2).blk t).view.emb (ix3 0 r f) = (ix3 0 ⟨176 * t.val + r.val, by omega⟩ f : S4x2816x1024.Idx) from funext fun a => Fin.ext (by
    match a with
    | ⟨0, _⟩ => show win0_2.index t (0 : Fin 3) * 1 + 1 * 0 = 0; omega
    | ⟨1, _⟩ => show win0_2.index t (1 : Fin 3) * 176 + 1 * r.val = 176 * t.val + r.val; omega
    | ⟨2, _⟩ => show win0_2.index t (2 : Fin 3) * 1024 + 1 * f.val = f.val; omega), V_main_arg2]
  rfl

theorem blk3 (t : Fin cfg0.N) (r : Fin 128) (f : Fin 256) : (iblk m c 3 t : FVec Ideal S1x128x256 .f32) (ix3 0 r f)
    = at7 (m ((c : Thread nD τ).loc main_arg3)) ⟨128 * t.val + r.val, by have : t.val < 16 := t.isLt; omega⟩ f := by
  have ht : t.val < 16 := t.isLt
  obtain ⟨e0, e1, e2⟩ := idx3 t
  show (V m c main_v0 : FVec Ideal S1x2048x256 .f32) (((cfg0.win 3).blk t).view.emb (ix3 0 r f)) = _
  rw [show ((cfg0.win 3).blk t).view.emb (ix3 0 r f) = (ix3 0 ⟨128 * t.val + r.val, by omega⟩ f : S1x2048x256.Idx) from funext fun a => Fin.ext (by
    match a with
    | ⟨0, _⟩ => show win0_3.index t (0 : Fin 3) * 1 + 1 * 0 = 0; omega
    | ⟨1, _⟩ => show win0_3.index t (1 : Fin 3) * 128 + 1 * r.val = 128 * t.val + r.val; omega
    | ⟨2, _⟩ => show win0_3.index t (2 : Fin 3) * 256 + 1 * f.val = f.val; omega), host_v0]
  exact flat_apply _ _ _

/-! ### The final arrays -/

/-- The tiles: head, block, key position, query position. -/
def G4 (c : Dev nD) : FVec Ideal S16x2x256x256 .f32 := fun i =>
  tile (headRow (m ((c : Thread nD τ).loc main_arg0)) (i 0)) (256 * (i 1).val + (i 3).val) (i 2).val

/-- Layer 0's gate and up weights. -/
def G5 (c : Dev nD) : FVec Ideal S1024x5632 .bf16 := fun i => at5 (m ((c : Thread nD τ).loc main_arg1)) (i 0) (i 1)

/-- Layer 0's down weights. -/
def G6 (c : Dev nD) : FVec Ideal S2816x1024 .bf16 := fun i => at6 (m ((c : Thread nD τ).loc main_arg2)) (i 0) (i 1)

/-- The pooling weights. -/
def G7 (c : Dev nD) : FVec Ideal S2048x256 .bf16 := fun i => at7 (m ((c : Thread nD τ).loc main_arg3)) (i 0) (i 1)

/-- What point `t` writes back is block `t` of the array. -/
theorem flushed4_eq (t : Fin cfg0.N) : (dats m 0 c).flushed 4 t = ((cfg0.win 4).blk t).view.read (Elt Ideal) (G4 m c) := by
  have ht : t.val < 16 := t.isLt
  obtain ⟨-, e0, e1, e2, e3⟩ := idx4 t
  rw [Value.flushed4_A]
  funext y
  have hy0 : (y 0).val < 1 := (y 0).isLt
  have hy1 : (y 1).val < 2 := (y 1).isLt
  have hy2 : (y 2).val < 256 := (y 2).isLt
  have hy3 : (y 3).val < 256 := (y 3).isLt
  have hb0 : (((cfg0.win 4).blk t).view.emb y 0).val = win0_4.index t (0 : Fin 4) * 1 + 1 * (y 0).val := rfl
  have hb1 : (((cfg0.win 4).blk t).view.emb y 1).val = win0_4.index t (1 : Fin 4) * 2 + 1 * (y 1).val := rfl
  have hb2 : (((cfg0.win 4).blk t).view.emb y 2).val = win0_4.index t (2 : Fin 4) * 256 + 1 * (y 2).val := rfl
  have hb3 : (((cfg0.win 4).blk t).view.emb y 3).val = win0_4.index t (3 : Fin 4) * 256 + 1 * (y 3).val := rfl
  have hx : (cfg0.win 4).xinj (grid0.coords t) y = ix4 0 ⟨(y 1).val, hy1⟩ ⟨(y 2).val, hy2⟩ ⟨(y 3).val, hy3⟩ := by
    funext a; apply Fin.ext
    match a with
    | ⟨0, _⟩ => show (y 0).val = 0; omega
    | ⟨1, _⟩ => rfl
    | ⟨2, _⟩ => rfl
    | ⟨3, _⟩ => rfl
  refine (congrArg (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) hx).trans ?_
  rw [out4_apply]
  show _ = tile (headRow (m ((c : Thread nD τ).loc main_arg0)) (((cfg0.win 4).blk t).view.emb y 0))
    (256 * (((cfg0.win 4).blk t).view.emb y 1).val + (((cfg0.win 4).blk t).view.emb y 3).val) (((cfg0.win 4).blk t).view.emb y 2).val
  rw [show (((cfg0.win 4).blk t).view.emb y 1).val = (y 1).val by rw [hb1, e1]; omega, show (((cfg0.win 4).blk t).view.emb y 2).val = (y 2).val by rw [hb2, e2]; omega,
    show (((cfg0.win 4).blk t).view.emb y 3).val = (y 3).val by rw [hb3, e3]; omega,
    show ((cfg0.win 4).blk t).view.emb y 0 = grid0.coords t 0 from Fin.ext (by rw [hb0, e0, point]; omega)]
  refine tile_congr _ _ (fun n => ?_) _ _
  rw [rows_eq]
  refine (blk0 m c t n _).trans ?_
  unfold headRow
  rw [show (⟨n.val % 32, Nat.mod_lt _ (by decide)⟩ : Fin 32) = n from Fin.ext (Nat.mod_eq_of_lt n.isLt)]

/-- Every index is in some point's block. -/
theorem covered4 (i : S16x2x256x256.Idx) : ∃ t : Fin cfg0.N, (cfg0.win 4).flush t = true ∧ i ∈ ((cfg0.win 4).blk t).view.set := by
  have hi0 : (i 0).val < 16 := (i 0).isLt
  have hi1 : (i 1).val < 2 := (i 1).isLt
  have hi2 : (i 2).val < 256 := (i 2).isLt
  have hi3 : (i 3).val < 256 := (i 3).isLt
  have hN : (i 0).val < cfg0.N := lt_of_lt_of_eq hi0 N_0.symm
  obtain ⟨hf, e0, e1, e2, e3⟩ := idx4 ⟨(i 0).val, hN⟩
  refine ⟨⟨(i 0).val, hN⟩, hf, ?_⟩
  show i ∈ ((View.whole main_v1_0).slice (win0_4.rect ⟨(i 0).val, hN⟩)).set
  rw [View.set_slice_whole, Rect.mem_set_unit]
  intro a
  match a with
  | ⟨0, _⟩ =>
    show win0_4.index ⟨(i 0).val, hN⟩ (0 : Fin 4) * 1 ≤ (i 0).val ∧ (i 0).val < win0_4.index ⟨(i 0).val, hN⟩ (0 : Fin 4) * 1 + 1
    rw [e0]; show (i 0).val * 1 ≤ _ ∧ _ < (i 0).val * 1 + 1; omega
  | ⟨1, _⟩ =>
    show win0_4.index ⟨(i 0).val, hN⟩ (1 : Fin 4) * 2 ≤ (i 1).val ∧ (i 1).val < win0_4.index ⟨(i 0).val, hN⟩ (1 : Fin 4) * 2 + 2
    rw [e1]; omega
  | ⟨2, _⟩ =>
    show win0_4.index ⟨(i 0).val, hN⟩ (2 : Fin 4) * 256 ≤ (i 2).val ∧ (i 2).val < win0_4.index ⟨(i 0).val, hN⟩ (2 : Fin 4) * 256 + 256
    rw [e2]; omega
  | ⟨3, _⟩ =>
    show win0_4.index ⟨(i 0).val, hN⟩ (3 : Fin 4) * 256 ≤ (i 3).val ∧ (i 3).val < win0_4.index ⟨(i 0).val, hN⟩ (3 : Fin 4) * 256 + 256
    rw [e3]; omega

/-- The array after the run. -/
theorem final4 : (dats m 0 c).arrAt 4 cfg0.N = G4 m c :=
  (dats m 0 c).arrAt_eq_of_cover 4 _ (fun t _ => flushed4_eq m c t) covered4

/-- What point `t` writes back is block `t` of the array. -/
theorem flushed5_eq (t : Fin cfg0.N) : (dats m 0 c).flushed 5 t = ((cfg0.win 5).blk t).view.read (Elt Ideal) (G5 m c) := by
  have ht : t.val < 16 := t.isLt
  obtain ⟨-, e0, e1⟩ := idx5 t
  rw [Value.flushed5_A]
  funext y
  have hy0 : (y 0).val < 64 := (y 0).isLt
  have hy1 : (y 1).val < 5632 := (y 1).isLt
  have hb0 : (((cfg0.win 5).blk t).view.emb y 0).val = win0_5.index t (0 : Fin 2) * 64 + 1 * (y 0).val := rfl
  have hb1 : (((cfg0.win 5).blk t).view.emb y 1).val = win0_5.index t (1 : Fin 2) * 5632 + 1 * (y 1).val := rfl
  have hx : (cfg0.win 5).xinj (grid0.coords t) y = ix2 ⟨(y 0).val, hy0⟩ ⟨(y 1).val, hy1⟩ := by
    funext a; apply Fin.ext
    match a with
    | ⟨0, _⟩ => rfl
    | ⟨1, _⟩ => rfl
  refine (congrArg (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) hx).trans ?_
  rw [out5_apply, blk1]
  show _ = at5 (m ((c : Thread nD τ).loc main_arg1)) (((cfg0.win 5).blk t).view.emb y 0) (((cfg0.win 5).blk t).view.emb y 1)
  rw [show ((cfg0.win 5).blk t).view.emb y 0 = (⟨64 * t.val + (y 0).val, by omega⟩ : Fin 1024) from Fin.ext (by rw [hb0, e0]; show t.val * 64 + 1 * (y 0).val = 64 * t.val + (y 0).val; omega),
    show ((cfg0.win 5).blk t).view.emb y 1 = (⟨(y 1).val, hy1⟩ : Fin 5632) from Fin.ext (by rw [hb1, e1]; show 0 * 5632 + 1 * (y 1).val = (y 1).val; omega)]

/-- Every index is in some point's block. -/
theorem covered5 (i : S1024x5632.Idx) : ∃ t : Fin cfg0.N, (cfg0.win 5).flush t = true ∧ i ∈ ((cfg0.win 5).blk t).view.set := by
  have hi0 : (i 0).val < 1024 := (i 0).isLt
  have hi1 : (i 1).val < 5632 := (i 1).isLt
  have hN : (i 0).val / 64 < cfg0.N := lt_of_lt_of_eq (by omega : (i 0).val / 64 < 16) N_0.symm
  obtain ⟨hf, e0, e1⟩ := idx5 ⟨(i 0).val / 64, hN⟩
  refine ⟨⟨(i 0).val / 64, hN⟩, hf, ?_⟩
  show i ∈ ((View.whole main_v1_1).slice (win0_5.rect ⟨(i 0).val / 64, hN⟩)).set
  rw [View.set_slice_whole, Rect.mem_set_unit]
  intro a
  match a with
  | ⟨0, _⟩ =>
    show win0_5.index ⟨(i 0).val / 64, hN⟩ (0 : Fin 2) * 64 ≤ (i 0).val ∧ (i 0).val < win0_5.index ⟨(i 0).val / 64, hN⟩ (0 : Fin 2) * 64 + 64
    rw [e0]; show (i 0).val / 64 * 64 ≤ _ ∧ _ < (i 0).val / 64 * 64 + 64; omega
  | ⟨1, _⟩ =>
    show win0_5.index ⟨(i 0).val / 64, hN⟩ (1 : Fin 2) * 5632 ≤ (i 1).val ∧ (i 1).val < win0_5.index ⟨(i 0).val / 64, hN⟩ (1 : Fin 2) * 5632 + 5632
    rw [e1]; omega

/-- The array after the run. -/
theorem final5 : (dats m 0 c).arrAt 5 cfg0.N = G5 m c :=
  (dats m 0 c).arrAt_eq_of_cover 5 _ (fun t _ => flushed5_eq m c t) covered5

/-- What point `t` writes back is block `t` of the array. -/
theorem flushed6_eq (t : Fin cfg0.N) : (dats m 0 c).flushed 6 t = ((cfg0.win 6).blk t).view.read (Elt Ideal) (G6 m c) := by
  have ht : t.val < 16 := t.isLt
  obtain ⟨-, e0, e1⟩ := idx6 t
  rw [Value.flushed6_A]
  funext y
  have hy0 : (y 0).val < 176 := (y 0).isLt
  have hy1 : (y 1).val < 1024 := (y 1).isLt
  have hb0 : (((cfg0.win 6).blk t).view.emb y 0).val = win0_6.index t (0 : Fin 2) * 176 + 1 * (y 0).val := rfl
  have hb1 : (((cfg0.win 6).blk t).view.emb y 1).val = win0_6.index t (1 : Fin 2) * 1024 + 1 * (y 1).val := rfl
  have hx : (cfg0.win 6).xinj (grid0.coords t) y = ix2 ⟨(y 0).val, hy0⟩ ⟨(y 1).val, hy1⟩ := by
    funext a; apply Fin.ext
    match a with
    | ⟨0, _⟩ => rfl
    | ⟨1, _⟩ => rfl
  refine (congrArg (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) hx).trans ?_
  rw [out6_apply, blk2]
  show _ = at6 (m ((c : Thread nD τ).loc main_arg2)) (((cfg0.win 6).blk t).view.emb y 0) (((cfg0.win 6).blk t).view.emb y 1)
  rw [show ((cfg0.win 6).blk t).view.emb y 0 = (⟨176 * t.val + (y 0).val, by omega⟩ : Fin 2816) from Fin.ext (by rw [hb0, e0]; show t.val * 176 + 1 * (y 0).val = 176 * t.val + (y 0).val; omega),
    show ((cfg0.win 6).blk t).view.emb y 1 = (⟨(y 1).val, hy1⟩ : Fin 1024) from Fin.ext (by rw [hb1, e1]; show 0 * 1024 + 1 * (y 1).val = (y 1).val; omega)]

/-- Every index is in some point's block. -/
theorem covered6 (i : S2816x1024.Idx) : ∃ t : Fin cfg0.N, (cfg0.win 6).flush t = true ∧ i ∈ ((cfg0.win 6).blk t).view.set := by
  have hi0 : (i 0).val < 2816 := (i 0).isLt
  have hi1 : (i 1).val < 1024 := (i 1).isLt
  have hN : (i 0).val / 176 < cfg0.N := lt_of_lt_of_eq (by omega : (i 0).val / 176 < 16) N_0.symm
  obtain ⟨hf, e0, e1⟩ := idx6 ⟨(i 0).val / 176, hN⟩
  refine ⟨⟨(i 0).val / 176, hN⟩, hf, ?_⟩
  show i ∈ ((View.whole main_v1_2).slice (win0_6.rect ⟨(i 0).val / 176, hN⟩)).set
  rw [View.set_slice_whole, Rect.mem_set_unit]
  intro a
  match a with
  | ⟨0, _⟩ =>
    show win0_6.index ⟨(i 0).val / 176, hN⟩ (0 : Fin 2) * 176 ≤ (i 0).val ∧ (i 0).val < win0_6.index ⟨(i 0).val / 176, hN⟩ (0 : Fin 2) * 176 + 176
    rw [e0]; show (i 0).val / 176 * 176 ≤ _ ∧ _ < (i 0).val / 176 * 176 + 176; omega
  | ⟨1, _⟩ =>
    show win0_6.index ⟨(i 0).val / 176, hN⟩ (1 : Fin 2) * 1024 ≤ (i 1).val ∧ (i 1).val < win0_6.index ⟨(i 0).val / 176, hN⟩ (1 : Fin 2) * 1024 + 1024
    rw [e1]; omega

/-- The array after the run. -/
theorem final6 : (dats m 0 c).arrAt 6 cfg0.N = G6 m c :=
  (dats m 0 c).arrAt_eq_of_cover 6 _ (fun t _ => flushed6_eq m c t) covered6

/-- What point `t` writes back is block `t` of the array. -/
theorem flushed7_eq (t : Fin cfg0.N) : (dats m 0 c).flushed 7 t = ((cfg0.win 7).blk t).view.read (Elt Ideal) (G7 m c) := by
  have ht : t.val < 16 := t.isLt
  obtain ⟨-, e0, e1⟩ := idx7 t
  rw [Value.flushed7_A]
  funext y
  have hy0 : (y 0).val < 128 := (y 0).isLt
  have hy1 : (y 1).val < 256 := (y 1).isLt
  have hb0 : (((cfg0.win 7).blk t).view.emb y 0).val = win0_7.index t (0 : Fin 2) * 128 + 1 * (y 0).val := rfl
  have hb1 : (((cfg0.win 7).blk t).view.emb y 1).val = win0_7.index t (1 : Fin 2) * 256 + 1 * (y 1).val := rfl
  have hx : (cfg0.win 7).xinj (grid0.coords t) y = ix2 ⟨(y 0).val, hy0⟩ ⟨(y 1).val, hy1⟩ := by
    funext a; apply Fin.ext
    match a with
    | ⟨0, _⟩ => rfl
    | ⟨1, _⟩ => rfl
  refine (congrArg (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) hx).trans ?_
  rw [out7_apply, blk3]
  show _ = at7 (m ((c : Thread nD τ).loc main_arg3)) (((cfg0.win 7).blk t).view.emb y 0) (((cfg0.win 7).blk t).view.emb y 1)
  rw [show ((cfg0.win 7).blk t).view.emb y 0 = (⟨128 * t.val + (y 0).val, by omega⟩ : Fin 2048) from Fin.ext (by rw [hb0, e0]; show t.val * 128 + 1 * (y 0).val = 128 * t.val + (y 0).val; omega),
    show ((cfg0.win 7).blk t).view.emb y 1 = (⟨(y 1).val, hy1⟩ : Fin 256) from Fin.ext (by rw [hb1, e1]; show 0 * 256 + 1 * (y 1).val = (y 1).val; omega)]

/-- Every index is in some point's block. -/
theorem covered7 (i : S2048x256.Idx) : ∃ t : Fin cfg0.N, (cfg0.win 7).flush t = true ∧ i ∈ ((cfg0.win 7).blk t).view.set := by
  have hi0 : (i 0).val < 2048 := (i 0).isLt
  have hi1 : (i 1).val < 256 := (i 1).isLt
  have hN : (i 0).val / 128 < cfg0.N := lt_of_lt_of_eq (by omega : (i 0).val / 128 < 16) N_0.symm
  obtain ⟨hf, e0, e1⟩ := idx7 ⟨(i 0).val / 128, hN⟩
  refine ⟨⟨(i 0).val / 128, hN⟩, hf, ?_⟩
  show i ∈ ((View.whole main_v1_3).slice (win0_7.rect ⟨(i 0).val / 128, hN⟩)).set
  rw [View.set_slice_whole, Rect.mem_set_unit]
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e0]; show (i 0).val / 128 * 128 ≤ _ ∧ _ < (i 0).val / 128 * 128 + 128; omega
  | ⟨1, _⟩ =>
    show win0_7.index ⟨(i 0).val / 128, hN⟩ (1 : Fin 2) * 256 ≤ (i 1).val ∧ (i 1).val < win0_7.index ⟨(i 0).val / 128, hN⟩ (1 : Fin 2) * 256 + 256
    rw [e1]; omega

/-- The array after the run. -/
theorem final7 : (dats m 0 c).arrAt 7 cfg0.N = G7 m c :=
  (dats m 0 c).arrAt_eq_of_cover 7 _ (fun t _ => flushed7_eq m c t) covered7

end Cert.Kernel5Ideal.Bias

end
-- ==== Proof.BiasRef.lean ====
/- The bias tiles' call in the reference, at an index. -/
module

public import proofs.«01_k».proof.Proof.BiasIn
public import proofs.«01_k».proof.Proof.Gen.Reference5Ideal.Read
public import Idealize.ShloMosaic.Lib.Pointwise

@[expose] public section

noncomputable section

namespace Cert.Reference5Ideal.Bias

open Cert.Reference5Ideal Cert.Reference5Ideal.Gen Cert.Reference5Ideal.Read Idealize.ShloMosaic Idealize.ShloMosaic.TcCoe Idealize.ShloMosaic.Pointwise
open Cert.Bias
open Cert.Kernel5Ideal.Bias (tile headRow at5 at6 at7)

/-- The distance from key to query. -/
theorem v14_at (u : Fin 2) (k q : Fin 256) : val_main_v14 (F := Ideal) (ix3 u k q) = Cert.Bias.dist (256 * u.val + q.val) k.val := by
  rw [val_main_v14_apply, val_main_v12_apply, val_main_v10_apply, val_main_v9_apply, val_main_v7_apply, val_main_v5_apply, val_main_v3_apply, val_main_v2_apply,
    val_main_v4_apply, val_main_c_apply, val_main_v8_apply, val_main_v6_apply, val_main_v1_apply, val_main_v13_apply, val_main_v11_apply, val_main_v1_apply]
  show BitVec.ofNat 32 u.val * 256#32 + BitVec.ofNat 32 q.val - BitVec.ofNat 32 k.val = BitVec.ofNat 32 (256 * u.val + q.val) - BitVec.ofNat 32 k.val
  congr 1
  apply BitVec.eq_of_toNat_eq
  simp only [BitVec.toNat_add, BitVec.toNat_mul, BitVec.toNat_ofNat]
  omega

/-- The bucket. -/
theorem v34_at (i : S2x256x256.Idx) : val_main_v34 (F := Ideal) i = bkt (IntOp.maxsi (val_main_v14 (F := Ideal) i) 0#32) := by
  have h16 : val_main_v16 (F := Ideal) i = IntOp.maxsi (val_main_v14 (F := Ideal) i) 0#32 := by rw [val_main_v16_apply, val_main_v15_apply, val_main_c_0_apply]
  rw [val_main_v34_apply, val_main_v33_apply, val_main_v32_apply, val_main_c_6_apply, val_main_v31_apply, val_main_v30_apply, val_main_c_5_apply, val_main_v29_apply,
    val_main_v28_apply, val_main_c_4_apply, val_main_v27_apply, val_main_v26_apply, val_main_v25_apply, val_main_cst_3_apply, val_main_v24_apply, val_main_v23_apply,
    val_main_cst_2_apply, val_main_v22_apply, val_main_v21_apply, val_main_v20_apply, val_main_cst_apply, val_main_v19_apply, val_main_v18_apply, val_main_v17_apply,
    val_main_c_1_apply, h16]
  rfl

theorem row_words : ∀ s : Fin 32, Scalar.select (IntOp.cmpi .slt (BitVec.ofNat 32 s.val) 0#32) (IntOp.addi (BitVec.ofNat 32 s.val) 32#32) (BitVec.ofNat 32 s.val) = BitVec.ofNat 32 s.val := by
  decide +kernel
theorem nat_words : ∀ s : Fin 32, min (BitVec.ofNat 32 s.val).toInt.toNat 31 = s.val := by
  decide +kernel

/-- The row the tiles take at a query not before its key. -/
theorem v40_at (u : Fin 2) (k q : Fin 256) (h : k.val ≤ 256 * u.val + q.val) :
    val_main_v40 (F := Ideal) (ix4 u k q 0) = BitVec.ofNat 32 (row (256 * u.val + q.val - k.val)).val := by
  have hu := u.isLt
  have hq := q.isLt
  have hb : val_main_v34 (F := Ideal) (ix3 u k q) = BitVec.ofNat 32 (row (256 * u.val + q.val - k.val)).val := by
    rw [v34_at, v14_at, dist_pos _ _ h, clip _ (by omega), bkt_eq _ (by omega)]
  rw [val_main_v40_apply, show idx_main_v40 (ix4 u k q 0) = ix3 u k q from funext fun a => by
    match a with
    | ⟨0, _⟩ => rfl
    | ⟨1, _⟩ => rfl
    | ⟨2, _⟩ => rfl, val_main_v39_apply, val_main_v36_apply, val_main_v38_apply, val_main_v35_apply, val_main_c_7_apply, val_main_v37_apply, val_main_c_8_apply, hb]
  exact row_words _

/-- The gather at an index: the column its start index names. -/
theorem gather_apply (y : FVec Ideal S16x32 .f32) (idx : IVec S2x256x256x1 32) (b : Fin 16) (u : Fin 2) (k q : Fin 256) (s : Fin 32) (h : idx (ix4 u k q 0) = BitVec.ofNat 32 s.val) :
    (Host.gather gather_S16x32_S2x256x256x1_S16x2x256x256_0_1_n_n_1_3_161 y idx : FVec Ideal S16x2x256x256 .f32) (ix4 b u k q) = y (ix2 b s) := by
  unfold Host.gather
  congr 1
  funext a
  refine Fin.ext ?_
  show (gather_S16x32_S2x256x256x1_S16x2x256x256_0_1_n_n_1_3_161).start (ix4 b u k q) idx a + (gather_S16x32_S2x256x256x1_S16x2x256x256_0_1_n_n_1_3_161).batchCoord (ix4 b u k q) a
    + (gather_S16x32_S2x256x256x1_S16x2x256x256_0_1_n_n_1_3_161).offCoord (ix4 b u k q) a = _
  rw [GatherDims.batchCoord_eq_zero _ _ _ List.not_mem_nil, Nat.add_zero]
  match a with
  | ⟨0, _⟩ =>
    show (gather_S16x32_S2x256x256x1_S16x2x256x256_0_1_n_n_1_3_161).start (ix4 b u k q) idx (0 : Fin 2) + (gather_S16x32_S2x256x256x1_S16x2x256x256_0_1_n_n_1_3_161).offCoord (ix4 b u k q) (0 : Fin 2) = b.val
    unfold GatherDims.start
    rw [dif_neg (show ¬(0 : Fin 2) ∈ (gather_S16x32_S2x256x256x1_S16x2x256x256_0_1_n_n_1_3_161).startIndexMap by decide), Nat.zero_add]
    rfl
  | ⟨1, _⟩ =>
    show (gather_S16x32_S2x256x256x1_S16x2x256x256_0_1_n_n_1_3_161).start (ix4 b u k q) idx (1 : Fin 2) + (gather_S16x32_S2x256x256x1_S16x2x256x256_0_1_n_n_1_3_161).offCoord (ix4 b u k q) (1 : Fin 2) = s.val
    rw [GatherDims.offCoord_eq_zero _ _ _ (fun h => ((GatherDims.mem_sKept _ _).mp h).1 (List.mem_singleton.mpr rfl)), Nat.add_zero]
    unfold GatherDims.start
    rw [dif_pos (show (1 : Fin 2) ∈ (gather_S16x32_S2x256x256x1_S16x2x256x256_0_1_n_n_1_3_161).startIndexMap by decide)]
    refine Eq.trans ?_ (nat_words s)
    rw [← h]
    refine congrArg (fun q => min (idx q).toInt.toNat 31) ?_
    funext q
    refine Fin.ext ?_
    match q with
    | ⟨0, _⟩ => rfl
    | ⟨1, _⟩ => rfl
    | ⟨2, _⟩ => rfl
    | ⟨3, _⟩ => rfl

variable (x0 : FVec Ideal S32x16 .f32) (x1 : FVec Ideal S4x1024x5632 .f32) (x2 : FVec Ideal S4x2816x1024 .f32) (x3 : FVec Ideal S2x4x256x256 .f32)

/-- The tiles. -/
theorem v46_at (b : Fin 16) (u : Fin 2) (k q : Fin 256) : val_main_v46 (F := Ideal) x0 (ix4 b u k q) = tile (headRow x0 b) (256 * u.val + q.val) k.val := by
  have hu := u.isLt
  have hq := q.isLt
  have hk := k.isLt
  have hm : val_main_call1_v1 (F := Ideal) (ix4 b u k q) = IntOp.cmpi .sge (Cert.Bias.dist (256 * u.val + q.val) k.val) 0#32 := by
    rw [val_main_call1_v1_apply, show idx_main_call1_v1 (ix4 b u k q) = ix3 u k q from funext fun a => by
      match a with
      | ⟨0, _⟩ => rfl
      | ⟨1, _⟩ => rfl
      | ⟨2, _⟩ => rfl, val_main_v43_apply, v14_at, val_main_v42_apply, val_main_c_9_apply]
  rw [val_main_v46_apply, val_main_v44_apply, hm, val_main_v45_apply, val_main_cst_11_apply]
  unfold tile
  by_cases h : k.val ≤ 256 * u.val + q.val
  · rw [sge_pos _ _ h (by omega), if_pos h]
    refine congrArg (· * Ideal.ofBits .f32 0x3FB8AA3B#32) ((gather_apply (val_main_v0 (F := Ideal) x0) _ b u k q _ (v40_at u k q h)).trans ?_)
    rw [val_main_v0_apply]
    unfold headRow
    refine congrArg x0 (funext fun a => Fin.ext ?_)
    match a with
    | ⟨0, _⟩ => exact (Nat.mod_eq_of_lt (row _).isLt).symm
    | ⟨1, _⟩ => rfl
  · rw [sge_neg _ _ (by omega) (by omega), if_neg h, val_main_call1_v2_apply, val_main_call1_v0_apply, val_main_cst_10_apply]
    rfl

theorem v49_at (k : Fin 1024) (f : Fin 5632) : val_main_v49 (F := Ideal) x1 (ix2 k f) = at5 x1 k f := by
  unfold val_main_v49 val_main_v48 val_main_v47 at5
  pointwise []

theorem v52_at (k : Fin 2816) (f : Fin 1024) : val_main_v52 (F := Ideal) x2 (ix2 k f) = at6 x2 k f := by
  unfold val_main_v52 val_main_v51 val_main_v50 at6
  pointwise []

theorem v54_at (k : Fin 2048) (f : Fin 256) : val_main_v54 (F := Ideal) x3 (ix2 k f) = at7 x3 k f := by
  have hk := k.isLt
  have hf := f.isLt
  rw [val_main_v54_apply, val_main_v53_apply]
  show x3 _ = x3 _
  refine congrArg x3 (funext fun a => Fin.ext ?_)
  match a with
  | ⟨0, _⟩ => show (k.val * 256 + f.val) / 262144 = k.val / 1024 % 2; omega
  | ⟨1, _⟩ => show (k.val * 256 + f.val) / 65536 % 4 = k.val / 256 % 4; omega
  | ⟨2, _⟩ => show (k.val * 256 + f.val) / 256 % 256 = k.val % 256; omega
  | ⟨3, _⟩ => show (k.val * 256 + f.val) % 256 = f.val; omega

end Cert.Reference5Ideal.Bias

end
-- ==== Proof.BiasEq.lean ====
/- The claims of the bias tiles' call: the frames, and its four arrays against the plain ones, over the extended reals. -/
module

public import proofs.«01_k».proof.Defs
public import proofs.«01_k».proof.Proof.Gen.Kernel5.Frame
public import proofs.«01_k».proof.Proof.BiasRef
public import proofs.«01_k».proof.Proof.Gen.Reference5Ideal.Run
public import Idealize.ShloMosaic.Lib.Quiescent

@[expose] public section

noncomputable section

namespace Cert.BiasEq

open Idealize.ShloMosaic Idealize.ShloMosaic.Pointwise Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

/-- The plain tiles and casts run and leave their arguments; they declare no semaphore. -/
theorem frame_reference : Cert.quiescent_Reference5Ideal := fun m ρ _ =>
  (θ_run Cert.Reference5Ideal.defs _ _).mono (fun r h => ⟨fun c => (h c).2.2.2.2, sem_eq_zero_of_no_sems rfl r.2⟩) (Cert.Reference5Ideal.Value.run m ρ)

/-- The kernel's four arrays are the plain tiles and the three weight arrays it passes on. -/
theorem equal : Cert.algebraic_Kernel5Ideal_Reference5Ideal := by
  intro m g m' g' _ harg
  refine ⟨Cert.Kernel5Ideal.Bias.G4 m, Cert.Kernel5Ideal.Bias.G5 m, Cert.Kernel5Ideal.Bias.G6 m, Cert.Kernel5Ideal.Bias.G7 m,
    (θ_run Cert.Kernel5Ideal.defs _ _).mono (fun r h c =>
    ⟨(h c).1.trans (Cert.Kernel5Ideal.Bias.final4 m c), (h c).2.1.trans (Cert.Kernel5Ideal.Bias.final5 m c), (h c).2.2.1.trans (Cert.Kernel5Ideal.Bias.final6 m c),
      (h c).2.2.2.1.trans (Cert.Kernel5Ideal.Bias.final7 m c), (h c).2.2.2.2⟩)
    (Cert.Kernel5Ideal.Value.run_blocks m g), ?_⟩
  refine (θ_run Cert.Reference5Ideal.defs _ _).mono (fun r h c => ?_) (Cert.Reference5Ideal.Value.run m' g')
  obtain ⟨a0, a1, a2, a3⟩ := harg c
  obtain ⟨r0, r1, r2, r3, kept⟩ := h c
  refine ⟨?_, ?_, ?_, ?_, kept⟩
  · refine (r0.trans (Cert.Reference5Ideal.Read.val_main_v46_eq (F := Ideal) m' c)).trans ?_
    rw [a0]
    funext i
    obtain ⟨b, u, k, q, rfl⟩ : ∃ (b : Fin 16) (u : Fin 2) (k q : Fin 256), i = ix4 b u k q := ⟨i 0, i 1, i 2, i 3, eq_ix4 (n0 := 16) (n1 := 2) (n2 := 256) (n3 := 256) i⟩
    exact Cert.Reference5Ideal.Bias.v46_at _ b u k q
  · refine (r1.trans (Cert.Reference5Ideal.Read.val_main_v49_eq (F := Ideal) _)).trans ?_
    rw [a1]
    funext i
    obtain ⟨k, f, rfl⟩ : ∃ (k : Fin 1024) (f : Fin 5632), i = ix2 k f := ⟨i 0, i 1, eq_ix2 (n0 := 1024) (n1 := 5632) i⟩
    exact Cert.Reference5Ideal.Bias.v49_at _ k f
  · refine (r2.trans (Cert.Reference5Ideal.Read.val_main_v52_eq (F := Ideal) _)).trans ?_
    rw [a2]
    funext i
    obtain ⟨k, f, rfl⟩ : ∃ (k : Fin 2816) (f : Fin 1024), i = ix2 k f := ⟨i 0, i 1, eq_ix2 (n0 := 2816) (n1 := 1024) i⟩
    exact Cert.Reference5Ideal.Bias.v52_at _ k f
  · refine (r3.trans (Cert.Reference5Ideal.Read.val_main_v54_eq (F := Ideal) _)).trans ?_
    rw [a3]
    funext i
    obtain ⟨k, f, rfl⟩ : ∃ (k : Fin 2048) (f : Fin 256), i = ix2 k f := ⟨i 0, i 1, eq_ix2 (n0 := 2048) (n1 := 256) i⟩
    exact Cert.Reference5Ideal.Bias.v54_at _ k f

end Cert.BiasEq

end
-- ==== Proof.lean ====
module

public import proofs.«01_k».proof.Defs
public import proofs.«01_k».proof.Proof.PoolEq
public import proofs.«01_k».proof.Proof.FfnEq
public import proofs.«01_k».proof.Proof.Ffn2Eq
public import proofs.«01_k».proof.Proof.KvEq
public import proofs.«01_k».proof.Proof.BiasEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.PoolEq.preFacts,
  Cert.PoolEq.frame_kernel, Cert.PoolEq.frame_ideal, Cert.PoolEq.frame_ideal_pre, Cert.PoolEq.frame_reference, Cert.PoolEq.frame_reference_pre,
  Cert.FfnEq.frame_kernel, Cert.FfnEq.frame_ideal, Cert.FfnEq.frame_reference,
  Cert.Ffn2Eq.frame_kernel, Cert.Ffn2Eq.frame_ideal, Cert.Ffn2Eq.frame_reference,
  Cert.KvEq.frame_kernel, Cert.KvEq.frame_ideal, Cert.KvEq.frame_reference,
  Cert.BiasEq.frame_kernel, Cert.BiasEq.frame_ideal, Cert.BiasEq.frame_reference,
  trivial, Cert.PoolEq.equal, trivial, Cert.FfnEq.equal, trivial, Cert.Ffn2Eq.equal, trivial, Cert.KvEq.equal, trivial, Cert.BiasEq.equal⟩

end Cert.Proof

end
